-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_fwd [hPre_finite_fwd : Cert.Pre_finite_fwd.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_fwd.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_fwd [hPre_finite_fwd : Cert.Pre_finite_fwd.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_fwd.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Kernel28Ideal_pre_finite_fwd [hKernel28Ideal : Cert.Kernel28Ideal.Facts] [hPre_finite_fwd : Cert.Pre_finite_fwd.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_fwd m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Reference28Ideal_pre_finite_fwd [hReference28Ideal : Cert.Reference28Ideal.Facts] [hPre_finite_fwd : Cert.Pre_finite_fwd.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_fwd m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v362) = v0 c
          ∧ r.2.mem ((c.tc : Thread Cert.ReferenceIdeal.nD Cert.ReferenceIdeal.τ).loc Cert.ReferenceIdeal.main_v364) = v1 c
          ∧ r.2.mem ((c.tc : Thread Cert.ReferenceIdeal.nD Cert.ReferenceIdeal.τ).loc Cert.ReferenceIdeal.main_v366) = v2 c
          ∧ r.2.mem ((c.tc : Thread Cert.ReferenceIdeal.nD Cert.ReferenceIdeal.τ).loc Cert.ReferenceIdeal.main_v271) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v21) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v62) = v0 c
          ∧ r.2.mem ((c.tc : Thread Cert.Reference24Ideal.nD Cert.Reference24Ideal.τ).loc Cert.Reference24Ideal.main_v66) = v1 c
          ∧ r.2.mem ((c.tc : Thread Cert.Reference24Ideal.nD Cert.Reference24Ideal.τ).loc Cert.Reference24Ideal.main_v67) = v2 c
          ∧ r.2.mem ((c.tc : Thread Cert.Reference24Ideal.nD Cert.Reference24Ideal.τ).loc Cert.Reference24Ideal.main_v46) = v3 c
          ∧ r.2.mem ((c.tc : Thread Cert.Reference24Ideal.nD Cert.Reference24Ideal.τ).loc Cert.Reference24Ideal.main_v68) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v21) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v40) = v0 c
          ∧ r.2.mem ((c.tc : Thread Cert.Reference27Ideal.nD Cert.Reference27Ideal.τ).loc Cert.Reference27Ideal.main_v41) = v1 c
          ∧ r.2.mem ((c.tc : Thread Cert.Reference27Ideal.nD Cert.Reference27Ideal.τ).loc Cert.Reference27Ideal.main_v42) = v2 c
          ∧ r.2.mem ((c.tc : Thread Cert.Reference27Ideal.nD Cert.Reference27Ideal.τ).loc Cert.Reference27Ideal.main_v43) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal_pre_finite_fwd [hKernel28Ideal : Cert.Kernel28Ideal.Facts] [hReference28Ideal : Cert.Reference28Ideal.Facts] [hPre_finite_fwd : Cert.Pre_finite_fwd.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_fwd m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v128) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite_fwd (hKernel28Ideal := hKernel28Ideal) (hPre_finite_fwd := hPre_finite_fwd)
    ∧ quiescent_Reference28Ideal (hReference28Ideal := hReference28Ideal)
    ∧ quiescent_Reference28Ideal_pre_finite_fwd (hReference28Ideal := hReference28Ideal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite_fwd (hKernel28Ideal := hKernel28Ideal) (hReference28Ideal := hReference28Ideal) (hPre_finite_fwd := hPre_finite_fwd)
-- ==== Pre_finite.lean ====
abbrev S4096x5760 : Shape := ⟨2, ![4096, 5760]⟩
abbrev S8x257 : Shape := ⟨2, ![8, 257]⟩
abbrev S4096x512 : Shape := ⟨2, ![4096, 512]⟩
abbrev S4096x1536 : Shape := ⟨2, ![4096, 1536]⟩
abbrev S_ : Shape := ⟨0, ![]⟩

class Facts : Prop where
  slices_S4096x5760_S4096x1536_0_0 : S4096x5760.Slices ![0, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x5760 .bf16) (main_arg1 : FVec F S8x257 .f32) (main_arg2 : FVec F S4096x512 .f32) : IVec S_ 1 :=
  let main_v0 : FVec F S4096x1536 .bf16 := (extractStridedSlice S4096x1536 ![0, 0] · slices_S4096x5760_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  let main_v11 : FVec F S4096x512 .f32 := Host.absf main_arg2
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v10 main_v14
  main_v15
-- ==== Pre_finite_fwd.lean ====
abbrev S4096x5760 : Shape := ⟨2, ![4096, 5760]⟩
abbrev S8x64x576 : Shape := ⟨3, ![8, 64, 576]⟩
abbrev S4096x1024 : Shape := ⟨2, ![4096, 1024]⟩
abbrev S_ : Shape := ⟨0, ![]⟩

class Facts : Prop where
  slices_S4096x5760_S4096x1024_0_0 : S4096x5760.Slices ![0, 0] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x64x576 : S_.BroadcastsInDim S8x64x576 (![] : Fin 0 → Fin S8x64x576.rank)
  reducesTo_S8x64x576_S_d0_1_2 : S8x64x576.ReducesTo [0, 1, 2] S_

variable [Facts]

def fn {F : FTy → Type} [FloatOps F] (main_arg0 : FVec F S4096x5760 .bf16) (main_arg1 : FVec F S8x64x576 .f32) : IVec S_ 1 :=
  let main_v0 : FVec F S4096x1024 .bf16 := (extractStridedSlice S4096x1024 ![0, 0] · slices_S4096x5760_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S8x64x576 .f32 := Host.absf main_arg1
  let main_cst_0 : FVec F S_ .f32 := constant S_ .f32 0x7F800000#32
  let main_v7 : FVec F S8x64x576 .f32 := broadcastInDim S8x64x576 ![] bcast_S_S8x64x576 main_cst_0
  let main_v8 : IVec S8x64x576 1 := cmpf .olt main_v6 main_v7
  let main_c_1 : IVec S_ 1 := constantI S_ 1 1#1
  let main_v9 : IVec S_ 1 := (fun x v => Host.reduce IntOp.andi x v reducesTo_S8x64x576_S_d0_1_2 h_S_) main_v8 main_c_1
  let main_v10 : IVec S_ 1 := andi main_v5 main_v9
  main_v10
-- ==== Kernel.lean ====
abbrev S4096x5760 : Shape := ⟨2, ![4096, 5760]⟩
abbrev S8x257 : Shape := ⟨2, ![8, 257]⟩
abbrev S4096x512 : Shape := ⟨2, ![4096, 512]⟩
abbrev S8x1 : Shape := ⟨2, ![8, 1]⟩
abbrev S8x447 : Shape := ⟨2, ![8, 447]⟩
abbrev S8x192 : Shape := ⟨2, ![8, 192]⟩
abbrev S8x639 : Shape := ⟨2, ![8, 639]⟩
abbrev S8x576 : Shape := ⟨2, ![8, 576]⟩
abbrev S8x63 : Shape := ⟨2, ![8, 63]⟩
abbrev S1x8x1x639 : Shape := ⟨4, ![1, 8, 1, 639]⟩
abbrev S1x8x64x639 : Shape := ⟨4, ![1, 8, 64, 639]⟩
abbrev S8x40896 : Shape := ⟨2, ![8, 40896]⟩
abbrev S8x40832 : Shape := ⟨2, ![8, 40832]⟩
abbrev S8x64x638 : Shape := ⟨3, ![8, 64, 638]⟩
abbrev S8x64x576 : Shape := ⟨3, ![8, 64, 576]⟩
abbrev S2048x128 : Shape := ⟨2, ![2048, 128]⟩
abbrev S2x64x576 : Shape := ⟨3, ![2, 64, 576]⟩
abbrev S2560x128 : Shape := ⟨2, ![2560, 128]⟩
abbrev S512x128 : Shape := ⟨2, ![512, 128]⟩
abbrev S64x576 : Shape := ⟨2, ![64, 576]⟩
abbrev S1x128 : Shape := ⟨2, ![1, 128]⟩
abbrev S64x128 : Shape := ⟨2, ![64, 128]⟩
abbrev S576x128 : Shape := ⟨2, ![576, 128]⟩
abbrev S1x64x576 : Shape := ⟨3, ![1, 64, 576]⟩
abbrev S64 : Shape := ⟨1, ![64]⟩
abbrev S64x1 : Shape := ⟨2, ![64, 1]⟩

abbrev nBuf : Space → Nat
  | .hbm => 22
  | .vmem => 22
  | .smem => 0
  | _ => 0

abbrev bufTy : (tb : Table) → Fin (tcTables nBuf tb) → BufTy
  | .hbm, ⟨0, _⟩ => ⟨S4096x5760, .bf16⟩
  | .hbm, ⟨1, _⟩ => ⟨S8x257, .f32⟩
  | .hbm, ⟨2, _⟩ => ⟨S4096x512, .f32⟩
  | .hbm, ⟨3, _⟩ => ⟨S8x1, .f32⟩
  | .hbm, ⟨4, _⟩ => ⟨S8x447, .f32⟩
  | .hbm, ⟨5, _⟩ => ⟨S8x192, .f32⟩
  | .hbm, ⟨6, _⟩ => ⟨S8x639, .f32⟩
  | .hbm, ⟨7, _⟩ => ⟨S8x576, .f32⟩
  | .hbm, ⟨8, _⟩ => ⟨S8x576, .f32⟩
  | .hbm, ⟨9, _⟩ => ⟨S8x63, .f32⟩
  | .hbm, ⟨10, _⟩ => ⟨S8x63, .f32⟩
  | .hbm, ⟨11, _⟩ => ⟨S8x639, .f32⟩
  | .hbm, ⟨12, _⟩ => ⟨S1x8x1x639, .f32⟩
  | .hbm, ⟨13, _⟩ => ⟨S1x8x64x639, .f32⟩
  | .hbm, ⟨14, _⟩ => ⟨S8x40896, .f32⟩
  | .hbm, ⟨15, _⟩ => ⟨S8x40832, .f32⟩
  | .hbm, ⟨16, _⟩ => ⟨S8x64x638, .f32⟩
  | .hbm, ⟨17, _⟩ => ⟨S8x64x576, .f32⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S8x64x576, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x64x576, .f32⟩
  | .local _ .vmem, ⟨7, _⟩ => ⟨S2x64x576, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2x64x576, .f32⟩
  | .local _ .vmem, ⟨17, _⟩ => ⟨S2x64x576, .f32⟩
  | .local _ .vmem, ⟨18, _⟩ => ⟨S2560x128, .f32⟩
  | .local _ .vmem, ⟨19, _⟩ => ⟨S2560x128, .f32⟩
  | .local _ .vmem, ⟨20, _⟩ => ⟨S2560x128, .f32⟩
  | .local _ .vmem, ⟨21, _⟩ => ⟨S2560x128, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v15_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def k0_mult1 : BitVec 32 :=
  let c0_i32_21 : BitVec 32 := 0#32
  let c8_i32 : BitVec 32 := 8#32
  let v35 : BitVec 32 := Scalar.muli c0_i32_21 c8_i32
  let c0_i32_22 : BitVec 32 := 0#32
  let v36 : BitVec 32 := Scalar.addi v35 c0_i32_22
  let c64_i32_23 : BitVec 32 := 64#32
  let v37 : BitVec 32 := Scalar.muli v36 c64_i32_23
  v37
def k0_mult2 : BitVec 32 :=
  let c0_i32_21 : BitVec 32 := 0#32
  let c8_i32_24 : BitVec 32 := 8#32
  let v39 : BitVec 32 := Scalar.muli c0_i32_21 c8_i32_24
  let c1_i32 : BitVec 32 := 1#32
  let v40 : BitVec 32 := Scalar.addi v39 c1_i32
  let c64_i32_25 : BitVec 32 := 64#32
  let v41 : BitVec 32 := Scalar.muli v40 c64_i32_25
  v41
def k0_mult3 : BitVec 32 :=
  let c0_i32_21 : BitVec 32 := 0#32
  let c8_i32_26 : BitVec 32 := 8#32
  let v43 : BitVec 32 := Scalar.muli c0_i32_21 c8_i32_26
  let c2_i32 : BitVec 32 := 2#32
  let v44 : BitVec 32 := Scalar.addi v43 c2_i32
  let c64_i32_27 : BitVec 32 := 64#32
  let v45 : BitVec 32 := Scalar.muli v44 c64_i32_27
  v45
def k0_mult4 : BitVec 32 :=
  let c0_i32_21 : BitVec 32 := 0#32
  let c8_i32_28 : BitVec 32 := 8#32
  let v47 : BitVec 32 := Scalar.muli c0_i32_21 c8_i32_28
  let c3_i32 : BitVec 32 := 3#32
  let v48 : BitVec 32 := Scalar.addi v47 c3_i32
  let c64_i32_29 : BitVec 32 := 64#32
  let v49 : BitVec 32 := Scalar.muli v48 c64_i32_29
  v49
def k0_mult5 : BitVec 32 :=
  let c0_i32_21 : BitVec 32 := 0#32
  let c8_i32_30 : BitVec 32 := 8#32
  let v51 : BitVec 32 := Scalar.muli c0_i32_21 c8_i32_30
  let c4_i32 : BitVec 32 := 4#32
  let v52 : BitVec 32 := Scalar.addi v51 c4_i32
  let c64_i32_31 : BitVec 32 := 64#32
  let v53 : BitVec 32 := Scalar.muli v52 c64_i32_31
  v53
def k0_mult6 : BitVec 32 :=
  let c0_i32_21 : BitVec 32 := 0#32
  let c8_i32_32 : BitVec 32 := 8#32
  let v55 : BitVec 32 := Scalar.muli c0_i32_21 c8_i32_32
  let c5_i32 : BitVec 32 := 5#32
  let v56 : BitVec 32 := Scalar.addi v55 c5_i32
  let c64_i32_33 : BitVec 32 := 64#32
  let v57 : BitVec 32 := Scalar.muli v56 c64_i32_33
  v57
def k0_mult7 : BitVec 32 :=
  let c0_i32_21 : BitVec 32 := 0#32
  let c8_i32_34 : BitVec 32 := 8#32
  let v59 : BitVec 32 := Scalar.muli c0_i32_21 c8_i32_34
  let c6_i32 : BitVec 32 := 6#32
  let v60 : BitVec 32 := Scalar.addi v59 c6_i32
  let c64_i32_35 : BitVec 32 := 64#32
  let v61 : BitVec 32 := Scalar.muli v60 c64_i32_35
  v61
def k0_mult8 : BitVec 32 :=
  let c0_i32_21 : BitVec 32 := 0#32
  let c8_i32_36 : BitVec 32 := 8#32
  let v63 : BitVec 32 := Scalar.muli c0_i32_21 c8_i32_36
  let c7_i32 : BitVec 32 := 7#32
  let v64 : BitVec 32 := Scalar.addi v63 c7_i32
  let c64_i32_37 : BitVec 32 := 64#32
  let v65 : BitVec 32 := Scalar.muli v64 c64_i32_37
  v65
def k0_off1 (c0_i32_22 : BitVec 32) : Fin 2 → Nat :=
  let c0_i32_21 : BitVec 32 := 0#32
  let c8_i32 : BitVec 32 := 8#32
  let v35 : BitVec 32 := Scalar.muli c0_i32_21 c8_i32
  let v36 : BitVec 32 := Scalar.addi v35 c0_i32_22
  let c64_i32_23 : BitVec 32 := 64#32
  let v37 : BitVec 32 := Scalar.muli v36 c64_i32_23
  let v38 : BitVec 32 := v37
  let v99 : Index := Scalar.indexCast v38
  let c0_45 : Index := 0#32
  ![v99.toNat, 0]
def k0_off2 (c0_i32_22 : BitVec 32) : Fin 2 → Nat :=
  let c0_i32_21 : BitVec 32 := 0#32
  let c8_i32 : BitVec 32 := 8#32
  let v35 : BitVec 32 := Scalar.muli c0_i32_21 c8_i32
  let v36 : BitVec 32 := Scalar.addi v35 c0_i32_22
  let c64_i32_23 : BitVec 32 := 64#32
  let v37 : BitVec 32 := Scalar.muli v36 c64_i32_23
  let v38 : BitVec 32 := v37
  let v123 : Index := Scalar.indexCast v38
  let c0_53 : Index := 0#32
  ![v123.toNat, 0]
@[reducible] def k0_t1_loop : Scf.Loop 32 :=
  let c1_i32_413 : BitVec 32 := 1#32
  let c3_i32_414 : BitVec 32 := 3#32
  let v1255 : BitVec 32 := Scalar.addi c1_i32_413 c3_i32_414
  let c1_i32_415 : BitVec 32 := 1#32
  ⟨c1_i32_413, v1255, c1_i32_415⟩
def k0_mult9 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_426 : BitVec 32 := 8#32
  let v1265 : BitVec 32 := Scalar.muli arg15 c8_i32_426
  let c0_i32_427 : BitVec 32 := 0#32
  let v1266 : BitVec 32 := Scalar.addi v1265 c0_i32_427
  let c64_i32_428 : BitVec 32 := 64#32
  let v1267 : BitVec 32 := Scalar.muli v1266 c64_i32_428
  v1267
def k0_mult10 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_429 : BitVec 32 := 8#32
  let v1269 : BitVec 32 := Scalar.muli arg15 c8_i32_429
  let c1_i32_430 : BitVec 32 := 1#32
  let v1270 : BitVec 32 := Scalar.addi v1269 c1_i32_430
  let c64_i32_431 : BitVec 32 := 64#32
  let v1271 : BitVec 32 := Scalar.muli v1270 c64_i32_431
  v1271
def k0_mult11 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_432 : BitVec 32 := 8#32
  let v1273 : BitVec 32 := Scalar.muli arg15 c8_i32_432
  let c2_i32_433 : BitVec 32 := 2#32
  let v1274 : BitVec 32 := Scalar.addi v1273 c2_i32_433
  let c64_i32_434 : BitVec 32 := 64#32
  let v1275 : BitVec 32 := Scalar.muli v1274 c64_i32_434
  v1275
def k0_mult12 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_435 : BitVec 32 := 8#32
  let v1277 : BitVec 32 := Scalar.muli arg15 c8_i32_435
  let c3_i32_436 : BitVec 32 := 3#32
  let v1278 : BitVec 32 := Scalar.addi v1277 c3_i32_436
  let c64_i32_437 : BitVec 32 := 64#32
  let v1279 : BitVec 32 := Scalar.muli v1278 c64_i32_437
  v1279
def k0_mult13 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_438 : BitVec 32 := 8#32
  let v1281 : BitVec 32 := Scalar.muli arg15 c8_i32_438
  let c4_i32_439 : BitVec 32 := 4#32
  let v1282 : BitVec 32 := Scalar.addi v1281 c4_i32_439
  let c64_i32_440 : BitVec 32 := 64#32
  let v1283 : BitVec 32 := Scalar.muli v1282 c64_i32_440
  v1283
def k0_mult14 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_441 : BitVec 32 := 8#32
  let v1285 : BitVec 32 := Scalar.muli arg15 c8_i32_441
  let c5_i32_442 : BitVec 32 := 5#32
  let v1286 : BitVec 32 := Scalar.addi v1285 c5_i32_442
  let c64_i32_443 : BitVec 32 := 64#32
  let v1287 : BitVec 32 := Scalar.muli v1286 c64_i32_443
  v1287
def k0_mult15 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_444 : BitVec 32 := 8#32
  let v1289 : BitVec 32 := Scalar.muli arg15 c8_i32_444
  let c6_i32_445 : BitVec 32 := 6#32
  let v1290 : BitVec 32 := Scalar.addi v1289 c6_i32_445
  let c64_i32_446 : BitVec 32 := 64#32
  let v1291 : BitVec 32 := Scalar.muli v1290 c64_i32_446
  v1291
def k0_mult16 (k0_t1 : Fin k0_t1_loop.trips) : BitVec 32 :=
  let c1_i32_413 : BitVec 32 := 1#32
  let c1_i32_415 : BitVec 32 := 1#32
  let arg15 : BitVec 32 := Scf.iv c1_i32_413 c1_i32_415 k0_t1
  let c8_i32_447 : BitVec 32 := 8#32
  let v1293 : BitVec 32 := Scalar.muli arg15 c8_i32_447
  let c7_i32_448 : BitVec 32 := 7#32
  let v1294 : BitVec 32 := Scalar.addi v1293 c7_i32_448
  let c64_i32_449 : BitVec 32 := 64#32
  let v1295 : BitVec 32 := Scalar.muli v1294 c64_i32_449
  v1295
def k0_off3 (k0_t1 : Fin k0_t1_loop.trips) (c0_i32_427 : BitVec 32) : Fin 2 → Nat :=
  let c1_i32_413 : BitVec 32 := 1#32
  let c1_i32_415 : BitVec 32 := 1#32
  let arg15 : BitVec 32 := Scf.iv c1_i32_413 c1_i32_415 k0_t1
  let c8_i32_426 : BitVec 32 := 8#32
  let v1265 : BitVec 32 := Scalar.muli arg15 c8_i32_426
  let v1266 : BitVec 32 := Scalar.addi v1265 c0_i32_427
  let c64_i32_428 : BitVec 32 := 64#32
  let v1267 : BitVec 32 := Scalar.muli v1266 c64_i32_428
  let v1268 : BitVec 32 := v1267
  let v1297 : Index := Scalar.indexCast v1268
  let c0_450 : Index := 0#32
  ![v1297.toNat, 0]
def k0_off4 (k0_t1 : Fin k0_t1_loop.trips) (c0_i32_427 : BitVec 32) : Fin 2 → Nat :=
  let c1_i32_413 : BitVec 32 := 1#32
  let c1_i32_415 : BitVec 32 := 1#32
  let arg15 : BitVec 32 := Scf.iv c1_i32_413 c1_i32_415 k0_t1
  let c8_i32_426 : BitVec 32 := 8#32
  let v1265 : BitVec 32 := Scalar.muli arg15 c8_i32_426
  let v1266 : BitVec 32 := Scalar.addi v1265 c0_i32_427
  let c64_i32_428 : BitVec 32 := 64#32
  let v1267 : BitVec 32 := Scalar.muli v1266 c64_i32_428
  let v1268 : BitVec 32 := v1267
  let v1321 : Index := Scalar.indexCast v1268
  let c0_458 : Index := 0#32
  ![v1321.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x64x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x5760 : Shape := ⟨2, ![4096, 5760]⟩
abbrev S8x257 : Shape := ⟨2, ![8, 257]⟩
abbrev S4096x512 : Shape := ⟨2, ![4096, 512]⟩
abbrev S2x2048x5760 : Shape := ⟨3, ![2, 2048, 5760]⟩
abbrev S2x2048x512 : Shape := ⟨3, ![2, 2048, 512]⟩
abbrev S2x2048x8x64 : Shape := ⟨4, ![2, 2048, 8, 64]⟩
abbrev S64 : Shape := ⟨1, ![64]⟩
abbrev S576 : Shape := ⟨1, ![576]⟩
abbrev S64x1 : Shape := ⟨2, ![64, 1]⟩
abbrev S_ : Shape := ⟨0, ![]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S2x32x64x8x64 : Shape := ⟨5, ![2, 32, 64, 8, 64]⟩
abbrev S2x8x64x8x64 : Shape := ⟨5, ![2, 8, 64, 8, 64]⟩
abbrev S2x40x64x8x64 : Shape := ⟨5, ![2, 40, 64, 8, 64]⟩
abbrev S2x8x32x64x64 : Shape := ⟨5, ![2, 8, 32, 64, 64]⟩
abbrev S2x8x32x64x1x64 : Shape := ⟨6, ![2, 8, 32, 64, 1, 64]⟩
abbrev S2x8x32x64x9x64 : Shape := ⟨6, ![2, 8, 32, 64, 9, 64]⟩
abbrev S2x8x32x64x576 : Shape := ⟨5, ![2, 8, 32, 64, 576]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x1x64x576 : Shape := ⟨5, ![1, 8, 1, 64, 576]⟩
abbrev S2x8x32x64 : Shape := ⟨4, ![2, 8, 32, 64]⟩
abbrev S2x8x32x64x1 : Shape := ⟨5, ![2, 8, 32, 64, 1]⟩
abbrev S2x32x8x64x64 : Shape := ⟨5, ![2, 32, 8, 64, 64]⟩

abbrev nBuf : Space → Nat
  | .hbm => 436
  | .vmem => 0
  | .smem => 0
  | _ => 0

abbrev hbmTy0_0 (i : Nat) : BufTy := match i % 128 with
  | 0 => ⟨S4096x5760, .bf16⟩
  | 1 => ⟨S8x257, .f32⟩
  | 2 => ⟨S4096x512, .f32⟩
  | 3 => ⟨S4096x5760, .f32⟩
  | 4 => ⟨S2x2048x5760, .f32⟩
  | 5 => ⟨S2x2048x512, .f32⟩
  | 6 => ⟨S2x2048x8x64, .f32⟩
  | 7 => ⟨S2x2048x512, .f32⟩
  | 8 => ⟨S2x2048x8x64, .f32⟩
  | 9 => ⟨S2x2048x512, .f32⟩
  | 10 => ⟨S2x2048x8x64, .f32⟩
  | 11 => ⟨S64, .i32⟩
  | 12 => ⟨S576, .i32⟩
  | 13 => ⟨S64x1, .i32⟩
  | 14 => ⟨S_, .i32⟩
  | 15 => ⟨S64x1, .i32⟩
  | 16 => ⟨S64x1, .i32⟩
  | 17 => ⟨S1x576, .i32⟩
  | 18 => ⟨S64x576, .i32⟩
  | 19 => ⟨S64x576, .i32⟩
  | 20 => ⟨S64x576, .i32⟩
  | 21 => ⟨S_, .i32⟩
  | 22 => ⟨S_, .i32⟩
  | 23 => ⟨S_, .i32⟩
  | 24 => ⟨S64x576, .i32⟩
  | 25 => ⟨S64x576, .i32⟩
  | 26 => ⟨S_, .i32⟩
  | 27 => ⟨S64x576, .i32⟩
  | 28 => ⟨S64x576, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i1⟩
  | 35 => ⟨S_, .i32⟩
  | 36 => ⟨S64x576, .i32⟩
  | 37 => ⟨S64x576, .i32⟩
  | 38 => ⟨S64x576, .i32⟩
  | 39 => ⟨S64x576x1, .i32⟩
  | 40 => ⟨S8x64x576, .f32⟩
  | 41 => ⟨S2x2048x512, .f32⟩
  | 42 => ⟨S2x32x64x8x64, .f32⟩
  | 43 => ⟨S_, .f32⟩
  | 44 => ⟨S2x32x64x8x64, .f32⟩
  | 45 => ⟨S2x32x64x8x64, .f32⟩
  | 46 => ⟨S_, .f32⟩
  | 47 => ⟨S2x8x64x8x64, .f32⟩
  | 48 => ⟨S2x32x64x8x64, .f32⟩
  | 49 => ⟨S2x40x64x8x64, .f32⟩
  | 50 => ⟨S_, .f32⟩
  | 51 => ⟨S2x8x64x8x64, .f32⟩
  | 52 => ⟨S2x32x64x8x64, .f32⟩
  | 53 => ⟨S2x40x64x8x64, .f32⟩
  | 54 => ⟨S_, .f32⟩
  | 55 => ⟨S2x8x64x8x64, .f32⟩
  | 56 => ⟨S2x32x64x8x64, .f32⟩
  | 57 => ⟨S2x8x32x64x64, .f32⟩
  | 58 => ⟨S2x32x64x8x64, .f32⟩
  | 59 => ⟨S2x8x32x64x64, .f32⟩
  | 60 => ⟨S2x32x64x8x64, .f32⟩
  | 61 => ⟨S2x8x32x64x64, .f32⟩
  | 62 => ⟨S2x32x64x8x64, .f32⟩
  | 63 => ⟨S2x8x32x64x64, .f32⟩
  | 64 => ⟨S2x32x64x8x64, .f32⟩
  | 65 => ⟨S2x8x32x64x64, .f32⟩
  | 66 => ⟨S2x32x64x8x64, .f32⟩
  | 67 => ⟨S2x8x32x64x64, .f32⟩
  | 68 => ⟨S2x32x64x8x64, .f32⟩
  | 69 => ⟨S2x8x32x64x64, .f32⟩
  | 70 => ⟨S2x32x64x8x64, .f32⟩
  | 71 => ⟨S2x8x32x64x64, .f32⟩
  | 72 => ⟨S2x32x64x8x64, .f32⟩
  | 73 => ⟨S2x8x32x64x64, .f32⟩
  | 74 => ⟨S2x8x32x64x1x64, .f32⟩
  | 75 => ⟨S2x8x32x64x1x64, .f32⟩
  | 76 => ⟨S2x8x32x64x1x64, .f32⟩
  | 77 => ⟨S2x8x32x64x1x64, .f32⟩
  | 78 => ⟨S2x8x32x64x1x64, .f32⟩
  | 79 => ⟨S2x8x32x64x1x64, .f32⟩
  | 80 => ⟨S2x8x32x64x1x64, .f32⟩
  | 81 => ⟨S2x8x32x64x1x64, .f32⟩
  | 82 => ⟨S2x8x32x64x1x64, .f32⟩
  | 83 => ⟨S2x8x32x64x9x64, .f32⟩
  | 84 => ⟨S2x8x32x64x576, .f32⟩
  | 85 => ⟨S32, .i32⟩
  | 86 => ⟨S32x1, .i32⟩
  | 87 => ⟨S9, .i32⟩
  | 88 => ⟨S1x9, .i32⟩
  | 89 => ⟨S32x9, .i32⟩
  | 90 => ⟨S32x9, .i32⟩
  | 91 => ⟨S32x9, .i32⟩
  | 92 => ⟨S_, .i32⟩
  | 93 => ⟨S32x9, .i32⟩
  | 94 => ⟨S32x9, .i1⟩
  | 95 => ⟨S32x9x64, .i1⟩
  | 96 => ⟨S32x576, .i1⟩
  | 97 => ⟨S1x1x32x1x576, .i1⟩
  | 98 => ⟨S1x8x1x64x576, .f32⟩
  | 99 => ⟨S2x8x32x64x576, .f32⟩
  | 100 => ⟨S2x8x32x64x576, .f32⟩
  | 101 => ⟨S_, .f32⟩
  | 102 => ⟨S_, .f32⟩
  | 103 => ⟨S2x8x32x64x576, .i1⟩
  | 104 => ⟨S2x8x32x64x576, .f32⟩
  | 105 => ⟨S2x8x32x64x576, .f32⟩
  | 106 => ⟨S_, .f32⟩
  | 107 => ⟨S2x8x32x64x576, .f32⟩
  | 108 => ⟨S_, .f32⟩
  | 109 => ⟨S2x8x32x64, .f32⟩
  | 110 => ⟨S2x8x32x64x1, .f32⟩
  | 111 => ⟨S2x8x32x64x576, .f32⟩
  | 112 => ⟨S2x8x32x64x576, .i1⟩
  | 113 => ⟨S2x8x32x64x576, .f32⟩
  | 114 => ⟨S_, .f32⟩
  | 115 => ⟨S2x8x32x64, .f32⟩
  | 116 => ⟨S_, .f32⟩
  | 117 => ⟨S2x8x32x64, .f32⟩
  | 118 => ⟨S2x8x32x64, .f32⟩
  | 119 => ⟨S_, .f32⟩
  | 120 => ⟨S2x8x32x64, .f32⟩
  | 121 => ⟨S2x8x32x64, .i1⟩
  | 122 => ⟨S_, .f32⟩
  | 123 => ⟨S2x8x32x64, .f32⟩
  | 124 => ⟨S2x8x32x64, .i1⟩
  | 125 => ⟨S_, .f32⟩
  | 126 => ⟨S2x8x32x64, .f32⟩
  | 127 => ⟨S_, .f32⟩
  | _ => ⟨S4096x5760, .bf16⟩

abbrev hbmTy0_1 (i : Nat) : BufTy := match i % 128 with
  | 0 => ⟨S2x8x32x64, .f32⟩
  | 1 => ⟨S_, .f32⟩
  | 2 => ⟨S2x8x32x64, .f32⟩
  | 3 => ⟨S2x8x32x64, .f32⟩
  | 4 => ⟨S2x8x32x64, .f32⟩
  | 5 => ⟨S2x8x32x64x1, .f32⟩
  | 6 => ⟨S2x8x32x64x576, .f32⟩
  | 7 => ⟨S2x8x32x64x576, .f32⟩
  | 8 => ⟨S2x8x32x64x576, .f32⟩
  | 9 => ⟨S_, .f32⟩
  | 10 => ⟨S2x8x32x64, .f32⟩
  | 11 => ⟨S2x8x32x64x1, .f32⟩
  | 12 => ⟨S2x8x32x64x576, .f32⟩
  | 13 => ⟨S2x8x32x64x576, .f32⟩
  | 14 => ⟨S2x8x32x64x1, .f32⟩
  | 15 => ⟨S_, .f32⟩
  | 16 => ⟨S2x8x32x64x1, .f32⟩
  | 17 => ⟨S2x8x32x64x1, .f32⟩
  | 18 => ⟨S2x8x32x64x9x64, .f32⟩
  | 19 => ⟨S2x8x32x64x1x64, .f32⟩
  | 20 => ⟨S2x8x32x64x64, .f32⟩
  | 21 => ⟨S2x32x64x8x64, .f32⟩
  | 22 => ⟨S2x32x8x64x64, .f32⟩
  | 23 => ⟨S2x32x64x8x64, .f32⟩
  | 24 => ⟨S2x8x32x64x1x64, .f32⟩
  | 25 => ⟨S2x8x32x64x64, .f32⟩
  | 26 => ⟨S2x32x64x8x64, .f32⟩
  | 27 => ⟨S2x32x8x64x64, .f32⟩
  | 28 => ⟨S2x32x64x8x64, .f32⟩
  | 29 => ⟨S2x32x64x8x64, .f32⟩
  | 30 => ⟨S2x8x32x64x1x64, .f32⟩
  | 31 => ⟨S2x8x32x64x64, .f32⟩
  | 32 => ⟨S2x32x64x8x64, .f32⟩
  | 33 => ⟨S2x32x8x64x64, .f32⟩
  | 34 => ⟨S2x32x64x8x64, .f32⟩
  | 35 => ⟨S2x32x64x8x64, .f32⟩
  | 36 => ⟨S2x8x32x64x1x64, .f32⟩
  | 37 => ⟨S2x8x32x64x64, .f32⟩
  | 38 => ⟨S2x32x64x8x64, .f32⟩
  | 39 => ⟨S2x32x8x64x64, .f32⟩
  | 40 => ⟨S2x32x64x8x64, .f32⟩
  | 41 => ⟨S2x32x64x8x64, .f32⟩
  | 42 => ⟨S2x8x32x64x1x64, .f32⟩
  | 43 => ⟨S2x8x32x64x64, .f32⟩
  | 44 => ⟨S2x32x64x8x64, .f32⟩
  | 45 => ⟨S2x32x8x64x64, .f32⟩
  | 46 => ⟨S2x32x64x8x64, .f32⟩
  | 47 => ⟨S2x32x64x8x64, .f32⟩
  | 48 => ⟨S2x8x32x64x1x64, .f32⟩
  | 49 => ⟨S2x8x32x64x64, .f32⟩
  | 50 => ⟨S2x32x64x8x64, .f32⟩
  | 51 => ⟨S2x32x8x64x64, .f32⟩
  | 52 => ⟨S2x32x64x8x64, .f32⟩
  | 53 => ⟨S2x32x64x8x64, .f32⟩
  | 54 => ⟨S2x8x32x64x1x64, .f32⟩
  | 55 => ⟨S2x8x32x64x64, .f32⟩
  | 56 => ⟨S2x32x64x8x64, .f32⟩
  | 57 => ⟨S2x32x8x64x64, .f32⟩
  | 58 => ⟨S2x32x64x8x64, .f32⟩
  | 59 => ⟨S2x32x64x8x64, .f32⟩
  | 60 => ⟨S2x8x32x64x1x64, .f32⟩
  | 61 => ⟨S2x8x32x64x64, .f32⟩
  | 62 => ⟨S2x32x64x8x64, .f32⟩
  | 63 => ⟨S2x32x8x64x64, .f32⟩
  | 64 => ⟨S2x32x64x8x64, .f32⟩
  | 65 => ⟨S2x32x64x8x64, .f32⟩
  | 66 => ⟨S2x8x32x64x1x64, .f32⟩
  | 67 => ⟨S2x8x32x64x64, .f32⟩
  | 68 => ⟨S2x32x64x8x64, .f32⟩
  | 69 => ⟨S2x32x8x64x64, .f32⟩
  | 70 => ⟨S2x32x64x8x64, .f32⟩
  | 71 => ⟨S2x32x64x8x64, .f32⟩
  | 72 => ⟨S2x2048x512, .f32⟩
  | 73 => ⟨S2x32x64x8x64, .f32⟩
  | 74 => ⟨S2x32x8x64x64, .f32⟩
  | 75 => ⟨S2x32x8x64x64, .f32⟩
  | 76 => ⟨S2x8x32x64x64, .f32⟩
  | 77 => ⟨S2x32x8x64x64, .f32⟩
  | 78 => ⟨S2x32x64x8x64, .f32⟩
  | 79 => ⟨S_, .f32⟩
  | 80 => ⟨S2x40x64x8x64, .f32⟩
  | 81 => ⟨S2x8x32x64x1x64, .f32⟩
  | 82 => ⟨S_, .f32⟩
  | 83 => ⟨S2x8x32x64x9x64, .f32⟩
  | 84 => ⟨S2x32x8x64x64, .f32⟩
  | 85 => ⟨S2x32x8x64x64, .f32⟩
  | 86 => ⟨S2x8x32x64x64, .f32⟩
  | 87 => ⟨S2x32x8x64x64, .f32⟩
  | 88 => ⟨S2x32x64x8x64, .f32⟩
  | 89 => ⟨S_, .f32⟩
  | 90 => ⟨S2x40x64x8x64, .f32⟩
  | 91 => ⟨S2x40x64x8x64, .f32⟩
  | 92 => ⟨S2x8x32x64x1x64, .f32⟩
  | 93 => ⟨S_, .f32⟩
  | 94 => ⟨S2x8x32x64x9x64, .f32⟩
  | 95 => ⟨S2x8x32x64x9x64, .f32⟩
  | 96 => ⟨S2x32x8x64x64, .f32⟩
  | 97 => ⟨S2x32x8x64x64, .f32⟩
  | 98 => ⟨S2x8x32x64x64, .f32⟩
  | 99 => ⟨S2x32x8x64x64, .f32⟩
  | 100 => ⟨S2x32x64x8x64, .f32⟩
  | 101 => ⟨S_, .f32⟩
  | 102 => ⟨S2x40x64x8x64, .f32⟩
  | 103 => ⟨S2x40x64x8x64, .f32⟩
  | 104 => ⟨S2x8x32x64x1x64, .f32⟩
  | 105 => ⟨S_, .f32⟩
  | 106 => ⟨S2x8x32x64x9x64, .f32⟩
  | 107 => ⟨S2x8x32x64x9x64, .f32⟩
  | 108 => ⟨S2x32x8x64x64, .f32⟩
  | 109 => ⟨S2x32x8x64x64, .f32⟩
  | 110 => ⟨S2x8x32x64x64, .f32⟩
  | 111 => ⟨S2x32x8x64x64, .f32⟩
  | 112 => ⟨S2x32x64x8x64, .f32⟩
  | 113 => ⟨S_, .f32⟩
  | 114 => ⟨S2x40x64x8x64, .f32⟩
  | 115 => ⟨S2x40x64x8x64, .f32⟩
  | 116 => ⟨S2x8x32x64x1x64, .f32⟩
  | 117 => ⟨S_, .f32⟩
  | 118 => ⟨S2x8x32x64x9x64, .f32⟩
  | 119 => ⟨S2x8x32x64x9x64, .f32⟩
  | 120 => ⟨S2x32x8x64x64, .f32⟩
  | 121 => ⟨S2x32x8x64x64, .f32⟩
  | 122 => ⟨S2x8x32x64x64, .f32⟩
  | 123 => ⟨S2x32x8x64x64, .f32⟩
  | 124 => ⟨S2x32x64x8x64, .f32⟩
  | 125 => ⟨S_, .f32⟩
  | 126 => ⟨S2x40x64x8x64, .f32⟩
  | 127 => ⟨S2x40x64x8x64, .f32⟩
  | _ => ⟨S4096x5760, .bf16⟩

abbrev hbmTy0_2 (i : Nat) : BufTy := match i % 128 with
  | 0 => ⟨S2x8x32x64x1x64, .f32⟩
  | 1 => ⟨S_, .f32⟩
  | 2 => ⟨S2x8x32x64x9x64, .f32⟩
  | 3 => ⟨S2x8x32x64x9x64, .f32⟩
  | 4 => ⟨S2x32x8x64x64, .f32⟩
  | 5 => ⟨S2x32x8x64x64, .f32⟩
  | 6 => ⟨S2x8x32x64x64, .f32⟩
  | 7 => ⟨S2x32x8x64x64, .f32⟩
  | 8 => ⟨S2x32x64x8x64, .f32⟩
  | 9 => ⟨S_, .f32⟩
  | 10 => ⟨S2x40x64x8x64, .f32⟩
  | 11 => ⟨S2x40x64x8x64, .f32⟩
  | 12 => ⟨S2x8x32x64x1x64, .f32⟩
  | 13 => ⟨S_, .f32⟩
  | 14 => ⟨S2x8x32x64x9x64, .f32⟩
  | 15 => ⟨S2x8x32x64x9x64, .f32⟩
  | 16 => ⟨S2x32x8x64x64, .f32⟩
  | 17 => ⟨S2x32x8x64x64, .f32⟩
  | 18 => ⟨S2x8x32x64x64, .f32⟩
  | 19 => ⟨S2x32x8x64x64, .f32⟩
  | 20 => ⟨S2x32x64x8x64, .f32⟩
  | 21 => ⟨S_, .f32⟩
  | 22 => ⟨S2x40x64x8x64, .f32⟩
  | 23 => ⟨S2x40x64x8x64, .f32⟩
  | 24 => ⟨S2x8x32x64x1x64, .f32⟩
  | 25 => ⟨S_, .f32⟩
  | 26 => ⟨S2x8x32x64x9x64, .f32⟩
  | 27 => ⟨S2x8x32x64x9x64, .f32⟩
  | 28 => ⟨S2x32x8x64x64, .f32⟩
  | 29 => ⟨S2x32x8x64x64, .f32⟩
  | 30 => ⟨S2x8x32x64x64, .f32⟩
  | 31 => ⟨S2x32x8x64x64, .f32⟩
  | 32 => ⟨S2x32x64x8x64, .f32⟩
  | 33 => ⟨S_, .f32⟩
  | 34 => ⟨S2x40x64x8x64, .f32⟩
  | 35 => ⟨S2x40x64x8x64, .f32⟩
  | 36 => ⟨S2x8x32x64x1x64, .f32⟩
  | 37 => ⟨S_, .f32⟩
  | 38 => ⟨S2x8x32x64x9x64, .f32⟩
  | 39 => ⟨S2x8x32x64x9x64, .f32⟩
  | 40 => ⟨S2x32x8x64x64, .f32⟩
  | 41 => ⟨S2x32x8x64x64, .f32⟩
  | 42 => ⟨S2x8x32x64x64, .f32⟩
  | 43 => ⟨S2x32x8x64x64, .f32⟩
  | 44 => ⟨S2x32x64x8x64, .f32⟩
  | 45 => ⟨S_, .f32⟩
  | 46 => ⟨S2x40x64x8x64, .f32⟩
  | 47 => ⟨S2x40x64x8x64, .f32⟩
  | 48 => ⟨S2x8x32x64x1x64, .f32⟩
  | 49 => ⟨S_, .f32⟩
  | 50 => ⟨S2x8x32x64x9x64, .f32⟩
  | 51 => ⟨S2x8x32x64x9x64, .f32⟩
  | 52 => ⟨S2x8x32x64x576, .f32⟩
  | 53 => ⟨S2x8x32x64x576, .f32⟩
  | 54 => ⟨S2x8x32x64x576, .f32⟩
  | 55 => ⟨S2x8x32x64x576, .f32⟩
  | 56 => ⟨S_, .f32⟩
  | 57 => ⟨S2x8x32x64, .f32⟩
  | 58 => ⟨S2x8x32x64x1, .f32⟩
  | 59 => ⟨S2x8x32x64x1, .f32⟩
  | 60 => ⟨S2x8x32x64x576, .f32⟩
  | 61 => ⟨S2x8x32x64x576, .f32⟩
  | 62 => ⟨S_, .f32⟩
  | 63 => ⟨S2x8x32x64, .f32⟩
  | 64 => ⟨S2x8x32x64x576, .f32⟩
  | 65 => ⟨S2x8x32x64x576, .f32⟩
  | 66 => ⟨S2x8x32x64x576, .f32⟩
  | 67 => ⟨S_, .f32⟩
  | 68 => ⟨S2x8x32x64x576, .f32⟩
  | 69 => ⟨S2x8x32x64x576, .f32⟩
  | 70 => ⟨S_, .f32⟩
  | 71 => ⟨S8x64x576, .f32⟩
  | 72 => ⟨S1x8x1x64x576, .f32⟩
  | 73 => ⟨S_, .f32⟩
  | 74 => ⟨S8x64x576, .f32⟩
  | 75 => ⟨S2x8x32x64x9x64, .f32⟩
  | 76 => ⟨S2x8x32x64x1x64, .f32⟩
  | 77 => ⟨S2x8x32x64x64, .f32⟩
  | 78 => ⟨S2x8x32x64x1x64, .f32⟩
  | 79 => ⟨S2x8x32x64x64, .f32⟩
  | 80 => ⟨S2x8x32x64x1x64, .f32⟩
  | 81 => ⟨S2x8x32x64x64, .f32⟩
  | 82 => ⟨S2x8x32x64x1x64, .f32⟩
  | 83 => ⟨S2x8x32x64x64, .f32⟩
  | 84 => ⟨S2x8x32x64x1x64, .f32⟩
  | 85 => ⟨S2x8x32x64x64, .f32⟩
  | 86 => ⟨S2x8x32x64x1x64, .f32⟩
  | 87 => ⟨S2x8x32x64x64, .f32⟩
  | 88 => ⟨S2x8x32x64x1x64, .f32⟩
  | 89 => ⟨S2x8x32x64x64, .f32⟩
  | 90 => ⟨S2x8x32x64x1x64, .f32⟩
  | 91 => ⟨S2x8x32x64x64, .f32⟩
  | 92 => ⟨S2x8x32x64x1x64, .f32⟩
  | 93 => ⟨S2x8x32x64x64, .f32⟩
  | 94 => ⟨S2x8x32x64x64, .f32⟩
  | 95 => ⟨S2x32x64x8x64, .f32⟩
  | 96 => ⟨S2x8x32x64x64, .f32⟩
  | 97 => ⟨S2x32x64x8x64, .f32⟩
  | 98 => ⟨S_, .f32⟩
  | 99 => ⟨S2x40x64x8x64, .f32⟩
  | 100 => ⟨S2x8x32x64x64, .f32⟩
  | 101 => ⟨S2x32x64x8x64, .f32⟩
  | 102 => ⟨S2x8x32x64x64, .f32⟩
  | 103 => ⟨S2x32x64x8x64, .f32⟩
  | 104 => ⟨S2x32x64x8x64, .f32⟩
  | 105 => ⟨S_, .f32⟩
  | 106 => ⟨S2x40x64x8x64, .f32⟩
  | 107 => ⟨S2x40x64x8x64, .f32⟩
  | 108 => ⟨S2x8x32x64x64, .f32⟩
  | 109 => ⟨S2x32x64x8x64, .f32⟩
  | 110 => ⟨S2x8x32x64x64, .f32⟩
  | 111 => ⟨S2x32x64x8x64, .f32⟩
  | 112 => ⟨S2x32x64x8x64, .f32⟩
  | 113 => ⟨S_, .f32⟩
  | 114 => ⟨S2x40x64x8x64, .f32⟩
  | 115 => ⟨S2x40x64x8x64, .f32⟩
  | 116 => ⟨S2x8x32x64x64, .f32⟩
  | 117 => ⟨S2x32x64x8x64, .f32⟩
  | 118 => ⟨S2x8x32x64x64, .f32⟩
  | 119 => ⟨S2x32x64x8x64, .f32⟩
  | 120 => ⟨S2x32x64x8x64, .f32⟩
  | 121 => ⟨S_, .f32⟩
  | 122 => ⟨S2x40x64x8x64, .f32⟩
  | 123 => ⟨S2x40x64x8x64, .f32⟩
  | 124 => ⟨S2x8x32x64x64, .f32⟩
  | 125 => ⟨S2x32x64x8x64, .f32⟩
  | 126 => ⟨S2x8x32x64x64, .f32⟩
  | 127 => ⟨S2x32x64x8x64, .f32⟩
  | _ => ⟨S4096x5760, .bf16⟩

abbrev hbmTy0_3 (i : Nat) : BufTy := match i % 128 with
  | 0 => ⟨S2x32x64x8x64, .f32⟩
  | 1 => ⟨S_, .f32⟩
  | 2 => ⟨S2x40x64x8x64, .f32⟩
  | 3 => ⟨S2x40x64x8x64, .f32⟩
  | 4 => ⟨S2x8x32x64x64, .f32⟩
  | 5 => ⟨S2x32x64x8x64, .f32⟩
  | 6 => ⟨S2x8x32x64x64, .f32⟩
  | 7 => ⟨S2x32x64x8x64, .f32⟩
  | 8 => ⟨S2x32x64x8x64, .f32⟩
  | 9 => ⟨S_, .f32⟩
  | 10 => ⟨S2x40x64x8x64, .f32⟩
  | 11 => ⟨S2x40x64x8x64, .f32⟩
  | 12 => ⟨S2x8x32x64x64, .f32⟩
  | 13 => ⟨S2x32x64x8x64, .f32⟩
  | 14 => ⟨S2x8x32x64x64, .f32⟩
  | 15 => ⟨S2x32x64x8x64, .f32⟩
  | 16 => ⟨S2x32x64x8x64, .f32⟩
  | 17 => ⟨S_, .f32⟩
  | 18 => ⟨S2x40x64x8x64, .f32⟩
  | 19 => ⟨S2x40x64x8x64, .f32⟩
  | 20 => ⟨S2x8x32x64x64, .f32⟩
  | 21 => ⟨S2x32x64x8x64, .f32⟩
  | 22 => ⟨S2x8x32x64x64, .f32⟩
  | 23 => ⟨S2x32x64x8x64, .f32⟩
  | 24 => ⟨S2x32x64x8x64, .f32⟩
  | 25 => ⟨S_, .f32⟩
  | 26 => ⟨S2x40x64x8x64, .f32⟩
  | 27 => ⟨S2x40x64x8x64, .f32⟩
  | 28 => ⟨S2x8x32x64x64, .f32⟩
  | 29 => ⟨S2x32x64x8x64, .f32⟩
  | 30 => ⟨S2x8x32x64x64, .f32⟩
  | 31 => ⟨S2x32x64x8x64, .f32⟩
  | 32 => ⟨S2x32x64x8x64, .f32⟩
  | 33 => ⟨S_, .f32⟩
  | 34 => ⟨S2x40x64x8x64, .f32⟩
  | 35 => ⟨S2x40x64x8x64, .f32⟩
  | 36 => ⟨S2x8x64x8x64, .f32⟩
  | 37 => ⟨S2x32x64x8x64, .f32⟩
  | 38 => ⟨S2x2048x8x64, .f32⟩
  | 39 => ⟨S2x8x64x8x64, .f32⟩
  | 40 => ⟨S2x32x64x8x64, .f32⟩
  | 41 => ⟨S2x2048x8x64, .f32⟩
  | 42 => ⟨S_, .f32⟩
  | 43 => ⟨S2x32x64x8x64, .f32⟩
  | 44 => ⟨S2x32x64x8x64, .f32⟩
  | 45 => ⟨S2x2048x8x64, .f32⟩
  | 46 => ⟨S4096x512, .f32⟩
  | 47 => ⟨S4096x512, .bf16⟩
  | 48 => ⟨S4096x512, .f32⟩
  | 49 => ⟨S4096x512, .bf16⟩
  | 50 => ⟨S4096x512, .f32⟩
  | 51 => ⟨S4096x512, .bf16⟩
  | _ => ⟨S4096x5760, .bf16⟩

abbrev hbmTy (i : Nat) : BufTy := match i / 128 with
  | 0 => hbmTy0_0 i
  | 1 => hbmTy0_1 i
  | 2 => hbmTy0_2 i
  | 3 => hbmTy0_3 i
  | _ => ⟨S4096x5760, .bf16⟩

abbrev bufTy : (tb : Table) → Fin (tcTables nBuf tb) → BufTy
  | .hbm, ⟨i, _⟩ => hbmTy i
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_call1_v0 : Ref sig .tc := ⟨.hbm, 102, rfl⟩
abbrev main_v82_1 : Ref sig .tc := ⟨.hbm, 103, rfl⟩
abbrev main_call1_v2 : Ref sig .tc := ⟨.hbm, 104, rfl⟩
abbrev main_v82_0 : Ref sig .tc := ⟨.hbm, 105, rfl⟩
abbrev main_call1_cst : Ref sig .tc := ⟨.hbm, 106, rfl⟩
abbrev main_v82_2 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_cst_13 : Ref sig .tc := ⟨.hbm, 119, rfl⟩
abbrev main_v91 : Ref sig .tc := ⟨.hbm, 120, rfl⟩
abbrev main_v92 : Ref sig .tc := ⟨.hbm, 121, rfl⟩
abbrev main_cst_14 : Ref sig .tc := ⟨.hbm, 122, rfl⟩
abbrev main_v93 : Ref sig .tc := ⟨.hbm, 123, rfl⟩
abbrev main_v94 : Ref sig .tc := ⟨.hbm, 124, rfl⟩
abbrev main_cst_15 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_18 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_19 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_20 : Ref sig .tc := ⟨.hbm, 207, rfl⟩
abbrev main_v172 : Ref sig .tc := ⟨.hbm, 208, rfl⟩
abbrev main_v173 : Ref sig .tc := ⟨.hbm, 209, rfl⟩
abbrev main_cst_21 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_22 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_23 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_cst_24 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_25 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_26 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_cst_27 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_cst_28 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_cst_29 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_30 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_cst_31 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_cst_32 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_cst_33 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_cst_34 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_35 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_cst_36 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_cst_37 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_cst_38 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_cst_39 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_call2_cst : Ref sig .tc := ⟨.hbm, 323, rfl⟩
abbrev main_call2_v0 : Ref sig .tc := ⟨.hbm, 324, rfl⟩
abbrev main_v268 : Ref sig .tc := ⟨.hbm, 325, rfl⟩
abbrev main_cst_40 : Ref sig .tc := ⟨.hbm, 326, rfl⟩
abbrev main_v269 : Ref sig .tc := ⟨.hbm, 327, rfl⟩
abbrev main_v270 : Ref sig .tc := ⟨.hbm, 328, rfl⟩
abbrev main_cst_41 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_cst_42 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_cst_43 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_cst_44 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_cst_45 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_v321 : Ref sig .tc := ⟨.hbm, 384, rfl⟩
abbrev main_cst_46 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_cst_47 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_cst_48 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_cst_49 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_cst_50 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_cst_51 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference2Ideal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference4Ideal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S5632x1024, .f32⟩
  | .hbm, ⟨25, _⟩ => ⟨S1024x5632, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S4096x5760 : Shape := ⟨2, ![4096, 5760]⟩
abbrev S5760x1024 : Shape := ⟨2, ![5760, 1024]⟩
abbrev S4096x1024 : Shape := ⟨2, ![4096, 1024]⟩
abbrev S1x1024 : Shape := ⟨2, ![1, 1024]⟩
abbrev S256x5760 : Shape := ⟨2, ![256, 5760]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x5760, .bf16⟩
  | .local _ .vmem, ⟨1, _⟩ => ⟨S256x5760, .bf16⟩
  | .local _ .vmem, ⟨2, _⟩ => ⟨S5760x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5760x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference5Ideal.lean ====
abbrev S4096x5760 : Shape := ⟨2, ![4096, 5760]⟩
abbrev S5760x1024 : Shape := ⟨2, ![5760, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5760 : Shape := ⟨2, ![1024, 5760]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S5760x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S5760x1024, .f32⟩
  | .hbm, ⟨25, _⟩ => ⟨S1024x5760, .f32⟩
  | .hbm, ⟨26, _⟩ => ⟨S4096x5760, .f32⟩
  | .hbm, ⟨27, _⟩ => ⟨S4096x5760, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel6.lean ====
abbrev S4096x5760 : Shape := ⟨2, ![4096, 5760]⟩
abbrev S4096x1024 : Shape := ⟨2, ![4096, 1024]⟩
abbrev S5760x1024 : Shape := ⟨2, ![5760, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S5760x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5760 : Shape := ⟨2, ![4096, 5760]⟩
abbrev S4096x1024 : Shape := ⟨2, ![4096, 1024]⟩
abbrev S_ : Shape := ⟨0, ![]⟩
abbrev S1024x5760 : Shape := ⟨2, ![1024, 5760]⟩
abbrev S5760x1024 : Shape := ⟨2, ![5760, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S_, .f32⟩
  | .hbm, ⟨3, _⟩ => ⟨S1024x5760, .f32⟩
  | .hbm, ⟨4, _⟩ => ⟨S4096x1024, .f32⟩
  | .hbm, ⟨5, _⟩ => ⟨S4096x5760, .f32⟩
  | .hbm, ⟨6, _⟩ => ⟨S4096x5760, .f32⟩
  | .hbm, ⟨7, _⟩ => ⟨S5760x1024, .f32⟩
  | .hbm, ⟨8, _⟩ => ⟨S1024x5760, .f32⟩
  | .hbm, ⟨9, _⟩ => ⟨S5760x1024, .f32⟩
  | .hbm, ⟨10, _⟩ => ⟨S5760x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x256 : Shape := ⟨2, ![4096, 256]⟩
abbrev S1408x256 : Shape := ⟨2, ![1408, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x256, .f32⟩
  | .local _ .vmem, ⟨3, _⟩ => ⟨S4096x256, .f32⟩
  | .local _ .vmem, ⟨4, _⟩ => ⟨S1408x256, .bf16⟩
  | .local _ .vmem, ⟨5, _⟩ => ⟨S1408x256, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S5632x1024 : Shape := ⟨2, ![5632, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .hbm, ⟨3, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference8Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x5632, .bf16⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel9.lean ====
abbrev S4096x1024 : Shape := ⟨2, ![4096, 1024]⟩
abbrev S5760x1024 : Shape := ⟨2, ![5760, 1024]⟩
abbrev S4096x5760 : Shape := ⟨2, ![4096, 5760]⟩
abbrev S1024x1024 : Shape := ⟨2, ![1024, 1024]⟩
abbrev S1920x1024 : Shape := ⟨2, ![1920, 1024]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5760x1024, .bf16⟩
  | .hbm, ⟨2, _⟩ => ⟨S4096x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1920, .bf16⟩
  | .local _ .vmem, ⟨5, _⟩ => ⟨S1024x1920, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S5760x1024 : Shape := ⟨2, ![5760, 1024]⟩
abbrev S1024x5760 : Shape := ⟨2, ![1024, 5760]⟩
abbrev S4096x5760 : Shape := ⟨2, ![4096, 5760]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5760x1024, .bf16⟩
  | .hbm, ⟨2, _⟩ => ⟨S4096x1024, .f32⟩
  | .hbm, ⟨3, _⟩ => ⟨S5760x1024, .f32⟩
  | .hbm, ⟨4, _⟩ => ⟨S1024x5760, .f32⟩
  | .hbm, ⟨5, _⟩ => ⟨S4096x5760, .f32⟩
  | .hbm, ⟨6, _⟩ => ⟨S4096x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S1024x512 : Shape := ⟨2, ![1024, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x512, .f32⟩
  | .hbm, ⟨3, _⟩ => ⟨S1024x512, .f32⟩
  | .hbm, ⟨4, _⟩ => ⟨S512x1024, .f32⟩
  | .hbm, ⟨5, _⟩ => ⟨S4096x1024, .f32⟩
  | .hbm, ⟨6, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S_, .f32⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference17Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S1024x256, .f32⟩
  | .hbm, ⟨3, _⟩ => ⟨S256x1024, .f32⟩
  | .hbm, ⟨4, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x1024 : Shape := ⟨2, ![4096, 1024]⟩
abbrev S4096x256 : Shape := ⟨2, ![4096, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1024x256, .bf16⟩
  | .local _ .vmem, ⟨0, _⟩ => ⟨S4096x1024, .bf16⟩
  | .local _ .vmem, ⟨1, _⟩ => ⟨S4096x256, .f32⟩
  | .local _ .vmem, ⟨2, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x512 : Shape := ⟨2, ![4096, 512]⟩
abbrev S1024x512 : Shape := ⟨2, ![1024, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x512, .f32⟩
  | .hbm, ⟨3, _⟩ => ⟨S1024x512, .f32⟩
  | .hbm, ⟨4, _⟩ => ⟨S512x1024, .f32⟩
  | .hbm, ⟨5, _⟩ => ⟨S4096x1024, .f32⟩
  | .hbm, ⟨6, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S_, .f32⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_33 : BitVec 32 := 0#32
  let v78 : BitVec 1 := Scalar.cmpi .ne v77 c0_i32_33
  v78

def k0_cond2 (i : grid0.Coords) : BitVec 1 :=
  let arg0 : BitVec 32 := BitVec.ofNat 32 (i 0).val
  let c0_i32 : BitVec 32 := 0#32
  let v76 : BitVec 1 := Scalar.cmpi .eq arg0 c0_i32
  let v_true : BitVec 1 := 1#1
  let v79 : BitVec 1 := Scalar.xori v76 v_true
  let v80 : BitVec 32 := Scalar.extui v79
  let c0_i32_34 : BitVec 32 := 0#32
  let v81 : BitVec 1 := Scalar.cmpi .ne v80 c0_i32_34
  v81

def k0_cond3 (i : grid0.Coords) : BitVec 1 :=
  let arg0 : BitVec 32 := BitVec.ofNat 32 (i 0).val
  let c0_i32 : BitVec 32 := 0#32
  let v76 : BitVec 1 := Scalar.cmpi .eq arg0 c0_i32
  let v82 : BitVec 32 := Scalar.extui v76
  let c0_i32_35 : BitVec 32 := 0#32
  let v83 : BitVec 1 := Scalar.cmpi .ne v82 c0_i32_35
  v83

def k0_cond4 (i : grid0.Coords) : BitVec 1 :=
  let arg0 : BitVec 32 := BitVec.ofNat 32 (i 0).val
  let c0_i32 : BitVec 32 := 0#32
  let v76 : BitVec 1 := Scalar.cmpi .eq arg0 c0_i32
  let true_36 : BitVec 1 := 1#1
  let v84 : BitVec 1 := Scalar.xori v76 true_36
  let v85 : BitVec 32 := Scalar.extui v84
  let c0_i32_37 : BitVec 32 := 0#32
  let v86 : BitVec 1 := Scalar.cmpi .ne v85 c0_i32_37
  v86

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== Reference24Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S4096x1024, .bf16⟩
  | .hbm, ⟨93, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel25.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S4096x5760 : Shape := ⟨2, ![4096, 5760]⟩
abbrev S4096x1024 : Shape := ⟨2, ![4096, 1024]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c7_i32 : BitVec 32 := 7#32
  let v1 : BitVec 32 := Scalar.addi c7_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c9_i32 : BitVec 32 := 9#32
  let v1 : BitVec 32 := Scalar.addi c9_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference26Ideal.lean ====
abbrev S4096x5760 : Shape := ⟨2, ![4096, 5760]⟩
abbrev S4096x1024 : Shape := ⟨2, ![4096, 1024]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel27.lean ====
abbrev S4096x5760 : Shape := ⟨2, ![4096, 5760]⟩
abbrev S4096x1024 : Shape := ⟨2, ![4096, 1024]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c7_i32 : BitVec 32 := 7#32
  let v1 : BitVec 32 := Scalar.addi c7_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c9_i32 : BitVec 32 := 9#32
  let v1 : BitVec 32 := Scalar.addi c9_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S4096x5760 : Shape := ⟨2, ![4096, 5760]⟩
abbrev S4096x1024 : Shape := ⟨2, ![4096, 1024]⟩
abbrev S4096x2048 : Shape := ⟨2, ![4096, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x2048, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x2048, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel28.lean ====
abbrev S4096x5760 : Shape := ⟨2, ![4096, 5760]⟩
abbrev S8x64x576 : Shape := ⟨3, ![8, 64, 576]⟩
abbrev S4096x512 : Shape := ⟨2, ![4096, 512]⟩
abbrev S2048x128 : Shape := ⟨2, ![2048, 128]⟩
abbrev S2x64x576 : Shape := ⟨3, ![2, 64, 576]⟩
abbrev S2560x128 : Shape := ⟨2, ![2560, 128]⟩
abbrev S512x128 : Shape := ⟨2, ![512, 128]⟩
abbrev S64x576 : Shape := ⟨2, ![64, 576]⟩
abbrev S1x128 : Shape := ⟨2, ![1, 128]⟩
abbrev S64x128 : Shape := ⟨2, ![64, 128]⟩
abbrev S576x128 : Shape := ⟨2, ![576, 128]⟩
abbrev S1x64x576 : Shape := ⟨3, ![1, 64, 576]⟩
abbrev S64 : Shape := ⟨1, ![64]⟩
abbrev S64x1 : Shape := ⟨2, ![64, 1]⟩

abbrev nBuf : Space → Nat
  | .hbm => 3
  | .vmem => 12
  | .smem => 0
  | _ => 0

abbrev bufTy : (tb : Table) → Fin (tcTables nBuf tb) → BufTy
  | .hbm, ⟨0, _⟩ => ⟨S4096x5760, .bf16⟩
  | .hbm, ⟨1, _⟩ => ⟨S8x64x576, .f32⟩
  | .hbm, ⟨2, _⟩ => ⟨S4096x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x64x576, .f32⟩
  | .local _ .vmem, ⟨7, _⟩ => ⟨S2x64x576, .f32⟩
  | .local _ .vmem, ⟨8, _⟩ => ⟨S2048x128, .bf16⟩
  | .local _ .vmem, ⟨9, _⟩ => ⟨S2048x128, .bf16⟩
  | .local _ .vmem, ⟨10, _⟩ => ⟨S2560x128, .f32⟩
  | .local _ .vmem, ⟨11, _⟩ => ⟨S2560x128, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  let c8_i32 : BitVec 32 := 8#32
  let v23 : BitVec 32 := Scalar.muli c0_i32 c8_i32
  let c0_i32_14 : BitVec 32 := 0#32
  let v24 : BitVec 32 := Scalar.addi v23 c0_i32_14
  let c64_i32_15 : BitVec 32 := 64#32
  let v25 : BitVec 32 := Scalar.muli v24 c64_i32_15
  v25
def k0_mult2 : BitVec 32 :=
  let c0_i32 : BitVec 32 := 0#32
  let c8_i32_16 : BitVec 32 := 8#32
  let v27 : BitVec 32 := Scalar.muli c0_i32 c8_i32_16
  let c1_i32 : BitVec 32 := 1#32
  let v28 : BitVec 32 := Scalar.addi v27 c1_i32
  let c64_i32_17 : BitVec 32 := 64#32
  let v29 : BitVec 32 := Scalar.muli v28 c64_i32_17
  v29
def k0_mult3 : BitVec 32 :=
  let c0_i32 : BitVec 32 := 0#32
  let c8_i32_18 : BitVec 32 := 8#32
  let v31 : BitVec 32 := Scalar.muli c0_i32 c8_i32_18
  let c2_i32 : BitVec 32 := 2#32
  let v32 : BitVec 32 := Scalar.addi v31 c2_i32
  let c64_i32_19 : BitVec 32 := 64#32
  let v33 : BitVec 32 := Scalar.muli v32 c64_i32_19
  v33
def k0_mult4 : BitVec 32 :=
  let c0_i32 : BitVec 32 := 0#32
  let c8_i32_20 : BitVec 32 := 8#32
  let v35 : BitVec 32 := Scalar.muli c0_i32 c8_i32_20
  let c3_i32 : BitVec 32 := 3#32
  let v36 : BitVec 32 := Scalar.addi v35 c3_i32
  let c64_i32_21 : BitVec 32 := 64#32
  let v37 : BitVec 32 := Scalar.muli v36 c64_i32_21
  v37
def k0_mult5 : BitVec 32 :=
  let c0_i32 : BitVec 32 := 0#32
  let c8_i32_22 : BitVec 32 := 8#32
  let v39 : BitVec 32 := Scalar.muli c0_i32 c8_i32_22
  let c4_i32 : BitVec 32 := 4#32
  let v40 : BitVec 32 := Scalar.addi v39 c4_i32
  let c64_i32_23 : BitVec 32 := 64#32
  let v41 : BitVec 32 := Scalar.muli v40 c64_i32_23
  v41
def k0_mult6 : BitVec 32 :=
  let c0_i32 : BitVec 32 := 0#32
  let c8_i32_24 : BitVec 32 := 8#32
  let v43 : BitVec 32 := Scalar.muli c0_i32 c8_i32_24
  let c5_i32 : BitVec 32 := 5#32
  let v44 : BitVec 32 := Scalar.addi v43 c5_i32
  let c64_i32_25 : BitVec 32 := 64#32
  let v45 : BitVec 32 := Scalar.muli v44 c64_i32_25
  v45
def k0_mult7 : BitVec 32 :=
  let c0_i32 : BitVec 32 := 0#32
  let c8_i32_26 : BitVec 32 := 8#32
  let v47 : BitVec 32 := Scalar.muli c0_i32 c8_i32_26
  let c6_i32 : BitVec 32 := 6#32
  let v48 : BitVec 32 := Scalar.addi v47 c6_i32
  let c64_i32_27 : BitVec 32 := 64#32
  let v49 : BitVec 32 := Scalar.muli v48 c64_i32_27
  v49
def k0_mult8 : BitVec 32 :=
  let c0_i32 : BitVec 32 := 0#32
  let c8_i32_28 : BitVec 32 := 8#32
  let v51 : BitVec 32 := Scalar.muli c0_i32 c8_i32_28
  let c7_i32 : BitVec 32 := 7#32
  let v52 : BitVec 32 := Scalar.addi v51 c7_i32
  let c64_i32_29 : BitVec 32 := 64#32
  let v53 : BitVec 32 := Scalar.muli v52 c64_i32_29
  v53
def k0_off1 (c0_i32_14 : BitVec 32) : Fin 2 → Nat :=
  let c0_i32 : BitVec 32 := 0#32
  let c8_i32 : BitVec 32 := 8#32
  let v23 : BitVec 32 := Scalar.muli c0_i32 c8_i32
  let v24 : BitVec 32 := Scalar.addi v23 c0_i32_14
  let c64_i32_15 : BitVec 32 := 64#32
  let v25 : BitVec 32 := Scalar.muli v24 c64_i32_15
  let v26 : BitVec 32 := v25
  let v87 : Index := Scalar.indexCast v26
  let c0_37 : Index := 0#32
  ![v87.toNat, 0]
def k0_off2 (c0_i32_14 : BitVec 32) : Fin 2 → Nat :=
  let c0_i32 : BitVec 32 := 0#32
  let c8_i32 : BitVec 32 := 8#32
  let v23 : BitVec 32 := Scalar.muli c0_i32 c8_i32
  let v24 : BitVec 32 := Scalar.addi v23 c0_i32_14
  let c64_i32_15 : BitVec 32 := 64#32
  let v25 : BitVec 32 := Scalar.muli v24 c64_i32_15
  let v26 : BitVec 32 := v25
  let v111 : Index := Scalar.indexCast v26
  let c0_45 : Index := 0#32
  ![v111.toNat, 0]
@[reducible] def k0_t1_loop : Scf.Loop 32 :=
  let c1_i32_215 : BitVec 32 := 1#32
  let c3_i32_216 : BitVec 32 := 3#32
  let v672 : BitVec 32 := Scalar.addi c1_i32_215 c3_i32_216
  let c1_i32_217 : BitVec 32 := 1#32
  ⟨c1_i32_215, v672, c1_i32_217⟩
def k0_mult9 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_220 : BitVec 32 := 8#32
  let v676 : BitVec 32 := Scalar.muli arg9 c8_i32_220
  let c0_i32_221 : BitVec 32 := 0#32
  let v677 : BitVec 32 := Scalar.addi v676 c0_i32_221
  let c64_i32_222 : BitVec 32 := 64#32
  let v678 : BitVec 32 := Scalar.muli v677 c64_i32_222
  v678
def k0_mult10 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_223 : BitVec 32 := 8#32
  let v680 : BitVec 32 := Scalar.muli arg9 c8_i32_223
  let c1_i32_224 : BitVec 32 := 1#32
  let v681 : BitVec 32 := Scalar.addi v680 c1_i32_224
  let c64_i32_225 : BitVec 32 := 64#32
  let v682 : BitVec 32 := Scalar.muli v681 c64_i32_225
  v682
def k0_mult11 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_226 : BitVec 32 := 8#32
  let v684 : BitVec 32 := Scalar.muli arg9 c8_i32_226
  let c2_i32_227 : BitVec 32 := 2#32
  let v685 : BitVec 32 := Scalar.addi v684 c2_i32_227
  let c64_i32_228 : BitVec 32 := 64#32
  let v686 : BitVec 32 := Scalar.muli v685 c64_i32_228
  v686
def k0_mult12 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_229 : BitVec 32 := 8#32
  let v688 : BitVec 32 := Scalar.muli arg9 c8_i32_229
  let c3_i32_230 : BitVec 32 := 3#32
  let v689 : BitVec 32 := Scalar.addi v688 c3_i32_230
  let c64_i32_231 : BitVec 32 := 64#32
  let v690 : BitVec 32 := Scalar.muli v689 c64_i32_231
  v690
def k0_mult13 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_232 : BitVec 32 := 8#32
  let v692 : BitVec 32 := Scalar.muli arg9 c8_i32_232
  let c4_i32_233 : BitVec 32 := 4#32
  let v693 : BitVec 32 := Scalar.addi v692 c4_i32_233
  let c64_i32_234 : BitVec 32 := 64#32
  let v694 : BitVec 32 := Scalar.muli v693 c64_i32_234
  v694
def k0_mult14 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_235 : BitVec 32 := 8#32
  let v696 : BitVec 32 := Scalar.muli arg9 c8_i32_235
  let c5_i32_236 : BitVec 32 := 5#32
  let v697 : BitVec 32 := Scalar.addi v696 c5_i32_236
  let c64_i32_237 : BitVec 32 := 64#32
  let v698 : BitVec 32 := Scalar.muli v697 c64_i32_237
  v698
def k0_mult15 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_238 : BitVec 32 := 8#32
  let v700 : BitVec 32 := Scalar.muli arg9 c8_i32_238
  let c6_i32_239 : BitVec 32 := 6#32
  let v701 : BitVec 32 := Scalar.addi v700 c6_i32_239
  let c64_i32_240 : BitVec 32 := 64#32
  let v702 : BitVec 32 := Scalar.muli v701 c64_i32_240
  v702
def k0_mult16 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_241 : BitVec 32 := 8#32
  let v704 : BitVec 32 := Scalar.muli arg9 c8_i32_241
  let c7_i32_242 : BitVec 32 := 7#32
  let v705 : BitVec 32 := Scalar.addi v704 c7_i32_242
  let c64_i32_243 : BitVec 32 := 64#32
  let v706 : BitVec 32 := Scalar.muli v705 c64_i32_243
  v706
def k0_off3 (k0_t1 : Fin k0_t1_loop.trips) (c0_i32_221 : BitVec 32) : Fin 2 → Nat :=
  let c1_i32_215 : BitVec 32 := 1#32
  let c1_i32_217 : BitVec 32 := 1#32
  let arg9 : BitVec 32 := Scf.iv c1_i32_215 c1_i32_217 k0_t1
  let c8_i32_220 : BitVec 32 := 8#32
  let v676 : BitVec 32 := Scalar.muli arg9 c8_i32_220
  let v677 : BitVec 32 := Scalar.addi v676 c0_i32_221
  let c64_i32_222 : BitVec 32 := 64#32
  let v678 : BitVec 32 := Scalar.muli v677 c64_i32_222
  let v679 : BitVec 32 := v678
  let v708 : Index := Scalar.indexCast v679
  let c0_244 : Index := 0#32
  ![v708.toNat, 0]
def k0_off4 (k0_t1 : Fin k0_t1_loop.trips) (c0_i32_221 : BitVec 32) : Fin 2 → Nat :=
  let c1_i32_215 : BitVec 32 := 1#32
  let c1_i32_217 : BitVec 32 := 1#32
  let arg9 : BitVec 32 := Scf.iv c1_i32_215 c1_i32_217 k0_t1
  let c8_i32_220 : BitVec 32 := 8#32
  let v676 : BitVec 32 := Scalar.muli arg9 c8_i32_220
  let v677 : BitVec 32 := Scalar.addi v676 c0_i32_221
  let c64_i32_222 : BitVec 32 := 64#32
  let v678 : BitVec 32 := Scalar.muli v677 c64_i32_222
  let v679 : BitVec 32 := v678
  let v732 : Index := Scalar.indexCast v679
  let c0_252 : Index := 0#32
  ![v732.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S4096x5760 : Shape := ⟨2, ![4096, 5760]⟩
abbrev S8x64x576 : Shape := ⟨3, ![8, 64, 576]⟩
abbrev S2x2048x5760 : Shape := ⟨3, ![2, 2048, 5760]⟩
abbrev S2x2048x512 : Shape := ⟨3, ![2, 2048, 512]⟩
abbrev S2x2048x8x64 : Shape := ⟨4, ![2, 2048, 8, 64]⟩
abbrev S2x32x64x8x64 : Shape := ⟨5, ![2, 32, 64, 8, 64]⟩
abbrev S_ : Shape := ⟨0, ![]⟩
abbrev S2x8x64x8x64 : Shape := ⟨5, ![2, 8, 64, 8, 64]⟩
abbrev S2x40x64x8x64 : Shape := ⟨5, ![2, 40, 64, 8, 64]⟩
abbrev S2x8x32x64x64 : Shape := ⟨5, ![2, 8, 32, 64, 64]⟩
abbrev S2x8x32x64x1x64 : Shape := ⟨6, ![2, 8, 32, 64, 1, 64]⟩
abbrev S2x8x32x64x9x64 : Shape := ⟨6, ![2, 8, 32, 64, 9, 64]⟩
abbrev S2x8x32x64x576 : Shape := ⟨5, ![2, 8, 32, 64, 576]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x1x64x576 : Shape := ⟨5, ![1, 8, 1, 64, 576]⟩
abbrev S2x8x32x64 : Shape := ⟨4, ![2, 8, 32, 64]⟩
abbrev S2x8x32x64x1 : Shape := ⟨5, ![2, 8, 32, 64, 1]⟩
abbrev S2x32x8x64x64 : Shape := ⟨5, ![2, 32, 8, 64, 64]⟩
abbrev S4096x512 : Shape := ⟨2, ![4096, 512]⟩

abbrev nBuf : Space → Nat
  | .hbm => 141
  | .vmem => 0
  | .smem => 0
  | _ => 0

abbrev hbmTy0_0 (i : Nat) : BufTy := match i % 128 with
  | 0 => ⟨S4096x5760, .bf16⟩
  | 1 => ⟨S8x64x576, .f32⟩
  | 2 => ⟨S4096x5760, .f32⟩
  | 3 => ⟨S2x2048x5760, .f32⟩
  | 4 => ⟨S2x2048x512, .f32⟩
  | 5 => ⟨S2x2048x8x64, .f32⟩
  | 6 => ⟨S2x2048x512, .f32⟩
  | 7 => ⟨S2x2048x8x64, .f32⟩
  | 8 => ⟨S2x2048x512, .f32⟩
  | 9 => ⟨S2x2048x8x64, .f32⟩
  | 10 => ⟨S2x32x64x8x64, .f32⟩
  | 11 => ⟨S_, .f32⟩
  | 12 => ⟨S2x32x64x8x64, .f32⟩
  | 13 => ⟨S2x32x64x8x64, .f32⟩
  | 14 => ⟨S_, .f32⟩
  | 15 => ⟨S2x8x64x8x64, .f32⟩
  | 16 => ⟨S2x32x64x8x64, .f32⟩
  | 17 => ⟨S2x40x64x8x64, .f32⟩
  | 18 => ⟨S2x32x64x8x64, .f32⟩
  | 19 => ⟨S2x40x64x8x64, .f32⟩
  | 20 => ⟨S2x32x64x8x64, .f32⟩
  | 21 => ⟨S2x8x32x64x64, .f32⟩
  | 22 => ⟨S2x32x64x8x64, .f32⟩
  | 23 => ⟨S2x8x32x64x64, .f32⟩
  | 24 => ⟨S2x32x64x8x64, .f32⟩
  | 25 => ⟨S2x8x32x64x64, .f32⟩
  | 26 => ⟨S2x32x64x8x64, .f32⟩
  | 27 => ⟨S2x8x32x64x64, .f32⟩
  | 28 => ⟨S2x32x64x8x64, .f32⟩
  | 29 => ⟨S2x8x32x64x64, .f32⟩
  | 30 => ⟨S2x32x64x8x64, .f32⟩
  | 31 => ⟨S2x8x32x64x64, .f32⟩
  | 32 => ⟨S2x32x64x8x64, .f32⟩
  | 33 => ⟨S2x8x32x64x64, .f32⟩
  | 34 => ⟨S2x32x64x8x64, .f32⟩
  | 35 => ⟨S2x8x32x64x64, .f32⟩
  | 36 => ⟨S2x32x64x8x64, .f32⟩
  | 37 => ⟨S2x8x32x64x64, .f32⟩
  | 38 => ⟨S2x8x32x64x1x64, .f32⟩
  | 39 => ⟨S2x8x32x64x1x64, .f32⟩
  | 40 => ⟨S2x8x32x64x1x64, .f32⟩
  | 41 => ⟨S2x8x32x64x1x64, .f32⟩
  | 42 => ⟨S2x8x32x64x1x64, .f32⟩
  | 43 => ⟨S2x8x32x64x1x64, .f32⟩
  | 44 => ⟨S2x8x32x64x1x64, .f32⟩
  | 45 => ⟨S2x8x32x64x1x64, .f32⟩
  | 46 => ⟨S2x8x32x64x1x64, .f32⟩
  | 47 => ⟨S2x8x32x64x9x64, .f32⟩
  | 48 => ⟨S2x8x32x64x576, .f32⟩
  | 49 => ⟨S32, .i32⟩
  | 50 => ⟨S32x1, .i32⟩
  | 51 => ⟨S9, .i32⟩
  | 52 => ⟨S1x9, .i32⟩
  | 53 => ⟨S32x9, .i32⟩
  | 54 => ⟨S32x9, .i32⟩
  | 55 => ⟨S32x9, .i32⟩
  | 56 => ⟨S_, .i32⟩
  | 57 => ⟨S32x9, .i32⟩
  | 58 => ⟨S32x9, .i1⟩
  | 59 => ⟨S32x9x64, .i1⟩
  | 60 => ⟨S32x576, .i1⟩
  | 61 => ⟨S1x1x32x1x576, .i1⟩
  | 62 => ⟨S1x8x1x64x576, .f32⟩
  | 63 => ⟨S2x8x32x64x576, .f32⟩
  | 64 => ⟨S2x8x32x64x576, .f32⟩
  | 65 => ⟨S_, .f32⟩
  | 66 => ⟨S_, .f32⟩
  | 67 => ⟨S2x8x32x64x576, .i1⟩
  | 68 => ⟨S2x8x32x64x576, .f32⟩
  | 69 => ⟨S2x8x32x64x576, .f32⟩
  | 70 => ⟨S_, .f32⟩
  | 71 => ⟨S2x8x32x64, .f32⟩
  | 72 => ⟨S_, .f32⟩
  | 73 => ⟨S2x8x32x64, .f32⟩
  | 74 => ⟨S2x8x32x64, .f32⟩
  | 75 => ⟨S2x8x32x64x1, .f32⟩
  | 76 => ⟨S2x8x32x64x576, .f32⟩
  | 77 => ⟨S2x8x32x64x576, .f32⟩
  | 78 => ⟨S2x8x32x64x576, .f32⟩
  | 79 => ⟨S_, .f32⟩
  | 80 => ⟨S2x8x32x64, .f32⟩
  | 81 => ⟨S2x8x32x64x1, .f32⟩
  | 82 => ⟨S2x8x32x64x576, .f32⟩
  | 83 => ⟨S2x8x32x64x576, .f32⟩
  | 84 => ⟨S2x8x32x64x9x64, .f32⟩
  | 85 => ⟨S2x8x32x64x1x64, .f32⟩
  | 86 => ⟨S2x8x32x64x64, .f32⟩
  | 87 => ⟨S2x32x64x8x64, .f32⟩
  | 88 => ⟨S2x32x8x64x64, .f32⟩
  | 89 => ⟨S2x32x64x8x64, .f32⟩
  | 90 => ⟨S2x8x32x64x1x64, .f32⟩
  | 91 => ⟨S2x8x32x64x64, .f32⟩
  | 92 => ⟨S2x32x64x8x64, .f32⟩
  | 93 => ⟨S2x32x8x64x64, .f32⟩
  | 94 => ⟨S2x32x64x8x64, .f32⟩
  | 95 => ⟨S2x32x64x8x64, .f32⟩
  | 96 => ⟨S2x8x32x64x1x64, .f32⟩
  | 97 => ⟨S2x8x32x64x64, .f32⟩
  | 98 => ⟨S2x32x64x8x64, .f32⟩
  | 99 => ⟨S2x32x8x64x64, .f32⟩
  | 100 => ⟨S2x32x64x8x64, .f32⟩
  | 101 => ⟨S2x32x64x8x64, .f32⟩
  | 102 => ⟨S2x8x32x64x1x64, .f32⟩
  | 103 => ⟨S2x8x32x64x64, .f32⟩
  | 104 => ⟨S2x32x64x8x64, .f32⟩
  | 105 => ⟨S2x32x8x64x64, .f32⟩
  | 106 => ⟨S2x32x64x8x64, .f32⟩
  | 107 => ⟨S2x32x64x8x64, .f32⟩
  | 108 => ⟨S2x8x32x64x1x64, .f32⟩
  | 109 => ⟨S2x8x32x64x64, .f32⟩
  | 110 => ⟨S2x32x64x8x64, .f32⟩
  | 111 => ⟨S2x32x8x64x64, .f32⟩
  | 112 => ⟨S2x32x64x8x64, .f32⟩
  | 113 => ⟨S2x32x64x8x64, .f32⟩
  | 114 => ⟨S2x8x32x64x1x64, .f32⟩
  | 115 => ⟨S2x8x32x64x64, .f32⟩
  | 116 => ⟨S2x32x64x8x64, .f32⟩
  | 117 => ⟨S2x32x8x64x64, .f32⟩
  | 118 => ⟨S2x32x64x8x64, .f32⟩
  | 119 => ⟨S2x32x64x8x64, .f32⟩
  | 120 => ⟨S2x8x32x64x1x64, .f32⟩
  | 121 => ⟨S2x8x32x64x64, .f32⟩
  | 122 => ⟨S2x32x64x8x64, .f32⟩
  | 123 => ⟨S2x32x8x64x64, .f32⟩
  | 124 => ⟨S2x32x64x8x64, .f32⟩
  | 125 => ⟨S2x32x64x8x64, .f32⟩
  | 126 => ⟨S2x8x32x64x1x64, .f32⟩
  | 127 => ⟨S2x8x32x64x64, .f32⟩
  | _ => ⟨S4096x5760, .bf16⟩

abbrev hbmTy0_1 (i : Nat) : BufTy := match i % 128 with
  | 0 => ⟨S2x32x64x8x64, .f32⟩
  | 1 => ⟨S2x32x8x64x64, .f32⟩
  | 2 => ⟨S2x32x64x8x64, .f32⟩
  | 3 => ⟨S2x32x64x8x64, .f32⟩
  | 4 => ⟨S2x8x32x64x1x64, .f32⟩
  | 5 => ⟨S2x8x32x64x64, .f32⟩
  | 6 => ⟨S2x32x64x8x64, .f32⟩
  | 7 => ⟨S2x32x8x64x64, .f32⟩
  | 8 => ⟨S2x32x64x8x64, .f32⟩
  | 9 => ⟨S2x32x64x8x64, .f32⟩
  | 10 => ⟨S2x2048x512, .f32⟩
  | 11 => ⟨S4096x512, .f32⟩
  | 12 => ⟨S4096x512, .bf16⟩
  | _ => ⟨S4096x5760, .bf16⟩

abbrev hbmTy (i : Nat) : BufTy := match i / 128 with
  | 0 => hbmTy0_0 i
  | 1 => hbmTy0_1 i
  | _ => ⟨S4096x5760, .bf16⟩

abbrev bufTy : (tb : Table) → Fin (tcTables nBuf tb) → BufTy
  | .hbm, ⟨i, _⟩ => hbmTy i
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_c : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst_1 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v60 : Ref sig .tc := ⟨.hbm, 69, rfl⟩
abbrev main_cst_2 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩

abbrev nD : Nat := 1
abbrev τ : Topo := Topo.v7x

variable {F : FTy → Type} [FloatOps F]
-- ==== Proof.Attn.Chunk.lean ====
module

public import proofs.«01_k».proof.Proof.Gen.KernelIdeal.Loops
public import Idealize.ShloMosaic.Lib.VecWindow

@[expose] public section

set_option maxRecDepth 16384

noncomputable section

namespace Cert.KernelIdeal.Attn

open Idealize.ShloMosaic Cert.KernelIdeal Cert.KernelIdeal.Gen

variable {F : FTy → Type} [FloatOps F]

/-! # One chunk of 64 queries against its band of 576 keys, two heads at a time

A chunk's queries are 64 rows of 128 lanes: lanes 0 to 63 are the even head of a pair, lanes 64 to 127 the odd one.
`e = false` is the even head, `e = true` the odd one. -/

/-- The lanes of head `e` of the pair, on every row of a chunk. -/
def lanes : Bool → IVec S64x128 1
  | false => broadcastTo S64x128 (shapeCast S1x128 (cmpi .slt (iota .tc S1x128 32 [1] iota_S1x128_d1_w32) (broadcast S1x128 64#32)) shapeCasts_S1x128_S1x128) broadcasts_S1x128_S64x128
  | true => broadcastTo S64x128 (shapeCast S1x128 (xori (cmpi .slt (iota .tc S1x128 32 [1] iota_S1x128_d1_w32) (broadcast S1x128 64#32)) (constantI S1x128 1 1#1)) shapeCasts_S1x128_S1x128) broadcasts_S1x128_S64x128

/-- The lanes of head `e` of `x`, zero elsewhere. -/
def onLanes (e : Bool) (x : FVec F S64x128 .f32) : FVec F S64x128 .f32 :=
  select (lanes e) x (broadcast S64x128 (Scalar.ofBits .f32 0x00000000#32))

/-- The queries of head `e`, scaled. -/
def qm (e : Bool) (q : FVec F S64x128 .bf16) : FVec F S64x128 .bf16 :=
  truncf .bf16 (mulf (onLanes e (extf .f32 q bitsLt_bf16_f32)) (broadcast S64x128 (Scalar.ofBits .f32 0x3E000000#32))) bitsLt_bf16_f32

/-- A band of keys or values, narrowed. -/
def nar (x : FVec F S576x128 .f32) : FVec F S576x128 .bf16 := truncf .bf16 x bitsLt_bf16_f32

/-- The bias of head `e`. -/
def biasOf : Bool → FVec F S2x64x576 .f32 → FVec F S64x576 .f32
  | false, b => shapeCast S64x576 (extractStridedSlice S1x64x576 ![0, 0, 0] b slices_S2x64x576_o0_0_0_S1x64x576) shapeCasts_S1x64x576_S64x576
  | true, b => shapeCast S64x576 (extractStridedSlice S1x64x576 ![1, 0, 0] b slices_S2x64x576_o1_0_0_S1x64x576) shapeCasts_S1x64x576_S64x576

/-- Where the mask forbids, the given word; no mask, no change. -/
def masked (w : BitVec 32) (x : FVec F S64x576 .f32) : Option (IVec S64x576 1) → FVec F S64x576 .f32
  | none => x
  | some v => select v x (broadcast S64x576 (Scalar.ofBits .f32 w))

/-- The keys of the band that the chunk whose first row is `r` may look at: those not before the sequence's start. -/
def validOf (r : BitVec 32) : IVec S64x576 1 :=
  cmpi .sge (addi (iota .tc S64x576 32 [1] iota_S64x576_d1_w32) (broadcast S64x576 r)) (broadcast S64x576 512#32)

/-- The scores. -/
def scores (e : Bool) (q : FVec F S64x128 .bf16) (k : FVec F S576x128 .f32) (b : FVec F S2x64x576 .f32) (vd : Option (IVec S64x576 1)) : FVec F S64x576 .f32 :=
  masked 0xF149F2CA#32 (addf (matmul dot_S64x128_S576x128_S64x576_1_1_0_0_n_n none (qm e q) (nar k) (constant S64x576 .f32 0x00000000#32)) (biasOf e b)) vd

/-- The exponentials of the scores less their row maximum. -/
def expo (s : FVec F S64x576 .f32) : FVec F S64x576 .f32 :=
  exp (subf s (broadcastTo S64x576 (shapeCast S64x1 (multiReduction .maximumf [1] S64 s 0xFF800000#32 reduces_S64x576_S64 (.inl rfl) rfl) shapeCasts_S64_S64x1) broadcasts_S64x1_S64x576))

/-- Each row times the inverse of its sum. -/
def normed (x : FVec F S64x576 .f32) : FVec F S64x576 .f32 :=
  mulf x (broadcastTo S64x576 (divf (broadcast S64x1 (Scalar.ofBits .f32 0x3F800000#32)) (shapeCast S64x1 (multiReduction .add [1] S64 x 0x00000000#32 reduces_S64x576_S64 (.inl rfl) rfl) shapeCasts_S64_S64x1)) broadcasts_S64x1_S64x576)

/-- The attention weights. -/
def probs (e : Bool) (q : FVec F S64x128 .bf16) (k : FVec F S576x128 .f32) (b : FVec F S2x64x576 .f32) (vd : Option (IVec S64x576 1)) : FVec F S64x576 .f32 :=
  normed (expo (scores e q k b vd))

/-- The output's gradient of head `e`. -/
def dom (e : Bool) (dy : FVec F S64x128 .f32) : FVec F S64x128 .f32 :=
  onLanes e (shapeCast S64x128 dy shapeCasts_S64x128_S64x128)

/-- The output's gradient of head `e`, narrowed. -/
def don (e : Bool) (dy : FVec F S64x128 .f32) : FVec F S64x128 .bf16 := truncf .bf16 (dom e dy) bitsLt_bf16_f32

/-- The gradient of the weights. -/
def dprobs (e : Bool) (v : FVec F S576x128 .f32) (dy : FVec F S64x128 .f32) : FVec F S64x576 .f32 :=
  matmul dot_S64x128_S576x128_S64x576_1_1_0_0_n_n none (don e dy) (nar v) (constant S64x576 .f32 0x00000000#32)

/-- Each row's product of the output and its gradient. -/
def delta (e : Bool) (p : FVec F S64x576 .f32) (v : FVec F S576x128 .f32) (dy : FVec F S64x128 .f32) : FVec F S64x1 .f32 :=
  shapeCast S64x1 (multiReduction .add [1] S64 (mulf (dom e dy)
    (matmul dot_S64x576_S576x128_S64x128_1_0_0_1_n_n none (truncf .bf16 p bitsLt_bf16_f32) (nar v) (constant S64x128 .f32 0x00000000#32)))
    0x00000000#32 reduces_S64x128_S64 (.inl rfl) rfl) shapeCasts_S64_S64x1

/-- The gradient of the scores, of given weights. -/
def dscoresOf (e : Bool) (p : FVec F S64x576 .f32) (v : FVec F S576x128 .f32) (dy : FVec F S64x128 .f32) (vd : Option (IVec S64x576 1)) : FVec F S64x576 .f32 :=
  masked 0x00000000#32 (mulf p (subf (dprobs e v dy) (broadcastTo S64x576 (delta e p v dy) broadcasts_S64x1_S64x576))) vd

/-- What one chunk reads: its queries, its band of keys and of values, the pair's bias, the output's gradient, the mask. -/
structure In (F : FTy → Type) where
  q : FVec F S64x128 .bf16
  k : FVec F S576x128 .f32
  v : FVec F S576x128 .f32
  b : FVec F S2x64x576 .f32
  dy : FVec F S64x128 .f32
  vd : Option (IVec S64x576 1)

namespace In

variable (x : In F)

/-- The weights of head `e`. -/
def p (e : Bool) : FVec F S64x576 .f32 := probs e x.q x.k x.b x.vd

/-- The gradient of the scores of head `e`. -/
def ds (e : Bool) : FVec F S64x576 .f32 := dscoresOf e (x.p e) x.v x.dy x.vd

/-- The gradient of the queries, head `e`. -/
def dqOf (e : Bool) : FVec F S64x128 .f32 :=
  onLanes e (mulf (extf .f32 (truncf .bf16 (matmul dot_S64x576_S576x128_S64x128_1_0_0_1_n_n none (x.ds e) (nar x.k) (constant S64x128 .f32 0x00000000#32)) bitsLt_bf16_f32) bitsLt_bf16_f32)
    (broadcast S64x128 (Scalar.ofBits .f32 0x3E000000#32)))

/-- The gradient of the queries. -/
def dq : FVec F S64x128 .bf16 := truncf .bf16 (addf (x.dqOf true) (x.dqOf false)) bitsLt_bf16_f32

/-- The gradient of the keys, head `e`. -/
def dkOf (e : Bool) : FVec F S576x128 .bf16 :=
  truncf .bf16 (matmul dot_S64x576_S64x128_S576x128_0_0_1_1_n_n none (x.ds e) (qm e x.q) (constant S576x128 .f32 0x00000000#32)) bitsLt_bf16_f32

/-- The gradient of the band of keys. -/
def dk : FVec F S576x128 .f32 := extf .f32 (addf (x.dkOf true) (x.dkOf false)) bitsLt_bf16_f32

/-- The gradient of the values, head `e`. -/
def dvOf (e : Bool) : FVec F S576x128 .f32 :=
  matmul dot_S64x576_S64x128_S576x128_0_0_1_1_n_n none (truncf .bf16 (x.p e) bitsLt_bf16_f32) (don e x.dy) (constant S576x128 .f32 0x00000000#32)

/-- The gradient of the band of values. -/
def dv : FVec F S576x128 .f32 := addf (x.dvOf false) (x.dvOf true)

/-- Head `e`'s part of the gradient of the bias. -/
def db : Bool → FVec F S2x64x576 .f32
  | false => concatenate S2x64x576 0 [⟨S1x64x576, shapeCast S1x64x576 (x.ds false) shapeCasts_S64x576_S1x64x576⟩, ⟨S1x64x576, broadcast S1x64x576 (Scalar.ofBits .f32 0x00000000#32)⟩] concatenates_S1x64x576_S1x64x576_S2x64x576_d0
  | true => concatenate S2x64x576 0 [⟨S1x64x576, broadcast S1x64x576 (Scalar.ofBits .f32 0x00000000#32)⟩, ⟨S1x64x576, shapeCast S1x64x576 (x.ds true) shapeCasts_S64x576_S1x64x576⟩] concatenates_S1x64x576_S1x64x576_S2x64x576_d0

end In

/-- The gradient of the bias of a group of eight chunks, the last chunk first. -/
def dbGroup (x : Fin 8 → In F) : FVec F S2x64x576 .f32 :=
  addf (addf (addf (addf (addf (addf (addf (addf (addf (addf (addf (addf (addf (addf (addf
    ((x 7).db true) ((x 7).db false)) ((x 6).db true)) ((x 6).db false)) ((x 5).db true)) ((x 5).db false)) ((x 4).db true)) ((x 4).db false))
    ((x 3).db true)) ((x 3).db false)) ((x 2).db true)) ((x 2).db false)) ((x 1).db true)) ((x 1).db false)) ((x 0).db true)) ((x 0).db false)

end Cert.KernelIdeal.Attn
-- ==== Proof.Attn.Trip.lean ====
module

public import proofs.«01_k».proof.Proof.Gen.KernelIdeal.Loops
public import Idealize.ShloMosaic.Lib.VecWindow
public import Idealize.ShloMosaic.Lib.Tactic
public import proofs.«01_k».proof.Proof.Attn.Chunk

@[expose] public section

set_option maxRecDepth 16384

noncomputable section

namespace Cert.KernelIdeal.Attn

open Idealize.ShloMosaic Idealize.ShloMosaic.Tactic Cert.KernelIdeal Cert.KernelIdeal.Gen

variable {F : FTy → Type} [FloatOps F]

/-- One accumulating store: the band's old contents plus the item, over the band. -/
def accOn (v : View sig .tc .vmem S2560x128 .f32) (f : BufTy.Contents (Elt F) v.ty) {off : Fin 2 → ℕ} (inb : ∀ a, off a + S576x128.size a ≤ S2560x128.size a)
    (item : FVec F S576x128 .f32) (L : List (View.Piece (Elt F) S2560x128 .f32)) : List (View.Piece (Elt F) S2560x128 .f32) :=
  ⟨Rect.unit (s := S2560x128) off S576x128.size inb,
    shapeCast S576x128 (addf (v.readAt (Elt F) (Rect.unit (s := S2560x128) off S576x128.size inb).toLoadRect (v.writes (Elt F) f L)) item) shapeCasts_S576x128_S576x128⟩ :: L

section Trip
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (v27 : FVec F S2x64x576 .f32) (X_arg2 : BufTy.Contents (Elt F) arg2.view.ty) (X_arg6 : BufTy.Contents (Elt F) arg6.view.ty) (X_arg11 : BufTy.Contents (Elt F) arg11.view.ty) (X_arg12 : BufTy.Contents (Elt F) arg12.view.ty)

/-- What chunk `j` of a trip's group reads. -/
def rdIn (k : Fin k0_t1_loop.trips) (j : Fin 8) : In F :=
  ⟨arg2.view.readAt (Elt F) (Rect.unit (s := S2048x128) (k0_off3 k (BitVec.ofNat 32 j.val)) S64x128.size (k0_off3_inb k j)).toLoadRect X_arg2,
   arg11.view.readAt (Elt F) (Rect.unit (s := S2560x128) (k0_off4 k (BitVec.ofNat 32 j.val)) S576x128.size (k0_off4_inb k j)).toLoadRect X_arg11,
   arg12.view.readAt (Elt F) (Rect.unit (s := S2560x128) (k0_off4 k (BitVec.ofNat 32 j.val)) S576x128.size (k0_off4_inb k j)).toLoadRect X_arg12,
   v27,
   arg6.view.readAt (Elt F) (Rect.unit (s := S2048x128) (k0_off3 k (BitVec.ofNat 32 j.val)) S64x128.size (k0_off3_inb k j)).toLoadRect X_arg6,
   none⟩

/-- A trip's stores of query gradients. -/
theorem trip_dq (k : Fin k0_t1_loop.trips) (f_arg7 : BufTy.Contents (Elt F) arg7.view.ty) (f_arg10 : BufTy.Contents (Elt F) arg10.view.ty) (f_arg13 : BufTy.Contents (Elt F) arg13.view.ty) (f_arg14 : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).1 = [⟨Rect.unit (s := S2048x128) (k0_off3 k 7#32) S64x128.size (k0_off3_inb k 7), (rdIn arg2 arg6 arg11 arg12 v27 X_arg2 X_arg6 X_arg11 X_arg12 k 7).dq⟩, ⟨Rect.unit (s := S2048x128) (k0_off3 k 6#32) S64x128.size (k0_off3_inb k 6), (rdIn arg2 arg6 arg11 arg12 v27 X_arg2 X_arg6 X_arg11 X_arg12 k 6).dq⟩, ⟨Rect.unit (s := S2048x128) (k0_off3 k 5#32) S64x128.size (k0_off3_inb k 5), (rdIn arg2 arg6 arg11 arg12 v27 X_arg2 X_arg6 X_arg11 X_arg12 k 5).dq⟩, ⟨Rect.unit (s := S2048x128) (k0_off3 k 4#32) S64x128.size (k0_off3_inb k 4), (rdIn arg2 arg6 arg11 arg12 v27 X_arg2 X_arg6 X_arg11 X_arg12 k 4).dq⟩, ⟨Rect.unit (s := S2048x128) (k0_off3 k 3#32) S64x128.size (k0_off3_inb k 3), (rdIn arg2 arg6 arg11 arg12 v27 X_arg2 X_arg6 X_arg11 X_arg12 k 3).dq⟩, ⟨Rect.unit (s := S2048x128) (k0_off3 k 2#32) S64x128.size (k0_off3_inb k 2), (rdIn arg2 arg6 arg11 arg12 v27 X_arg2 X_arg6 X_arg11 X_arg12 k 2).dq⟩, ⟨Rect.unit (s := S2048x128) (k0_off3 k 1#32) S64x128.size (k0_off3_inb k 1), (rdIn arg2 arg6 arg11 arg12 v27 X_arg2 X_arg6 X_arg11 X_arg12 k 1).dq⟩, ⟨Rect.unit (s := S2048x128) (k0_off3 k 0#32) S64x128.size (k0_off3_inb k 0), (rdIn arg2 arg6 arg11 arg12 v27 X_arg2 X_arg6 X_arg11 X_arg12 k 0).dq⟩] := by

  sl_kernel_rfl

/-- A trip's store of the bias' gradient. -/
theorem trip_db (k : Fin k0_t1_loop.trips) (f_arg7 : BufTy.Contents (Elt F) arg7.view.ty) (f_arg10 : BufTy.Contents (Elt F) arg10.view.ty) (f_arg13 : BufTy.Contents (Elt F) arg13.view.ty) (f_arg14 : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.1 = [⟨Rect.unit (s := S2x64x576) ![0, 0, 0] S2x64x576.size (by decide), addf (shapeCast S2x64x576 (arg10.view.readAt (Elt F) (Rect.unit (s := S2x64x576) ![0, 0, 0] S2x64x576.size (by decide)).toLoadRect f_arg10) shapeCasts_S2x64x576_S2x64x576) (dbGroup fun j => rdIn arg2 arg6 arg11 arg12 v27 X_arg2 X_arg6 X_arg11 X_arg12 k j)⟩] := by

  sl_kernel_rfl

/-- A trip's stores of key gradients. -/
theorem trip_dk (k : Fin k0_t1_loop.trips) (f_arg7 : BufTy.Contents (Elt F) arg7.view.ty) (f_arg10 : BufTy.Contents (Elt F) arg10.view.ty) (f_arg13 : BufTy.Contents (Elt F) arg13.view.ty) (f_arg14 : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.2.1 = (accOn arg13.view f_arg13 (k0_off4_inb k 7) (rdIn arg2 arg6 arg11 arg12 v27 X_arg2 X_arg6 X_arg11 X_arg12 k 7).dk (accOn arg13.view f_arg13 (k0_off4_inb k 6) (rdIn arg2 arg6 arg11 arg12 v27 X_arg2 X_arg6 X_arg11 X_arg12 k 6).dk (accOn arg13.view f_arg13 (k0_off4_inb k 5) (rdIn arg2 arg6 arg11 arg12 v27 X_arg2 X_arg6 X_arg11 X_arg12 k 5).dk (accOn arg13.view f_arg13 (k0_off4_inb k 4) (rdIn arg2 arg6 arg11 arg12 v27 X_arg2 X_arg6 X_arg11 X_arg12 k 4).dk (accOn arg13.view f_arg13 (k0_off4_inb k 3) (rdIn arg2 arg6 arg11 arg12 v27 X_arg2 X_arg6 X_arg11 X_arg12 k 3).dk (accOn arg13.view f_arg13 (k0_off4_inb k 2) (rdIn arg2 arg6 arg11 arg12 v27 X_arg2 X_arg6 X_arg11 X_arg12 k 2).dk (accOn arg13.view f_arg13 (k0_off4_inb k 1) (rdIn arg2 arg6 arg11 arg12 v27 X_arg2 X_arg6 X_arg11 X_arg12 k 1).dk (accOn arg13.view f_arg13 (k0_off4_inb k 0) (rdIn arg2 arg6 arg11 arg12 v27 X_arg2 X_arg6 X_arg11 X_arg12 k 0).dk [])))))))) := by

  sl_kernel_rfl

/-- A trip's stores of value gradients. -/
theorem trip_dv (k : Fin k0_t1_loop.trips) (f_arg7 : BufTy.Contents (Elt F) arg7.view.ty) (f_arg10 : BufTy.Contents (Elt F) arg10.view.ty) (f_arg13 : BufTy.Contents (Elt F) arg13.view.ty) (f_arg14 : BufTy.Contents (Elt F) arg14.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.2.2 = (accOn arg14.view f_arg14 (k0_off4_inb k 7) (rdIn arg2 arg6 arg11 arg12 v27 X_arg2 X_arg6 X_arg11 X_arg12 k 7).dv (accOn arg14.view f_arg14 (k0_off4_inb k 6) (rdIn arg2 arg6 arg11 arg12 v27 X_arg2 X_arg6 X_arg11 X_arg12 k 6).dv (accOn arg14.view f_arg14 (k0_off4_inb k 5) (rdIn arg2 arg6 arg11 arg12 v27 X_arg2 X_arg6 X_arg11 X_arg12 k 5).dv (accOn arg14.view f_arg14 (k0_off4_inb k 4) (rdIn arg2 arg6 arg11 arg12 v27 X_arg2 X_arg6 X_arg11 X_arg12 k 4).dv (accOn arg14.view f_arg14 (k0_off4_inb k 3) (rdIn arg2 arg6 arg11 arg12 v27 X_arg2 X_arg6 X_arg11 X_arg12 k 3).dv (accOn arg14.view f_arg14 (k0_off4_inb k 2) (rdIn arg2 arg6 arg11 arg12 v27 X_arg2 X_arg6 X_arg11 X_arg12 k 2).dv (accOn arg14.view f_arg14 (k0_off4_inb k 1) (rdIn arg2 arg6 arg11 arg12 v27 X_arg2 X_arg6 X_arg11 X_arg12 k 1).dv (accOn arg14.view f_arg14 (k0_off4_inb k 0) (rdIn arg2 arg6 arg11 arg12 v27 X_arg2 X_arg6 X_arg11 X_arg12 k 0).dv [])))))))) := by

  sl_kernel_rfl

end Trip
end Cert.KernelIdeal.Attn
-- ==== Proof.Attn.Block.lean ====
module

public import proofs.«01_k».proof.Proof.Gen.KernelIdeal.Loops
public import Idealize.ShloMosaic.Lib.VecWindow
public import Idealize.ShloMosaic.Lib.Tactic
public import Idealize.ShloMosaic.Lib.Pipeline.Value
public import Idealize.ShloMosaic.Lib.ValueIdx
public import proofs.«01_k».proof.Proof.Attn.Trip

@[expose] public section

set_option maxRecDepth 16384

noncomputable section

namespace Cert.KernelIdeal.Attn

open Idealize.ShloMosaic Idealize.ShloMosaic.Tactic Idealize.ShloMosaic.ValueIdx Cert.KernelIdeal Cert.KernelIdeal.Gen

variable {F : FTy → Type} [FloatOps F]

/-! # One head pair of one batch member: 32 chunks in turn -/

/-- Thirty-two steps in order, the first `n` of them. -/
def foldTo {α : Type} (step : Fin 32 → α → α) (a : α) : ℕ → α
  | 0 => a
  | n + 1 => if h : n < 32 then step ⟨n, h⟩ (foldTo step a n) else foldTo step a n

theorem foldTo_succ {α : Type} (step : Fin 32 → α → α) (a : α) (c : Fin 32) {n : ℕ} (h : n = c.val) :
    foldTo step a (n + 1) = step c (foldTo step a n) := by
  subst h; exact dif_pos c.isLt

/-- The rows of chunk `c` lie in the block. -/
theorem inbQ (c : Fin 32) : ∀ a, (![64 * c.val, 0] : Fin 2 → ℕ) a + S64x128.size a ≤ S2048x128.size a := by
  intro a; have := c.isLt; fin_cases a
  · show 64 * c.val + 64 ≤ 2048; omega
  · show 0 + 128 ≤ 128; omega

/-- The band of chunk `c` lies in the padded block. -/
theorem inbB (c : Fin 32) : ∀ a, (![64 * c.val, 0] : Fin 2 → ℕ) a + S576x128.size a ≤ S2560x128.size a := by
  intro a; have := c.isLt; fin_cases a
  · show 64 * c.val + 576 ≤ 2560; omega
  · show 0 + 128 ≤ 128; omega

theorem inbT : ∀ a, (![512, 0] : Fin 2 → ℕ) a + S2048x128.size a ≤ S2560x128.size a := by decide

/-- Keys or values with 512 rows of zeros before them. -/
def padded (x : FVec F S2048x128 .bf16) : FVec F S2560x128 .f32 := fun y =>
  if h : 512 ≤ (y 0).val then extf .f32 x bitsLt_bf16_f32 (ix2 ⟨(y 0).val - 512, by have : (y 0).val < 2560 := (y 0).isLt; omega⟩ (y 1)) else Scalar.ofBits .f32 0x00000000#32

section Block
variable (x0 x1 x2 : FVec F S2048x128 .bf16) (x3 : FVec F S2x64x576 .f32) (x4 : FVec F S2048x128 .f32)

/-- What chunk `c` reads. -/
def blockIn (c : Fin 32) : In F :=
  ⟨VecWindow.window x0 ![64 * c.val, 0] S64x128.size (inbQ c),
   VecWindow.window (padded x1) ![64 * c.val, 0] S576x128.size (inbB c),
   VecWindow.window (padded x2) ![64 * c.val, 0] S576x128.size (inbB c),
   shapeCast S2x64x576 x3 shapeCasts_S2x64x576_S2x64x576,
   VecWindow.window x4 ![64 * c.val, 0] S64x128.size (inbQ c),
   if c.val < 8 then some (validOf (BitVec.ofNat 32 (64 * c.val))) else none⟩

/-- Chunk `c`'s query gradient put over its rows. -/
def dqStep (c : Fin 32) (R : FVec F S2048x128 .bf16) : FVec F S2048x128 .bf16 :=
  VecWindow.put R ![64 * c.val, 0] S64x128.size (blockIn x0 x1 x2 x3 x4 c).dq

/-- An item added to chunk `c`'s band. -/
def accStep (item : Fin 32 → FVec F S576x128 .f32) (c : Fin 32) (R : FVec F S2560x128 .f32) : FVec F S2560x128 .f32 :=
  VecWindow.put R ![64 * c.val, 0] S576x128.size
    (shapeCast S576x128 (addf (VecWindow.window R ![64 * c.val, 0] S576x128.size (inbB c)) (item c)) shapeCasts_S576x128_S576x128)

/-- The group `g` of eight chunks. -/
def grp (g : Fin 4) (j : Fin 8) : In F := blockIn x0 x1 x2 x3 x4 ⟨8 * g.val + j.val, by have := g.isLt; have := j.isLt; omega⟩

/-- A group's bias gradient added. -/
def dbStep (g : Fin 4) (R : FVec F S2x64x576 .f32) : FVec F S2x64x576 .f32 :=
  addf (shapeCast S2x64x576 R shapeCasts_S2x64x576_S2x64x576) (dbGroup (grp x0 x1 x2 x3 x4 g))

/-- The block's query gradients over what was there. -/
def dqAll (R : FVec F S2048x128 .bf16) : ℕ → FVec F S2048x128 .bf16 := foldTo (dqStep x0 x1 x2 x3 x4) R

/-- Zeros on the padded block. -/
def zeroPad : FVec F S2560x128 .f32 := shapeCast S2560x128 (broadcast S2560x128 (Scalar.ofBits .f32 0x00000000#32)) shapeCasts_S2560x128_S2560x128

/-- The padded key gradients after `n` chunks. -/
def dkAll : ℕ → FVec F S2560x128 .f32 := foldTo (accStep fun c => (blockIn x0 x1 x2 x3 x4 c).dk) zeroPad

/-- The padded value gradients after `n` chunks. -/
def dvAll : ℕ → FVec F S2560x128 .f32 := foldTo (accStep fun c => (blockIn x0 x1 x2 x3 x4 c).dv) zeroPad

/-- The block's query gradient. -/
def outDq : FVec F S2048x128 .bf16 := fun y =>
  (blockIn x0 x1 x2 x3 x4 ⟨(y 0).val / 64, by have : (y 0).val < 2048 := (y 0).isLt; omega⟩).dq (ix2 ⟨(y 0).val % 64, Nat.mod_lt _ (by decide)⟩ (y 1))

/-- The block's key gradient. -/
def outDk : FVec F S2048x128 .bf16 :=
  truncf .bf16 (VecWindow.window (dkAll x0 x1 x2 x3 x4 32) ![512, 0] S2048x128.size inbT) bitsLt_bf16_f32

/-- The block's value gradient. -/
def outDv : FVec F S2048x128 .bf16 :=
  truncf .bf16 (VecWindow.window (dvAll x0 x1 x2 x3 x4 32) ![512, 0] S2048x128.size inbT) bitsLt_bf16_f32

/-- The block's bias gradient over a prior one. -/
def outDb (R : FVec F S2x64x576 .f32) : FVec F S2x64x576 .f32 :=
  dbStep x0 x1 x2 x3 x4 3 (dbStep x0 x1 x2 x3 x4 2 (dbStep x0 x1 x2 x3 x4 1 (dbStep x0 x1 x2 x3 x4 0 R)))

/-- Putting `n` chunks leaves each earlier chunk's rows at its query gradient. -/
theorem dqAll_apply (R : FVec F S2048x128 .bf16) (n : ℕ) (hn : n ≤ 32) (y : S2048x128.Idx) (hy : (y 0).val < 64 * n) :
    dqAll x0 x1 x2 x3 x4 R n y = outDq x0 x1 x2 x3 x4 y := by
  induction n with
  | zero => omega
  | succ n ih =>
    have e : dqAll x0 x1 x2 x3 x4 R (n + 1) = dqStep x0 x1 x2 x3 x4 ⟨n, by omega⟩ (dqAll x0 x1 x2 x3 x4 R n) := foldTo_succ _ _ ⟨n, by omega⟩ rfl
    rw [e]
    have h1 : (y 1).val < 128 := (y 1).isLt
    by_cases h : 64 * n ≤ (y 0).val
    · have hm : ∀ a, (![64 * n, 0] : Fin 2 → ℕ) a ≤ (y a).val ∧ (y a).val < (![64 * n, 0] : Fin 2 → ℕ) a + S64x128.size a := by
        intro a; fin_cases a
        · exact ⟨h, by show (y 0).val < 64 * n + 64; omega⟩
        · exact ⟨Nat.zero_le _, by show (y 1).val < 0 + 128; omega⟩
      unfold dqStep VecWindow.put
      rw [dif_pos hm]
      unfold outDq
      have hc : (⟨(y 0).val / 64, by have : (y 0).val < 2048 := (y 0).isLt; omega⟩ : Fin 32) = ⟨n, by omega⟩ := Fin.ext (by show (y 0).val / 64 = n; omega)
      rw [hc]
      refine congrArg _ (funext fun a => Fin.ext ?_)
      fin_cases a
      · show (y 0).val - 64 * n = (y 0).val % 64; omega
      · show (y 1).val - 0 = (y 1).val; omega
    · have hm : ¬ ∀ a, (![64 * n, 0] : Fin 2 → ℕ) a ≤ (y a).val ∧ (y a).val < (![64 * n, 0] : Fin 2 → ℕ) a + S64x128.size a := fun hall => h (hall 0).1
      unfold dqStep VecWindow.put
      rw [dif_neg hm]
      exact ih (by omega) (by omega)

theorem dqAll_done (R : FVec F S2048x128 .bf16) : dqAll x0 x1 x2 x3 x4 R 32 = outDq x0 x1 x2 x3 x4 :=
  funext fun y => dqAll_apply x0 x1 x2 x3 x4 R 32 le_rfl y (by have : (y 0).val < 2048 := (y 0).isLt; omega)

end Block

/-- What the padding stores leave. -/
theorem read_padded (v : View sig .tc .vmem S2560x128 .f32) (f : BufTy.Contents (Elt F) v.ty) (x : FVec F S2048x128 .bf16)
    (i1 : ∀ a, (![512, 0] : Fin 2 → ℕ) a + S2048x128.size a ≤ S2560x128.size a) (i0 : ∀ a, (![0, 0] : Fin 2 → ℕ) a + S512x128.size a ≤ S2560x128.size a) :
    v.read (Elt F) (v.writes (Elt F) f [⟨Rect.unit (s := S2560x128) ![512, 0] S2048x128.size i1, shapeCast S2048x128 (extf .f32 x bitsLt_bf16_f32) shapeCasts_S2048x128_S2048x128⟩,
      ⟨Rect.unit (s := S2560x128) ![0, 0] S512x128.size i0, shapeCast S512x128 (broadcast S512x128 (Scalar.ofBits .f32 0x00000000#32)) shapeCasts_S512x128_S512x128⟩]) = padded x := by
  rw [shapeCast_self, shapeCast_self]
  funext y
  have h0 : (y 0).val < 2560 := (y 0).isLt
  have h1 : (y 1).val < 128 := (y 1).isLt
  rw [View.read_writes_cons_put v f i1 _ _ rfl]
  unfold VecWindow.put padded
  by_cases h : 512 ≤ (y 0).val
  · rw [dif_pos h, dif_pos (show ∀ a, (![512, 0] : Fin 2 → ℕ) a ≤ (y a).val ∧ (y a).val < (![512, 0] : Fin 2 → ℕ) a + S2048x128.size a by
      intro a; fin_cases a
      · exact ⟨h, by show (y 0).val < 512 + 2048; omega⟩
      · exact ⟨Nat.zero_le _, by show (y 1).val < 0 + 128; omega⟩)]
    refine congrArg _ (funext fun a => Fin.ext ?_)
    fin_cases a
    · rfl
    · show (y 1).val - 0 = (y 1).val; omega
  · rw [dif_neg h, dif_neg (show ¬ ∀ a, (![512, 0] : Fin 2 → ℕ) a ≤ (y a).val ∧ (y a).val < (![512, 0] : Fin 2 → ℕ) a + S2048x128.size a from fun hall => h (hall 0).1)]
    rw [View.read_writes_cons_put v f i0 _ _ rfl]
    unfold VecWindow.put
    rw [dif_pos (show ∀ a, (![0, 0] : Fin 2 → ℕ) a ≤ (y a).val ∧ (y a).val < (![0, 0] : Fin 2 → ℕ) a + S512x128.size a by
      intro a; fin_cases a
      · exact ⟨Nat.zero_le _, by show (y 0).val < 0 + 512; omega⟩
      · exact ⟨Nat.zero_le _, by show (y 1).val < 0 + 128; omega⟩)]
    rfl

/-- One accumulating store, read. -/
theorem read_accOn (v : View sig .tc .vmem S2560x128 .f32) (f : BufTy.Contents (Elt F) v.ty) {off : Fin 2 → ℕ} (inb : ∀ a, off a + S576x128.size a ≤ S2560x128.size a)
    (item : Fin 32 → FVec F S576x128 .f32) (L : List (View.Piece (Elt F) S2560x128 .f32)) (c : Fin 32) (h : off = ![64 * c.val, 0]) :
    v.read (Elt F) (v.writes (Elt F) f (accOn v f inb (item c) L)) = accStep item c (v.read (Elt F) (v.writes (Elt F) f L)) := by
  unfold accOn accStep
  rw [View.read_writes_cons_put v f inb _ _ h, View.readAt_unit v _ inb h (inbB c)]

/-- One store of query gradients, read. -/
theorem read_dqOn (x0 x1 x2 : FVec F S2048x128 .bf16) (x3 : FVec F S2x64x576 .f32) (x4 : FVec F S2048x128 .f32)
    (v : View sig .tc .vmem S2048x128 .bf16) (f : BufTy.Contents (Elt F) v.ty) {off : Fin 2 → ℕ} (inb : ∀ a, off a + S64x128.size a ≤ S2048x128.size a)
    (L : List (View.Piece (Elt F) S2048x128 .bf16)) (c : Fin 32) (h : off = ![64 * c.val, 0]) :
    v.read (Elt F) (v.writes (Elt F) f (⟨Rect.unit (s := S2048x128) off S64x128.size inb, (blockIn x0 x1 x2 x3 x4 c).dq⟩ :: L))
      = dqStep x0 x1 x2 x3 x4 c (v.read (Elt F) (v.writes (Elt F) f L)) :=
  View.read_writes_cons_put v f inb _ _ h

end Cert.KernelIdeal.Attn
-- ==== Proof.Attn.TripRead.lean ====
module

public import proofs.«01_k».proof.Proof.Gen.KernelIdeal.Loops
public import proofs.«01_k».proof.Proof.Attn.Block

@[expose] public section

set_option maxRecDepth 16384

noncomputable section

namespace Cert.KernelIdeal.Attn

open Idealize.ShloMosaic Idealize.ShloMosaic.Tactic Idealize.ShloMosaic.ValueIdx Cert.KernelIdeal Cert.KernelIdeal.Gen

variable {F : FTy → Type} [FloatOps F]

/-! # One trip of the group loop, read -/

/-- The group a trip works on. -/
def gOf (k : Fin k0_t1_loop.trips) : Fin 4 := ⟨k.val + 1, by have : k.val < 3 := Nat.lt_of_lt_of_le k.isLt k0_t1_abs.2.1; omega⟩

/-- Chunk `j` of group `g`. -/
def cOf (g : Fin 4) (j : Fin 8) : Fin 32 := ⟨8 * g.val + j.val, by have := g.isLt; have := j.isLt; omega⟩

theorem off3 (k : Fin k0_t1_loop.trips) (j : Fin 8) : k0_off3 k (BitVec.ofNat 32 j.val) = ![64 * (cOf (gOf k) j).val, 0] := by
  obtain ⟨k, hk⟩ := k
  have h3 : k < 3 := Nat.lt_of_lt_of_le hk k0_t1_abs.2.1
  interval_cases k <;> fin_cases j <;> sl_kernel_rfl

theorem off4 (k : Fin k0_t1_loop.trips) (j : Fin 8) : k0_off4 k (BitVec.ofNat 32 j.val) = ![64 * (cOf (gOf k) j).val, 0] := by
  obtain ⟨k, hk⟩ := k
  have h3 : k < 3 := Nat.lt_of_lt_of_le hk k0_t1_abs.2.1
  interval_cases k <;> fin_cases j <;> sl_kernel_rfl

/-- Eight steps at once. -/
theorem foldTo_eight {α : Type} (step : Fin 32 → α → α) (a : α) (g : Fin 4) :
    foldTo step a (8 * g.val + 8) = step (cOf g 7) (step (cOf g 6) (step (cOf g 5) (step (cOf g 4) (step (cOf g 3) (step (cOf g 2) (step (cOf g 1) (step (cOf g 0) (foldTo step a (8 * g.val))))))))) := by
  rw [show 8 * g.val + 8 = 8 * g.val + 7 + 1 from rfl, foldTo_succ step a (cOf g 7) (n := 8 * g.val + 7) rfl, foldTo_succ step a (cOf g 6) (n := 8 * g.val + 6) rfl, foldTo_succ step a (cOf g 5) (n := 8 * g.val + 5) rfl, foldTo_succ step a (cOf g 4) (n := 8 * g.val + 4) rfl, foldTo_succ step a (cOf g 3) (n := 8 * g.val + 3) rfl, foldTo_succ step a (cOf g 2) (n := 8 * g.val + 2) rfl, foldTo_succ step a (cOf g 1) (n := 8 * g.val + 1) rfl, foldTo_succ step a (cOf g 0) (n := 8 * g.val) rfl]

section Trip
variable (x0 x1 x2 : FVec F S2048x128 .bf16) (x3 : FVec F S2x64x576 .f32) (x4 : FVec F S2048x128 .f32)
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (v27 : FVec F S2x64x576 .f32) (X_arg2 : BufTy.Contents (Elt F) arg2.view.ty) (X_arg6 : BufTy.Contents (Elt F) arg6.view.ty) (X_arg11 : BufTy.Contents (Elt F) arg11.view.ty) (X_arg12 : BufTy.Contents (Elt F) arg12.view.ty)

theorem rdIn_eq (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (k : Fin k0_t1_loop.trips) (j : Fin 8) :
    rdIn arg2 arg6 arg11 arg12 v27 X_arg2 X_arg6 X_arg11 X_arg12 k j = blockIn x0 x1 x2 x3 x4 (cOf (gOf k) j) := by
  unfold rdIn blockIn
  rw [View.readAt_unit arg2.view _ _ (off3 k j) (inbQ _), View.readAt_unit arg11.view _ _ (off4 k j) (inbB _), View.readAt_unit arg12.view _ _ (off4 k j) (inbB _),
    View.readAt_unit arg6.view _ _ (off3 k j) (inbQ _), h2, h11, h12, h6, hb, if_neg (by show ¬ 8 * (k.val + 1) + j.val < 8; omega)]

theorem trip_read_dq (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (k : Fin k0_t1_loop.trips)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty) (R : FVec F S2048x128 .bf16)
    (h : arg7.view.read (Elt F) f_arg7 = dqAll x0 x1 x2 x3 x4 R (8 * (gOf k).val)) :
    arg7.view.read (Elt F) (arg7.view.writes (Elt F) f_arg7 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).1)
      = dqAll x0 x1 x2 x3 x4 R (8 * (gOf k).val + 8) := by
  rw [trip_dq]
  simp only [rdIn_eq x0 x1 x2 x3 x4 arg2 arg6 arg11 arg12 v27 X_arg2 X_arg6 X_arg11 X_arg12 h2 h11 h12 hb h6 k]
  unfold dqAll at h ⊢
  rw [foldTo_eight, ← h]
  refine (read_dqOn x0 x1 x2 x3 x4 arg7.view f_arg7 _ _ (cOf (gOf k) 7) (off3 k 7)).trans (congrArg _ ?_)
  refine (read_dqOn x0 x1 x2 x3 x4 arg7.view f_arg7 _ _ (cOf (gOf k) 6) (off3 k 6)).trans (congrArg _ ?_)
  refine (read_dqOn x0 x1 x2 x3 x4 arg7.view f_arg7 _ _ (cOf (gOf k) 5) (off3 k 5)).trans (congrArg _ ?_)
  refine (read_dqOn x0 x1 x2 x3 x4 arg7.view f_arg7 _ _ (cOf (gOf k) 4) (off3 k 4)).trans (congrArg _ ?_)
  refine (read_dqOn x0 x1 x2 x3 x4 arg7.view f_arg7 _ _ (cOf (gOf k) 3) (off3 k 3)).trans (congrArg _ ?_)
  refine (read_dqOn x0 x1 x2 x3 x4 arg7.view f_arg7 _ _ (cOf (gOf k) 2) (off3 k 2)).trans (congrArg _ ?_)
  refine (read_dqOn x0 x1 x2 x3 x4 arg7.view f_arg7 _ _ (cOf (gOf k) 1) (off3 k 1)).trans (congrArg _ ?_)
  refine (read_dqOn x0 x1 x2 x3 x4 arg7.view f_arg7 _ _ (cOf (gOf k) 0) (off3 k 0)).trans (congrArg _ ?_)
  rfl

theorem trip_read_dk (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (k : Fin k0_t1_loop.trips)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (h : arg13.view.read (Elt F) f_arg13 = dkAll x0 x1 x2 x3 x4 (8 * (gOf k).val)) :
    arg13.view.read (Elt F) (arg13.view.writes (Elt F) f_arg13 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.2.1)
      = dkAll x0 x1 x2 x3 x4 (8 * (gOf k).val + 8) := by
  rw [trip_dk]
  simp only [rdIn_eq x0 x1 x2 x3 x4 arg2 arg6 arg11 arg12 v27 X_arg2 X_arg6 X_arg11 X_arg12 h2 h11 h12 hb h6 k]
  unfold dkAll at h ⊢
  rw [foldTo_eight, ← h]
  refine (read_accOn arg13.view f_arg13 _ (fun c => (blockIn x0 x1 x2 x3 x4 c).dk) _ (cOf (gOf k) 7) (off4 k 7)).trans (congrArg _ ?_)
  refine (read_accOn arg13.view f_arg13 _ (fun c => (blockIn x0 x1 x2 x3 x4 c).dk) _ (cOf (gOf k) 6) (off4 k 6)).trans (congrArg _ ?_)
  refine (read_accOn arg13.view f_arg13 _ (fun c => (blockIn x0 x1 x2 x3 x4 c).dk) _ (cOf (gOf k) 5) (off4 k 5)).trans (congrArg _ ?_)
  refine (read_accOn arg13.view f_arg13 _ (fun c => (blockIn x0 x1 x2 x3 x4 c).dk) _ (cOf (gOf k) 4) (off4 k 4)).trans (congrArg _ ?_)
  refine (read_accOn arg13.view f_arg13 _ (fun c => (blockIn x0 x1 x2 x3 x4 c).dk) _ (cOf (gOf k) 3) (off4 k 3)).trans (congrArg _ ?_)
  refine (read_accOn arg13.view f_arg13 _ (fun c => (blockIn x0 x1 x2 x3 x4 c).dk) _ (cOf (gOf k) 2) (off4 k 2)).trans (congrArg _ ?_)
  refine (read_accOn arg13.view f_arg13 _ (fun c => (blockIn x0 x1 x2 x3 x4 c).dk) _ (cOf (gOf k) 1) (off4 k 1)).trans (congrArg _ ?_)
  refine (read_accOn arg13.view f_arg13 _ (fun c => (blockIn x0 x1 x2 x3 x4 c).dk) _ (cOf (gOf k) 0) (off4 k 0)).trans (congrArg _ ?_)
  rfl

theorem trip_read_dv (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (k : Fin k0_t1_loop.trips)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (h : arg14.view.read (Elt F) f_arg14 = dvAll x0 x1 x2 x3 x4 (8 * (gOf k).val)) :
    arg14.view.read (Elt F) (arg14.view.writes (Elt F) f_arg14 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.2.2)
      = dvAll x0 x1 x2 x3 x4 (8 * (gOf k).val + 8) := by
  rw [trip_dv]
  simp only [rdIn_eq x0 x1 x2 x3 x4 arg2 arg6 arg11 arg12 v27 X_arg2 X_arg6 X_arg11 X_arg12 h2 h11 h12 hb h6 k]
  unfold dvAll at h ⊢
  rw [foldTo_eight, ← h]
  refine (read_accOn arg14.view f_arg14 _ (fun c => (blockIn x0 x1 x2 x3 x4 c).dv) _ (cOf (gOf k) 7) (off4 k 7)).trans (congrArg _ ?_)
  refine (read_accOn arg14.view f_arg14 _ (fun c => (blockIn x0 x1 x2 x3 x4 c).dv) _ (cOf (gOf k) 6) (off4 k 6)).trans (congrArg _ ?_)
  refine (read_accOn arg14.view f_arg14 _ (fun c => (blockIn x0 x1 x2 x3 x4 c).dv) _ (cOf (gOf k) 5) (off4 k 5)).trans (congrArg _ ?_)
  refine (read_accOn arg14.view f_arg14 _ (fun c => (blockIn x0 x1 x2 x3 x4 c).dv) _ (cOf (gOf k) 4) (off4 k 4)).trans (congrArg _ ?_)
  refine (read_accOn arg14.view f_arg14 _ (fun c => (blockIn x0 x1 x2 x3 x4 c).dv) _ (cOf (gOf k) 3) (off4 k 3)).trans (congrArg _ ?_)
  refine (read_accOn arg14.view f_arg14 _ (fun c => (blockIn x0 x1 x2 x3 x4 c).dv) _ (cOf (gOf k) 2) (off4 k 2)).trans (congrArg _ ?_)
  refine (read_accOn arg14.view f_arg14 _ (fun c => (blockIn x0 x1 x2 x3 x4 c).dv) _ (cOf (gOf k) 1) (off4 k 1)).trans (congrArg _ ?_)
  refine (read_accOn arg14.view f_arg14 _ (fun c => (blockIn x0 x1 x2 x3 x4 c).dv) _ (cOf (gOf k) 0) (off4 k 0)).trans (congrArg _ ?_)
  rfl

theorem trip_read_db (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (k : Fin k0_t1_loop.trips)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty) :
    arg10.view.read (Elt F) (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 k f_arg7 f_arg10 f_arg13 f_arg14).2.1)
      = dbStep x0 x1 x2 x3 x4 (gOf k) (arg10.view.read (Elt F) f_arg10) := by
  rw [trip_db]
  simp only [rdIn_eq x0 x1 x2 x3 x4 arg2 arg6 arg11 arg12 v27 X_arg2 X_arg6 X_arg11 X_arg12 h2 h11 h12 hb h6 k]
  rw [View.read_writes_full, View.readAt_full]
  rfl

end Trip

end Cert.KernelIdeal.Attn
-- ==== Proof.Attn.Loop.lean ====
module

public import proofs.«01_k».proof.Proof.Gen.KernelIdeal.Loops
public import proofs.«01_k».proof.Proof.Attn.TripRead

@[expose] public section

set_option maxRecDepth 16384

noncomputable section

namespace Cert.KernelIdeal.Attn

open Idealize.ShloMosaic Idealize.ShloMosaic.Tactic Idealize.ShloMosaic.ValueIdx Cert.KernelIdeal Cert.KernelIdeal.Gen

variable {F : FTy → Type} [FloatOps F]

/-! # The whole group loop, read -/

/-- The bias gradient after the masked group and `n` trips. -/
def dbUp (x0 x1 x2 : FVec F S2048x128 .bf16) (x3 : FVec F S2x64x576 .f32) (x4 : FVec F S2048x128 .f32) (R : FVec F S2x64x576 .f32) : ℕ → FVec F S2x64x576 .f32
  | 0 => dbStep x0 x1 x2 x3 x4 0 R
  | n + 1 => if h : n + 1 < 4 then dbStep x0 x1 x2 x3 x4 ⟨n + 1, h⟩ (dbUp x0 x1 x2 x3 x4 R n) else dbUp x0 x1 x2 x3 x4 R n

theorem dbUp_done (x0 x1 x2 : FVec F S2048x128 .bf16) (x3 : FVec F S2x64x576 .f32) (x4 : FVec F S2048x128 .f32) (R : FVec F S2x64x576 .f32) :
    dbUp x0 x1 x2 x3 x4 R 3 = outDb x0 x1 x2 x3 x4 R := rfl

theorem dbUp_succ (x0 x1 x2 : FVec F S2048x128 .bf16) (x3 : FVec F S2x64x576 .f32) (x4 : FVec F S2048x128 .f32) (R : FVec F S2x64x576 .f32) (n : ℕ) (h : n + 1 < 4) :
    dbUp x0 x1 x2 x3 x4 R (n + 1) = dbStep x0 x1 x2 x3 x4 ⟨n + 1, h⟩ (dbUp x0 x1 x2 x3 x4 R n) := dif_pos h

theorem trips_eq : k0_t1_loop.trips = 3 := by sl_kernel_rfl

section Pb
variable (x0 x1 x2 : FVec F S2048x128 .bf16) (x3 : FVec F S2x64x576 .f32) (x4 : FVec F S2048x128 .f32)
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (v27 : FVec F S2x64x576 .f32) (X_arg2 : BufTy.Contents (Elt F) arg2.view.ty) (X_arg6 : BufTy.Contents (Elt F) arg6.view.ty) (X_arg11 : BufTy.Contents (Elt F) arg11.view.ty) (X_arg12 : BufTy.Contents (Elt F) arg12.view.ty)
variable (G_arg7 : BufTy.Contents (Elt F) arg7.view.ty) (G_arg10 : BufTy.Contents (Elt F) arg10.view.ty) (G_arg13 : BufTy.Contents (Elt F) arg13.view.ty) (G_arg14 : BufTy.Contents (Elt F) arg14.view.ty)

theorem pb_read_dq (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (R : FVec F S2048x128 .bf16) (hG : arg7.view.read (Elt F) G_arg7 = dqAll x0 x1 x2 x3 x4 R 8) (k : ℕ) (hk : k ≤ k0_t1_loop.trips) :
    arg7.view.read (Elt F) (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).1) = dqAll x0 x1 x2 x3 x4 R (8 * k + 8) := by
  induction k with
  | zero => exact hG
  | succ k ih =>
    have h : k < k0_t1_loop.trips := hk
    rw [pb_k0_t1_succ (k := (⟨k, h⟩ : Fin k0_t1_loop.trips)), View.writes_append]
    exact trip_read_dq x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 h2 h11 h12 hb h6 ⟨k, h⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.1) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.2) R (ih (by omega))

theorem pb_read_dk (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (hG : arg13.view.read (Elt F) G_arg13 = dkAll x0 x1 x2 x3 x4 8) (k : ℕ) (hk : k ≤ k0_t1_loop.trips) :
    arg13.view.read (Elt F) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.1) = dkAll x0 x1 x2 x3 x4 (8 * k + 8) := by
  induction k with
  | zero => exact hG
  | succ k ih =>
    have h : k < k0_t1_loop.trips := hk
    rw [pb_k0_t1_succ (k := (⟨k, h⟩ : Fin k0_t1_loop.trips)), View.writes_append]
    exact trip_read_dk x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 h2 h11 h12 hb h6 ⟨k, h⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.1) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.2) (ih (by omega))

theorem pb_read_dv (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (hG : arg14.view.read (Elt F) G_arg14 = dvAll x0 x1 x2 x3 x4 8) (k : ℕ) (hk : k ≤ k0_t1_loop.trips) :
    arg14.view.read (Elt F) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.2) = dvAll x0 x1 x2 x3 x4 (8 * k + 8) := by
  induction k with
  | zero => exact hG
  | succ k ih =>
    have h : k < k0_t1_loop.trips := hk
    rw [pb_k0_t1_succ (k := (⟨k, h⟩ : Fin k0_t1_loop.trips)), View.writes_append]
    exact trip_read_dv x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 h2 h11 h12 hb h6 ⟨k, h⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.1) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.2) (ih (by omega))

theorem pb_read_db (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (R : FVec F S2x64x576 .f32) (hG : arg10.view.read (Elt F) G_arg10 = dbStep x0 x1 x2 x3 x4 0 R) (k : ℕ) (hk : k ≤ k0_t1_loop.trips) :
    arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.1) = dbUp x0 x1 x2 x3 x4 R k := by
  induction k with
  | zero => exact hG
  | succ k ih =>
    have h : k < k0_t1_loop.trips := hk
    rw [pb_k0_t1_succ (k := (⟨k, h⟩ : Fin k0_t1_loop.trips)), View.writes_append]
    refine (trip_read_db x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 h2 h11 h12 hb h6 ⟨k, h⟩ (arg7.view.writes (Elt F) G_arg7 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.1) (arg14.view.writes (Elt F) G_arg14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 G_arg7 G_arg10 G_arg13 G_arg14 k).2.2.2)).trans ?_
    rw [ih (by omega)]
    exact (dbUp_succ x0 x1 x2 x3 x4 R k (by have := trips_eq; omega)).symm

end Pb

end Cert.KernelIdeal.Attn
-- ==== Proof.Attn.Masked.lean ====
module

public import proofs.«01_k».proof.Proof.Gen.KernelIdeal.Loops
public import proofs.«01_k».proof.Proof.Attn.Loop

@[expose] public section

set_option maxRecDepth 16384

noncomputable section

namespace Cert.KernelIdeal.Attn

open Idealize.ShloMosaic Idealize.ShloMosaic.Tactic Idealize.ShloMosaic.ValueIdx Cert.KernelIdeal Cert.KernelIdeal.Gen

variable {F : FTy → Type} [FloatOps F]

/-! # The masked group, read -/

/-- The pieces that fill a padded block. -/
def padL (x : FVec F S2048x128 .bf16) : List (View.Piece (Elt F) S2560x128 .f32) :=
  [⟨Rect.unit (s := S2560x128) ![512, 0] S2048x128.size (by decide), shapeCast S2048x128 (extf .f32 x bitsLt_bf16_f32) shapeCasts_S2048x128_S2048x128⟩,
   ⟨Rect.unit (s := S2560x128) ![0, 0] S512x128.size (by decide), shapeCast S512x128 (broadcast S512x128 (Scalar.ofBits .f32 0x00000000#32)) shapeCasts_S512x128_S512x128⟩]

section Masked
variable (x0 x1 x2 : FVec F S2048x128 .bf16) (x3 : FVec F S2x64x576 .f32) (x4 : FVec F S2048x128 .f32)
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (v27 : FVec F S2x64x576 .f32) (X_arg2 : BufTy.Contents (Elt F) arg2.view.ty) (X_arg6 : BufTy.Contents (Elt F) arg6.view.ty) (X_arg11 : BufTy.Contents (Elt F) arg11.view.ty) (X_arg12 : BufTy.Contents (Elt F) arg12.view.ty)

/-- What a chunk of the masked group reads. -/
def mIn (j : Fin 8) : In F :=
  ⟨arg2.view.readAt (Elt F) (Rect.unit (s := S2048x128) ![64 * (cOf 0 j).val, 0] S64x128.size (inbQ (cOf 0 j))).toLoadRect X_arg2,
   arg11.view.readAt (Elt F) (Rect.unit (s := S2560x128) ![64 * (cOf 0 j).val, 0] S576x128.size (inbB (cOf 0 j))).toLoadRect X_arg11,
   arg12.view.readAt (Elt F) (Rect.unit (s := S2560x128) ![64 * (cOf 0 j).val, 0] S576x128.size (inbB (cOf 0 j))).toLoadRect X_arg12,
   v27,
   arg6.view.readAt (Elt F) (Rect.unit (s := S2048x128) ![64 * (cOf 0 j).val, 0] S64x128.size (inbQ (cOf 0 j))).toLoadRect X_arg6,
   some (validOf (BitVec.ofNat 32 (64 * (cOf 0 j).val)))⟩

theorem mIn_eq (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4) (j : Fin 8) :
    mIn arg2 arg6 arg11 arg12 v27 X_arg2 X_arg6 X_arg11 X_arg12 j = blockIn x0 x1 x2 x3 x4 (cOf 0 j) := by
  unfold mIn blockIn
  rw [View.readAt_unit arg2.view _ _ rfl (inbQ _), View.readAt_unit arg11.view _ _ rfl (inbB _), View.readAt_unit arg12.view _ _ rfl (inbB _),
    View.readAt_unit arg6.view _ _ rfl (inbQ _), h2, h11, h12, h6, hb, if_pos (by show 8 * 0 + j.val < 8; omega)]

/-- The masked group's stores of query gradients. -/
def mdqL : List (View.Piece (Elt F) S2048x128 .bf16) :=
  [⟨Rect.unit (s := S2048x128) ![64 * (cOf 0 7).val, 0] S64x128.size (inbQ (cOf 0 7)), (mIn arg2 arg6 arg11 arg12 v27 X_arg2 X_arg6 X_arg11 X_arg12 7).dq⟩, ⟨Rect.unit (s := S2048x128) ![64 * (cOf 0 6).val, 0] S64x128.size (inbQ (cOf 0 6)), (mIn arg2 arg6 arg11 arg12 v27 X_arg2 X_arg6 X_arg11 X_arg12 6).dq⟩, ⟨Rect.unit (s := S2048x128) ![64 * (cOf 0 5).val, 0] S64x128.size (inbQ (cOf 0 5)), (mIn arg2 arg6 arg11 arg12 v27 X_arg2 X_arg6 X_arg11 X_arg12 5).dq⟩, ⟨Rect.unit (s := S2048x128) ![64 * (cOf 0 4).val, 0] S64x128.size (inbQ (cOf 0 4)), (mIn arg2 arg6 arg11 arg12 v27 X_arg2 X_arg6 X_arg11 X_arg12 4).dq⟩, ⟨Rect.unit (s := S2048x128) ![64 * (cOf 0 3).val, 0] S64x128.size (inbQ (cOf 0 3)), (mIn arg2 arg6 arg11 arg12 v27 X_arg2 X_arg6 X_arg11 X_arg12 3).dq⟩, ⟨Rect.unit (s := S2048x128) ![64 * (cOf 0 2).val, 0] S64x128.size (inbQ (cOf 0 2)), (mIn arg2 arg6 arg11 arg12 v27 X_arg2 X_arg6 X_arg11 X_arg12 2).dq⟩, ⟨Rect.unit (s := S2048x128) ![64 * (cOf 0 1).val, 0] S64x128.size (inbQ (cOf 0 1)), (mIn arg2 arg6 arg11 arg12 v27 X_arg2 X_arg6 X_arg11 X_arg12 1).dq⟩, ⟨Rect.unit (s := S2048x128) ![64 * (cOf 0 0).val, 0] S64x128.size (inbQ (cOf 0 0)), (mIn arg2 arg6 arg11 arg12 v27 X_arg2 X_arg6 X_arg11 X_arg12 0).dq⟩]

/-- The masked group's stores of key gradients, over zeros. -/
def mdkL (f : BufTy.Contents (Elt F) arg13.view.ty) : List (View.Piece (Elt F) S2560x128 .f32) :=
  (accOn arg13.view f (inbB (cOf 0 7)) (mIn arg2 arg6 arg11 arg12 v27 X_arg2 X_arg6 X_arg11 X_arg12 7).dk (accOn arg13.view f (inbB (cOf 0 6)) (mIn arg2 arg6 arg11 arg12 v27 X_arg2 X_arg6 X_arg11 X_arg12 6).dk (accOn arg13.view f (inbB (cOf 0 5)) (mIn arg2 arg6 arg11 arg12 v27 X_arg2 X_arg6 X_arg11 X_arg12 5).dk (accOn arg13.view f (inbB (cOf 0 4)) (mIn arg2 arg6 arg11 arg12 v27 X_arg2 X_arg6 X_arg11 X_arg12 4).dk (accOn arg13.view f (inbB (cOf 0 3)) (mIn arg2 arg6 arg11 arg12 v27 X_arg2 X_arg6 X_arg11 X_arg12 3).dk (accOn arg13.view f (inbB (cOf 0 2)) (mIn arg2 arg6 arg11 arg12 v27 X_arg2 X_arg6 X_arg11 X_arg12 2).dk (accOn arg13.view f (inbB (cOf 0 1)) (mIn arg2 arg6 arg11 arg12 v27 X_arg2 X_arg6 X_arg11 X_arg12 1).dk (accOn arg13.view f (inbB (cOf 0 0)) (mIn arg2 arg6 arg11 arg12 v27 X_arg2 X_arg6 X_arg11 X_arg12 0).dk [⟨Rect.unit (s := S2560x128) ![0, 0] S2560x128.size (by decide), zeroPad⟩]))))))))

/-- The masked group's stores of value gradients, over zeros. -/
def mdvL (f : BufTy.Contents (Elt F) arg14.view.ty) : List (View.Piece (Elt F) S2560x128 .f32) :=
  (accOn arg14.view f (inbB (cOf 0 7)) (mIn arg2 arg6 arg11 arg12 v27 X_arg2 X_arg6 X_arg11 X_arg12 7).dv (accOn arg14.view f (inbB (cOf 0 6)) (mIn arg2 arg6 arg11 arg12 v27 X_arg2 X_arg6 X_arg11 X_arg12 6).dv (accOn arg14.view f (inbB (cOf 0 5)) (mIn arg2 arg6 arg11 arg12 v27 X_arg2 X_arg6 X_arg11 X_arg12 5).dv (accOn arg14.view f (inbB (cOf 0 4)) (mIn arg2 arg6 arg11 arg12 v27 X_arg2 X_arg6 X_arg11 X_arg12 4).dv (accOn arg14.view f (inbB (cOf 0 3)) (mIn arg2 arg6 arg11 arg12 v27 X_arg2 X_arg6 X_arg11 X_arg12 3).dv (accOn arg14.view f (inbB (cOf 0 2)) (mIn arg2 arg6 arg11 arg12 v27 X_arg2 X_arg6 X_arg11 X_arg12 2).dv (accOn arg14.view f (inbB (cOf 0 1)) (mIn arg2 arg6 arg11 arg12 v27 X_arg2 X_arg6 X_arg11 X_arg12 1).dv (accOn arg14.view f (inbB (cOf 0 0)) (mIn arg2 arg6 arg11 arg12 v27 X_arg2 X_arg6 X_arg11 X_arg12 0).dv [⟨Rect.unit (s := S2560x128) ![0, 0] S2560x128.size (by decide), zeroPad⟩]))))))))

theorem mdq_read (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f : BufTy.Contents (Elt F) arg7.view.ty) : arg7.view.read (Elt F) (arg7.view.writes (Elt F) f (mdqL arg2 arg6 arg11 arg12 v27 X_arg2 X_arg6 X_arg11 X_arg12)) = dqAll x0 x1 x2 x3 x4 (arg7.view.read (Elt F) f) 8 := by
  unfold mdqL
  simp only [mIn_eq x0 x1 x2 x3 x4 arg2 arg6 arg11 arg12 v27 X_arg2 X_arg6 X_arg11 X_arg12 h2 h11 h12 hb h6]
  unfold dqAll
  refine Eq.trans ?_ (foldTo_eight (dqStep x0 x1 x2 x3 x4) (arg7.view.read (Elt F) f) 0).symm
  refine (read_dqOn x0 x1 x2 x3 x4 arg7.view f _ _ (cOf 0 7) rfl).trans (congrArg _ ?_)
  refine (read_dqOn x0 x1 x2 x3 x4 arg7.view f _ _ (cOf 0 6) rfl).trans (congrArg _ ?_)
  refine (read_dqOn x0 x1 x2 x3 x4 arg7.view f _ _ (cOf 0 5) rfl).trans (congrArg _ ?_)
  refine (read_dqOn x0 x1 x2 x3 x4 arg7.view f _ _ (cOf 0 4) rfl).trans (congrArg _ ?_)
  refine (read_dqOn x0 x1 x2 x3 x4 arg7.view f _ _ (cOf 0 3) rfl).trans (congrArg _ ?_)
  refine (read_dqOn x0 x1 x2 x3 x4 arg7.view f _ _ (cOf 0 2) rfl).trans (congrArg _ ?_)
  refine (read_dqOn x0 x1 x2 x3 x4 arg7.view f _ _ (cOf 0 1) rfl).trans (congrArg _ ?_)
  refine (read_dqOn x0 x1 x2 x3 x4 arg7.view f _ _ (cOf 0 0) rfl).trans (congrArg _ ?_)
  rfl

theorem mdk_read (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f : BufTy.Contents (Elt F) arg13.view.ty) : arg13.view.read (Elt F) (arg13.view.writes (Elt F) f (mdkL arg2 arg6 arg11 arg12 arg13 v27 X_arg2 X_arg6 X_arg11 X_arg12 f)) = dkAll x0 x1 x2 x3 x4 8 := by
  unfold mdkL
  simp only [mIn_eq x0 x1 x2 x3 x4 arg2 arg6 arg11 arg12 v27 X_arg2 X_arg6 X_arg11 X_arg12 h2 h11 h12 hb h6]
  unfold dkAll
  refine Eq.trans ?_ (foldTo_eight (accStep fun c => (blockIn x0 x1 x2 x3 x4 c).dk) zeroPad 0).symm
  refine (read_accOn arg13.view f _ (fun c => (blockIn x0 x1 x2 x3 x4 c).dk) _ (cOf 0 7) rfl).trans (congrArg _ ?_)
  refine (read_accOn arg13.view f _ (fun c => (blockIn x0 x1 x2 x3 x4 c).dk) _ (cOf 0 6) rfl).trans (congrArg _ ?_)
  refine (read_accOn arg13.view f _ (fun c => (blockIn x0 x1 x2 x3 x4 c).dk) _ (cOf 0 5) rfl).trans (congrArg _ ?_)
  refine (read_accOn arg13.view f _ (fun c => (blockIn x0 x1 x2 x3 x4 c).dk) _ (cOf 0 4) rfl).trans (congrArg _ ?_)
  refine (read_accOn arg13.view f _ (fun c => (blockIn x0 x1 x2 x3 x4 c).dk) _ (cOf 0 3) rfl).trans (congrArg _ ?_)
  refine (read_accOn arg13.view f _ (fun c => (blockIn x0 x1 x2 x3 x4 c).dk) _ (cOf 0 2) rfl).trans (congrArg _ ?_)
  refine (read_accOn arg13.view f _ (fun c => (blockIn x0 x1 x2 x3 x4 c).dk) _ (cOf 0 1) rfl).trans (congrArg _ ?_)
  refine (read_accOn arg13.view f _ (fun c => (blockIn x0 x1 x2 x3 x4 c).dk) _ (cOf 0 0) rfl).trans (congrArg _ ?_)
  exact View.read_writes_full _ _ _ _ _

theorem mdv_read (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f : BufTy.Contents (Elt F) arg14.view.ty) : arg14.view.read (Elt F) (arg14.view.writes (Elt F) f (mdvL arg2 arg6 arg11 arg12 arg14 v27 X_arg2 X_arg6 X_arg11 X_arg12 f)) = dvAll x0 x1 x2 x3 x4 8 := by
  unfold mdvL
  simp only [mIn_eq x0 x1 x2 x3 x4 arg2 arg6 arg11 arg12 v27 X_arg2 X_arg6 X_arg11 X_arg12 h2 h11 h12 hb h6]
  unfold dvAll
  refine Eq.trans ?_ (foldTo_eight (accStep fun c => (blockIn x0 x1 x2 x3 x4 c).dv) zeroPad 0).symm
  refine (read_accOn arg14.view f _ (fun c => (blockIn x0 x1 x2 x3 x4 c).dv) _ (cOf 0 7) rfl).trans (congrArg _ ?_)
  refine (read_accOn arg14.view f _ (fun c => (blockIn x0 x1 x2 x3 x4 c).dv) _ (cOf 0 6) rfl).trans (congrArg _ ?_)
  refine (read_accOn arg14.view f _ (fun c => (blockIn x0 x1 x2 x3 x4 c).dv) _ (cOf 0 5) rfl).trans (congrArg _ ?_)
  refine (read_accOn arg14.view f _ (fun c => (blockIn x0 x1 x2 x3 x4 c).dv) _ (cOf 0 4) rfl).trans (congrArg _ ?_)
  refine (read_accOn arg14.view f _ (fun c => (blockIn x0 x1 x2 x3 x4 c).dv) _ (cOf 0 3) rfl).trans (congrArg _ ?_)
  refine (read_accOn arg14.view f _ (fun c => (blockIn x0 x1 x2 x3 x4 c).dv) _ (cOf 0 2) rfl).trans (congrArg _ ?_)
  refine (read_accOn arg14.view f _ (fun c => (blockIn x0 x1 x2 x3 x4 c).dv) _ (cOf 0 1) rfl).trans (congrArg _ ?_)
  refine (read_accOn arg14.view f _ (fun c => (blockIn x0 x1 x2 x3 x4 c).dv) _ (cOf 0 0) rfl).trans (congrArg _ ?_)
  exact View.read_writes_full _ _ _ _ _

/-- The masked group's store of the bias' gradient over a read of the prior one. -/
def mdbP (R : FVec F S2x64x576 .f32) : View.Piece (Elt F) S2x64x576 .f32 :=
  ⟨Rect.unit (s := S2x64x576) ![0, 0, 0] S2x64x576.size (by decide), addf (shapeCast S2x64x576 R shapeCasts_S2x64x576_S2x64x576) (dbGroup fun j => mIn arg2 arg6 arg11 arg12 v27 X_arg2 X_arg6 X_arg11 X_arg12 j)⟩

theorem mdb_read (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f : BufTy.Contents (Elt F) arg10.view.ty) (L : List (View.Piece (Elt F) S2x64x576 .f32)) (R : FVec F S2x64x576 .f32) :
    arg10.view.read (Elt F) (arg10.view.writes (Elt F) f (mdbP arg2 arg6 arg11 arg12 v27 X_arg2 X_arg6 X_arg11 X_arg12 R :: L)) = dbStep x0 x1 x2 x3 x4 0 R := by
  unfold mdbP
  simp only [mIn_eq x0 x1 x2 x3 x4 arg2 arg6 arg11 arg12 v27 X_arg2 X_arg6 X_arg11 X_arg12 h2 h11 h12 hb h6]
  refine (View.read_writes_full _ _ _ _ _).trans ?_
  rfl

/-- What the query gradients' window holds in the end. -/
theorem fin_dq (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (L : List (View.Piece (Elt F) S2x64x576 .f32)) (R : FVec F S2x64x576 .f32) :
    arg7.view.read (Elt F) (arg7.view.writes (Elt F) f_arg7 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) k0_t1_loop.trips).1 ++ mdqL arg2 arg6 arg11 arg12 v27 X_arg2 X_arg6 X_arg11 X_arg12)) = outDq x0 x1 x2 x3 x4 := by
  rw [View.writes_append]
  refine (pb_read_dq x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) h2 h11 h12 hb h6 _
    (mdq_read x0 x1 x2 x3 x4 arg2 arg6 arg7 arg11 arg12 v27 X_arg2 X_arg6 X_arg11 X_arg12 h2 h11 h12 hb h6 f_arg7) _ le_rfl).trans ?_
  rw [trips_eq]
  exact dqAll_done x0 x1 x2 x3 x4 _

/-- What the bias gradient's window holds in the end. -/
theorem fin_db (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (L : List (View.Piece (Elt F) S2x64x576 .f32)) (R : FVec F S2x64x576 .f32) :
    arg10.view.read (Elt F) (arg10.view.writes (Elt F) f_arg10 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) k0_t1_loop.trips).2.1 ++ (mdbP arg2 arg6 arg11 arg12 v27 X_arg2 X_arg6 X_arg11 X_arg12 R :: L))) = outDb x0 x1 x2 x3 x4 R := by
  rw [View.writes_append]
  refine (pb_read_db x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) h2 h11 h12 hb h6 R
    (mdb_read x0 x1 x2 x3 x4 arg2 arg6 arg10 arg11 arg12 v27 X_arg2 X_arg6 X_arg11 X_arg12 h2 h11 h12 hb h6 f_arg10 L R) _ le_rfl).trans ?_
  rw [trips_eq]
  exact dbUp_done x0 x1 x2 x3 x4 R

/-- What the key gradients' window holds in the end. -/
theorem fin_dk (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (L : List (View.Piece (Elt F) S2x64x576 .f32)) (R : FVec F S2x64x576 .f32) (f : BufTy.Contents (Elt F) arg8.view.ty) :
    arg8.view.read (Elt F) (arg8.view.writes (Elt F) f [⟨Rect.unit (s := S2048x128) ![0, 0] S2048x128.size (by decide), truncf .bf16
      (arg13.view.readAt (Elt F) (Rect.unit (s := S2560x128) ![512, 0] S2048x128.size inbT).toLoadRect (arg13.view.writes (Elt F) f_arg13 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) k0_t1_loop.trips).2.2.1 ++ mdkL arg2 arg6 arg11 arg12 arg13 v27 X_arg2 X_arg6 X_arg11 X_arg12 f_arg13))) bitsLt_bf16_f32⟩]) = outDk x0 x1 x2 x3 x4 := by
  refine (View.read_writes_full _ _ _ _ _).trans ?_
  unfold outDk
  refine congrArg (fun z : FVec F S2048x128 .f32 => truncf .bf16 z bitsLt_bf16_f32) ?_
  rw [View.writes_append]
  refine (View.readAt_unit arg13.view _ _ rfl inbT).trans ?_
  refine congrArg (fun z : FVec F S2560x128 .f32 => VecWindow.window z ![512, 0] S2048x128.size inbT) ?_
  refine (pb_read_dk x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) h2 h11 h12 hb h6
    (mdk_read x0 x1 x2 x3 x4 arg2 arg6 arg11 arg12 arg13 v27 X_arg2 X_arg6 X_arg11 X_arg12 h2 h11 h12 hb h6 f_arg13) _ le_rfl).trans ?_
  rw [trips_eq]

/-- What the value gradients' window holds in the end. -/
theorem fin_dv (h2 : arg2.view.read (Elt F) X_arg2 = x0) (h11 : arg11.view.read (Elt F) X_arg11 = padded x1) (h12 : arg12.view.read (Elt F) X_arg12 = padded x2)
    (hb : v27 = shapeCast S2x64x576 x3 shapeCasts_S2x64x576_S2x64x576) (h6 : arg6.view.read (Elt F) X_arg6 = x4)
    (f_arg7 : BufTy.Contents (Elt F) arg7.view.ty) (f_arg10 : BufTy.Contents (Elt F) arg10.view.ty) (f_arg13 : BufTy.Contents (Elt F) arg13.view.ty) (f_arg14 : BufTy.Contents (Elt F) arg14.view.ty)
    (L : List (View.Piece (Elt F) S2x64x576 .f32)) (R : FVec F S2x64x576 .f32) (f : BufTy.Contents (Elt F) arg9.view.ty) :
    arg9.view.read (Elt F) (arg9.view.writes (Elt F) f [⟨Rect.unit (s := S2048x128) ![0, 0] S2048x128.size (by decide), truncf .bf16
      (arg14.view.readAt (Elt F) (Rect.unit (s := S2560x128) ![512, 0] S2048x128.size inbT).toLoadRect (arg14.view.writes (Elt F) f_arg14 ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) k0_t1_loop.trips).2.2.2 ++ mdvL arg2 arg6 arg11 arg12 arg14 v27 X_arg2 X_arg6 X_arg11 X_arg12 f_arg14))) bitsLt_bf16_f32⟩]) = outDv x0 x1 x2 x3 x4 := by
  refine (View.read_writes_full _ _ _ _ _).trans ?_
  unfold outDv
  refine congrArg (fun z : FVec F S2048x128 .f32 => truncf .bf16 z bitsLt_bf16_f32) ?_
  rw [View.writes_append]
  refine (View.readAt_unit arg14.view _ _ rfl inbT).trans ?_
  refine congrArg (fun z : FVec F S2560x128 .f32 => VecWindow.window z ![512, 0] S2048x128.size inbT) ?_
  refine (pb_read_dv x0 x1 x2 x3 x4 𝒱 c bd i arg2 harg2 arg3 harg3 arg4 harg4 arg5 harg5 arg6 harg6 arg7 harg7 arg8 harg8 arg9 harg9 arg10 harg10 arg11 harg11 arg12 harg12 arg13 harg13 arg14 harg14 v27 X_arg2 X_arg6 X_arg11 X_arg12 (arg7.view.writes (Elt F) f_arg7 (mdqL arg2 arg6 arg11 arg12 v27 X_arg2 X_arg6 X_arg11 X_arg12)) (arg10.view.writes (Elt F) f_arg10 (mdbP arg2 arg6 arg11 arg12 v27 X_arg2 X_arg6 X_arg11 X_arg12 R :: L)) (arg13.view.writes (Elt F) f_arg13 (mdkL arg2 arg6 arg11 arg12 arg13 v27 X_arg2 X_arg6 X_arg11 X_arg12 f_arg13)) (arg14.view.writes (Elt F) f_arg14 (mdvL arg2 arg6 arg11 arg12 arg14 v27 X_arg2 X_arg6 X_arg11 X_arg12 f_arg14)) h2 h11 h12 hb h6
    (mdv_read x0 x1 x2 x3 x4 arg2 arg6 arg11 arg12 arg14 v27 X_arg2 X_arg6 X_arg11 X_arg12 h2 h11 h12 hb h6 f_arg14) _ le_rfl).trans ?_
  rw [trips_eq]

end Masked

end Cert.KernelIdeal.Attn
-- ==== Proof.Attn.RunA.lean ====
module

public import proofs.«01_k».proof.Proof.Gen.KernelIdeal.Frame
public import proofs.«01_k».proof.Proof.Attn.Masked

@[expose] public section

set_option maxRecDepth 16384

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body, run at a first batch member -/

set_option maxHeartbeats 1636000 in
/-- On the staged blocks the body leaves the gradients of queries, keys and values, and the bias' gradient over zeros. -/
theorem runA (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (hc0 : (Scalar.cmpi .ne (Scalar.extui (Scalar.cmpi .eq (BitVec.ofNat 32 (i 1).val) 0#32)) 0#32) = 1#1)
    (x0 : Vec F S2048x128 .bf16) (x1 : Vec F S2048x128 .bf16) (x2 : Vec F S2048x128 .bf16) (x3 : Vec F S2x64x576 .f32) (x4 : Vec F S2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outDq x0 x1 x2 x3 x4) ∗ owns (c : Thread nD τ) arg8 fullShare (outDk x0 x1 x2 x3 x4) ∗ owns (c : Thread nD τ) arg9 fullShare (outDv x0 x1 x2 x3 x4) ∗ owns (c : Thread nD τ) arg10 fullShare (outDb x0 x1 x2 x3 x4 (broadcast S2x64x576 (Scalar.ofBits .f32 0x00000000#32))) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part54_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    have h2 := harg2.read_unread (Val := Elt F) x0
    have h6 := harg6.read_unread (Val := Elt F) x4
    have h11 : arg11.view.read (Elt F) (arg11.view.writes (Elt F) arg11.view.junk (padL (arg3.view.readAt (Elt F) (Rect.unit (s := S2048x128) ![0, 0] S2048x128.size (by decide)).toLoadRect (harg3.unread x1)))) = padded x1 :=
      (read_padded arg11.view _ _ _ _).trans (congrArg padded ((View.readAt_full _ _ _).trans (harg3.read_unread x1)))
    have h12 : arg12.view.read (Elt F) (arg12.view.writes (Elt F) arg12.view.junk (padL (arg4.view.readAt (Elt F) (Rect.unit (s := S2048x128) ![0, 0] S2048x128.size (by decide)).toLoadRect (harg4.unread x2)))) = padded x2 :=
      (read_padded arg12.view _ _ _ _).trans (congrArg padded ((View.readAt_full _ _ _).trans (harg4.read_unread x2)))
    have hb : (shapeCast S2x64x576 (arg5.view.readAt (Elt F) (Rect.unit (s := S2x64x576) ![0, 0, 0] S2x64x576.size (by decide)).toLoadRect (harg5.unread x3)) shapeCasts_S2x64x576_S2x64x576) = shapeCast S2x64x576 x3 shapeCasts_S2x64x576_S2x64x576 :=
      congrArg (fun z : FVec F S2x64x576 .f32 => shapeCast S2x64x576 z shapeCasts_S2x64x576_S2x64x576) ((View.readAt_full _ _ _).trans (harg5.read_unread x3))
    sl_exec (disch := first | sl_exact hc0)
    sl_step
    have hR : (arg10.view.readAt (Elt F) (Rect.unit (s := S2x64x576) ![0, 0, 0] S2x64x576.size (by decide)).toLoadRect (arg10.view.writes (Elt F) arg10.view.junk [(⟨Rect.unit (s := S2x64x576) ![0, 0, 0] S2x64x576.size (by decide), broadcast S2x64x576 (Scalar.ofBits .f32 0x00000000#32)⟩ : View.Piece (Elt F) S2x64x576 .f32)])) = (broadcast S2x64x576 (Scalar.ofBits .f32 0x00000000#32)) := (View.readAt_full _ _ _).trans (View.read_writes_full _ _ _ _ _)
    have e7 := (fin_dq x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk [(⟨Rect.unit (s := S2x64x576) ![0, 0, 0] S2x64x576.size (by decide), broadcast S2x64x576 (Scalar.ofBits .f32 0x00000000#32)⟩ : View.Piece (Elt F) S2x64x576 .f32)] (arg10.view.readAt (Elt F) (Rect.unit (s := S2x64x576) ![0, 0, 0] S2x64x576.size (by decide)).toLoadRect (arg10.view.writes (Elt F) arg10.view.junk [(⟨Rect.unit (s := S2x64x576) ![0, 0, 0] S2x64x576.size (by decide), broadcast S2x64x576 (Scalar.ofBits .f32 0x00000000#32)⟩ : View.Piece (Elt F) S2x64x576 .f32)])))
    have e8 := (fin_dk x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk [(⟨Rect.unit (s := S2x64x576) ![0, 0, 0] S2x64x576.size (by decide), broadcast S2x64x576 (Scalar.ofBits .f32 0x00000000#32)⟩ : View.Piece (Elt F) S2x64x576 .f32)] (arg10.view.readAt (Elt F) (Rect.unit (s := S2x64x576) ![0, 0, 0] S2x64x576.size (by decide)).toLoadRect (arg10.view.writes (Elt F) arg10.view.junk [(⟨Rect.unit (s := S2x64x576) ![0, 0, 0] S2x64x576.size (by decide), broadcast S2x64x576 (Scalar.ofBits .f32 0x00000000#32)⟩ : View.Piece (Elt F) S2x64x576 .f32)])) f6)
    have e9 := (fin_dv x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk [(⟨Rect.unit (s := S2x64x576) ![0, 0, 0] S2x64x576.size (by decide), broadcast S2x64x576 (Scalar.ofBits .f32 0x00000000#32)⟩ : View.Piece (Elt F) S2x64x576 .f32)] (arg10.view.readAt (Elt F) (Rect.unit (s := S2x64x576) ![0, 0, 0] S2x64x576.size (by decide)).toLoadRect (arg10.view.writes (Elt F) arg10.view.junk [(⟨Rect.unit (s := S2x64x576) ![0, 0, 0] S2x64x576.size (by decide), broadcast S2x64x576 (Scalar.ofBits .f32 0x00000000#32)⟩ : View.Piece (Elt F) S2x64x576 .f32)])) f7)
    have e10 := (fin_db x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk [(⟨Rect.unit (s := S2x64x576) ![0, 0, 0] S2x64x576.size (by decide), broadcast S2x64x576 (Scalar.ofBits .f32 0x00000000#32)⟩ : View.Piece (Elt F) S2x64x576 .f32)] (arg10.view.readAt (Elt F) (Rect.unit (s := S2x64x576) ![0, 0, 0] S2x64x576.size (by decide)).toLoadRect (arg10.view.writes (Elt F) arg10.view.junk [(⟨Rect.unit (s := S2x64x576) ![0, 0, 0] S2x64x576.size (by decide), broadcast S2x64x576 (Scalar.ofBits .f32 0x00000000#32)⟩ : View.Piece (Elt F) S2x64x576 .f32)]))).trans (congrArg (outDb x0 x1 x2 x3 x4) hR)
    iapply Hk
    isplitl [H0]; · iexists _; isplitr; swap; (· iexact H0); (· ipureintro; exact hf0)
    isplitl [H1]; · iexists _; isplitr; swap; (· iexact H1); (· ipureintro; exact hf1)
    isplitl [H2]; · iexists _; isplitr; swap; (· iexact H2); (· ipureintro; exact hf2)
    isplitl [H3]; · iexists _; isplitr; swap; (· iexact H3); (· ipureintro; exact hf3)
    isplitl [H4]; · iexists _; isplitr; swap; (· iexact H4); (· ipureintro; exact hf4)
    isplitl [H5]; · iexists _; isplitr; swap; (· iexact H5); (· ipureintro; refine Eq.trans ?_ e7; sl_kernel_rfl)
    isplitl [H6]; · iexists _; isplitr; swap; (· iexact H6); (· ipureintro; refine Eq.trans ?_ e8; sl_kernel_rfl)
    isplitl [H7]; · iexists _; isplitr; swap; (· iexact H7); (· ipureintro; refine Eq.trans ?_ e9; sl_kernel_rfl)
    isplitl [H8]; · iexists _; isplitr; swap; (· iexact H8); (· ipureintro; refine Eq.trans ?_ e10; sl_kernel_rfl)
    isplitl [HS0]; · iexists _, _; isplitr; swap; (· iexact HS0); (· ipureintro; rfl)
    isplitl [HS1]; · iexists _, _; isplitr; swap; (· iexact HS1); (· ipureintro; rfl)
    isplitl [HS2]; · iexists _, _; isplitr; swap; (· iexact HS2); (· ipureintro; rfl)
    iexists _, _; isplitr; swap; (· iexact HS3); (· ipureintro; rfl)

end Cert.KernelIdeal.Attn
-- ==== Proof.Attn.RunB.lean ====
module

public import proofs.«01_k».proof.Proof.Gen.KernelIdeal.Frame
public import proofs.«01_k».proof.Proof.Attn.Masked

@[expose] public section

set_option maxRecDepth 16384

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body, run at a later batch member -/

set_option maxHeartbeats 1636000 in
/-- On the staged blocks the body leaves the gradients of queries, keys and values, and the bias' gradient over what was there. -/
theorem runB (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2x64x576 .f32) (harg10 : arg10.IsWhole) (arg11 : Memref sig .tc .vmem S2560x128 .f32) (harg11 : arg11.IsWhole) (arg12 : Memref sig .tc .vmem S2560x128 .f32) (harg12 : arg12.IsWhole) (arg13 : Memref sig .tc .vmem S2560x128 .f32) (harg13 : arg13.IsWhole) (arg14 : Memref sig .tc .vmem S2560x128 .f32) (harg14 : arg14.IsWhole) (hc0 : ¬ ((Scalar.cmpi .ne (Scalar.extui (Scalar.cmpi .eq (BitVec.ofNat 32 (i 1).val) 0#32)) 0#32) = 1#1))
    (x0 : Vec F S2048x128 .bf16) (x1 : Vec F S2048x128 .bf16) (x2 : Vec F S2048x128 .bf16) (x3 : Vec F S2x64x576 .f32) (x4 : Vec F S2048x128 .f32) (R : Vec F S2x64x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare R ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outDq x0 x1 x2 x3 x4) ∗ owns (c : Thread nD τ) arg8 fullShare (outDk x0 x1 x2 x3 x4) ∗ owns (c : Thread nD τ) arg9 fullShare (outDv x0 x1 x2 x3 x4) ∗ owns (c : Thread nD τ) arg10 fullShare (outDb x0 x1 x2 x3 x4 R) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_bwd_eq_skeleton]; unfold cc0_attn_bwd_skel
    simp only [k0_part54_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8
    have h2 := harg2.read_unread (Val := Elt F) x0
    have h6 := harg6.read_unread (Val := Elt F) x4
    have h11 : arg11.view.read (Elt F) (arg11.view.writes (Elt F) arg11.view.junk (padL (arg3.view.readAt (Elt F) (Rect.unit (s := S2048x128) ![0, 0] S2048x128.size (by decide)).toLoadRect (harg3.unread x1)))) = padded x1 :=
      (read_padded arg11.view _ _ _ _).trans (congrArg padded ((View.readAt_full _ _ _).trans (harg3.read_unread x1)))
    have h12 : arg12.view.read (Elt F) (arg12.view.writes (Elt F) arg12.view.junk (padL (arg4.view.readAt (Elt F) (Rect.unit (s := S2048x128) ![0, 0] S2048x128.size (by decide)).toLoadRect (harg4.unread x2)))) = padded x2 :=
      (read_padded arg12.view _ _ _ _).trans (congrArg padded ((View.readAt_full _ _ _).trans (harg4.read_unread x2)))
    have hb : (shapeCast S2x64x576 (arg5.view.readAt (Elt F) (Rect.unit (s := S2x64x576) ![0, 0, 0] S2x64x576.size (by decide)).toLoadRect (harg5.unread x3)) shapeCasts_S2x64x576_S2x64x576) = shapeCast S2x64x576 x3 shapeCasts_S2x64x576_S2x64x576 :=
      congrArg (fun z : FVec F S2x64x576 .f32 => shapeCast S2x64x576 z shapeCasts_S2x64x576_S2x64x576) ((View.readAt_full _ _ _).trans (harg5.read_unread x3))
    sl_exec (disch := first | sl_exact hc0)
    sl_step
    have hR : (arg10.view.readAt (Elt F) (Rect.unit (s := S2x64x576) ![0, 0, 0] S2x64x576.size (by decide)).toLoadRect (harg10.unread R)) = R := (View.readAt_full _ _ _).trans (harg10.read_unread R)
    have e7 := (fin_dq x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk ([] : List (View.Piece (Elt F) S2x64x576 .f32)) (arg10.view.readAt (Elt F) (Rect.unit (s := S2x64x576) ![0, 0, 0] S2x64x576.size (by decide)).toLoadRect (harg10.unread R)))
    have e8 := (fin_dk x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk ([] : List (View.Piece (Elt F) S2x64x576 .f32)) (arg10.view.readAt (Elt F) (Rect.unit (s := S2x64x576) ![0, 0, 0] S2x64x576.size (by decide)).toLoadRect (harg10.unread R)) f6)
    have e9 := (fin_dv x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk ([] : List (View.Piece (Elt F) S2x64x576 .f32)) (arg10.view.readAt (Elt F) (Rect.unit (s := S2x64x576) ![0, 0, 0] S2x64x576.size (by decide)).toLoadRect (harg10.unread R)) f7)
    have e10 := (fin_db x0 x1 x2 x3 x4 Variants.none c none i arg2 harg2 arg3 harg3 arg4 harg4 arg5 harg5 arg6 harg6 arg7 harg7 arg8 harg8 arg9 harg9 arg10 harg10 arg11 harg11 arg12 harg12 arg13 harg13 arg14 harg14 (shapeCast S2x64x576 (arg5.view.readAt (Elt F) (Rect.unit (s := S2x64x576) ![0, 0, 0] S2x64x576.size (by decide)).toLoadRect (harg5.unread x3)) shapeCasts_S2x64x576_S2x64x576) (harg2.unread x0) (harg6.unread x4) (arg11.view.writes (Elt F) arg11.view.junk (padL (arg3.view.readAt (Elt F) (Rect.unit (s := S2048x128) ![0, 0] S2048x128.size (by decide)).toLoadRect (harg3.unread x1)))) (arg12.view.writes (Elt F) arg12.view.junk (padL (arg4.view.readAt (Elt F) (Rect.unit (s := S2048x128) ![0, 0] S2048x128.size (by decide)).toLoadRect (harg4.unread x2)))) h2 h11 h12 hb h6 f5 arg10.view.junk arg13.view.junk arg14.view.junk ([] : List (View.Piece (Elt F) S2x64x576 .f32)) (arg10.view.readAt (Elt F) (Rect.unit (s := S2x64x576) ![0, 0, 0] S2x64x576.size (by decide)).toLoadRect (harg10.unread R))).trans (congrArg (outDb x0 x1 x2 x3 x4) hR)
    iapply Hk
    isplitl [H0]; · iexists _; isplitr; swap; (· iexact H0); (· ipureintro; exact hf0)
    isplitl [H1]; · iexists _; isplitr; swap; (· iexact H1); (· ipureintro; exact hf1)
    isplitl [H2]; · iexists _; isplitr; swap; (· iexact H2); (· ipureintro; exact hf2)
    isplitl [H3]; · iexists _; isplitr; swap; (· iexact H3); (· ipureintro; exact hf3)
    isplitl [H4]; · iexists _; isplitr; swap; (· iexact H4); (· ipureintro; exact hf4)
    isplitl [H5]; · iexists _; isplitr; swap; (· iexact H5); (· ipureintro; refine Eq.trans ?_ e7; sl_kernel_rfl)
    isplitl [H6]; · iexists _; isplitr; swap; (· iexact H6); (· ipureintro; refine Eq.trans ?_ e8; sl_kernel_rfl)
    isplitl [H7]; · iexists _; isplitr; swap; (· iexact H7); (· ipureintro; refine Eq.trans ?_ e9; sl_kernel_rfl)
    isplitl [H8]; · iexists _; isplitr; swap; (· iexact H8); (· ipureintro; refine Eq.trans ?_ e10; sl_kernel_rfl)
    isplitl [HS0]; · iexists _, _; isplitr; swap; (· iexact HS0); (· ipureintro; rfl)
    isplitl [HS1]; · iexists _, _; isplitr; swap; (· iexact HS1); (· ipureintro; rfl)
    isplitl [HS2]; · iexists _, _; isplitr; swap; (· iexact HS2); (· ipureintro; rfl)
    iexists _, _; isplitr; swap; (· iexact HS3); (· ipureintro; rfl)

end Cert.KernelIdeal.Attn
-- ==== Proof.Attn.Launch.lean ====
module

public import proofs.«01_k».proof.Proof.Gen.KernelIdeal.Frame
public import proofs.«01_k».proof.Proof.Attn.RunA
public import proofs.«01_k».proof.Proof.Attn.RunB
public import Idealize.ShloMosaic.Lib.Claim

@[expose] public section

set_option maxRecDepth 16384

noncomputable section

namespace Cert.KernelIdeal.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The pipeline over the grid: four head pairs, two batch members each -/

/-- The staged blocks of a point, by name. -/
abbrev bq (c : Dev nD) (t : Fin cfg0.N) : FVec F S2048x128 .bf16 := iblk m c 0 t
abbrev bk (c : Dev nD) (t : Fin cfg0.N) : FVec F S2048x128 .bf16 := iblk m c 1 t
abbrev bv (c : Dev nD) (t : Fin cfg0.N) : FVec F S2048x128 .bf16 := iblk m c 2 t
abbrev bb (c : Dev nD) (t : Fin cfg0.N) : FVec F S2x64x576 .f32 := iblk m c 3 t
abbrev bg (c : Dev nD) (t : Fin cfg0.N) : FVec F S2048x128 .f32 := iblk m c 4 t

/-- The zeros the bias' gradient starts from. -/
def dbZero : FVec F S2x64x576 .f32 := broadcast S2x64x576 (Scalar.ofBits .f32 0x00000000#32)

/-- The bias' gradient after one point of a head pair. -/
def dbOne (c : Dev nD) (t : Fin cfg0.N) : FVec F S2x64x576 .f32 := outDb (bq m c t) (bk m c t) (bv m c t) (bb m c t) (bg m c t) dbZero

/-- The point before. -/
abbrev pred (t : Fin cfg0.N) : Fin cfg0.N := ⟨t.val - 1, Nat.lt_of_le_of_lt (Nat.sub_le _ _) t.isLt⟩

/-- The bias' gradient window after a point: the first batch member starts over, the second adds. -/
def dbAt (c : Dev nD) (t : Fin cfg0.N) : FVec F S2x64x576 .f32 :=
  if t.val % 2 = 0 then dbOne m c t else outDb (bq m c t) (bk m c t) (bv m c t) (bb m c t) (bg m c t) (dbOne m c (pred t))

/-- What each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outDq (bq m c t) (bk m c t) (bv m c t) (bb m c t) (bg m c t)
    | ⟨6, _⟩ => outDk (bq m c t) (bk m c t) (bv m c t) (bb m c t) (bg m c t)
    | ⟨7, _⟩ => outDv (bq m c t) (bk m c t) (bv m c t) (bb m c t) (bg m c t)
    | ⟨8, _⟩ => dbAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outDq (bq m c t) (bk m c t) (bv m c t) (bb m c t) (bg m c t) := by dsimp only [dats]
theorem after_6 (c : Dev nD) (t : Fin cfg0.N) : (dats m 0 c).after 6 t = outDk (bq m c t) (bk m c t) (bv m c t) (bb m c t) (bg m c t) := by dsimp only [dats]
theorem after_7 (c : Dev nD) (t : Fin cfg0.N) : (dats m 0 c).after 7 t = outDv (bq m c t) (bk m c t) (bv m c t) (bb m c t) (bg m c t) := by dsimp only [dats]
theorem after_8 (c : Dev nD) (t : Fin cfg0.N) : (dats m 0 c).after 8 t = dbAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- At a second batch member the bias' gradient window holds what the first left. -/
theorem before_8 (c : Dev nD) (t : Fin cfg0.N) (h : ¬ t.val % 2 = 0) (d) : (dats m 0 c).before 8 t d = dbOne m c (pred t) := by
  have hN : t.val < 8 := lt_of_lt_of_eq t.isLt (show cfg0.N = 8 from N_0)
  have hp : (pred t).val = t.val - 1 := rfl
  have hfl : (cfg0.win 8).flush (pred t) = false := by
    cases e : (cfg0.win 8).flush (pred t) with
    | false => rfl
    | true => have := (flush0_8 (pred t)).mp e; omega
  rw [(dats m 0 c).before_out_kept 8 rfl t (by omega) hfl (fun _ => rfl) (fun _ _ => rfl) d, after_8]
  exact if_pos (show (pred t).val % 2 = 0 by omega)

/-- Which points are at a first batch member. -/
theorem first_iff (t : Fin cfg0.N) : ((Scalar.cmpi .ne (Scalar.extui (Scalar.cmpi .eq (BitVec.ofNat 32 (grid0.coords t 1).val) 0#32)) 0#32) = 1#1) ↔ t.val % 2 = 0 := by
  have hN : t.val < 8 := lt_of_lt_of_eq t.isLt (show cfg0.N = 8 from N_0)
  have e1 : (grid0.coords t 1).val = t.val / 1 % 2 := Pipeline.Grid.coords_val t 1 (by decide) rfl
  rw [e1]
  word_cmp

/-- The region's own invariant with the four scratch blocks by name. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)
abbrev stg4 (t : Fin cfg0.N) := win0_4.stage (cfg0.slots t 4)
abbrev stg5 (t : Fin cfg0.N) := win0_5.stage (cfg0.slots t 5)
abbrev stg6 (t : Fin cfg0.N) := win0_6.stage (cfg0.slots t 6)
abbrev stg7 (t : Fin cfg0.N) := win0_7.stage (cfg0.slots t 7)
abbrev stg8 (t : Fin cfg0.N) := win0_8.stage (cfg0.slots t 8)

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it gives back. -/
def back (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

set_option maxHeartbeats 2400000 in
theorem body_ok (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, scratch_eq]
  unfold dbAt
  by_cases h0 : t.val % 2 = 0
  · rw [if_pos h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ _ _ ((first_iff t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [if_neg h0]; simp only [before_8 m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (dbOne m c (pred t))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body on that point's buffers. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_ok m c t) rfl .rfl fun _ => .rfl

set_option backward.isDefEq.respectTransparency.types false in
/-- The launch: every window's array ends as the points left it, every counter at zero. -/
theorem run_all : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arguments end as they began and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.KernelIdeal.Attn
-- ==== Proof.Attn.Spec.lean ====
module

public import Idealize.ShloMosaic.Lib.Pointwise

@[expose] public section

set_option maxRecDepth 16384

noncomputable section

namespace Cert.Attn

open Idealize.ShloMosaic

/-! # The mathematics: one chunk of one head over the real numbers, and the words of real numbers -/

/-! ### Real numbers among the extended ones -/

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fold_max_coe {ι : Type*} (s : Finset ι) (hs : s.Nonempty) (f : ι → ℝ) :
    s.fold max (⊥ : EReal) (fun i => (f i : EReal)) = ((s.sup' hs f : ℝ) : EReal) := by
  classical
  refine le_antisymm ?_ ?_
  · rw [Finset.fold_max_le]
    exact ⟨bot_le, fun i hi => EReal.coe_le_coe_iff.2 (Finset.le_sup' f hi)⟩
  · obtain ⟨i, hi, e⟩ := Finset.exists_mem_eq_sup' hs f
    rw [e, Finset.le_fold_max]
    exact Or.inr ⟨i, hi, le_rfl⟩

theorem div_coe_coe {y : ℝ} (h : y ≠ 0) (x : ℝ) : Ideal.div (x : EReal) (y : EReal) = ((x / y : ℝ) : EReal) := by
  rw [Ideal.div_coe h, ← EReal.coe_mul]; congr 1; ring

theorem neg_coe (x : ℝ) : -(x : EReal) = ((-x : ℝ) : EReal) := (EReal.coe_neg x).symm

theorem sub_coe (x y : ℝ) : (x : EReal) - (y : EReal) = ((x - y : ℝ) : EReal) := (EReal.coe_sub x y).symm

theorem mul_coe (x y : ℝ) : (x : EReal) * (y : EReal) = ((x * y : ℝ) : EReal) := (EReal.coe_mul x y).symm

theorem add_coe (x y : ℝ) : (x : EReal) + (y : EReal) = ((x + y : ℝ) : EReal) := (EReal.coe_add x y).symm

theorem ite_coe (c : Prop) [Decidable c] (x y : ℝ) : (if c then (x : EReal) else (y : EReal)) = ((if c then x else y : ℝ) : EReal) := by
  split <;> rfl

theorem zero_coe : (0 : EReal) = ((0 : ℝ) : EReal) := rfl

theorem one_coe : (1 : EReal) = ((1 : ℝ) : EReal) := rfl

theorem word_eighth : Ideal.ofBits .f32 0x3E000000#32 = ((1 / 8 : ℝ) : EReal) := by
  simp [Ideal.ofBits, Ideal.ieee, -EReal.coe_mul]; norm_num

theorem word_bot : Ideal.ofBits .f32 0xFF800000#32 = (⊥ : EReal) := by
  simp [Ideal.ofBits, Ideal.ieee]

theorem word_one : Ideal.ofBits .f32 0x3F800000#32 = ((1 : ℝ) : EReal) := by
  rw [Ideal.ofBits_one_f32]; rfl

/-- The score of a key that may not be looked at. -/
def low : ℝ := (Ideal.ofBits .f32 0xF149F2CA#32).toReal

theorem word_low : Ideal.ofBits .f32 0xF149F2CA#32 = (low : EReal) := by
  have h : ∃ r : ℝ, Ideal.ofBits .f32 0xF149F2CA#32 = (r : EReal) := by
    simp [Ideal.ofBits, Ideal.ieee, -EReal.coe_mul]
    exact ⟨_, rfl⟩
  obtain ⟨r, hr⟩ := h
  unfold low
  rw [hr, EReal.toReal_coe]

/-! ### One chunk of one head -/

/-- What a chunk of 64 queries of one head reads: queries, band of keys and values, bias, the output's gradient, the keys
    that may be looked at. -/
structure Chunk where
  Q : Fin 64 → Fin 64 → ℝ
  K : Fin 576 → Fin 64 → ℝ
  V : Fin 576 → Fin 64 → ℝ
  B : Fin 64 → Fin 576 → ℝ
  G : Fin 64 → Fin 64 → ℝ
  ok : Fin 576 → Bool

namespace Chunk

variable (X : Chunk)

/-- The scores. -/
def S (i : Fin 64) (κ : Fin 576) : ℝ := if X.ok κ then (∑ d, (X.Q i d * (1 / 8)) * X.K κ d) + X.B i κ else low

/-- Each row's maximum. -/
def M (i : Fin 64) : ℝ := Finset.univ.sup' ⟨(0 : Fin 576), Finset.mem_univ _⟩ (X.S i)

/-- The exponentials. -/
def E (i : Fin 64) (κ : Fin 576) : ℝ := Real.exp (X.S i κ - X.M i)

/-- Each row's sum of exponentials. -/
def L (i : Fin 64) : ℝ := ∑ κ, X.E i κ

/-- The weights. -/
def P (i : Fin 64) (κ : Fin 576) : ℝ := X.E i κ / X.L i

/-- The gradient of the weights. -/
def DP (i : Fin 64) (κ : Fin 576) : ℝ := ∑ d, X.G i d * X.V κ d

/-- The gradient of the scores. -/
def DS (i : Fin 64) (κ : Fin 576) : ℝ := if X.ok κ then X.P i κ * (X.DP i κ - ∑ κ', X.P i κ' * X.DP i κ') else 0

/-- The gradient of the queries. -/
def dQ (i d : Fin 64) : ℝ := (∑ κ, X.DS i κ * X.K κ d) * (1 / 8)

/-- The gradient of the band of keys. -/
def dK (κ : Fin 576) (d : Fin 64) : ℝ := ∑ i, X.DS i κ * (X.Q i d * (1 / 8))

/-- The gradient of the band of values. -/
def dV (κ : Fin 576) (d : Fin 64) : ℝ := ∑ i, X.P i κ * X.G i d

theorem L_pos (i : Fin 64) : 0 < X.L i :=
  Finset.sum_pos (fun _ _ => Real.exp_pos _) ⟨(0 : Fin 576), Finset.mem_univ _⟩

theorem L_ne (i : Fin 64) : X.L i ≠ 0 := (X.L_pos i).ne'

/-- The row's product with the weights' gradient, by way of the output. -/
theorem delta (i : Fin 64) : ∑ d, X.G i d * ∑ κ, X.P i κ * X.V κ d = ∑ κ, X.P i κ * X.DP i κ := by
  simp only [DP, Finset.mul_sum]
  rw [Finset.sum_comm]
  exact Finset.sum_congr rfl fun κ _ => Finset.sum_congr rfl fun d _ => by ring

/-- The gradient of the scores, the way a division's rule gives it. -/
theorem DS_eq (i : Fin 64) (κ : Fin 576) :
    X.DS i κ = if X.ok κ then (-(∑ κ', (X.DP i κ' * (1 / (X.L i * X.L i))) * X.E i κ') + X.DP i κ / X.L i) * X.E i κ else 0 := by
  unfold DS
  have h := X.L_ne i
  have e : ∑ κ', (X.DP i κ' * (1 / (X.L i * X.L i))) * X.E i κ' = (∑ κ', X.P i κ' * X.DP i κ') / X.L i := by
    rw [Finset.sum_div]
    refine Finset.sum_congr rfl fun κ' _ => ?_
    unfold P; field_simp
  rw [e]
  split
  · generalize ∑ κ', X.P i κ' * X.DP i κ' = s
    unfold P; field_simp; ring
  · rfl

end Chunk

/-! ### The whole: a batch member, a head and a chunk of the arguments' numbers -/

/-- The real numbers of the three arguments. -/
structure Args where
  A : Fin 4096 → Fin 5760 → ℝ
  R : Fin 8 → Fin 257 → ℝ
  D : Fin 4096 → Fin 512 → ℝ

namespace Args

variable (a : Args)

/-- Keys (`o = 512`) or values (`o = 1024`) of one head, 512 rows of zeros before them. -/
def pad (o : ℕ) (ho : o ≤ 1024) (β : Fin 2) (h : Fin 8) (t : Fin 2560) (d : Fin 64) : ℝ :=
  if ht : 512 ≤ t.val then a.A ⟨2048 * β.val + (t.val - 512), by omega⟩ ⟨o + 64 * h.val + d.val, by omega⟩ else 0

/-- A chunk. -/
def chunk (β : Fin 2) (h : Fin 8) (n : Fin 32) : Chunk where
  Q i d := a.A ⟨2048 * β.val + (64 * n.val + i.val), by omega⟩ ⟨64 * h.val + d.val, by omega⟩
  K κ d := a.pad 512 (by omega) β h ⟨64 * n.val + κ.val, by omega⟩ d
  V κ d := a.pad 1024 (by omega) β h ⟨64 * n.val + κ.val, by omega⟩ d
  B i κ := a.R h ⟨min (640 + i.val - κ.val) 256, by omega⟩
  G i d := a.D ⟨2048 * β.val + (64 * n.val + i.val), by omega⟩ ⟨64 * h.val + d.val, by omega⟩
  ok κ := decide (512 ≤ 64 * n.val + κ.val)

/-- The gradient of the queries: batch member, head, row, lane. -/
def dq (β : Fin 2) (h : Fin 8) (s : Fin 2048) (d : Fin 64) : ℝ :=
  (a.chunk β h ⟨s.val / 64, by omega⟩).dQ ⟨s.val % 64, by omega⟩ d

/-- The gradient of the padded keys: over the chunks whose band holds the row. -/
def dk (β : Fin 2) (h : Fin 8) (t : Fin 2560) (d : Fin 64) : ℝ :=
  ∑ n : Fin 32, if ht : 64 * n.val ≤ t.val ∧ t.val < 64 * n.val + 576 then (a.chunk β h n).dK ⟨t.val - 64 * n.val, by omega⟩ d else 0

/-- The gradient of the padded values. -/
def dv (β : Fin 2) (h : Fin 8) (t : Fin 2560) (d : Fin 64) : ℝ :=
  ∑ n : Fin 32, if ht : 64 * n.val ≤ t.val ∧ t.val < 64 * n.val + 576 then (a.chunk β h n).dV ⟨t.val - 64 * n.val, by omega⟩ d else 0

/-- The gradient of the bias, one batch member. -/
def db1 (β : Fin 2) (h : Fin 8) (i : Fin 64) (κ : Fin 576) : ℝ := ∑ n : Fin 32, (a.chunk β h n).DS i κ

/-- The gradient of the bias. -/
def db (h : Fin 8) (i : Fin 64) (κ : Fin 576) : ℝ := ∑ β : Fin 2, a.db1 β h i κ

end Args

end Cert.Attn
-- ==== Proof.Attn.IdealChunk.lean ====
module

public import proofs.«01_k».proof.Proof.Attn.Chunk
public import proofs.«01_k».proof.Proof.Attn.Spec
public import Idealize.ShloMosaic.Lib.Pointwise

@[expose] public section

set_option maxRecDepth 16384

noncomputable section

namespace Cert.KernelIdeal.Attn

open Idealize.ShloMosaic Cert.KernelIdeal Cert.KernelIdeal.Gen Cert.Attn

/-! # One chunk's results as real numbers -/

/-- The lane of head `e` of a pair. -/
def ln (e : Bool) (d : Fin 64) : Fin 128 := if e then ⟨64 + d.val, by omega⟩ else ⟨d.val, by omega⟩

/-- The pair's member. -/
def hd (e : Bool) : Fin 2 := if e then 1 else 0

theorem sum_ln (f : Fin 128 → ℝ) : ∑ l, f l = (∑ d, f (ln false d)) + ∑ d, f (ln true d) :=
  Fin.sum_univ_two_halves 64 64 rfl f

theorem sum_ln_coe (f : Fin 128 → EReal) (g : Bool → Fin 64 → ℝ) (h : ∀ e d, f (ln e d) = (g e d : EReal)) :
    ∑ l, f l = (((∑ d, g false d) + ∑ d, g true d : ℝ) : EReal) := by
  rw [Fin.sum_univ_two_halves 64 64 rfl f, EReal.coe_add, ← sum_coe, ← sum_coe]
  exact congrArg₂ _ (Finset.sum_congr rfl fun d _ => h false d) (Finset.sum_congr rfl fun d _ => h true d)

theorem bit_lt (l : Fin 128) : IntOp.cmpi CmpIPredicate.slt (BitVec.ofNat 32 l.val) 64#32 = BitVec.ofBool (decide (l.val < 64)) := by
  revert l; decide

theorem lanes_at (e e' : Bool) (i d : Fin 64) : lanes e (ix2 i (ln e' d)) = BitVec.ofBool (e == e') := by
  have hd := d.isLt
  cases e
  · unfold lanes
    pointwise []
    rw [bit_lt]
    cases e'
    · exact congrArg BitVec.ofBool (decide_eq_true (show d.val < 64 from hd))
    · exact congrArg BitVec.ofBool (decide_eq_false (show ¬ 64 + d.val < 64 by omega))
  · unfold lanes
    pointwise []
    rw [bit_lt]
    cases e'
    · rw [show decide ((ln false d).val < 64) = true from decide_eq_true (show d.val < 64 from hd)]; rfl
    · rw [show decide ((ln true d).val < 64) = false from decide_eq_false (show ¬ 64 + d.val < 64 by omega)]; rfl

theorem select_bit (b : Bool) (x y : EReal) : Scalar.select (BitVec.ofBool b) x y = if b then x else y := by
  cases b <;> rfl

theorem onLanes_at (e e' : Bool) (x : FVec Ideal S64x128 .f32) (i d : Fin 64) (r : ℝ) (h : x (ix2 i (ln e' d)) = (r : EReal)) :
    onLanes e x (ix2 i (ln e' d)) = ((if e == e' then r else 0 : ℝ) : EReal) := by
  rw [show onLanes e x (ix2 i (ln e' d)) = Scalar.select (lanes e (ix2 i (ln e' d))) (x (ix2 i (ln e' d))) (Ideal.ofBits .f32 0x00000000#32) from rfl]
  rw [lanes_at, select_bit, h, Ideal.ofBits_zero_f32]
  cases (e == e') <;> rfl

theorem expo_at (X : Chunk) (s : FVec Ideal S64x576 .f32) (hs : ∀ i κ, s (ix2 i κ) = (X.S i κ : EReal)) (i : Fin 64) (κ : Fin 576) :
    expo s (ix2 i κ) = (X.E i κ : EReal) := by
  generalize hR : ((_ : ℝ) : EReal) = R
  pointwise [expo]
  simp only [hs]
  rw [show Ideal.ofBits FTy.f32 4286578688#32 = ⊥ from word_bot, fold_max_coe _ ⟨(0 : Fin 576), Finset.mem_univ _⟩, sub_coe, Ideal.exp_coe]
  exact hR

theorem normed_at (X : Chunk) (s : FVec Ideal S64x576 .f32) (hs : ∀ i κ, s (ix2 i κ) = (X.E i κ : EReal)) (i : Fin 64) (κ : Fin 576) :
    normed s (ix2 i κ) = (X.P i κ : EReal) := by
  generalize hR : ((_ : ℝ) : EReal) = R
  pointwise [normed, hs, sum_coe]
  rw [show (∑ κ', X.E i κ') = X.L i from rfl, one_coe, div_coe_coe (X.L_ne i), mul_coe]
  subst hR
  exact congrArg _ (mul_one_div _ _)

/-! ### The inputs' real numbers -/

/-- The chunk reads the numbers of `X`, one `Chunk` per head of the pair. -/
structure Reads (x : In Ideal) (X : Bool → Chunk) : Prop where
  q : ∀ e i d, x.q (ix2 i (ln e d)) = ((X e).Q i d : EReal)
  k : ∀ e κ d, x.k (ix2 κ (ln e d)) = ((X e).K κ d : EReal)
  v : ∀ e κ d, x.v (ix2 κ (ln e d)) = ((X e).V κ d : EReal)
  b : ∀ e i κ, x.b (ix3 (hd e) i κ) = ((X e).B i κ : EReal)
  dy : ∀ e i d, x.dy (ix2 i (ln e d)) = ((X e).G i d : EReal)
  vd : (x.vd = none ∧ ∀ e κ, (X e).ok κ = true) ∨ ∃ v, x.vd = some v ∧ ∀ e i κ, v (ix2 i κ) = BitVec.ofBool ((X e).ok κ)

namespace Reads

variable {x : In Ideal} {X : Bool → Chunk} (h : Reads x X)
include h

theorem masked_at (w : BitVec 32) (c : ℝ) (hw : Ideal.ofBits .f32 w = (c : EReal)) (y : FVec Ideal S64x576 .f32) (e : Bool) (i : Fin 64) (κ : Fin 576) (r : ℝ)
    (hy : y (ix2 i κ) = (r : EReal)) : masked w y x.vd (ix2 i κ) = ((if (X e).ok κ then r else c : ℝ) : EReal) := by
  rcases h.vd with ⟨hn, ho⟩ | ⟨v, hv, ho⟩
  · rw [hn, ho, if_pos rfl]; exact hy
  · rw [hv, show masked w y (some v) (ix2 i κ) = Scalar.select (v (ix2 i κ)) (y (ix2 i κ)) (Ideal.ofBits .f32 w) from rfl, ho e, select_bit, hy, hw]
    cases (X e).ok κ <;> rfl

theorem qm_at (e e' : Bool) (i d : Fin 64) : qm e x.q (ix2 i (ln e' d)) = ((if e == e' then (X e').Q i d * (1 / 8) else 0 : ℝ) : EReal) := by
  generalize hR : ((_ : ℝ) : EReal) = R
  pointwise [qm]
  rw [onLanes_at e e' (extf .f32 x.q bitsLt_bf16_f32) i d _ (h.q e' i d), word_eighth, mul_coe]
  subst hR
  cases (e == e')
  · exact congrArg _ (zero_mul _)
  · rfl

theorem bias_at (e : Bool) (i : Fin 64) (κ : Fin 576) : biasOf e x.b (ix2 i κ) = ((X e).B i κ : EReal) := by
  cases e
  · pointwise [biasOf]
    exact h.b false i κ
  · pointwise [biasOf]
    exact h.b true i κ

theorem scores_at (e : Bool) (i : Fin 64) (κ : Fin 576) : scores e x.q x.k x.b x.vd (ix2 i κ) = ((X e).S i κ : EReal) := by
  unfold scores
  refine h.masked_at _ _ word_low _ e i κ _ ?_
  rw [addf_apply, h.bias_at, Ideal.addf_def]
  rw [← add_coe]
  refine congrArg₂ _ ?_ rfl
  generalize hR : ((_ : ℝ) : EReal) = R
  pointwise []
  subst hR
  rw [sum_ln_coe _ (fun e' d => (if e == e' then (X e').Q i d * (1 / 8) else 0) * (X e').K κ d) fun e' d => by
    rw [h.qm_at]; unfold nar; rw [← mul_coe]; exact congrArg₂ _ rfl (h.k e' κ d)]
  refine congrArg _ ?_
  cases e
  · simp
  · simp

theorem p_at (e : Bool) (i : Fin 64) (κ : Fin 576) : x.p e (ix2 i κ) = ((X e).P i κ : EReal) :=
  normed_at (X e) _ (fun i κ => expo_at (X e) _ (fun i κ => h.scores_at e i κ) i κ) i κ

theorem dom_at (e e' : Bool) (i d : Fin 64) : dom e x.dy (ix2 i (ln e' d)) = ((if e == e' then (X e').G i d else 0 : ℝ) : EReal) := by
  refine onLanes_at e e' _ i d _ ?_
  rw [shapeCast_self]
  exact h.dy e' i d

theorem dprobs_at (e : Bool) (i : Fin 64) (κ : Fin 576) : dprobs e x.v x.dy (ix2 i κ) = ((X e).DP i κ : EReal) := by
  generalize hR : ((_ : ℝ) : EReal) = R
  pointwise [dprobs]
  subst hR
  rw [sum_ln_coe _ (fun e' d => (if e == e' then (X e').G i d else 0) * (X e').V κ d) fun e' d => by
    rw [← mul_coe]; exact congrArg₂ _ (h.dom_at e e' i d) (h.v e' κ d)]
  refine congrArg _ ?_
  cases e
  · simp [Chunk.DP]
  · simp [Chunk.DP]

theorem out_at (e e' : Bool) (i d : Fin 64) :
    matmul dot_S64x576_S576x128_S64x128_1_0_0_1_n_n none (truncf .bf16 (x.p e) bitsLt_bf16_f32) (nar x.v) (constant S64x128 .f32 0x00000000#32) (ix2 i (ln e' d))
      = ((∑ κ, (X e).P i κ * (X e').V κ d : ℝ) : EReal) := by
  generalize hR : ((_ : ℝ) : EReal) = R
  pointwise []
  subst hR
  rw [← sum_coe]
  refine Finset.sum_congr rfl fun κ _ => ?_
  rw [← mul_coe]
  exact congrArg₂ _ (h.p_at e i κ) (h.v e' κ d)

theorem delta_at (e : Bool) (i : Fin 64) : delta e (x.p e) x.v x.dy (ix2 i 0) = ((∑ κ, (X e).P i κ * (X e).DP i κ : ℝ) : EReal) := by
  rw [← (X e).delta i]
  unfold delta
  generalize hO : matmul dot_S64x576_S576x128_S64x128_1_0_0_1_n_n none (truncf .bf16 (x.p e) bitsLt_bf16_f32) (nar x.v) (constant S64x128 .f32 0x00000000#32) = O
  have hO' : ∀ e' i d, O (ix2 i (ln e' d)) = ((∑ κ, (X e).P i κ * (X e').V κ d : ℝ) : EReal) := fun e' i d => by rw [← hO]; exact h.out_at e e' i d
  generalize hR : ((_ : ℝ) : EReal) = R
  pointwise []
  subst hR
  rw [sum_ln_coe _ (fun e' d => (if e == e' then (X e').G i d else 0) * ∑ κ, (X e).P i κ * (X e').V κ d) fun e' d => by
    rw [← mul_coe]; exact congrArg₂ _ (h.dom_at e e' i d) (hO' e' i d)]
  refine congrArg _ ?_
  cases e
  · simp
  · simp

theorem ds_at (e : Bool) (i : Fin 64) (κ : Fin 576) : x.ds e (ix2 i κ) = ((X e).DS i κ : EReal) := by
  unfold In.ds dscoresOf
  refine h.masked_at _ _ (Ideal.ofBits_zero_f32.trans zero_coe) _ e i κ _ ?_
  rw [mulf_apply, subf_apply, h.p_at, h.dprobs_at, Ideal.mulf_def, Ideal.subf_def]
  have e1 : broadcastTo S64x576 (delta e (x.p e) x.v x.dy) broadcasts_S64x1_S64x576 (ix2 i κ) = delta e (x.p e) x.v x.dy (ix2 i 0) := by
    generalize delta e (x.p e) x.v x.dy = O
    pointwise []
  rw [e1, h.delta_at, sub_coe, mul_coe]

theorem dqOf_at (e e' : Bool) (i d : Fin 64) : x.dqOf e (ix2 i (ln e' d)) = ((if e == e' then (X e').dQ i d else 0 : ℝ) : EReal) := by
  by_cases he : e = e'
  · subst he
    refine onLanes_at e e _ i d _ ?_
    generalize hR : ((_ : ℝ) : EReal) = R
    pointwise []
    subst hR
    rw [word_eighth]
    unfold Chunk.dQ
    rw [← mul_coe, ← sum_coe]
    refine congrArg (· * _) (Finset.sum_congr rfl fun κ _ => ?_)
    rw [← mul_coe]
    exact congrArg₂ _ (h.ds_at e i κ) (h.k e κ d)
  · unfold In.dqOf
    rw [show (e == e') = false from beq_eq_false_iff_ne.mpr he]
    rw [show ∀ y : FVec Ideal S64x128 .f32, onLanes e y (ix2 i (ln e' d)) = Scalar.select (lanes e (ix2 i (ln e' d))) (y (ix2 i (ln e' d))) (Ideal.ofBits .f32 0x00000000#32) from fun _ => rfl]
    rw [lanes_at, select_bit, show (e == e') = false from beq_eq_false_iff_ne.mpr he, Ideal.ofBits_zero_f32]
    rfl

/-- The gradient of the queries. -/
theorem dq_at (e : Bool) (i d : Fin 64) : x.dq (ix2 i (ln e d)) = ((X e).dQ i d : EReal) := by
  rw [show x.dq (ix2 i (ln e d)) = x.dqOf true (ix2 i (ln e d)) + x.dqOf false (ix2 i (ln e d)) from rfl, h.dqOf_at, h.dqOf_at, add_coe]
  refine congrArg _ ?_
  cases e
  · exact zero_add _
  · exact add_zero _

theorem dkOf_at (e e' : Bool) (κ : Fin 576) (d : Fin 64) : x.dkOf e (ix2 κ (ln e' d)) = ((if e == e' then (X e').dK κ d else 0 : ℝ) : EReal) := by
  generalize hR : ((_ : ℝ) : EReal) = R
  pointwise [In.dkOf]
  subst hR
  simp only [h.ds_at, h.qm_at, mul_coe, sum_coe]
  refine congrArg _ ?_
  cases e <;> cases e' <;> simp [Chunk.dK]

/-- The gradient of the band of keys. -/
theorem dk_at (e : Bool) (κ : Fin 576) (d : Fin 64) : x.dk (ix2 κ (ln e d)) = ((X e).dK κ d : EReal) := by
  rw [show x.dk (ix2 κ (ln e d)) = x.dkOf true (ix2 κ (ln e d)) + x.dkOf false (ix2 κ (ln e d)) from rfl, h.dkOf_at, h.dkOf_at, add_coe]
  refine congrArg _ ?_
  cases e
  · exact zero_add _
  · exact add_zero _

theorem dvOf_at (e e' : Bool) (κ : Fin 576) (d : Fin 64) : x.dvOf e (ix2 κ (ln e' d)) = ((if e == e' then (X e').dV κ d else 0 : ℝ) : EReal) := by
  generalize hR : ((_ : ℝ) : EReal) = R
  pointwise [In.dvOf, don]
  subst hR
  simp only [h.p_at, h.dom_at, mul_coe, sum_coe]
  refine congrArg _ ?_
  cases e <;> cases e' <;> simp [Chunk.dV]

/-- The gradient of the band of values. -/
theorem dv_at (e : Bool) (κ : Fin 576) (d : Fin 64) : x.dv (ix2 κ (ln e d)) = ((X e).dV κ d : EReal) := by
  rw [show x.dv (ix2 κ (ln e d)) = x.dvOf false (ix2 κ (ln e d)) + x.dvOf true (ix2 κ (ln e d)) from rfl, h.dvOf_at, h.dvOf_at, add_coe]
  refine congrArg _ ?_
  cases e
  · exact add_zero _
  · exact zero_add _

/-- The parts of the gradient of the bias. -/
theorem db_at (e e' : Bool) (i : Fin 64) (κ : Fin 576) : x.db e (ix3 (hd e') i κ) = ((if e == e' then (X e').DS i κ else 0 : ℝ) : EReal) := by
  cases e <;> cases e'
  · pointwise [In.db, hd]
    exact h.ds_at false i κ
  · pointwise [In.db, hd]
    exact zero_coe
  · pointwise [In.db, hd]
    exact zero_coe
  · pointwise [In.db, hd]
    exact h.ds_at true i κ

end Reads

end Cert.KernelIdeal.Attn
-- ==== Proof.Attn.IdealBlock.lean ====
module

public import proofs.«01_k».proof.Proof.Attn.Block
public import proofs.«01_k».proof.Proof.Attn.IdealChunk
public import Idealize.ShloMosaic.Lib.Pointwise.IndexBridge

@[expose] public section

set_option maxRecDepth 16384

noncomputable section

namespace Cert.KernelIdeal.Attn

open Idealize.ShloMosaic Cert.KernelIdeal Cert.KernelIdeal.Gen Cert.Attn

/-! # One head pair of one batch member as real numbers -/

/-- A pair's head. -/
def head (hp : Fin 4) (e : Bool) : Fin 8 := if e then ⟨2 * hp.val + 1, by omega⟩ else ⟨2 * hp.val, by omega⟩

theorem window_at {α : Type} {n0 m0 n1 : ℕ} (x : (⟨2, ![n0, n1]⟩ : Shape).Idx → α) (o : ℕ) (inb : ∀ a, (![o, 0] : Fin 2 → ℕ) a + (![m0, n1] : Fin 2 → ℕ) a ≤ (⟨2, ![n0, n1]⟩ : Shape).size a)
    (i : Fin m0) (l : Fin n1) (hi : o + i.val < n0) :
    VecWindow.window x ![o, 0] ![m0, n1] inb (ix2 i l) = x (ix2 ⟨o + i.val, hi⟩ l) := by
  refine congrArg x (funext fun a => ?_)
  match a with
  | ⟨0, _⟩ => exact Fin.ext (show o + 1 * i.val = o + i.val by omega)
  | ⟨1, _⟩ => exact Fin.ext (show 0 + 1 * l.val = l.val by omega)

/-- The block's windows hold the numbers of the arguments. -/
structure BlockReads (a : Args) (β : Fin 2) (hp : Fin 4) (x0 x1 x2 : FVec Ideal S2048x128 .bf16) (x3 : FVec Ideal S2x64x576 .f32) (x4 : FVec Ideal S2048x128 .f32) : Prop where
  q : ∀ (s : Fin 2048) e (d : Fin 64), x0 (ix2 s (ln e d)) = (a.A ⟨2048 * β.val + s.val, by omega⟩ ⟨64 * (head hp e).val + d.val, by omega⟩ : EReal)
  k : ∀ (s : Fin 2048) e (d : Fin 64), x1 (ix2 s (ln e d)) = (a.A ⟨2048 * β.val + s.val, by omega⟩ ⟨512 + 64 * (head hp e).val + d.val, by omega⟩ : EReal)
  v : ∀ (s : Fin 2048) e (d : Fin 64), x2 (ix2 s (ln e d)) = (a.A ⟨2048 * β.val + s.val, by omega⟩ ⟨1024 + 64 * (head hp e).val + d.val, by omega⟩ : EReal)
  b : ∀ e (i : Fin 64) (κ : Fin 576), x3 (ix3 (hd e) i κ) = (a.R (head hp e) ⟨min (640 + i.val - κ.val) 256, by omega⟩ : EReal)
  dy : ∀ (s : Fin 2048) e (d : Fin 64), x4 (ix2 s (ln e d)) = (a.D ⟨2048 * β.val + s.val, by omega⟩ ⟨64 * (head hp e).val + d.val, by omega⟩ : EReal)

theorem valid_word : ∀ (n : Fin 8) (k : Fin 576), IntOp.cmpi CmpIPredicate.sge (IntOp.addi (BitVec.ofNat 32 k.val) (BitVec.ofNat 32 (64 * n.val))) 512#32 = BitVec.ofBool (decide (512 ≤ 64 * n.val + k.val)) := by
  decide +kernel

/-- Padded keys or values. -/
theorem padded_at (a : Args) (o : ℕ) (ho : o ≤ 1024) (β : Fin 2) (h : Fin 8) (x : FVec Ideal S2048x128 .bf16) (e : Bool)
    (hx : ∀ (s : Fin 2048) (d : Fin 64), x (ix2 s (ln e d)) = (a.A ⟨2048 * β.val + s.val, by omega⟩ ⟨o + 64 * h.val + d.val, by omega⟩ : EReal)) (t : Fin 2560) (d : Fin 64) :
    padded x (ix2 t (ln e d)) = (a.pad o ho β h t d : EReal) := by
  unfold padded Args.pad
  by_cases ht : 512 ≤ t.val
  · rw [dif_pos (show 512 ≤ ((ix2 t (ln e d) : S2560x128.Idx) 0).val from ht), dif_pos ht]
    exact hx ⟨t.val - 512, by omega⟩ d
  · rw [dif_neg (show ¬ 512 ≤ ((ix2 t (ln e d) : S2560x128.Idx) 0).val from ht), dif_neg ht]
    exact Ideal.ofBits_zero_f32.trans zero_coe

/-- Eight chunks' gradient of the bias. -/
theorem dbGroup_at (x : Fin 8 → In Ideal) (X : Fin 8 → Bool → Chunk) (h : ∀ j, Reads (x j) (X j)) (e : Bool) (i : Fin 64) (κ : Fin 576) :
    dbGroup x (ix3 (hd e) i κ) = ((∑ j, (X j e).DS i κ : ℝ) : EReal) := by
  unfold dbGroup
  simp only [addf_apply, Reads.db_at (h _), Ideal.addf_def, add_coe]
  refine congrArg _ ?_
  simp only [Fin.sum_univ_succ, Fin.sum_univ_zero]
  show _ = (X 0 e).DS i κ + ((X 1 e).DS i κ + ((X 2 e).DS i κ + ((X 3 e).DS i κ + ((X 4 e).DS i κ + ((X 5 e).DS i κ + ((X 6 e).DS i κ + ((X 7 e).DS i κ + 0)))))))
  cases e
  · simp; ring
  · simp; ring

theorem accStep_eq (item : Fin 32 → FVec Ideal S576x128 .f32) (c : Fin 32) (R : FVec Ideal S2560x128 .f32) :
    accStep item c R = VecWindow.put R ![64 * c.val, 0] S576x128.size (addf (VecWindow.window R ![64 * c.val, 0] S576x128.size (inbB c)) (item c)) := by
  unfold accStep
  exact congrArg (VecWindow.put R _ _) (shapeCast_self _ _)

/-- The items added chunk after chunk, at a row. -/
theorem acc_at (item : Fin 32 → FVec Ideal S576x128 .f32) (l : Fin 128) (f : Fin 32 → Fin 576 → ℝ)
    (hf : ∀ c κ, item c (ix2 κ l) = (f c κ : EReal)) (t : Fin 2560) (n : ℕ) (hn : n ≤ 32) :
    foldTo (accStep item) zeroPad n (ix2 t l)
      = ((∑ c ∈ Finset.range n, (if hc : c < 32 then (if ht : 64 * c ≤ t.val ∧ t.val < 64 * c + 576 then f ⟨c, hc⟩ ⟨t.val - 64 * c, by omega⟩ else 0) else 0) : ℝ) : EReal) := by
  induction n with
  | zero =>
    rw [Finset.sum_range_zero]
    unfold foldTo zeroPad
    rw [shapeCast_self]
    exact Ideal.ofBits_zero_f32.trans zero_coe
  | succ n ih =>
    rw [foldTo_succ _ _ ⟨n, by omega⟩ rfl, Finset.sum_range_succ, dif_pos (show n < 32 by omega)]
    specialize ih (by omega)
    generalize foldTo (accStep item) zeroPad n = R at ih ⊢
    rw [accStep_eq]
    unfold VecWindow.put
    by_cases ht : 64 * n ≤ t.val ∧ t.val < 64 * n + 576
    · have hm : ∀ a, (![64 * n, 0] : Fin 2 → ℕ) a ≤ ((ix2 t l : S2560x128.Idx) a).val ∧ ((ix2 t l : S2560x128.Idx) a).val < (![64 * n, 0] : Fin 2 → ℕ) a + S576x128.size a := by
        intro a; match a with
        | ⟨0, _⟩ => exact ht
        | ⟨1, _⟩ => exact ⟨Nat.zero_le _, by show l.val < 0 + 128; omega⟩
      rw [dif_pos hm, dif_pos ht, EReal.coe_add]
      have e : (Rect.unitLocal (s := S2560x128) (off := ![64 * n, 0]) (size := S576x128.size) (ix2 t l) hm : S576x128.Idx) = ix2 (n0 := 576) (n1 := 128) ⟨t.val - 64 * n, by omega⟩ l := by
        funext a
        match a with
        | ⟨0, _⟩ => rfl
        | ⟨1, _⟩ => exact Fin.ext (show l.val - 0 = l.val by omega)
      rw [show ∀ (y z : FVec Ideal S576x128 .f32), addf y z (Rect.unitLocal (s := S2560x128) (off := ![64 * n, 0]) (size := S576x128.size) (ix2 t l) hm) = y (ix2 ⟨t.val - 64 * n, by omega⟩ l) + z (ix2 ⟨t.val - 64 * n, by omega⟩ l) from fun y z => by rw [e]; rfl]
      rw [hf]
      refine congrArg (· + _) ?_
      rw [← ih]
      refine (window_at (n0 := 2560) (m0 := 576) (n1 := 128) R (64 * n) _ ⟨t.val - 64 * n, by omega⟩ l (by have := t.isLt; show 64 * n + (t.val - 64 * n) < 2560; omega)).trans ?_
      exact congrArg (fun r => R (ix2 r l)) (Fin.ext (show 64 * n + (t.val - 64 * n) = t.val by omega))
    · rw [dif_neg fun hall => ht (hall 0), dif_neg ht, add_zero]
      exact ih

theorem acc_done (item : Fin 32 → FVec Ideal S576x128 .f32) (l : Fin 128) (f : Fin 32 → Fin 576 → ℝ)
    (hf : ∀ c κ, item c (ix2 κ l) = (f c κ : EReal)) (t : Fin 2560) :
    foldTo (accStep item) zeroPad 32 (ix2 t l)
      = ((∑ c : Fin 32, (if ht : 64 * c.val ≤ t.val ∧ t.val < 64 * c.val + 576 then f c ⟨t.val - 64 * c.val, by omega⟩ else 0) : ℝ) : EReal) := by
  rw [acc_at item l f hf t 32 le_rfl, Finset.sum_range]
  exact congrArg _ (Finset.sum_congr rfl fun c _ => dif_pos c.isLt)

namespace BlockReads

variable {a : Args} {β : Fin 2} {hp : Fin 4} {x0 x1 x2 : FVec Ideal S2048x128 .bf16} {x3 : FVec Ideal S2x64x576 .f32} {x4 : FVec Ideal S2048x128 .f32}
variable (h : BlockReads a β hp x0 x1 x2 x3 x4)
include h

/-- What chunk `c` reads. -/
theorem reads (c : Fin 32) : Reads (blockIn x0 x1 x2 x3 x4 c) (fun e => a.chunk β (head hp e) c) where
  q e i d := (window_at (n0 := 2048) (m0 := 64) (n1 := 128) x0 (64 * c.val) (inbQ c) i (ln e d) (by omega)).trans (h.q ⟨64 * c.val + i.val, by omega⟩ e d)
  k e κ d := (window_at (n0 := 2560) (m0 := 576) (n1 := 128) (padded x1) (64 * c.val) (inbB c) κ (ln e d) (by omega)).trans
    (padded_at a 512 (by omega) β (head hp e) x1 e (fun s d => h.k s e d) ⟨64 * c.val + κ.val, by omega⟩ d)
  v e κ d := (window_at (n0 := 2560) (m0 := 576) (n1 := 128) (padded x2) (64 * c.val) (inbB c) κ (ln e d) (by omega)).trans
    (padded_at a 1024 (by omega) β (head hp e) x2 e (fun s d => h.v s e d) ⟨64 * c.val + κ.val, by omega⟩ d)
  b e i κ := by
    show shapeCast S2x64x576 x3 shapeCasts_S2x64x576_S2x64x576 (ix3 (hd e) i κ) = _
    rw [shapeCast_self]
    exact h.b e i κ
  dy e i d := (window_at (n0 := 2048) (m0 := 64) (n1 := 128) x4 (64 * c.val) (inbQ c) i (ln e d) (by omega)).trans (h.dy ⟨64 * c.val + i.val, by omega⟩ e d)
  vd := by
    by_cases hc : c.val < 8
    · refine .inr ⟨validOf (BitVec.ofNat 32 (64 * c.val)), if_pos hc, fun e i κ => ?_⟩
      pointwise [validOf]
      exact valid_word ⟨c.val, hc⟩ κ
    · exact .inl ⟨if_neg hc, fun e κ => decide_eq_true (show 512 ≤ 64 * c.val + κ.val by omega)⟩

/-- The block's query gradient. -/
theorem outDq_at (s : Fin 2048) (e : Bool) (d : Fin 64) : outDq x0 x1 x2 x3 x4 (ix2 s (ln e d)) = (a.dq β (head hp e) s d : EReal) :=
  (congrArg (blockIn x0 x1 x2 x3 x4 ⟨s.val / 64, by omega⟩).dq (ix2_eq_valueIdx _ _).symm).trans ((h.reads ⟨s.val / 64, by omega⟩).dq_at e ⟨s.val % 64, by omega⟩ d)

/-- The block's key gradient. -/
theorem outDk_at (s : Fin 2048) (e : Bool) (d : Fin 64) : outDk x0 x1 x2 x3 x4 (ix2 s (ln e d)) = (a.dk β (head hp e) ⟨512 + s.val, by omega⟩ d : EReal) :=
  (window_at (n0 := 2560) (m0 := 2048) (n1 := 128) (dkAll x0 x1 x2 x3 x4 32) 512 inbT s (ln e d) (by omega)).trans
    (acc_done _ (ln e d) (fun c κ => (a.chunk β (head hp e) c).dK κ d) (fun c κ => (h.reads c).dk_at e κ d) ⟨512 + s.val, by omega⟩)

/-- The block's value gradient. -/
theorem outDv_at (s : Fin 2048) (e : Bool) (d : Fin 64) : outDv x0 x1 x2 x3 x4 (ix2 s (ln e d)) = (a.dv β (head hp e) ⟨512 + s.val, by omega⟩ d : EReal) :=
  (window_at (n0 := 2560) (m0 := 2048) (n1 := 128) (dvAll x0 x1 x2 x3 x4 32) 512 inbT s (ln e d) (by omega)).trans
    (acc_done _ (ln e d) (fun c κ => (a.chunk β (head hp e) c).dV κ d) (fun c κ => (h.reads c).dv_at e κ d) ⟨512 + s.val, by omega⟩)

theorem dbStep_at (g : Fin 4) (R : FVec Ideal S2x64x576 .f32) (e : Bool) (i : Fin 64) (κ : Fin 576) (r : ℝ) (hr : R (ix3 (hd e) i κ) = (r : EReal)) :
    dbStep x0 x1 x2 x3 x4 g R (ix3 (hd e) i κ) = ((r + ∑ j : Fin 8, (a.chunk β (head hp e) ⟨8 * g.val + j.val, by omega⟩).DS i κ : ℝ) : EReal) := by
  unfold dbStep
  rw [addf_apply, shapeCast_self, hr, Ideal.addf_def,
    dbGroup_at (grp x0 x1 x2 x3 x4 g) (fun j e => a.chunk β (head hp e) ⟨8 * g.val + j.val, by omega⟩) (fun j => h.reads ⟨8 * g.val + j.val, by omega⟩), add_coe]

/-- The block's bias gradient over a prior one. -/
theorem outDb_at (R : FVec Ideal S2x64x576 .f32) (e : Bool) (i : Fin 64) (κ : Fin 576) (r : ℝ) (hr : R (ix3 (hd e) i κ) = (r : EReal)) :
    outDb x0 x1 x2 x3 x4 R (ix3 (hd e) i κ) = ((r + a.db1 β (head hp e) i κ : ℝ) : EReal) := by
  unfold outDb
  rw [h.dbStep_at 3 _ e i κ _ (h.dbStep_at 2 _ e i κ _ (h.dbStep_at 1 _ e i κ _ (h.dbStep_at 0 R e i κ r hr)))]
  refine congrArg _ ?_
  unfold Args.db1
  rw [Fin.sum_univ_tiles 4 8 rfl]
  have e1 : ∀ (g : Fin 4) (j : Fin 8), (⟨8 * g.val + j.val, by omega⟩ : Fin 32) = ⟨g.val * 8 + j.val, by omega⟩ := fun g j => Fin.ext (by simp only; omega)
  simp only [e1]
  rw [Fin.sum_univ_four]
  ring

end BlockReads

end Cert.KernelIdeal.Attn
-- ==== Proof.Attn.Table.lean ====
module

public import proofs.«01_k».proof.Proof.Attn.Launch
public import Idealize.ShloMosaic.Lib.Pointwise

@[expose] public section

set_option maxRecDepth 16384

noncomputable section

namespace Cert.KernelIdeal.Attn

open Idealize.ShloMosaic Idealize.ShloMosaic.TcCoe Cert.KernelIdeal Cert.KernelIdeal.Gen

/-! # The table of biases the host makes -/

section Table
variable {F : FTy → Type} [FloatOps F]

/-- Each head's biases by distance, the furthest repeated. -/
def far (x : FVec F S8x257 .f32) : FVec F S8x639 .f32 :=
  concatenate S8x639 1 [⟨S8x192, extractStridedSlice S8x192 ![0, 65] x slices_S8x257_S8x192_0_65⟩,
    ⟨S8x447, broadcastInDim S8x447 ![0, 1] bcast_S8x1_S8x447_0_1 (extractStridedSlice S8x1 ![0, 256] x slices_S8x257_S8x1_0_256)⟩] concatenates_S8x192_S8x447_S8x639_d1

/-- The row that the table's rows are shifts of. -/
def strip (x : FVec F S8x639 .f32) : FVec F S8x639 .f32 :=
  concatenate S8x639 1 [⟨S8x576, Host.reverse [1] (extractStridedSlice S8x576 ![0, 0] x slices_S8x639_S8x576_0_0)⟩,
    ⟨S8x63, Host.reverse [1] (extractStridedSlice S8x63 ![0, 576] x slices_S8x639_S8x63_0_576)⟩] concatenates_S8x576_S8x63_S8x639_d1

/-- The shifts. -/
def shifts (x : FVec F S8x639 .f32) : FVec F S8x64x576 .f32 :=
  extractStridedSlice S8x64x576 ![0, 0, 0] (shapeCast S8x64x638 (extractStridedSlice S8x40832 ![0, 0]
    (shapeCast S8x40896 (broadcastInDim S1x8x64x639 ![0, 1, 2, 3] bcast_S1x8x1x639_S1x8x64x639_0_1_2_3 (shapeCast S1x8x1x639 x shapeCasts_S8x639_S1x8x1x639)) shapeCasts_S1x8x64x639_S8x40896)
    slices_S8x40896_S8x40832_0_0) shapeCasts_S8x40832_S8x64x638) slices_S8x64x638_S8x64x576_0_0_0

variable (m : (ℓ : Loc nD τ sig) → Buf (Elt F) ℓ)

theorem V_table (c : Dev nD) : V m c main_v14 = shifts (strip (far (m ((c : Thread nD τ).loc main_arg1)))) := by
  show StableHlo.after hostOps0 _ (Proc.devRef .tc main_v14) = _
  after_results
  rfl

end Table

/-- A bias is read at its distance, the furthest for those beyond it. -/
theorem far_at (x : FVec Ideal S8x257 .f32) (h : Fin 8) (j : Fin 639) :
    far x (ix2 h j) = x (ix2 h ⟨min (65 + j.val) 256, by omega⟩) := by
  pointwise [far]
  split
  · exact congrArg (fun k => x (ix2 h k)) (Fin.ext (by show 65 + j.val = min (65 + j.val) 256; omega))
  · exact congrArg (fun k => x (ix2 h k)) (Fin.ext (by show 256 = min (65 + j.val) 256; omega))

/-- The strip holds the distances downwards, first those up to the query's own place, then the rest. -/
theorem strip_at (x : FVec Ideal S8x639 .f32) (h : Fin 8) (j : Fin 639) (k : Fin 639)
    (hk : (j.val < 576 ∧ k.val = 575 - j.val) ∨ (576 ≤ j.val ∧ k.val = 1214 - j.val)) :
    strip x (ix2 h j) = x (ix2 h k) := by
  pointwise [strip]
  have hj := j.isLt
  split
  · refine congrArg x (funext fun a => ?_)
    match a with
    | ⟨0, _⟩ => rfl
    | ⟨1, _⟩ =>
      refine Fin.ext (show (Fin.rev (⟨j.val, by omega⟩ : Fin 576)).val = k.val from ?_)
      rw [Fin.val_rev]
      show 576 - (j.val + 1) = k.val
      omega
  · refine congrArg x (funext fun a => ?_)
    match a with
    | ⟨0, _⟩ => rfl
    | ⟨1, _⟩ =>
      refine Fin.ext (show 576 + (Fin.rev (⟨j.val - 576, by omega⟩ : Fin 63)).val = k.val from ?_)
      rw [Fin.val_rev]
      show 576 + (63 - (j.val - 576 + 1)) = k.val
      omega

/-- Row `i` of the table is the strip moved by `i` lanes. -/
theorem shifts_at (x : FVec Ideal S8x639 .f32) (h : Fin 8) (i : Fin 64) (κ : Fin 576) :
    shifts x (ix3 h i κ) = x (ix2 h ⟨(638 * i.val + κ.val) % 639, by omega⟩) := by
  pointwise [shifts]
  exact congrArg (fun k => x (ix2 h k)) (Fin.ext (by show (i.val * 638 + κ.val) % 639 = _; rw [Nat.mul_comm]))

/-- The table's entry for a query and a key is the bias of their distance. -/
theorem table_at (x : FVec Ideal S8x257 .f32) (h : Fin 8) (i : Fin 64) (κ : Fin 576) :
    shifts (strip (far x)) (ix3 h i κ) = x (ix2 h ⟨min (640 + i.val - κ.val) 256, by omega⟩) := by
  have hi := i.isLt
  have hκ := κ.isLt
  rw [shifts_at, strip_at _ _ _ ⟨575 + i.val - κ.val, by omega⟩ (by
    show ((638 * i.val + κ.val) % 639 < 576 ∧ 575 + i.val - κ.val = 575 - (638 * i.val + κ.val) % 639)
      ∨ (576 ≤ (638 * i.val + κ.val) % 639 ∧ 575 + i.val - κ.val = 1214 - (638 * i.val + κ.val) % 639)
    omega), far_at]
  exact congrArg (fun k => x (ix2 h k)) (Fin.ext (by
    show min (65 + (575 + i.val - κ.val)) 256 = min (640 + i.val - κ.val) 256; omega))

end Cert.KernelIdeal.Attn
-- ==== Proof.Attn.Arrays.lean ====
module

public import proofs.«01_k».proof.Proof.Attn.Launch
public import proofs.«01_k».proof.Proof.Attn.IdealBlock
public import proofs.«01_k».proof.Proof.Attn.Table
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Cert.KernelIdeal Cert.KernelIdeal.Gen Cert.Attn

/-! # From the grid's blocks to the whole arrays -/

theorem points (t : Fin cfg0.N) : t.val < 8 := lt_of_lt_of_eq t.isLt (show cfg0.N = 8 from N_0)

/-- Where each window's block starts: a point's remainder by two is its batch member, the quotient its pair of heads. -/
theorem index_0 : ∀ t : Fin cfg0.N, win0_0.index t (0 : Fin 2) = t.val % 2 ∧ win0_0.index t (1 : Fin 2) = t.val / 2 := (by decide +kernel : ∀ t : Fin grid0.N, _)
theorem index_1 : ∀ t : Fin cfg0.N, win0_1.index t (0 : Fin 2) = t.val % 2 ∧ win0_1.index t (1 : Fin 2) = 4 + t.val / 2 := (by decide +kernel : ∀ t : Fin grid0.N, _)
theorem index_2 : ∀ t : Fin cfg0.N, win0_2.index t (0 : Fin 2) = t.val % 2 ∧ win0_2.index t (1 : Fin 2) = 8 + t.val / 2 := (by decide +kernel : ∀ t : Fin grid0.N, _)
theorem index_3 : ∀ t : Fin cfg0.N, win0_3.index t (0 : Fin 3) = t.val / 2 ∧ win0_3.index t (1 : Fin 3) = 0 ∧ win0_3.index t (2 : Fin 3) = 0 := (by decide +kernel : ∀ t : Fin grid0.N, _)
theorem index_4 : ∀ t : Fin cfg0.N, win0_4.index t (0 : Fin 2) = t.val % 2 ∧ win0_4.index t (1 : Fin 2) = t.val / 2 := (by decide +kernel : ∀ t : Fin grid0.N, _)
theorem index_5 : ∀ t : Fin cfg0.N, win0_5.index t (0 : Fin 2) = t.val % 2 ∧ win0_5.index t (1 : Fin 2) = t.val / 2 := (by decide +kernel : ∀ t : Fin grid0.N, _)
theorem index_6 : ∀ t : Fin cfg0.N, win0_6.index t (0 : Fin 2) = t.val % 2 ∧ win0_6.index t (1 : Fin 2) = t.val / 2 := (by decide +kernel : ∀ t : Fin grid0.N, _)
theorem index_7 : ∀ t : Fin cfg0.N, win0_7.index t (0 : Fin 2) = t.val % 2 ∧ win0_7.index t (1 : Fin 2) = t.val / 2 := (by decide +kernel : ∀ t : Fin grid0.N, _)
theorem index_8 : ∀ t : Fin cfg0.N, win0_8.index t (0 : Fin 3) = t.val / 2 ∧ win0_8.index t (1 : Fin 3) = 0 ∧ win0_8.index t (2 : Fin 3) = 0 := (by decide +kernel : ∀ t : Fin grid0.N, _)

/-- Where a block's entry lies in its array. -/
theorem emb_0 (t : Fin cfg0.N) (s : Fin 2048) (l : Fin 128) :
    ((cfg0.win 0).blk t).view.emb (ix2 s l) = (ix2 (n0 := 4096) (n1 := 5760) ⟨2048 * (t.val % 2) + s.val, by omega⟩ ⟨128 * (t.val / 2) + l.val, by have := points t; omega⟩) := by
  obtain ⟨e0, e1⟩ := index_0 t
  funext a; apply Fin.ext
  match a with
  | ⟨0, _⟩ => show win0_0.index t (0 : Fin 2) * 2048 + 1 * s.val = 2048 * (t.val % 2) + s.val; omega
  | ⟨1, _⟩ => show win0_0.index t (1 : Fin 2) * 128 + 1 * l.val = 128 * (t.val / 2) + l.val; omega
theorem emb_1 (t : Fin cfg0.N) (s : Fin 2048) (l : Fin 128) :
    ((cfg0.win 1).blk t).view.emb (ix2 s l) = (ix2 (n0 := 4096) (n1 := 5760) ⟨2048 * (t.val % 2) + s.val, by omega⟩ ⟨512 + 128 * (t.val / 2) + l.val, by have := points t; omega⟩) := by
  obtain ⟨e0, e1⟩ := index_1 t
  funext a; apply Fin.ext
  match a with
  | ⟨0, _⟩ => show win0_1.index t (0 : Fin 2) * 2048 + 1 * s.val = 2048 * (t.val % 2) + s.val; omega
  | ⟨1, _⟩ => show win0_1.index t (1 : Fin 2) * 128 + 1 * l.val = 512 + 128 * (t.val / 2) + l.val; omega
theorem emb_2 (t : Fin cfg0.N) (s : Fin 2048) (l : Fin 128) :
    ((cfg0.win 2).blk t).view.emb (ix2 s l) = (ix2 (n0 := 4096) (n1 := 5760) ⟨2048 * (t.val % 2) + s.val, by omega⟩ ⟨1024 + 128 * (t.val / 2) + l.val, by have := points t; omega⟩) := by
  obtain ⟨e0, e1⟩ := index_2 t
  funext a; apply Fin.ext
  match a with
  | ⟨0, _⟩ => show win0_2.index t (0 : Fin 2) * 2048 + 1 * s.val = 2048 * (t.val % 2) + s.val; omega
  | ⟨1, _⟩ => show win0_2.index t (1 : Fin 2) * 128 + 1 * l.val = 1024 + 128 * (t.val / 2) + l.val; omega
theorem emb_3 (t : Fin cfg0.N) (e : Fin 2) (i : Fin 64) (κ : Fin 576) :
    ((cfg0.win 3).blk t).view.emb (ix3 e i κ) = (ix3 (n0 := 8) (n1 := 64) (n2 := 576) ⟨2 * (t.val / 2) + e.val, by have := points t; omega⟩ i κ) := by
  obtain ⟨e0, e1, e2⟩ := index_3 t
  funext a; apply Fin.ext
  match a with
  | ⟨0, _⟩ => show win0_3.index t (0 : Fin 3) * 2 + 1 * e.val = 2 * (t.val / 2) + e.val; omega
  | ⟨1, _⟩ => show win0_3.index t (1 : Fin 3) * 64 + 1 * i.val = i.val; omega
  | ⟨2, _⟩ => show win0_3.index t (2 : Fin 3) * 576 + 1 * κ.val = κ.val; omega
theorem emb_4 (t : Fin cfg0.N) (s : Fin 2048) (l : Fin 128) :
    ((cfg0.win 4).blk t).view.emb (ix2 s l) = (ix2 (n0 := 4096) (n1 := 512) ⟨2048 * (t.val % 2) + s.val, by omega⟩ ⟨128 * (t.val / 2) + l.val, by have := points t; omega⟩) := by
  obtain ⟨e0, e1⟩ := index_4 t
  funext a; apply Fin.ext
  match a with
  | ⟨0, _⟩ => show win0_4.index t (0 : Fin 2) * 2048 + 1 * s.val = 2048 * (t.val % 2) + s.val; omega
  | ⟨1, _⟩ => show win0_4.index t (1 : Fin 2) * 128 + 1 * l.val = 128 * (t.val / 2) + l.val; omega
theorem emb_5 (t : Fin cfg0.N) (s : Fin 2048) (l : Fin 128) :
    ((cfg0.win 5).blk t).view.emb (ix2 s l) = (ix2 (n0 := 4096) (n1 := 512) ⟨2048 * (t.val % 2) + s.val, by omega⟩ ⟨128 * (t.val / 2) + l.val, by have := points t; omega⟩) := by
  obtain ⟨e0, e1⟩ := index_5 t
  funext a; apply Fin.ext
  match a with
  | ⟨0, _⟩ => show win0_5.index t (0 : Fin 2) * 2048 + 1 * s.val = 2048 * (t.val % 2) + s.val; omega
  | ⟨1, _⟩ => show win0_5.index t (1 : Fin 2) * 128 + 1 * l.val = 128 * (t.val / 2) + l.val; omega
theorem emb_6 (t : Fin cfg0.N) (s : Fin 2048) (l : Fin 128) :
    ((cfg0.win 6).blk t).view.emb (ix2 s l) = (ix2 (n0 := 4096) (n1 := 512) ⟨2048 * (t.val % 2) + s.val, by omega⟩ ⟨128 * (t.val / 2) + l.val, by have := points t; omega⟩) := by
  obtain ⟨e0, e1⟩ := index_6 t
  funext a; apply Fin.ext
  match a with
  | ⟨0, _⟩ => show win0_6.index t (0 : Fin 2) * 2048 + 1 * s.val = 2048 * (t.val % 2) + s.val; omega
  | ⟨1, _⟩ => show win0_6.index t (1 : Fin 2) * 128 + 1 * l.val = 128 * (t.val / 2) + l.val; omega
theorem emb_7 (t : Fin cfg0.N) (s : Fin 2048) (l : Fin 128) :
    ((cfg0.win 7).blk t).view.emb (ix2 s l) = (ix2 (n0 := 4096) (n1 := 512) ⟨2048 * (t.val % 2) + s.val, by omega⟩ ⟨128 * (t.val / 2) + l.val, by have := points t; omega⟩) := by
  obtain ⟨e0, e1⟩ := index_7 t
  funext a; apply Fin.ext
  match a with
  | ⟨0, _⟩ => show win0_7.index t (0 : Fin 2) * 2048 + 1 * s.val = 2048 * (t.val % 2) + s.val; omega
  | ⟨1, _⟩ => show win0_7.index t (1 : Fin 2) * 128 + 1 * l.val = 128 * (t.val / 2) + l.val; omega
theorem emb_8 (t : Fin cfg0.N) (e : Fin 2) (i : Fin 64) (κ : Fin 576) :
    ((cfg0.win 8).blk t).view.emb (ix3 e i κ) = (ix3 (n0 := 8) (n1 := 64) (n2 := 576) ⟨2 * (t.val / 2) + e.val, by have := points t; omega⟩ i κ) := by
  obtain ⟨e0, e1, e2⟩ := index_8 t
  funext a; apply Fin.ext
  match a with
  | ⟨0, _⟩ => show win0_8.index t (0 : Fin 3) * 2 + 1 * e.val = 2 * (t.val / 2) + e.val; omega
  | ⟨1, _⟩ => show win0_8.index t (1 : Fin 3) * 64 + 1 * i.val = i.val; omega
  | ⟨2, _⟩ => show win0_8.index t (2 : Fin 3) * 576 + 1 * κ.val = κ.val; omega

variable (m : (ℓ : Loc nD τ sig) → Buf (Elt Ideal) ℓ)

theorem bq_at (c : Dev nD) (t : Fin cfg0.N) (s : Fin 2048) (l : Fin 128) : bq m c t (ix2 s l) = m ((c : Thread nD τ).loc main_arg0) (ix2 (n0 := 4096) (n1 := 5760) ⟨2048 * (t.val % 2) + s.val, by omega⟩ ⟨128 * (t.val / 2) + l.val, by have := points t; omega⟩) := by
  show V m c main_arg0 (((cfg0.win 0).blk t).view.emb (ix2 s l)) = _
  rw [emb_0, V_main_arg0]
theorem bk_at (c : Dev nD) (t : Fin cfg0.N) (s : Fin 2048) (l : Fin 128) : bk m c t (ix2 s l) = m ((c : Thread nD τ).loc main_arg0) (ix2 (n0 := 4096) (n1 := 5760) ⟨2048 * (t.val % 2) + s.val, by omega⟩ ⟨512 + 128 * (t.val / 2) + l.val, by have := points t; omega⟩) := by
  show V m c main_arg0 (((cfg0.win 1).blk t).view.emb (ix2 s l)) = _
  rw [emb_1, V_main_arg0]
theorem bv_at (c : Dev nD) (t : Fin cfg0.N) (s : Fin 2048) (l : Fin 128) : bv m c t (ix2 s l) = m ((c : Thread nD τ).loc main_arg0) (ix2 (n0 := 4096) (n1 := 5760) ⟨2048 * (t.val % 2) + s.val, by omega⟩ ⟨1024 + 128 * (t.val / 2) + l.val, by have := points t; omega⟩) := by
  show V m c main_arg0 (((cfg0.win 2).blk t).view.emb (ix2 s l)) = _
  rw [emb_2, V_main_arg0]
theorem bb_at (c : Dev nD) (t : Fin cfg0.N) (e : Fin 2) (i : Fin 64) (κ : Fin 576) : bb m c t (ix3 e i κ) = V m c main_v14 (ix3 (n0 := 8) (n1 := 64) (n2 := 576) ⟨2 * (t.val / 2) + e.val, by have := points t; omega⟩ i κ) := by
  show V m c main_v14 (((cfg0.win 3).blk t).view.emb (ix3 e i κ)) = _
  rw [emb_3]
theorem bg_at (c : Dev nD) (t : Fin cfg0.N) (s : Fin 2048) (l : Fin 128) : bg m c t (ix2 s l) = m ((c : Thread nD τ).loc main_arg2) (ix2 (n0 := 4096) (n1 := 512) ⟨2048 * (t.val % 2) + s.val, by omega⟩ ⟨128 * (t.val / 2) + l.val, by have := points t; omega⟩) := by
  show V m c main_arg2 (((cfg0.win 4).blk t).view.emb (ix2 s l)) = _
  rw [emb_4, V_main_arg2]

/-! # The arrays the kernel leaves -/

section Arrays
variable (a : Args) (c : Dev nD)
  (hA : ∀ r l, l.val < 1536 → m ((c : Thread nD τ).loc main_arg0) (ix2 (n0 := 4096) (n1 := 5760) r l) = (a.A r l : EReal))
  (hR : ∀ h j, m ((c : Thread nD τ).loc main_arg1) (ix2 (n0 := 8) (n1 := 257) h j) = (a.R h j : EReal))
  (hD : ∀ r l, m ((c : Thread nD τ).loc main_arg2) (ix2 (n0 := 4096) (n1 := 512) r l) = (a.D r l : EReal))

/-- A point's batch member and pair of heads. -/
def member (t : Fin cfg0.N) : Fin 2 := ⟨t.val % 2, by omega⟩
def pair (t : Fin cfg0.N) : Fin 4 := ⟨t.val / 2, by have := points t; omega⟩

theorem ln_val (e : Bool) (d : Fin 64) (hp : Fin 4) : 128 * hp.val + (ln e d).val = 64 * (head hp e).val + d.val := by
  cases e
  · show 128 * hp.val + d.val = 64 * (2 * hp.val) + d.val; omega
  · show 128 * hp.val + (64 + d.val) = 64 * (2 * hp.val + 1) + d.val; omega

theorem hd_val (e : Bool) (hp : Fin 4) : 2 * hp.val + (hd e).val = (head hp e).val := by
  cases e
  · rfl
  · rfl

theorem ln_onto (l : Fin 128) : ∃ e d, l = ln e d := by
  by_cases h : l.val < 64
  · exact ⟨false, ⟨l.val, h⟩, rfl⟩
  · exact ⟨true, ⟨l.val - 64, by omega⟩, Fin.ext (show l.val = 64 + (l.val - 64) by omega)⟩

theorem hd_onto (l : Fin 2) : ∃ e, l = hd e := by
  match l with
  | ⟨0, _⟩ => exact ⟨false, rfl⟩
  | ⟨1, _⟩ => exact ⟨true, rfl⟩

include hA hR hD

theorem blockReads (t : Fin cfg0.N) : BlockReads a (member t) (pair t) (bq m c t) (bk m c t) (bv m c t) (bb m c t) (bg m c t) where
  q s e d := by
    rw [bq_at, hA _ _ (show 128 * (t.val / 2) + (ln e d).val < 1536 by have := points t; have := (ln e d).isLt; omega)]
    exact congrArg (fun l => (a.A _ l : EReal)) (Fin.ext (ln_val e d (pair t)))
  k s e d := by
    rw [bk_at, hA _ _ (show 512 + 128 * (t.val / 2) + (ln e d).val < 1536 by have := points t; have := (ln e d).isLt; omega)]
    exact congrArg (fun l => (a.A _ l : EReal)) (Fin.ext (show 512 + 128 * (pair t).val + (ln e d).val = 512 + 64 * (head (pair t) e).val + d.val by have := ln_val e d (pair t); omega))
  v s e d := by
    rw [bv_at, hA _ _ (show 1024 + 128 * (t.val / 2) + (ln e d).val < 1536 by have := points t; have := (ln e d).isLt; omega)]
    exact congrArg (fun l => (a.A _ l : EReal)) (Fin.ext (show 1024 + 128 * (pair t).val + (ln e d).val = 1024 + 64 * (head (pair t) e).val + d.val by have := ln_val e d (pair t); omega))
  b e i κ := by
    rw [bb_at, V_table, table_at, hR]
    exact congrArg (fun h => (a.R h _ : EReal)) (Fin.ext (hd_val e (pair t)))
  dy s e d := by
    rw [bg_at, hD]
    exact congrArg (fun l => (a.D _ l : EReal)) (Fin.ext (ln_val e d (pair t)))

end Arrays

/-- An array of the rows of both batch members and the lanes of all heads. -/
def rows (f : Fin 2 → Fin 8 → Fin 2048 → Fin 64 → ℝ) : FVec Ideal S4096x512 .bf16 := fun i =>
  (f ⟨(i 0).val / 2048, by have := (i 0).isLt; show (i 0).val / 2048 < 2; have : (i 0).val < 4096 := (i 0).isLt; omega⟩
    ⟨(i 1).val / 64, by have : (i 1).val < 512 := (i 1).isLt; omega⟩ ⟨(i 0).val % 2048, by omega⟩ ⟨(i 1).val % 64, by omega⟩ : EReal)

theorem rows_at (f : Fin 2 → Fin 8 → Fin 2048 → Fin 64 → ℝ) (β : Fin 2) (h : Fin 8) (s : Fin 2048) (d : Fin 64) (r : Fin 4096) (l : Fin 512)
    (hr : r.val = 2048 * β.val + s.val) (hl : l.val = 64 * h.val + d.val) : rows f (ix2 r l) = (f β h s d : EReal) := by
  show (f ⟨r.val / 2048, _⟩ ⟨l.val / 64, _⟩ ⟨r.val % 2048, _⟩ ⟨l.val % 64, _⟩ : EReal) = _
  have e0 : (⟨r.val / 2048, by omega⟩ : Fin 2) = β := Fin.ext (show r.val / 2048 = β.val by omega)
  have e1 : (⟨l.val / 64, by omega⟩ : Fin 8) = h := Fin.ext (show l.val / 64 = h.val by omega)
  have e2 : (⟨r.val % 2048, by omega⟩ : Fin 2048) = s := Fin.ext (show r.val % 2048 = s.val by omega)
  have e3 : (⟨l.val % 64, by omega⟩ : Fin 64) = d := Fin.ext (show l.val % 64 = d.val by omega)
  rw [e0, e1, e2, e3]

/-- The bias' gradient as an array. -/
def table (f : Fin 8 → Fin 64 → Fin 576 → ℝ) : FVec Ideal S8x64x576 .f32 := fun i => (f (i 0) (i 1) (i 2) : EReal)

section Finals
variable (a : Args) (c : Dev nD)
  (hA : ∀ r l, l.val < 1536 → m ((c : Thread nD τ).loc main_arg0) (ix2 (n0 := 4096) (n1 := 5760) r l) = (a.A r l : EReal))
  (hR : ∀ h j, m ((c : Thread nD τ).loc main_arg1) (ix2 (n0 := 8) (n1 := 257) h j) = (a.R h j : EReal))
  (hD : ∀ r l, m ((c : Thread nD τ).loc main_arg2) (ix2 (n0 := 4096) (n1 := 512) r l) = (a.D r l : EReal))

/-- Every row and lane is written at one point. -/
theorem onto (r : Fin 4096) (l : Fin 512) : ∃ (t : Fin cfg0.N) (s : Fin 2048) (k : Fin 128), r.val = 2048 * (t.val % 2) + s.val ∧ l.val = 128 * (t.val / 2) + k.val :=
  ⟨⟨2 * (l.val / 128) + r.val / 2048, by show _ < cfg0.N; rw [show cfg0.N = 8 from N_0]; omega⟩, ⟨r.val % 2048, by omega⟩, ⟨l.val % 128, by omega⟩,
    by show r.val = 2048 * ((2 * (l.val / 128) + r.val / 2048) % 2) + r.val % 2048; omega,
    by show l.val = 128 * ((2 * (l.val / 128) + r.val / 2048) / 2) + l.val % 128; omega⟩

include hA hR hD in
theorem final_5 : (dats m 0 c).arrAt 5 cfg0.N = rows (fun β h s d => a.dq β h s d) := by
  refine (dats m 0 c).arrAt_eq_of_cover 5 (rows (fun β h s d => a.dq β h s d)) (fun t _ => ?_) (fun i => ?_)
  · funext j
    obtain ⟨s, l, rfl⟩ : ∃ (s : Fin 2048) (l : Fin 128), j = ix2 s l := ⟨j 0, j 1, funext fun a => by match a with | ⟨0, _⟩ => rfl | ⟨1, _⟩ => rfl⟩
    obtain ⟨e, d, rfl⟩ := ln_onto l
    show (dats m 0 c).after 5 t (ix2 s (ln e d)) = rows (fun β h s d => a.dq β h s d) (((cfg0.win 5).blk t).view.emb (ix2 s (ln e d)))
    rw [after_5, emb_5, (blockReads m a c hA hR hD t).outDq_at s e d]
    exact (rows_at (fun β h s d => a.dq β h s d) (member t) (head (pair t) e) s d _ _ (by rfl) (by exact ln_val e d (pair t))).symm
  · obtain ⟨r, l, rfl⟩ : ∃ (r : Fin 4096) (l : Fin 512), i = ix2 r l := ⟨i 0, i 1, funext fun a => by match a with | ⟨0, _⟩ => rfl | ⟨1, _⟩ => rfl⟩
    obtain ⟨t, s, k, h0, h1⟩ := onto r l
    refine ⟨t, flush0_5 t, ?_⟩
    have h := ((cfg0.win 5).blk t).view.emb_mem_set (ix2 s k)
    rw [emb_5] at h
    rwa [show (ix2 r l : S4096x512.Idx) = ix2 ⟨2048 * (t.val % 2) + s.val, by omega⟩ ⟨128 * (t.val / 2) + k.val, by omega⟩ from congrArg₂ ix2 (Fin.ext h0) (Fin.ext h1)]

include hA hR hD in
theorem final_6 : (dats m 0 c).arrAt 6 cfg0.N = rows (fun β h s d => a.dk β h ⟨512 + s.val, by omega⟩ d) := by
  refine (dats m 0 c).arrAt_eq_of_cover 6 (rows (fun β h s d => a.dk β h ⟨512 + s.val, by omega⟩ d)) (fun t _ => ?_) (fun i => ?_)
  · funext j
    obtain ⟨s, l, rfl⟩ : ∃ (s : Fin 2048) (l : Fin 128), j = ix2 s l := ⟨j 0, j 1, funext fun a => by match a with | ⟨0, _⟩ => rfl | ⟨1, _⟩ => rfl⟩
    obtain ⟨e, d, rfl⟩ := ln_onto l
    show (dats m 0 c).after 6 t (ix2 s (ln e d)) = rows (fun β h s d => a.dk β h ⟨512 + s.val, by omega⟩ d) (((cfg0.win 6).blk t).view.emb (ix2 s (ln e d)))
    rw [after_6, emb_6, (blockReads m a c hA hR hD t).outDk_at s e d]
    exact (rows_at (fun β h s d => a.dk β h ⟨512 + s.val, by omega⟩ d) (member t) (head (pair t) e) s d _ _ (by rfl) (by exact ln_val e d (pair t))).symm
  · obtain ⟨r, l, rfl⟩ : ∃ (r : Fin 4096) (l : Fin 512), i = ix2 r l := ⟨i 0, i 1, funext fun a => by match a with | ⟨0, _⟩ => rfl | ⟨1, _⟩ => rfl⟩
    obtain ⟨t, s, k, h0, h1⟩ := onto r l
    refine ⟨t, flush0_6 t, ?_⟩
    have h := ((cfg0.win 6).blk t).view.emb_mem_set (ix2 s k)
    rw [emb_6] at h
    rwa [show (ix2 r l : S4096x512.Idx) = ix2 ⟨2048 * (t.val % 2) + s.val, by omega⟩ ⟨128 * (t.val / 2) + k.val, by omega⟩ from congrArg₂ ix2 (Fin.ext h0) (Fin.ext h1)]

include hA hR hD in
theorem final_7 : (dats m 0 c).arrAt 7 cfg0.N = rows (fun β h s d => a.dv β h ⟨512 + s.val, by omega⟩ d) := by
  refine (dats m 0 c).arrAt_eq_of_cover 7 (rows (fun β h s d => a.dv β h ⟨512 + s.val, by omega⟩ d)) (fun t _ => ?_) (fun i => ?_)
  · funext j
    obtain ⟨s, l, rfl⟩ : ∃ (s : Fin 2048) (l : Fin 128), j = ix2 s l := ⟨j 0, j 1, funext fun a => by match a with | ⟨0, _⟩ => rfl | ⟨1, _⟩ => rfl⟩
    obtain ⟨e, d, rfl⟩ := ln_onto l
    show (dats m 0 c).after 7 t (ix2 s (ln e d)) = rows (fun β h s d => a.dv β h ⟨512 + s.val, by omega⟩ d) (((cfg0.win 7).blk t).view.emb (ix2 s (ln e d)))
    rw [after_7, emb_7, (blockReads m a c hA hR hD t).outDv_at s e d]
    exact (rows_at (fun β h s d => a.dv β h ⟨512 + s.val, by omega⟩ d) (member t) (head (pair t) e) s d _ _ (by rfl) (by exact ln_val e d (pair t))).symm
  · obtain ⟨r, l, rfl⟩ : ∃ (r : Fin 4096) (l : Fin 512), i = ix2 r l := ⟨i 0, i 1, funext fun a => by match a with | ⟨0, _⟩ => rfl | ⟨1, _⟩ => rfl⟩
    obtain ⟨t, s, k, h0, h1⟩ := onto r l
    refine ⟨t, flush0_7 t, ?_⟩
    have h := ((cfg0.win 7).blk t).view.emb_mem_set (ix2 s k)
    rw [emb_7] at h
    rwa [show (ix2 r l : S4096x512.Idx) = ix2 ⟨2048 * (t.val % 2) + s.val, by omega⟩ ⟨128 * (t.val / 2) + k.val, by omega⟩ from congrArg₂ ix2 (Fin.ext h0) (Fin.ext h1)]

include hA hR hD in
theorem dbOne_at (t : Fin cfg0.N) (e : Bool) (i : Fin 64) (κ : Fin 576) :
    dbOne m c t (ix3 (hd e) i κ) = (a.db1 (member t) (head (pair t) e) i κ : EReal) := by
  unfold dbOne
  rw [(blockReads m a c hA hR hD t).outDb_at dbZero e i κ 0 (Ideal.ofBits_zero_f32.trans zero_coe), zero_add]

include hA hR hD in
theorem dbAt_at (t : Fin cfg0.N) (ht : t.val % 2 = 1) (e : Bool) (i : Fin 64) (κ : Fin 576) :
    dbAt m c t (ix3 (hd e) i κ) = (a.db (head (pair t) e) i κ : EReal) := by
  have hp : pair (pred t) = pair t := Fin.ext (show (t.val - 1) / 2 = t.val / 2 by omega)
  have h0 : member (pred t) = 0 := Fin.ext (show (t.val - 1) % 2 = 0 by omega)
  have h1 : member t = 1 := Fin.ext ht
  have hone := dbOne_at m a c hA hR hD (pred t) e i κ
  rw [hp, h0] at hone
  unfold dbAt
  rw [if_neg (by omega), (blockReads m a c hA hR hD t).outDb_at (dbOne m c (pred t)) e i κ _ hone, h1]
  exact congrArg (fun x : ℝ => (x : EReal)) (Fin.sum_univ_two (fun β => a.db1 β (head (pair t) e) i κ)).symm

include hA hR hD in
theorem final_8 : (dats m 0 c).arrAt 8 cfg0.N = table a.db := by
  refine (dats m 0 c).arrAt_eq_of_cover 8 (table a.db) (fun t ht => ?_) (fun i => ?_)
  · funext j
    obtain ⟨e, i, κ, rfl⟩ : ∃ (e : Fin 2) (i : Fin 64) (κ : Fin 576), j = ix3 e i κ := ⟨j 0, j 1, j 2, funext fun a => by match a with | ⟨0, _⟩ => rfl | ⟨1, _⟩ => rfl | ⟨2, _⟩ => rfl⟩
    obtain ⟨e, rfl⟩ := hd_onto e
    show (dats m 0 c).after 8 t (ix3 (hd e) i κ) = table a.db (((cfg0.win 8).blk t).view.emb (ix3 (hd e) i κ))
    rw [after_8, emb_8, dbAt_at m a c hA hR hD t (by have := (flush0_8 t).mp ht; omega)]
    exact congrArg (fun h => (a.db h i κ : EReal)) (Fin.ext (hd_val e (pair t)).symm)
  · obtain ⟨h, i, κ, rfl⟩ : ∃ (h : Fin 8) (k : Fin 64) (κ : Fin 576), i = ix3 h k κ := ⟨i 0, i 1, i 2, funext fun a => by match a with | ⟨0, _⟩ => rfl | ⟨1, _⟩ => rfl | ⟨2, _⟩ => rfl⟩
    have hh := h.isLt
    obtain ⟨t, ht⟩ : ∃ t : Fin cfg0.N, t.val = 2 * (h.val / 2) + 1 := ⟨⟨2 * (h.val / 2) + 1, by show _ < cfg0.N; rw [show cfg0.N = 8 from N_0]; omega⟩, rfl⟩
    refine ⟨t, (flush0_8 t).mpr (by omega), ?_⟩
    have k := ((cfg0.win 8).blk t).view.emb_mem_set (ix3 (⟨h.val % 2, by omega⟩ : Fin 2) i κ)
    rw [emb_8] at k
    rwa [show (ix3 h i κ : S8x64x576.Idx) = ix3 ⟨2 * (t.val / 2) + h.val % 2, by omega⟩ i κ from congrArg (fun h => ix3 h i κ) (Fin.ext (show h.val = 2 * (t.val / 2) + h.val % 2 by omega))]

end Finals

end Cert.KernelIdeal.Attn
-- ==== Proof.Attn.RefScores.lean ====
module

public import proofs.«01_k».proof.Proof.Gen.ReferenceIdeal.Read
public import proofs.«01_k».proof.Proof.Attn.Spec

@[expose] public section

set_option maxRecDepth 16384
set_option maxHeartbeats 4000000

noncomputable section

namespace Cert.ReferenceIdeal.Attn

open Idealize.ShloMosaic Cert.ReferenceIdeal Cert.ReferenceIdeal.Gen Cert.ReferenceIdeal.Value Cert.ReferenceIdeal.Read Cert.Attn

variable (a : Args) (x0 : FVec Ideal S4096x5760 .bf16) (h0 : ∀ r l, l.val < 1536 → x0 (ix2 r l) = (a.A r l : EReal))
variable (x1 : FVec Ideal S8x257 .f32) (h1 : ∀ r l, x1 (ix2 r l) = (a.R r l : EReal))
variable (x2 : FVec Ideal S4096x512 .f32) (h2 : ∀ r l, x2 (ix2 r l) = (a.D r l : EReal))

/-! # The reference's scores and weights, read at an index -/

theorem A_congr {r r' : Fin 4096} {l l' : Fin 5760} (hr : r.val = r'.val) (hl : l.val = l'.val) : (a.A r l : EReal) = (a.A r' l' : EReal) := by
  rw [Fin.ext hr, Fin.ext hl]

theorem D_congr {r r' : Fin 4096} {l l' : Fin 512} (hr : r.val = r'.val) (hl : l.val = l'.val) : (a.D r l : EReal) = (a.D r' l' : EReal) := by
  rw [Fin.ext hr, Fin.ext hl]

include h0 in
theorem v30 (β : Fin 2) (n : Fin 32) (i : Fin 64) (h : Fin 8) (d : Fin 64) :
    val_main_v30 (F := Ideal) x0 (ix5 β n i h d) = (((a.chunk β h n).Q i d * (1 / 8) : ℝ) : EReal) := by
  pointwise [val_main_v30, val_main_v29, val_main_cst, val_main_v28, val_main_v3, val_main_v2, val_main_v1, val_main_v0]
  rw [h0 _ _ (by simp only; omega), word_eighth, EReal.coe_mul]
  refine congrArg (· * _) (A_congr a ?_ ?_) <;> simp only <;> omega

include h2 in
theorem v166 (β : Fin 2) (n : Fin 32) (i : Fin 64) (h : Fin 8) (d : Fin 64) :
    val_main_v166 (F := Ideal) x2 (ix5 β n i h d) = ((a.chunk β h n).G i d : EReal) := by
  pointwise [val_main_v166, val_main_v27]
  rw [h2]
  refine D_congr a ?_ ?_ <;> simp only <;> omega

include h0 in
theorem v33 (β : Fin 2) (m : Fin 40) (r : Fin 64) (h : Fin 8) (d : Fin 64) :
    val_main_v33 (F := Ideal) x0 (ix5 β m r h d) = (a.pad 512 (by omega) β h ⟨64 * m.val + r.val, by omega⟩ d : EReal) := by
  pointwise [val_main_v33]
  unfold Args.pad
  by_cases hm : m.val < 8
  · rw [dif_pos hm, dif_neg (show ¬ 512 ≤ 64 * m.val + r.val by omega)]
    exact (show val_main_v31 (F := Ideal) _ = Ideal.ofBits .f32 0x00000000#32 from rfl).trans Ideal.ofBits_zero_f32
  · rw [dif_neg hm, dif_pos (show 512 ≤ 64 * m.val + r.val by omega)]
    pointwise [val_main_v32, val_main_v5, val_main_v4, val_main_v1, val_main_v0]
    rw [h0 _ _ (by simp only; omega)]
    refine A_congr a ?_ ?_ <;> simp only <;> omega

include h0 in
theorem v36 (β : Fin 2) (m : Fin 40) (r : Fin 64) (h : Fin 8) (d : Fin 64) :
    val_main_v36 (F := Ideal) x0 (ix5 β m r h d) = (a.pad 1024 (by omega) β h ⟨64 * m.val + r.val, by omega⟩ d : EReal) := by
  pointwise [val_main_v36]
  unfold Args.pad
  by_cases hm : m.val < 8
  · rw [dif_pos hm, dif_neg (show ¬ 512 ≤ 64 * m.val + r.val by omega)]
    exact (show val_main_v34 (F := Ideal) _ = Ideal.ofBits .f32 0x00000000#32 from rfl).trans Ideal.ofBits_zero_f32
  · rw [dif_neg hm, dif_pos (show 512 ≤ 64 * m.val + r.val by omega)]
    pointwise [val_main_v35, val_main_v7, val_main_v6, val_main_v1, val_main_v0]
    rw [h0 _ _ (by simp only; omega)]
    refine A_congr a ?_ ?_ <;> simp only <;> omega

include h0 in
/-- The scores before mask and bias, window by window. -/
theorem v66 (β : Fin 2) (n : Fin 32) (i : Fin 64) (κ : Fin 576) (h : Fin 8) :
    val_main_v66 (F := Ideal) x0 (ix5 β h n i κ) = ((∑ d, ((a.chunk β h n).Q i d * (1 / 8)) * (a.chunk β h n).K κ d : ℝ) : EReal) := by
  have key : ∀ k : Fin 2560, k.val = 64 * n.val + κ.val →
      ((∑ d, ((a.chunk β h n).Q i d * (1 / 8)) * a.pad 512 (by omega) β h k d : ℝ) : EReal)
        = ((∑ d, ((a.chunk β h n).Q i d * (1 / 8)) * (a.chunk β h n).K κ d : ℝ) : EReal) := by
    intro k e
    rw [show k = ⟨64 * n.val + κ.val, by omega⟩ from Fin.ext e]
    rfl
  pointwise [val_main_v66, val_main_v65, val_main_v56, val_main_v57, val_main_v58, val_main_v59, val_main_v60, val_main_v61, val_main_v62, val_main_v63, val_main_v64,
    val_main_v39, val_main_v41, val_main_v43, val_main_v45, val_main_v47, val_main_v49, val_main_v51, val_main_v53, val_main_v55,
    val_main_v38, val_main_v40, val_main_v42, val_main_v44, val_main_v46, val_main_v48, val_main_v50, val_main_v52, val_main_v54]
  simp only [v30 a x0 h0, v33 a x0 h0, mul_coe, sum_coe]
  repeat' split
  all_goals exact key _ (by simp only; omega)

end Cert.ReferenceIdeal.Attn
-- ==== Proof.Attn.RefWeights.lean ====
module

public import proofs.«01_k».proof.Proof.Gen.ReferenceIdeal.Read
public import proofs.«01_k».proof.Proof.Attn.RefScores

@[expose] public section

set_option maxRecDepth 16384
set_option maxHeartbeats 4000000

noncomputable section

namespace Cert.ReferenceIdeal.Attn

open Idealize.ShloMosaic Cert.ReferenceIdeal Cert.ReferenceIdeal.Gen Cert.ReferenceIdeal.Value Cert.ReferenceIdeal.Read Cert.Attn

variable (a : Args) (x0 : FVec Ideal S4096x5760 .bf16) (h0 : ∀ r l, l.val < 1536 → x0 (ix2 r l) = (a.A r l : EReal))
variable (x1 : FVec Ideal S8x257 .f32) (h1 : ∀ r l, x1 (ix2 r l) = (a.R r l : EReal))
variable (x2 : FVec Ideal S4096x512 .f32) (h2 : ∀ r l, x2 (ix2 r l) = (a.D r l : EReal))

/-! # The reference's mask, bias and weights, read at an index -/

theorem ok_word : ∀ (n : Fin 32) (j : Fin 9),
    IntOp.cmpi CmpIPredicate.sge (IntOp.addi (BitVec.ofNat 32 n.val) (BitVec.ofNat 32 j.val)) 8#32 = BitVec.ofBool (decide (8 ≤ n.val + j.val)) := by
  decide +kernel

theorem v82_1 (β : Fin 2) (n : Fin 32) (i : Fin 64) (κ : Fin 576) (h : Fin 8) :
    val_main_v82_1 (F := Ideal) (ix5 β h n i κ) = BitVec.ofBool ((a.chunk β h n).ok κ) := by
  pointwise [val_main_v82_1, val_main_v78, val_main_v77, val_main_v76, val_main_v75, val_main_v74, val_main_v73, val_main_v72, val_main_v71, val_main_v70, val_main_v69, val_main_v68, val_main_v67, val_main_c_8]
  rw [ok_word n ⟨κ.val / 64, by omega⟩]
  refine congrArg BitVec.ofBool ?_
  simp only [Args.chunk, decide_eq_decide]
  omega

/-! ### The bias -/

/-- The index the reference computes from a difference of positions. -/
def clipped (x : BitVec 32) : BitVec 32 :=
  Scalar.select (IntOp.cmpi CmpIPredicate.slt (IntOp.addi (IntOp.minsi 128#32 (IntOp.maxsi 4294967168#32 x)) 128#32) 0#32)
    (IntOp.addi (IntOp.addi (IntOp.minsi 128#32 (IntOp.maxsi 4294967168#32 x)) 128#32) 257#32)
    (IntOp.addi (IntOp.minsi 128#32 (IntOp.maxsi 4294967168#32 x)) 128#32)

theorem clipped_pos : ∀ d : Fin 577, (clipped (BitVec.ofNat 32 d.val)).toInt.toNat = min (128 + d.val) 256 := by decide +kernel

theorem clipped_neg : ∀ d : Fin 577, (clipped (-BitVec.ofNat 32 d.val)).toInt.toNat = 128 - d.val := by decide +kernel

theorem clipped_sub (x y : ℕ) (hx : x ≤ 576) (hy : y ≤ 576) :
    (clipped (IntOp.subi (BitVec.ofNat 32 x) (BitVec.ofNat 32 y))).toInt.toNat = min (128 + x - y) 256 := by
  rcases Nat.le_total y x with h | h
  · have e : IntOp.subi (BitVec.ofNat 32 x) (BitVec.ofNat 32 y) = BitVec.ofNat 32 (x - y) := by
      obtain ⟨k, rfl⟩ := Nat.exists_eq_add_of_le h
      show BitVec.ofNat 32 (y + k) - BitVec.ofNat 32 y = _
      rw [BitVec.ofNat_add, BitVec.add_comm, BitVec.add_sub_cancel, Nat.add_sub_cancel_left]
    rw [e, clipped_pos ⟨x - y, by omega⟩]
    simp only; omega
  · have e : IntOp.subi (BitVec.ofNat 32 x) (BitVec.ofNat 32 y) = -BitVec.ofNat 32 (y - x) := by
      obtain ⟨k, rfl⟩ := Nat.exists_eq_add_of_le h
      show BitVec.ofNat 32 x - BitVec.ofNat 32 (x + k) = _
      rw [BitVec.ofNat_add, Nat.add_sub_cancel_left]
      generalize BitVec.ofNat 32 x = p
      generalize BitVec.ofNat 32 k = q
      rw [BitVec.sub_eq_add_neg, BitVec.neg_add, BitVec.sub_eq_add_neg, ← BitVec.add_assoc, BitVec.add_right_neg, BitVec.zero_add]
    rw [e, clipped_neg ⟨y - x, by omega⟩]
    simp only; omega

theorem v24 (i : Fin 64) (κ : Fin 576) :
    val_main_v24 (F := Ideal) (ix2 i κ) = clipped (IntOp.subi (BitVec.ofNat 32 (512 + i.val)) (BitVec.ofNat 32 κ.val)) := by
  rw [BitVec.ofNat_add]
  rfl

include h1 in
theorem v26 (h : Fin 8) (i : Fin 64) (κ : Fin 576) :
    val_main_v26 (F := Ideal) x1 (ix3 h i κ) = ((a.R h ⟨min (640 + i.val - κ.val) 256, by omega⟩ : ℝ) : EReal) := by
  rw [← h1]
  show x1 _ = x1 _
  refine congrArg x1 ?_
  funext b
  refine Fin.ext ?_
  match b with
  | ⟨0, _⟩ => exact (Nat.zero_add _).trans rfl
  | ⟨1, _⟩ =>
    have key : ∀ k : S64x576.Idx, k = ix2 i κ → min (val_main_v24 (F := Ideal) k).toInt.toNat 256 + 0 + 0 = min (640 + i.val - κ.val) 256 := by
      rintro k rfl
      rw [v24, clipped_sub (512 + i.val) κ.val (by omega) (by omega)]
      omega
    refine key _ (funext fun b => Fin.ext ?_)
    match b with
    | ⟨0, _⟩ => rfl
    | ⟨1, _⟩ => rfl

/-! ### The softmax -/

theorem cst_9 (j : S_.Idx) : val_main_cst_9 (F := Ideal) j = (low : EReal) := word_low

theorem cst_10 (j : S_.Idx) : val_main_cst_10 (F := Ideal) j = (⊥ : EReal) := word_bot

theorem cst_12 (j : S_.Idx) : val_main_cst_12 (F := Ideal) j = (⊥ : EReal) := word_bot

theorem select_ofBool (b : Bool) (x y : EReal) : Scalar.select (BitVec.ofBool b) x y = if b then x else y := by
  cases b <;> rfl

include h0 h1 in
theorem v81 (β : Fin 2) (n : Fin 32) (i : Fin 64) (κ : Fin 576) (h : Fin 8) :
    val_main_v81 (F := Ideal) x0 x1 (ix5 β h n i κ)
      = (((∑ d, ((a.chunk β h n).Q i d * (1 / 8)) * (a.chunk β h n).K κ d) + (a.chunk β h n).B i κ : ℝ) : EReal) := by
  generalize hR : ((_ : ℝ) : EReal) = R
  unfold val_main_v81
  rw [addf_apply]
  pointwise [val_main_v80, val_main_v79]
  rw [v66 a x0 h0, v26 a x1 h1, add_coe, ← hR]
  rfl

include h0 h1 in
theorem v82_0 (β : Fin 2) (n : Fin 32) (i : Fin 64) (κ : Fin 576) (h : Fin 8) :
    val_main_v82_0 (F := Ideal) x0 x1 (ix5 β h n i κ) = ((a.chunk β h n).S i κ : EReal) := by
  show Scalar.select (val_main_v82_1 (F := Ideal) (ix5 β h n i κ)) (val_main_v81 (F := Ideal) x0 x1 (ix5 β h n i κ)) (val_main_cst_9 (F := Ideal) (fun a => a.elim0)) = _
  rw [v82_1 a, v81 a x0 h0 x1 h1, cst_9, select_ofBool, ite_coe]
  rfl

include h0 h1 in
theorem v90 (β : Fin 2) (n : Fin 32) (i : Fin 64) (h : Fin 8) :
    val_main_v90 (F := Ideal) x0 x1 (ix4 β h n i) = ((a.chunk β h n).M i : EReal) := by
  unfold val_main_v90
  rw [maximumf_apply]
  pointwise [val_main_v89, cst_12, val_main_v83, cst_10, v82_0 a x0 h0 x1 h1]
  rw [fold_max_coe _ ⟨(0 : Fin 576), Finset.mem_univ _⟩]
  exact max_eq_right bot_le

include h0 h1 in
theorem v103 (β : Fin 2) (n : Fin 32) (i : Fin 64) (κ : Fin 576) (h : Fin 8) :
    val_main_v103 (F := Ideal) x0 x1 (ix5 β h n i κ) = ((a.chunk β h n).E i κ : EReal) := by
  pointwise [val_main_v103, val_main_v102, val_main_v101, val_main_v100, v82_0 a x0 h0 x1 h1, v90 a x0 h0 x1 h1, sub_coe, Ideal.exp_coe]
  rfl

include h0 h1 in
theorem v104 (β : Fin 2) (n : Fin 32) (i : Fin 64) (h : Fin 8) :
    val_main_v104 (F := Ideal) x0 x1 (ix4 β h n i) = ((a.chunk β h n).L i : EReal) := by
  pointwise [val_main_v104, val_main_cst_18, v103 a x0 h0 x1 h1, sum_coe]
  rfl

include h0 h1 in
theorem v107 (β : Fin 2) (n : Fin 32) (i : Fin 64) (κ : Fin 576) (h : Fin 8) :
    val_main_v107 (F := Ideal) x0 x1 (ix5 β h n i κ) = ((a.chunk β h n).P i κ : EReal) := by
  pointwise [val_main_v107, val_main_v106, val_main_v105, v103 a x0 h0 x1 h1, v104 a x0 h0 x1 h1]
  rw [div_coe_coe ((a.chunk β h n).L_ne i)]
  rfl

include h0 h1 in
theorem v110 (β : Fin 2) (n : Fin 32) (i : Fin 64) (h : Fin 8) :
    val_main_v110 (F := Ideal) x0 x1 (ix5 β h n i 0) = ((1 / ((a.chunk β h n).L i * (a.chunk β h n).L i) : ℝ) : EReal) := by
  pointwise [val_main_v110, val_main_v109, val_main_cst_19, val_main_v108, val_main_v105, v104 a x0 h0 x1 h1, mul_coe]
  rw [one_coe, div_coe_coe (mul_ne_zero ((a.chunk β h n).L_ne i) ((a.chunk β h n).L_ne i))]

end Cert.ReferenceIdeal.Attn
-- ==== Proof.Attn.RefBack.lean ====
module

public import proofs.«01_k».proof.Proof.Gen.ReferenceIdeal.Read
public import proofs.«01_k».proof.Proof.Attn.RefWeights

@[expose] public section

set_option maxRecDepth 16384
set_option maxHeartbeats 4000000

noncomputable section

namespace Cert.ReferenceIdeal.Attn

open Idealize.ShloMosaic Cert.ReferenceIdeal Cert.ReferenceIdeal.Gen Cert.ReferenceIdeal.Value Cert.ReferenceIdeal.Read Cert.Attn

variable (a : Args) (x0 : FVec Ideal S4096x5760 .bf16) (h0 : ∀ r l, l.val < 1536 → x0 (ix2 r l) = (a.A r l : EReal))
variable (x1 : FVec Ideal S8x257 .f32) (h1 : ∀ r l, x1 (ix2 r l) = (a.R r l : EReal))
variable (x2 : FVec Ideal S4096x512 .f32) (h2 : ∀ r l, x2 (ix2 r l) = (a.D r l : EReal))

/-! # The reference's gradients, read at an index -/

/-! ### Sums over the band -/

/-- Nine terms in the order of the programs. -/
theorem nine {M : Type} [AddCommMonoid M] (t : Fin 9 → M) : t 8 + t 7 + t 6 + t 5 + t 4 + t 3 + t 2 + t 1 + t 0 = ∑ j, t j := by
  simp only [Fin.sum_univ_succ, Fin.sum_univ_zero]
  show _ = t 0 + (t 1 + (t 2 + (t 3 + (t 4 + (t 5 + (t 6 + (t 7 + (t 8 + 0))))))))
  abel

theorem nine_coe (t : Fin 9 → ℝ) :
    (t 8 : EReal) + (t 7 : EReal) + (t 6 : EReal) + (t 5 : EReal) + (t 4 : EReal) + (t 3 : EReal) + (t 2 : EReal) + (t 1 : EReal) + (t 0 : EReal)
      = ((∑ j, t j : ℝ) : EReal) := by
  rw [← sum_coe]
  exact nine fun j => (t j : EReal)

theorem pick (m : Fin 9) (f : Fin 9 → ℝ) : ∑ j : Fin 9, (if _h : m.val = j.val then f j else 0) = f m := by
  rw [Finset.sum_eq_single m]
  · exact dif_pos rfl
  · exact fun j _ hj => dif_neg fun e => hj (Fin.ext e.symm)
  · exact fun hm => absurd (Finset.mem_univ _) hm

/-- A block of an array padded with zeros. -/
theorem padded {c c' : Prop} [Decidable c] [Decidable c'] {f : c → EReal} {z : ¬c → EReal} {y : c' → ℝ} (hc : c ↔ c')
    (hf : ∀ k k', f k = (y k' : EReal)) (hz : ∀ k, z k = 0) : dite c f z = ((dite c' y fun _ => 0 : ℝ) : EReal) := by
  by_cases k : c
  · rw [dif_pos k, dif_pos (hc.mp k)]
    exact hf k _
  · rw [dif_neg k, dif_neg fun k' => k (hc.mpr k')]
    exact hz k

/-- The sum over the chunks whose band holds a row, as a sum over the band's nine blocks. -/
theorem banded (m : Fin 40) (r : Fin 64) (f : Fin 32 → Fin 576 → ℝ) :
    (∑ n : Fin 32, if ht : 64 * n.val ≤ 64 * m.val + r.val ∧ 64 * m.val + r.val < 64 * n.val + 576 then f n ⟨64 * m.val + r.val - 64 * n.val, by omega⟩ else 0)
      = ∑ j : Fin 9, if hj : j.val ≤ m.val ∧ m.val - j.val < 32 then f ⟨m.val - j.val, hj.2⟩ ⟨64 * j.val + r.val, by omega⟩ else 0 := by
  have e1 : ∀ n : Fin 32, (if ht : 64 * n.val ≤ 64 * m.val + r.val ∧ 64 * m.val + r.val < 64 * n.val + 576 then f n ⟨64 * m.val + r.val - 64 * n.val, by omega⟩ else 0)
      = ∑ j : Fin 9, if n.val + j.val = m.val then f n ⟨64 * j.val + r.val, by omega⟩ else 0 := fun n => by
    by_cases ht : 64 * n.val ≤ 64 * m.val + r.val ∧ 64 * m.val + r.val < 64 * n.val + 576
    · rw [dif_pos ht, Finset.sum_eq_single ⟨m.val - n.val, by omega⟩]
      · rw [if_pos (show n.val + (m.val - n.val) = m.val by omega)]
        exact congrArg (f n) (Fin.ext (by simp only; omega))
      · exact fun j _ hj => if_neg fun e => hj (Fin.ext (by simp only; omega))
      · exact fun hm => absurd (Finset.mem_univ _) hm
    · rw [dif_neg ht]
      exact (Finset.sum_eq_zero fun j _ => if_neg (by omega)).symm
  have e2 : ∀ j : Fin 9, (if hj : j.val ≤ m.val ∧ m.val - j.val < 32 then f ⟨m.val - j.val, hj.2⟩ ⟨64 * j.val + r.val, by omega⟩ else 0)
      = ∑ n : Fin 32, if n.val + j.val = m.val then f n ⟨64 * j.val + r.val, by omega⟩ else 0 := fun j => by
    by_cases hj : j.val ≤ m.val ∧ m.val - j.val < 32
    · rw [dif_pos hj, Finset.sum_eq_single ⟨m.val - j.val, hj.2⟩]
      · rw [if_pos (show m.val - j.val + j.val = m.val by omega)]
      · exact fun n _ hn => if_neg fun e => hn (Fin.ext (by simp only; omega))
      · exact fun hm => absurd (Finset.mem_univ _) hm
    · rw [dif_neg hj]
      exact (Finset.sum_eq_zero fun n _ => if_neg (by omega)).symm
  simp only [e1, e2]
  exact Finset.sum_comm

/-- The host's sum over the batch members and the chunks. -/
theorem sum_0_2 {n0 n1 n2 n3 n4 : ℕ} (hr : (⟨5, ![n0, n1, n2, n3, n4]⟩ : Shape).ReducesTo [0, 2] ⟨3, ![n1, n3, n4]⟩)
    (v : (⟨5, ![n0, n1, n2, n3, n4]⟩ : Shape).Idx → EReal) (init : EReal) (b : Fin n1) (e : Fin n3) (f : Fin n4) :
    Ideal.hostReduceAdd hr v init (ix3 b e f) = init + ∑ p : Fin n0 × Fin n2, v (ix5 p.1 b p.2 e f) := by
  unfold Ideal.hostReduceAdd
  congr 1
  symm
  refine Finset.sum_bij (fun p _ => ix5 p.1 b p.2 e f) ?_ ?_ ?_ (fun _ _ => rfl)
  · intro p _
    rw [Finset.mem_filter]
    refine ⟨Finset.mem_univ _, ?_⟩
    funext c
    match c with
    | ⟨0, _⟩ => exact Fin.ext rfl
    | ⟨1, _⟩ => exact Fin.ext rfl
    | ⟨2, _⟩ => exact Fin.ext rfl
  · intro p _ q _ e
    exact Prod.ext (congrFun e 0) (congrFun e 2)
  · intro i hi
    have hd := (Finset.mem_filter.mp hi).2
    refine ⟨(i 0, i 2), Finset.mem_univ _, ?_⟩
    have k0 : i 1 = b := Fin.ext (congrArg Fin.val (congrFun hd 0))
    have k1 : i 3 = e := Fin.ext (congrArg Fin.val (congrFun hd 1))
    have k2 : i 4 = f := Fin.ext (congrArg Fin.val (congrFun hd 2))
    rw [← k0, ← k1, ← k2]
    exact ix5_eta i

include h0 h2 in
theorem v254 (β : Fin 2) (n : Fin 32) (i : Fin 64) (m : Fin 9) (r : Fin 64) (h : Fin 8) :
    val_main_v254 (F := Ideal) x0 x2 (ix6 β h n i m r) = ((a.chunk β h n).DP i ⟨64 * m.val + r.val, by omega⟩ : EReal) := by
  have key : ∀ (t : Fin 2560) (κ : Fin 576), t.val = 64 * n.val + κ.val →
      (∑ d, ((a.chunk β h n).G i d : EReal) * (a.pad 1024 (by omega) β h t d : EReal)) = ((a.chunk β h n).DP i κ : EReal) := by
    intro t κ e
    rw [show t = ⟨64 * n.val + κ.val, by omega⟩ from Fin.ext e]
    simp only [mul_coe, sum_coe]
    rfl
  rw [show val_main_v254 (F := Ideal) x0 x2 (ix6 β h n i m r) = val_main_v174 (F := Ideal) x0 x2 (ix6 β h n i m r) + val_main_v183 (F := Ideal) x0 x2 (ix6 β h n i m r) + val_main_v193 (F := Ideal) x0 x2 (ix6 β h n i m r) + val_main_v203 (F := Ideal) x0 x2 (ix6 β h n i m r) + val_main_v213 (F := Ideal) x0 x2 (ix6 β h n i m r) + val_main_v223 (F := Ideal) x0 x2 (ix6 β h n i m r) + val_main_v233 (F := Ideal) x0 x2 (ix6 β h n i m r) + val_main_v243 (F := Ideal) x0 x2 (ix6 β h n i m r) + val_main_v253 (F := Ideal) x0 x2 (ix6 β h n i m r) from rfl]
  refine Eq.trans ?_ ((nine_coe fun j => if _h : m.val = j.val then (a.chunk β h n).DP i ⟨64 * j.val + r.val, by omega⟩ else 0).trans
    (congrArg _ (pick m fun j => (a.chunk β h n).DP i ⟨64 * j.val + r.val, by omega⟩)))
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    pointwise [val_main_v253, val_main_v243, val_main_v233, val_main_v223, val_main_v213, val_main_v203, val_main_v193, val_main_v183, val_main_v174,
      val_main_v252, val_main_v242, val_main_v232, val_main_v222, val_main_v212, val_main_v202, val_main_v192, val_main_v182, val_main_v173,
      val_main_v247, val_main_v246, val_main_v245, val_main_v237, val_main_v236, val_main_v235, val_main_v227, val_main_v226, val_main_v225,
      val_main_v217, val_main_v216, val_main_v215, val_main_v207, val_main_v206, val_main_v205, val_main_v197, val_main_v196, val_main_v195,
      val_main_v187, val_main_v186, val_main_v185, val_main_v177, val_main_v176, val_main_v175, val_main_v169, val_main_v168, val_main_v167,
      val_main_v114, val_main_v119, val_main_v125, val_main_v131, val_main_v137, val_main_v143, val_main_v149, val_main_v155, val_main_v161]
    simp only [v166 a x2 h2, v36 a x0 h0]
    exact padded (by (try simp only [Fin.val_ofNat]) <;> omega) (fun _ _ => key _ _ (by (try simp only [Fin.val_ofNat]) <;> omega)) fun _ => Ideal.ofBits_zero_f32

include h0 h2 in
theorem v255 (β : Fin 2) (n : Fin 32) (i : Fin 64) (κ : Fin 576) (h : Fin 8) :
    val_main_v255 (F := Ideal) x0 x2 (ix5 β h n i κ) = ((a.chunk β h n).DP i κ : EReal) := by
  generalize hR : ((_ : ℝ) : EReal) = R
  pointwise [val_main_v255]
  rw [v254 a x0 h0 x2 h2]
  exact (congrArg (fun t => (((a.chunk β h n).DP i t : ℝ) : EReal)) (Fin.ext (show 64 * (κ.val / 64) + κ.val % 64 = κ.val by omega))).trans hR

include h0 h1 h2 in
theorem v258 (β : Fin 2) (n : Fin 32) (i : Fin 64) (κ : Fin 576) (h : Fin 8) :
    val_main_v258 (F := Ideal) x0 x1 x2 (ix5 β h n i κ) = (((a.chunk β h n).DP i κ * (1 / ((a.chunk β h n).L i * (a.chunk β h n).L i)) * (a.chunk β h n).E i κ : ℝ) : EReal) := by
  unfold val_main_v258
  rw [mulf_apply]
  unfold val_main_v257
  rw [mulf_apply]
  have e : val_main_v256 (F := Ideal) x0 x1 (ix5 β h n i κ) = ((1 / ((a.chunk β h n).L i * (a.chunk β h n).L i) : ℝ) : EReal) := by
    generalize hR : ((_ : ℝ) : EReal) = R
    pointwise [val_main_v256]
    exact (v110 a x0 h0 x1 h1 β n i h).trans hR
  rw [v255 a x0 h0 x2 h2, v103 a x0 h0 x1 h1, e, Ideal.mulf_def, Ideal.mulf_def, mul_coe, mul_coe]

include h0 h1 h2 in
theorem v265 (β : Fin 2) (n : Fin 32) (i : Fin 64) (κ : Fin 576) (h : Fin 8) :
    val_main_v265 (F := Ideal) x0 x1 x2 (ix5 β h n i κ) = ((-(∑ κ', (a.chunk β h n).DP i κ' * (1 / ((a.chunk β h n).L i * (a.chunk β h n).L i)) * (a.chunk β h n).E i κ') : ℝ) : EReal) := by
  generalize hR : ((_ : ℝ) : EReal) = R
  pointwise [val_main_v265, val_main_v264, val_main_cst_39, val_main_v261, val_main_v260, val_main_v259, val_main_cst_38]
  simp only [v258 a x0 h0 x1 h1 x2 h2, sum_coe, neg_coe, Fin.sum_univ_one]
  exact hR

include h0 h1 h2 in
theorem v267 (β : Fin 2) (n : Fin 32) (i : Fin 64) (κ : Fin 576) (h : Fin 8) :
    val_main_v267 (F := Ideal) x0 x1 x2 (ix5 β h n i κ)
      = (((-(∑ κ', (a.chunk β h n).DP i κ' * (1 / ((a.chunk β h n).L i * (a.chunk β h n).L i)) * (a.chunk β h n).E i κ') + (a.chunk β h n).DP i κ / (a.chunk β h n).L i) * (a.chunk β h n).E i κ : ℝ) : EReal) := by
  rw [show val_main_v267 (F := Ideal) x0 x1 x2 (ix5 β h n i κ) = (Ideal.div (val_main_v255 (F := Ideal) x0 x2 (ix5 β h n i κ)) (val_main_v262 (F := Ideal) x0 x1 (ix5 β h n i κ)) + val_main_v265 (F := Ideal) x0 x1 x2 (ix5 β h n i κ)) * val_main_v103 (F := Ideal) x0 x1 (ix5 β h n i κ) from rfl]
  rw [v255 a x0 h0 x2 h2, v103 a x0 h0 x1 h1, v265 a x0 h0 x1 h1 x2 h2]
  pointwise [val_main_v262, val_main_v105]
  rw [v104 a x0 h0 x1 h1, div_coe_coe ((a.chunk β h n).L_ne i), add_coe, mul_coe]
  rw [add_comm]

include h0 h1 h2 in
theorem v268 (β : Fin 2) (n : Fin 32) (i : Fin 64) (κ : Fin 576) (h : Fin 8) :
    val_main_v268 (F := Ideal) x0 x1 x2 (ix5 β h n i κ) = ((a.chunk β h n).DS i κ : EReal) := by
  rw [show val_main_v268 (F := Ideal) x0 x1 x2 (ix5 β h n i κ) = Scalar.select (val_main_v82_1 (F := Ideal) (ix5 β h n i κ)) (val_main_v267 (F := Ideal) x0 x1 x2 (ix5 β h n i κ)) (Ideal.ofBits .f32 0x00000000#32) from rfl]
  rw [v82_1 a, v267 a x0 h0 x1 h1 x2 h2, Ideal.ofBits_zero_f32, select_ofBool, Chunk.DS_eq]
  cases (a.chunk β h n).ok κ <;> rfl

include h0 h1 h2 in
theorem v269 (i : Fin 64) (κ : Fin 576) (h : Fin 8) :
    val_main_v269 (F := Ideal) x0 x1 x2 (ix3 h i κ) = (a.db h i κ : EReal) := by
  rw [show val_main_v269 (F := Ideal) x0 x1 x2 (ix3 h i κ) = Ideal.hostReduceAdd reducesTo_S2x8x32x64x576_S8x64x576_d0_2 (val_main_v268 (F := Ideal) x0 x1 x2) (Ideal.ofBits .f32 0x00000000#32) (ix3 h i κ) from rfl]
  rw [sum_0_2, Ideal.ofBits_zero_f32, zero_add]
  simp only [v268 a x0 h0 x1 h1 x2 h2, sum_coe]
  refine congrArg _ ?_
  rw [Fintype.sum_prod_type]
  rfl

include h0 h1 h2 in
/-- The gradient of the bias. -/
theorem v271 (i : Fin 64) (κ : Fin 576) (h : Fin 8) :
    val_main_v271 (F := Ideal) x0 x1 x2 (ix3 h i κ) = (a.db h i κ : EReal) := by
  rw [show val_main_v271 (F := Ideal) x0 x1 x2 (ix3 h i κ) = Ideal.hostReduceAdd reducesTo_S1x8x1x64x576_S8x64x576_d0_2 (val_main_v270 (F := Ideal) x0 x1 x2) (Ideal.ofBits .f32 0x00000000#32) (ix3 h i κ) from rfl]
  rw [sum_0_2, Ideal.ofBits_zero_f32, zero_add]
  have e : ∀ p : Fin 1 × Fin 1, val_main_v270 (F := Ideal) x0 x1 x2 (ix5 p.1 h p.2 i κ) = (a.db h i κ : EReal) := fun p => by
    generalize hR : ((_ : ℝ) : EReal) = R
    pointwise [val_main_v270]
    rw [v269 a x0 h0 x1 h1 x2 h2]
    exact hR
  simp only [e]
  rw [Fintype.sum_prod_type, Fin.sum_univ_one, Fin.sum_univ_one]

include h0 h1 h2 in
theorem v251 (β : Fin 2) (m : Fin 40) (r : Fin 64) (h : Fin 8) (d : Fin 64) :
    val_main_v251 (F := Ideal) x0 x1 x2 (ix5 β m r h d) = (a.dv β h ⟨64 * m.val + r.val, by omega⟩ d : EReal) := by
  rw [show val_main_v251 (F := Ideal) x0 x1 x2 (ix5 β m r h d) = val_main_v172 (F := Ideal) x0 x1 x2 (ix5 β m r h d) + val_main_v180 (F := Ideal) x0 x1 x2 (ix5 β m r h d) + val_main_v190 (F := Ideal) x0 x1 x2 (ix5 β m r h d) + val_main_v200 (F := Ideal) x0 x1 x2 (ix5 β m r h d) + val_main_v210 (F := Ideal) x0 x1 x2 (ix5 β m r h d) + val_main_v220 (F := Ideal) x0 x1 x2 (ix5 β m r h d) + val_main_v230 (F := Ideal) x0 x1 x2 (ix5 β m r h d) + val_main_v240 (F := Ideal) x0 x1 x2 (ix5 β m r h d) + val_main_v250 (F := Ideal) x0 x1 x2 (ix5 β m r h d) from rfl]
  refine Eq.trans ?_ ((nine_coe fun j => if hj : j.val ≤ m.val ∧ m.val - j.val < 32 then (a.chunk β h ⟨m.val - j.val, hj.2⟩).dV ⟨64 * j.val + r.val, by omega⟩ d else 0).trans
    (congrArg _ (banded m r fun n κ => (a.chunk β h n).dV κ d).symm))
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    pointwise [val_main_v250, val_main_v240, val_main_v230, val_main_v220, val_main_v210, val_main_v200, val_main_v190, val_main_v180, val_main_v172,
      val_main_v249, val_main_v248, val_main_v245, val_main_v239, val_main_v238, val_main_v235, val_main_v229, val_main_v228, val_main_v225,
      val_main_v219, val_main_v218, val_main_v215, val_main_v209, val_main_v208, val_main_v205, val_main_v199, val_main_v198, val_main_v195,
      val_main_v189, val_main_v188, val_main_v185, val_main_v179, val_main_v178, val_main_v175, val_main_v171, val_main_v170, val_main_v167,
      val_main_v113, val_main_v112, val_main_v111, val_main_v118, val_main_v117, val_main_v124, val_main_v123, val_main_v130, val_main_v129,
      val_main_v136, val_main_v135, val_main_v142, val_main_v141, val_main_v148, val_main_v147, val_main_v154, val_main_v153, val_main_v160,
      val_main_v159]
    simp only [v166 a x2 h2, v107 a x0 h0 x1 h1]
    refine padded (by (try simp only [Fin.val_ofNat]) <;> omega) (fun _ _ => ?_) fun _ => Ideal.ofBits_zero_f32
    simp only [mul_coe, sum_coe]
    exact congrArg _ (Finset.sum_congr rfl fun i _ => mul_comm _ _)

include h0 h1 h2 in
theorem v351 (β : Fin 2) (m : Fin 40) (r : Fin 64) (h : Fin 8) (d : Fin 64) :
    val_main_v351 (F := Ideal) x0 x1 x2 (ix5 β m r h d) = (a.dk β h ⟨64 * m.val + r.val, by omega⟩ d : EReal) := by
  rw [show val_main_v351 (F := Ideal) x0 x1 x2 (ix5 β m r h d) = val_main_v295 (F := Ideal) x0 x1 x2 (ix5 β m r h d) + val_main_v301 (F := Ideal) x0 x1 x2 (ix5 β m r h d) + val_main_v308 (F := Ideal) x0 x1 x2 (ix5 β m r h d) + val_main_v315 (F := Ideal) x0 x1 x2 (ix5 β m r h d) + val_main_v322 (F := Ideal) x0 x1 x2 (ix5 β m r h d) + val_main_v329 (F := Ideal) x0 x1 x2 (ix5 β m r h d) + val_main_v336 (F := Ideal) x0 x1 x2 (ix5 β m r h d) + val_main_v343 (F := Ideal) x0 x1 x2 (ix5 β m r h d) + val_main_v350 (F := Ideal) x0 x1 x2 (ix5 β m r h d) from rfl]
  refine Eq.trans ?_ ((nine_coe fun j => if hj : j.val ≤ m.val ∧ m.val - j.val < 32 then (a.chunk β h ⟨m.val - j.val, hj.2⟩).dK ⟨64 * j.val + r.val, by omega⟩ d else 0).trans
    (congrArg _ (banded m r fun n κ => (a.chunk β h n).dK κ d).symm))
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    pointwise [val_main_v350, val_main_v343, val_main_v336, val_main_v329, val_main_v322, val_main_v315, val_main_v308, val_main_v301, val_main_v295,
      val_main_v346, val_main_v345, val_main_v339, val_main_v338, val_main_v332, val_main_v331, val_main_v325, val_main_v324, val_main_v318,
      val_main_v317, val_main_v311, val_main_v310, val_main_v304, val_main_v303, val_main_v297, val_main_v296, val_main_v292, val_main_v291,
      val_main_v274, val_main_v273, val_main_v272, val_main_v276, val_main_v275, val_main_v278, val_main_v277, val_main_v280, val_main_v279,
      val_main_v282, val_main_v281, val_main_v284, val_main_v283, val_main_v286, val_main_v285, val_main_v288, val_main_v287, val_main_v290,
      val_main_v289]
    simp only [v268 a x0 h0 x1 h1 x2 h2, v30 a x0 h0]
    refine padded (by (try simp only [Fin.val_ofNat]) <;> omega) (fun _ _ => ?_) fun _ => Ideal.ofBits_zero_f32
    simp only [mul_coe, sum_coe]
    rfl

include h0 h1 h2 in
theorem v349 (β : Fin 2) (n : Fin 32) (i : Fin 64) (h : Fin 8) (d : Fin 64) :
    val_main_v349 (F := Ideal) x0 x1 x2 (ix5 β n i h d) = ((∑ κ, (a.chunk β h n).DS i κ * (a.chunk β h n).K κ d : ℝ) : EReal) := by
  have key : ∀ (k : Fin 576) (t : Fin 2560) (κ : Fin 576), k.val = κ.val → t.val = 64 * n.val + κ.val →
      ((a.chunk β h n).DS i k : EReal) * (a.pad 512 (by omega) β h t d : EReal) = ((a.chunk β h n).DS i κ : EReal) * ((a.chunk β h n).K κ d : EReal) := by
    intro k t κ e e'
    rw [Fin.ext e, show t = ⟨64 * n.val + κ.val, by omega⟩ from Fin.ext e']
    rfl
  have e : ((∑ κ, (a.chunk β h n).DS i κ * (a.chunk β h n).K κ d : ℝ) : EReal) = ∑ κ, ((a.chunk β h n).DS i κ : EReal) * ((a.chunk β h n).K κ d : EReal) := by
    simp only [mul_coe, sum_coe]
  rw [e]
  refine Eq.trans ?_ (Fin.sum_univ_tiles 9 64 rfl (fun κ : Fin 576 => ((a.chunk β h n).DS i κ : EReal) * ((a.chunk β h n).K κ d : EReal))).symm
  refine Eq.trans ?_ (nine _)
  unfold val_main_v349
  rw [addf_apply]
  unfold val_main_v342
  rw [addf_apply]
  unfold val_main_v335
  rw [addf_apply]
  unfold val_main_v328
  rw [addf_apply]
  unfold val_main_v321
  rw [addf_apply]
  unfold val_main_v314
  rw [addf_apply]
  unfold val_main_v307
  rw [addf_apply]
  unfold val_main_v300
  rw [addf_apply]
  simp only [Ideal.addf_def]
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    pointwise [val_main_v348, val_main_v347, val_main_v341, val_main_v340, val_main_v334, val_main_v333, val_main_v327, val_main_v326, val_main_v320,
      val_main_v319, val_main_v313, val_main_v312, val_main_v306, val_main_v305, val_main_v299, val_main_v298, val_main_v294, val_main_v293,
      val_main_v274, val_main_v273, val_main_v272, val_main_v276, val_main_v275, val_main_v278, val_main_v277, val_main_v280, val_main_v279,
      val_main_v282, val_main_v281, val_main_v284, val_main_v283, val_main_v286, val_main_v285, val_main_v288, val_main_v287, val_main_v290,
      val_main_v289, val_main_v38, val_main_v40, val_main_v42, val_main_v44, val_main_v46, val_main_v48, val_main_v50, val_main_v52,
      val_main_v54]
    simp only [v268 a x0 h0 x1 h1 x2 h2, v33 a x0 h0]
    exact Finset.sum_congr rfl fun _ _ => key _ _ _ (by (try simp only [Fin.val_ofNat]) <;> omega) (by (try simp only [Fin.val_ofNat]) <;> omega)

include h0 h1 h2 in
/-- The gradient of the queries. -/
theorem v362 (r : Fin 4096) (l : Fin 512) :
    val_main_v362 (F := Ideal) x0 x1 x2 (ix2 r l) = (a.dq ⟨r.val / 2048, by omega⟩ ⟨l.val / 64, by omega⟩ ⟨r.val % 2048, by omega⟩ ⟨l.val % 64, by omega⟩ : EReal) := by
  generalize hR : ((_ : ℝ) : EReal) = R
  pointwise [val_main_v362, val_main_v361, val_main_v360]
  unfold val_main_v359
  rw [mulf_apply]
  pointwise [val_main_v358, val_main_cst_51]
  rw [v349 a x0 h0 x1 h1 x2 h2, word_eighth, mul_coe]
  subst hR
  unfold Args.dq Chunk.dQ
  have e1 : (⟨r.val / 64 % 32, by omega⟩ : Fin 32) = ⟨r.val % 2048 / 64, by omega⟩ := Fin.ext (by simp only; omega)
  have e2 : (⟨r.val % 64, by omega⟩ : Fin 64) = ⟨r.val % 2048 % 64, by omega⟩ := Fin.ext (by simp only; omega)
  rw [e1, e2]

include h0 h1 h2 in
/-- The gradient of the keys. -/
theorem v364 (r : Fin 4096) (l : Fin 512) :
    val_main_v364 (F := Ideal) x0 x1 x2 (ix2 r l) = (a.dk ⟨r.val / 2048, by omega⟩ ⟨l.val / 64, by omega⟩ ⟨512 + r.val % 2048, by omega⟩ ⟨l.val % 64, by omega⟩ : EReal) := by
  generalize hR : ((_ : ℝ) : EReal) = R
  pointwise [val_main_v364, val_main_v363, val_main_v357, val_main_v356]
  rw [v351 a x0 h0 x1 h1 x2 h2]
  exact (congrArg (fun t => ((a.dk _ _ t _ : ℝ) : EReal)) (Fin.ext (by simp only; omega))).trans hR

include h0 h1 h2 in
/-- The gradient of the values. -/
theorem v366 (r : Fin 4096) (l : Fin 512) :
    val_main_v366 (F := Ideal) x0 x1 x2 (ix2 r l) = (a.dv ⟨r.val / 2048, by omega⟩ ⟨l.val / 64, by omega⟩ ⟨512 + r.val % 2048, by omega⟩ ⟨l.val % 64, by omega⟩ : EReal) := by
  generalize hR : ((_ : ℝ) : EReal) = R
  pointwise [val_main_v366, val_main_v365, val_main_v354, val_main_v353]
  rw [v251 a x0 h0 x1 h1 x2 h2]
  exact (congrArg (fun t => ((a.dv _ _ t _ : ℝ) : EReal)) (Fin.ext (by simp only; omega))).trans hR

end Cert.ReferenceIdeal.Attn
-- ==== Proof.Finite.lean ====
module

public import proofs.«01_k».proof.Pre_finite
public import Idealize.ShloMosaic.PureOps.Ideal
public import Idealize.ShloMosaic.Lib.ReduceAll
public import Idealize.ShloMosaic.Lib.Pointwise

@[expose] public section

noncomputable section

namespace Cert.Pre_finite

open Idealize.ShloMosaic

/-! # What the precondition says: the argument entries that count are real numbers -/

/-- A number whose absolute value is under infinity is real. -/
theorem real_of_cmp (x : EReal) (h : Ideal.cmp .olt (max x (-x)) (Ideal.ofBits .f32 0x7F800000#32) = 1#1) : x = (x.toReal : EReal) := by
  have ht : Ideal.ofBits .f32 0x7F800000#32 = (⊤ : EReal) := by simp [Ideal.ofBits, Ideal.ieee]
  rw [ht] at h
  induction x using EReal.rec with
  | bot =>
    have e : max (⊥ : EReal) (-⊥) = ⊤ := by rw [EReal.neg_bot]; exact max_eq_right bot_le
    rw [e] at h
    simp [Ideal.cmp] at h
  | top =>
    have e : max (⊤ : EReal) (-⊤) = ⊤ := max_eq_left le_top
    rw [e] at h
    simp [Ideal.cmp] at h
  | coe r => rfl

variable [hf : Facts]
open Facts

/-- The precondition read at every entry. -/
theorem reals (x0 : FVec Ideal S4096x5760 .bf16) (x1 : FVec Ideal S8x257 .f32) (x2 : FVec Ideal S4096x512 .f32)
    (h : fn (F := Ideal) x0 x1 x2 = fun _ => 1#1) :
    (∀ r l, l.val < 1536 → x0 (ix2 r l) = ((x0 (ix2 r l) : EReal).toReal : EReal))
    ∧ (∀ r l, x1 (ix2 r l) = ((x1 (ix2 r l) : EReal).toReal : EReal))
    ∧ (∀ r l, x2 (ix2 r l) = ((x2 (ix2 r l) : EReal).toReal : EReal)) := by
  have sub : Subsingleton S_.Idx := ⟨fun a b => funext fun k => k.elim0⟩
  have hj := congrFun h (Shape.Idx.first h_S_)
  dsimp only [fn] at hj
  obtain ⟨h01, h2⟩ := IntOp.andi_eq_one.1 hj
  obtain ⟨h0, h1⟩ := IntOp.andi_eq_one.1 h01
  refine ⟨fun r l hl => ?_, fun r l => ?_, fun r l => ?_⟩
  · have e := Host.reduce_andi_all _ _ _ _ _ h0 (ix2 r ⟨l.val, hl⟩)
    have k : extractStridedSlice S4096x1536 ![0, 0] x0 slices_S4096x5760_S4096x1536_0_0 (ix2 r ⟨l.val, hl⟩) = x0 (ix2 r l) :=
      congrArg x0 (funext fun a => by
        match a with
        | ⟨0, _⟩ => exact Fin.ext (Nat.zero_add r.val)
        | ⟨1, _⟩ => exact Fin.ext (Nat.zero_add l.val))
    rw [← k]
    exact real_of_cmp _ e
  · exact real_of_cmp _ (Host.reduce_andi_all _ _ _ _ _ h1 (ix2 r l))
  · exact real_of_cmp _ (Host.reduce_andi_all _ _ _ _ _ h2 (ix2 r l))

end Cert.Pre_finite

end
-- ==== Proof.Values.lean ====
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Attn.Arrays
public import proofs.«01_k».proof.Proof.Attn.RefBack
public import proofs.«01_k».proof.Proof.Finite
public import Idealize.ShloMosaic.Lib.Claim

@[expose] public section

set_option maxRecDepth 16384

noncomputable section

/-! # Both programs end with the attention's gradients -/

namespace Cert.KernelIdeal.Attn

open Idealize.ShloMosaic Idealize.ShloMosaic.TcCoe Idealize.SL.Sem Cert.KernelIdeal Cert.KernelIdeal.Gen Cert.Attn

/-- The kernel's run with its results as functions of the real arguments. -/
theorem values (m : (ℓ : Loc nD τ sig) → Buf (Elt Ideal) ℓ) (ρ : Dev nD → PrngReg) (a : Dev nD → Args)
    (hA : ∀ (c : Dev nD) r l, l.val < 1536 → m ((c : Thread nD τ).loc main_arg0) (ix2 (n0 := 4096) (n1 := 5760) r l) = ((a c).A r l : EReal))
    (hR : ∀ (c : Dev nD) h j, m ((c : Thread nD τ).loc main_arg1) (ix2 (n0 := 8) (n1 := 257) h j) = ((a c).R h j : EReal))
    (hD : ∀ (c : Dev nD) r l, m ((c : Thread nD τ).loc main_arg2) (ix2 (n0 := 4096) (n1 := 512) r l) = ((a c).D r l : EReal)) :
    θ_run defs (onTc (τ := τ) (main (F := Ideal))) ⟨m, fun _ => 0, ρ⟩ fun r => ∀ c : Dev nD,
      r.2.mem ((c : Thread nD τ).loc main_v15_0) = rows (fun β h s d => (a c).dq β h s d)
      ∧ r.2.mem ((c : Thread nD τ).loc main_v15_1) = rows (fun β h s d => (a c).dk β h ⟨512 + s.val, by omega⟩ d)
      ∧ r.2.mem ((c : Thread nD τ).loc main_v15_2) = rows (fun β h s d => (a c).dv β h ⟨512 + s.val, by omega⟩ d)
      ∧ r.2.mem ((c : Thread nD τ).loc main_v15_3) = table (a c).db
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1.1 c).1 5).trans (final_5 m (a c) c (hA c) (hR c) (hD c)), ((h.1.1 c).1 6).trans (final_6 m (a c) c (hA c) (hR c) (hD c)),
      ((h.1.1 c).1 7).trans (final_7 m (a c) c (hA c) (hR c) (hD c)), ((h.1.1 c).1 8).trans (final_8 m (a c) c (hA c) (hR c) (hD c)), h.2.1 c⟩)
    (θ_run_and (run_all m ρ) (quiescent m ρ))

end Cert.KernelIdeal.Attn

namespace Cert.ReferenceIdeal.Attn

open Idealize.ShloMosaic Idealize.ShloMosaic.TcCoe Idealize.SL.Sem Cert.ReferenceIdeal Cert.ReferenceIdeal.Gen Cert.ReferenceIdeal.Read Cert.Attn

/-- The reference's run with its results as functions of the real arguments. -/
theorem values (m : (ℓ : Loc nD τ sig) → Buf (Elt Ideal) ℓ) (ρ : Dev nD → PrngReg) (a : Dev nD → Args)
    (hA : ∀ (c : Dev nD) r l, l.val < 1536 → m ((c : Thread nD τ).loc main_arg0) (ix2 (n0 := 4096) (n1 := 5760) r l) = ((a c).A r l : EReal))
    (hR : ∀ (c : Dev nD) h j, m ((c : Thread nD τ).loc main_arg1) (ix2 (n0 := 8) (n1 := 257) h j) = ((a c).R h j : EReal))
    (hD : ∀ (c : Dev nD) r l, m ((c : Thread nD τ).loc main_arg2) (ix2 (n0 := 4096) (n1 := 512) r l) = ((a c).D r l : EReal)) :
    θ_run defs (onTc (τ := τ) (main (F := Ideal))) ⟨m, fun _ => 0, ρ⟩ fun r => ∀ c : Dev nD,
      r.2.mem ((c : Thread nD τ).loc main_v362) = Cert.KernelIdeal.Attn.rows (fun β h s d => (a c).dq β h s d)
      ∧ r.2.mem ((c : Thread nD τ).loc main_v364) = Cert.KernelIdeal.Attn.rows (fun β h s d => (a c).dk β h ⟨512 + s.val, by omega⟩ d)
      ∧ r.2.mem ((c : Thread nD τ).loc main_v366) = Cert.KernelIdeal.Attn.rows (fun β h s d => (a c).dv β h ⟨512 + s.val, by omega⟩ d)
      ∧ r.2.mem ((c : Thread nD τ).loc main_v271) = Cert.KernelIdeal.Attn.table (a c).db
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      (h c).1.trans ((val_main_v362_eq (StableHlo.launchContents m c)).trans (funext fun i => by
        obtain ⟨r, l, rfl⟩ : ∃ (r : Fin 4096) (l : Fin 512), i = ix2 r l := ⟨i 0, i 1, funext fun a => by match a with | ⟨0, _⟩ => rfl | ⟨1, _⟩ => rfl⟩
        exact v362 (a c) _ (hA c) _ (hR c) _ (hD c) r l)),
      (h c).2.1.trans ((val_main_v364_eq (StableHlo.launchContents m c)).trans (funext fun i => by
        obtain ⟨r, l, rfl⟩ : ∃ (r : Fin 4096) (l : Fin 512), i = ix2 r l := ⟨i 0, i 1, funext fun a => by match a with | ⟨0, _⟩ => rfl | ⟨1, _⟩ => rfl⟩
        exact v364 (a c) _ (hA c) _ (hR c) _ (hD c) r l)),
      (h c).2.2.1.trans ((val_main_v366_eq (StableHlo.launchContents m c)).trans (funext fun i => by
        obtain ⟨r, l, rfl⟩ : ∃ (r : Fin 4096) (l : Fin 512), i = ix2 r l := ⟨i 0, i 1, funext fun a => by match a with | ⟨0, _⟩ => rfl | ⟨1, _⟩ => rfl⟩
        exact v366 (a c) _ (hA c) _ (hR c) _ (hD c) r l)),
      (h c).2.2.2.1.trans ((val_main_v271_eq (StableHlo.launchContents m c)).trans (funext fun i => by
        obtain ⟨k, i, κ, rfl⟩ : ∃ (k : Fin 8) (j : Fin 64) (κ : Fin 576), i = ix3 k j κ := ⟨i 0, i 1, i 2, funext fun a => by match a with | ⟨0, _⟩ => rfl | ⟨1, _⟩ => rfl | ⟨2, _⟩ => rfl⟩
        exact v271 (a c) _ (hA c) _ (hR c) _ (hD c) i κ k)),
      (h c).2.2.2.2⟩)
    (Cert.ReferenceIdeal.Value.run (F := Ideal) m ρ)

end Cert.ReferenceIdeal.Attn

namespace Cert.Proof

open Idealize.ShloMosaic Idealize.ShloMosaic.TcCoe Idealize.SL.Sem Cert.Attn

/-- The reference's results are the kernel's, of finite arguments. -/
theorem algebra : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have fin := fun c => Cert.Pre_finite.reals (hf := Cert.Pre_finite.Gen.facts) _ _ _ (hpre c)
  let a : Dev Cert.KernelIdeal.nD → Args := fun c =>
    { A := fun r l => (m ((c : Thread Cert.KernelIdeal.nD Cert.KernelIdeal.τ).loc Cert.KernelIdeal.main_arg0) (ix2 (n0 := 4096) (n1 := 5760) r l) : EReal).toReal
      R := fun r l => (m ((c : Thread Cert.KernelIdeal.nD Cert.KernelIdeal.τ).loc Cert.KernelIdeal.main_arg1) (ix2 (n0 := 8) (n1 := 257) r l) : EReal).toReal
      D := fun r l => (m ((c : Thread Cert.KernelIdeal.nD Cert.KernelIdeal.τ).loc Cert.KernelIdeal.main_arg2) (ix2 (n0 := 4096) (n1 := 512) r l) : EReal).toReal }
  refine ⟨_, _, _, _, Cert.KernelIdeal.Attn.values m g a (fun c => (fin c).1) (fun c => (fin c).2.1) (fun c => (fin c).2.2),
    Cert.ReferenceIdeal.Attn.values m' g' a (fun c r l hl => ?_) (fun c r l => ?_) (fun c r l => ?_)⟩
  · rw [(hargs c).1]; exact (fin c).1 r l hl
  · rw [(hargs c).2.1]; exact (fin c).2.1 r l
  · rw [(hargs c).2.2]; exact (fin c).2.2 r l

end Cert.Proof

end
-- ==== Proof.Mm.Dact.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section

set_option maxRecDepth 16384

noncomputable section

/-! # The gradient of the gate and up projections' outputs: a product, then the gated unit's gradient -/

namespace Cert.Kernel2Ideal.Mm

open Idealize.ShloMosaic Idealize.ShloMosaic.TcCoe Idealize.SL.Sem Cert.Kernel2Ideal Cert.Kernel2Ideal.Gen

/-- One entry of the gradient, from a token's incoming gradient, the down projection's weights and the token's gate and up
    values. The left half is the gate's gradient and the right half is the up value's. -/
def entry (dx : Fin 1024 → EReal) (w : Fin 2816 → Fin 1024 → EReal) (gu : Fin 5632 → EReal) (l : Fin 5632) : EReal :=
  (if h : l.val < 2816 then 0 else gu ⟨l.val - 2816, by omega⟩ * Ideal.logistic (gu ⟨l.val - 2816, by omega⟩) * ∑ k, dx k * w ⟨l.val - 2816, by omega⟩ k)
  + (if h : l.val < 2816 then
      (∑ k, dx k * w ⟨l.val, h⟩ k) * gu ⟨2816 + l.val, by omega⟩ * Ideal.logistic (gu l)
        + gu l * ((∑ k, dx k * w ⟨l.val, h⟩ k) * gu ⟨2816 + l.val, by omega⟩) * (Ideal.logistic (gu l) * (1 - Ideal.logistic (gu l)))
    else 0)

/-- The whole gradient. -/
def whole (dx : Vec Ideal S4096x1024 .f32) (w : Vec Ideal S2816x1024 .bf16) (gu : Vec Ideal S4096x5632 .bf16) : Vec Ideal S4096x5632 .bf16 :=
  fun i => entry (fun k => dx (ix2 (i 0) k)) (fun j k => w (ix2 j k)) (fun j => gu (ix2 (i 0) j)) (i 1)

theorem pay_at (dx : Vec Ideal S256x1024 .f32) (w : Vec Ideal S2816x1024 .bf16) (gu : Vec Ideal S256x5632 .bf16) (r : Fin 256) (l : Fin 5632) :
    k0_pay1 dx w gu (ix2 r l) = entry (fun k => dx (ix2 r k)) (fun j k => w (ix2 j k)) (fun j => gu (ix2 r j)) l := by
  pointwise [k0_pay1]
  rfl

theorem origin : (![0, 0] : Fin 2 → Nat) = fun _ => 0 := funext fun a => by match a with | ⟨0, _⟩ => rfl | ⟨1, _⟩ => rfl

theorem points (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)

/-- A block's row among the array's rows. -/
def row (t : Fin cfg0.N) (r : Fin 256) : Fin 4096 := ⟨256 * t.val + r.val, by have := points t; omega⟩

theorem emb_0 (t : Fin cfg0.N) (r : Fin 256) (k : Fin 1024) : ((cfg0.win 0).blk t).view.emb (ix2 r k) = (ix2 (n0 := 4096) (n1 := 1024) (row t r) k) := by
  obtain ⟨e0, e1⟩ := index_0 t
  funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega
theorem emb_1 (t : Fin cfg0.N) (j : Fin 2816) (k : Fin 1024) : ((cfg0.win 1).blk t).view.emb (ix2 j k) = (ix2 (n0 := 2816) (n1 := 1024) j k) := by
  obtain ⟨e0, e1⟩ := index_1 t
  funext a; apply Fin.ext
  match a with
  | ⟨0, _⟩ => show win0_1.index t (0 : Fin 2) * 2816 + 1 * j.val = j.val; omega
  | ⟨1, _⟩ => show win0_1.index t (1 : Fin 2) * 1024 + 1 * k.val = k.val; omega
theorem emb_2 (t : Fin cfg0.N) (r : Fin 256) (l : Fin 5632) : ((cfg0.win 2).blk t).view.emb (ix2 r l) = (ix2 (n0 := 4096) (n1 := 5632) (row t r) l) := by
  obtain ⟨e0, e1⟩ := index_2 t
  funext a; apply Fin.ext
  match a with
  | ⟨0, _⟩ => show win0_2.index t (0 : Fin 2) * 256 + 1 * r.val = 256 * t.val + r.val; omega
  | ⟨1, _⟩ => show win0_2.index t (1 : Fin 2) * 5632 + 1 * l.val = l.val; omega
theorem emb_3 (t : Fin cfg0.N) (r : Fin 256) (l : Fin 5632) : ((cfg0.win 3).blk t).view.emb (ix2 r l) = (ix2 (n0 := 4096) (n1 := 5632) (row t r) l) := by
  obtain ⟨e0, e1⟩ := index_3 t
  funext a; apply Fin.ext
  match a with
  | ⟨0, _⟩ => show win0_3.index t (0 : Fin 2) * 256 + 1 * r.val = 256 * t.val + r.val; omega
  | ⟨1, _⟩ => show win0_3.index t (1 : Fin 2) * 5632 + 1 * l.val = l.val; omega

variable (m : (ℓ : Loc nD τ sig) → Buf (Elt Ideal) ℓ) (ρ : Dev nD → PrngReg)

theorem block_0 (c : Dev nD) (t : Fin cfg0.N) (r : Fin 256) (k : Fin 1024) : iblk m c 0 t (ix2 r k) = m ((c : Thread nD τ).loc main_arg0) (ix2 (n0 := 4096) (n1 := 1024) (row t r) k) := by
  show V m c main_arg0 (((cfg0.win 0).blk t).view.emb (ix2 r k)) = _
  rw [emb_0, V_main_arg0]
theorem block_1 (c : Dev nD) (t : Fin cfg0.N) (j : Fin 2816) (k : Fin 1024) : iblk m c 1 t (ix2 j k) = m ((c : Thread nD τ).loc main_arg1) (ix2 (n0 := 2816) (n1 := 1024) j k) := by
  show V m c main_arg1 (((cfg0.win 1).blk t).view.emb (ix2 j k)) = _
  rw [emb_1, V_main_arg1]
theorem block_2 (c : Dev nD) (t : Fin cfg0.N) (r : Fin 256) (l : Fin 5632) : iblk m c 2 t (ix2 r l) = m ((c : Thread nD τ).loc main_arg2) (ix2 (n0 := 4096) (n1 := 5632) (row t r) l) := by
  show V m c main_arg2 (((cfg0.win 2).blk t).view.emb (ix2 r l)) = _
  rw [emb_2, V_main_arg2]

theorem flushed (c : Dev nD) (t : Fin cfg0.N) : (dats m 0 c).flushed 3 t
    = ((cfg0.win 3).blk t).view.read (Elt Ideal) (whole (m ((c : Thread nD τ).loc main_arg0)) (m ((c : Thread nD τ).loc main_arg1)) (m ((c : Thread nD τ).loc main_arg2))) := by
  rw [Value.flushed3]
  unfold out0_3
  rw [View.canon_unit_zero origin, View.ld_unit_zero origin, View.ld_unit_zero origin, View.ld_unit_zero origin]
  funext j
  obtain ⟨r, l, rfl⟩ : ∃ (r : Fin 256) (l : Fin 5632), j = ix2 r l := ⟨j 0, j 1, funext fun a => by match a with | ⟨0, _⟩ => rfl | ⟨1, _⟩ => rfl⟩
  show k0_pay1 (iblk m c 0 t) (iblk m c 1 t) (iblk m c 2 t) (ix2 r l) = whole _ _ _ (((cfg0.win 3).blk t).view.emb (ix2 r l))
  rw [emb_3, pay_at]
  show entry _ _ _ l = entry _ _ _ l
  congr 1
  · exact funext fun k => block_0 m c t r k
  · exact funext fun j => funext fun k => block_1 m c t j k
  · exact funext fun j => block_2 m c t r j

theorem covered (i : S4096x5632.Idx) : ∃ t : Fin cfg0.N, (cfg0.win 3).flush t = true ∧ i ∈ ((cfg0.win 3).blk t).view.set := by
  obtain ⟨r, l, rfl⟩ : ∃ (r : Fin 4096) (l : Fin 5632), i = ix2 r l := ⟨i 0, i 1, funext fun a => by match a with | ⟨0, _⟩ => rfl | ⟨1, _⟩ => rfl⟩
  let t : Fin cfg0.N := ⟨r.val / 256, by rw [show cfg0.N = 16 from N_0]; omega⟩
  have e : ix2 r l = ((cfg0.win 3).blk t).view.emb (ix2 (n0 := 256) (n1 := 5632) ⟨r.val % 256, by omega⟩ l) := by
    rw [emb_3]; exact congrArg (fun s => ix2 s l) (Fin.ext (show r.val = 256 * (r.val / 256) + r.val % 256 by omega))
  exact ⟨t, flush0_3 t, by rw [e]; exact ((cfg0.win 3).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed m c t) covered), (h c).2⟩)
    (Value.run_blocks m ρ)

end Cert.Kernel2Ideal.Mm

namespace Cert.Reference2Ideal.Mm

open Idealize.ShloMosaic Idealize.ShloMosaic.TcCoe Idealize.SL.Sem Cert.Reference2Ideal Cert.Reference2Ideal.Gen Cert.Reference2Ideal.Read

theorem value (dx : Vec Ideal S4096x1024 .f32) (w : Vec Ideal S2816x1024 .bf16) (gu : Vec Ideal S4096x5632 .bf16) :
    val_main_v14 (F := Ideal) dx w gu = Cert.Kernel2Ideal.Mm.whole dx w gu := by
  funext i
  obtain ⟨r, l, rfl⟩ : ∃ (r : Fin 4096) (l : Fin 5632), i = ix2 r l := ⟨i 0, i 1, funext fun a => by match a with | ⟨0, _⟩ => rfl | ⟨1, _⟩ => rfl⟩
  show _ = Cert.Kernel2Ideal.Mm.entry (fun k => dx (ix2 r k)) (fun j k => w (ix2 j k)) (fun j => gu (ix2 r j)) l
  pointwise [val_main_v14, val_main_v13, val_main_v12, val_main_v11, val_main_v10, val_main_v9, val_main_v8, val_main_v7, val_main_v5, val_main_v3,
    val_main_v2_0, val_main_v2_1, val_main_v2_2, val_main_v1, val_main_v0, val_main_call1_v0, val_main_call1_v1, val_main_call1_v2,
    val_main_call0_v0, val_main_call0_v1, val_main_call0_v2, val_main_call0_v3, val_main_call0_v4, val_main_call0_v6, val_main_call0_v7,
    val_main_cst, val_main_cst_0, val_main_call0_cst, val_main_call0_cst_0, val_main_call0_cst_1]
  unfold Cert.Kernel2Ideal.Mm.entry
  by_cases h : l.val < 2816
  · rw [dif_neg (by omega), dif_pos h, dif_pos h, dif_pos h]; rfl
  · rw [dif_pos (by omega), dif_neg h, dif_neg h, dif_neg h]; rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = Cert.Kernel2Ideal.Mm.whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v14_eq _ _ _).trans (value _ _ _)), (h c).2⟩) (Value.run (F := Ideal) m ρ)

end Cert.Reference2Ideal.Mm

end
-- ==== Proof.Mm.GateUp.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

/-! # The weight gradient of the gate and up projections: one product, cut into blocks of its rows -/

namespace Cert.Kernel3Ideal.Mm

open Idealize.ShloMosaic Idealize.ShloMosaic.TcCoe Idealize.SL.Sem Cert.Kernel3Ideal Cert.Kernel3Ideal.Gen

theorem origin : (![0, 0] : Fin 2 → Nat) = fun _ => 0 := funext fun a => by match a with | ⟨0, _⟩ => rfl | ⟨1, _⟩ => rfl

theorem points (t : Fin cfg0.N) : t.val < 11 := lt_of_lt_of_eq t.isLt (show cfg0.N = 11 from N_0)

theorem index_0 : ∀ t : Fin cfg0.N, win0_0.index t (0 : Fin 2) = 0 ∧ win0_0.index t (1 : Fin 2) = t.val := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

theorem emb_0 (t : Fin cfg0.N) (k : Fin 4096) (r : Fin 512) :
    ((cfg0.win 0).blk t).view.emb (ix2 k r) = (ix2 (n0 := 4096) (n1 := 5632) k ⟨512 * t.val + r.val, by have := points t; omega⟩) := by
  obtain ⟨e0, e1⟩ := index_0 t
  funext a; apply Fin.ext
  match a with
  | ⟨0, _⟩ => show win0_0.index t (0 : Fin 2) * 4096 + 1 * k.val = k.val; omega
  | ⟨1, _⟩ => show win0_0.index t (1 : Fin 2) * 512 + 1 * r.val = 512 * t.val + r.val; omega
theorem emb_1 (t : Fin cfg0.N) (k : Fin 4096) (l : Fin 1024) : ((cfg0.win 1).blk t).view.emb (ix2 k l) = (ix2 (n0 := 4096) (n1 := 1024) k l) := by
  obtain ⟨e0, e1⟩ := index_1 t
  funext a; apply Fin.ext
  match a with
  | ⟨0, _⟩ => show win0_1.index t (0 : Fin 2) * 4096 + 1 * k.val = k.val; omega
  | ⟨1, _⟩ => show win0_1.index t (1 : Fin 2) * 1024 + 1 * l.val = l.val; omega
theorem emb_2 (t : Fin cfg0.N) (r : Fin 512) (l : Fin 1024) :
    ((cfg0.win 2).blk t).view.emb (ix2 r l) = (ix2 (n0 := 5632) (n1 := 1024) ⟨512 * t.val + r.val, by have := points t; omega⟩ l) := by
  obtain ⟨e0, e1⟩ := index_2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

/-- The whole product. -/
def whole (x : Vec Ideal S4096x5632 .bf16) (y : Vec Ideal S4096x1024 .bf16) : Vec Ideal S5632x1024 .bf16 :=
  fun i => ((∑ k : Fin 4096, (x (ix2 k (i 0)) : EReal) * y (ix2 k (i 1)) : EReal))

/-- A block's product, entry by entry. -/
theorem pay_at (x : Vec Ideal S4096x512 .bf16) (y : Vec Ideal S4096x1024 .bf16) (r : Fin 512) (l : Fin 1024) :
    k0_pay1 x y (ix2 r l) = ((∑ k : Fin 4096, (x (ix2 k r) : EReal) * y (ix2 k l) : EReal)) := by
  pointwise [k0_pay1]

variable (m : (ℓ : Loc nD τ sig) → Buf (Elt Ideal) ℓ) (ρ : Dev nD → PrngReg)

theorem block_0 (c : Dev nD) (t : Fin cfg0.N) (k : Fin 4096) (r : Fin 512) : iblk m c 0 t (ix2 k r)
    = m ((c : Thread nD τ).loc main_arg0) (ix2 (n0 := 4096) (n1 := 5632) k ⟨512 * t.val + r.val, by have := points t; omega⟩) := by
  show V m c main_arg0 (((cfg0.win 0).blk t).view.emb (ix2 k r)) = _
  rw [emb_0, V_main_arg0]
theorem block_1 (c : Dev nD) (t : Fin cfg0.N) (k : Fin 4096) (l : Fin 1024) : iblk m c 1 t (ix2 k l) = m ((c : Thread nD τ).loc main_arg1) (ix2 (n0 := 4096) (n1 := 1024) k l) := by
  show V m c main_arg1 (((cfg0.win 1).blk t).view.emb (ix2 k l)) = _
  rw [emb_1, V_main_arg1]

theorem flushed (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 512) (l : Fin 1024), j = ix2 r l := ⟨j 0, j 1, funext fun a => by match a with | ⟨0, _⟩ => rfl | ⟨1, _⟩ => rfl⟩
  show k0_pay1 (iblk m c 0 t) (iblk m c 1 t) (ix2 r l) = whole _ _ (((cfg0.win 2).blk t).view.emb (ix2 r l))
  rw [emb_2, pay_at]
  exact Finset.sum_congr rfl fun k _ => congrArg₂ (fun u v : EReal => u * v) (block_0 m c t k r) (block_1 m c t k l)

theorem covered (i : S5632x1024.Idx) : ∃ t : Fin cfg0.N, (cfg0.win 2).flush t = true ∧ i ∈ ((cfg0.win 2).blk t).view.set := by
  obtain ⟨r, l, rfl⟩ : ∃ (r : Fin 5632) (l : Fin 1024), i = ix2 r l := ⟨i 0, i 1, funext fun a => by match a with | ⟨0, _⟩ => rfl | ⟨1, _⟩ => rfl⟩
  let t : Fin cfg0.N := ⟨r.val / 512, by rw [show cfg0.N = 11 from N_0]; omega⟩
  have e : ix2 r l = ((cfg0.win 2).blk t).view.emb (ix2 (n0 := 512) (n1 := 1024) ⟨r.val % 512, by omega⟩ l) := by
    rw [emb_2]; exact congrArg (fun s => ix2 s l) (Fin.ext (show r.val = 512 * (r.val / 512) + r.val % 512 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel3Ideal.Mm

namespace Cert.Reference3Ideal.Mm

open Idealize.ShloMosaic Idealize.ShloMosaic.TcCoe Idealize.SL.Sem Cert.Reference3Ideal Cert.Reference3Ideal.Gen Cert.Reference3Ideal.Read

theorem value (x : Vec Ideal S4096x5632 .bf16) (y : Vec Ideal S4096x1024 .bf16) :
    val_main_v7 (F := Ideal) x y = Cert.Kernel3Ideal.Mm.whole x y := by
  funext i
  obtain ⟨r, l, rfl⟩ : ∃ (r : Fin 5632) (l : Fin 1024), i = ix2 r l := ⟨i 0, i 1, funext fun a => by match a with | ⟨0, _⟩ => rfl | ⟨1, _⟩ => rfl⟩
  pointwise [val_main_v7, val_main_v6, val_main_v5, val_main_v4, val_main_v3, val_main_v1]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = Cert.Kernel3Ideal.Mm.whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v7_eq _ _).trans (value _ _)), (h c).2⟩) (Value.run (F := Ideal) m ρ)

end Cert.Reference3Ideal.Mm

end
-- ==== Proof.Mm.Rms.lean ====
module

public import Idealize.ShloMosaic.Lib.Pointwise
public import Mathlib.Algebra.BigOperators.Fin
public import Mathlib.Tactic.Ring

@[expose] public section

noncomputable section

/-! # One row of the root-mean-square normalization, forward and backward, and sums over rows cut into blocks -/

namespace Cert.Mm

open Idealize.ShloMosaic

/-- The mean square of a row, with the small constant added. -/
def mean (x : Fin 1024 → EReal) : EReal := Ideal.div (∑ j, x j * x j) (Ideal.ofBits FTy.f32 1149239296#32) + Ideal.ofBits FTy.f32 897988541#32

/-- An entry of the normalized row. -/
def normed (x g : Fin 1024 → EReal) (l : Fin 1024) : EReal := x l * Ideal.rsqrt (mean x) * g l

/-- The factor with which the row itself enters its gradient, once per factor of its square. -/
def pull (x d g : Fin 1024 → EReal) : EReal := ∑ _i : Fin 1, Ideal.div
  ((∑ j, x j * (d j * g j)) * (Ideal.ofBits FTy.f32 3204448256#32 * Ideal.div (Ideal.rsqrt (mean x)) (mean x))) (Ideal.ofBits FTy.f32 1149239296#32)

/-- An entry of the row's gradient: through the normalization, and around it. -/
def back (x d g res : Fin 1024 → EReal) (l : Fin 1024) : EReal := d l * g l * Ideal.rsqrt (mean x) + x l * pull x d g + pull x d g * x l + res l

/-- A row's part of the gain's gradient. -/
def gain (x d : Fin 1024 → EReal) (l : Fin 1024) : EReal := x l * Ideal.rsqrt (mean x) * d l

/-- The gradient's terms added in another order. -/
theorem back_comm (x d g res : Fin 1024 → EReal) (l : Fin 1024) :
    res l + d l * g l * Ideal.rsqrt (mean x) + x l * pull x d g + pull x d g * x l = back x d g res l := by
  unfold back
  rw [add_comm (res l), add_right_comm _ (res l), add_right_comm _ (res l)]

theorem block_lt {p b N n : ℕ} (e : p * b = N) (hn : n < p) (r : Fin b) : b * n + r.val < N := by
  subst e
  calc b * n + r.val < b * n + b := by omega
    _ = (n + 1) * b := by ring
    _ ≤ p * b := Nat.mul_le_mul_right b hn

/-- A sum over all rows is the sum over the blocks of the sums inside a block. -/
theorem sum_blocks {p b N : ℕ} (e : p * b = N) (f : Fin N → EReal) (g : ℕ → EReal)
    (h : ∀ (n : ℕ) (hn : n < p), g n = ∑ r : Fin b, f ⟨b * n + r.val, block_lt e hn r⟩) : ∑ n ∈ Finset.range p, g n = ∑ k : Fin N, f k := by
  subst e
  rw [Finset.sum_range, ← (finProdFinEquiv (m := p) (n := b)).sum_comp f, Fintype.sum_prod_type]
  refine Finset.sum_congr rfl fun n _ => (h n.val n.isLt).trans (Finset.sum_congr rfl fun r _ => congrArg f (Fin.ext ?_))
  show b * n.val + r.val = r.val + b * n.val
  omega

/-- An index of a matrix by its two coordinates. -/
theorem at_ix2 {n0 n1 : ℕ} (i : Shape.Idx ⟨2, ![n0, n1]⟩) (p : Fin n0) (q : Fin n1) (h0 : (i 0).val = p.val) (h1 : (i 1).val = q.val) : i = ix2 p q :=
  funext fun a => Fin.ext (by match a with | ⟨0, _⟩ => exact h0 | ⟨1, _⟩ => exact h1)

/-- An index of a single-row matrix. -/
theorem at_row {n1 : ℕ} (i : Shape.Idx ⟨2, ![1, n1]⟩) : i = ix2 0 (i 1) :=
  at_ix2 i 0 (i 1) (Nat.lt_one_iff.mp (i 0).isLt) rfl

/-- A row of the product of two matrices. -/
def prod {n K : ℕ} (x : Vec Ideal ⟨2, ![n, K]⟩ .bf16) (w : Vec Ideal ⟨2, ![K, 1024]⟩ .bf16) (r : Fin n) (l : Fin 1024) : EReal :=
  ((∑ k : Fin K, (x (ix2 r k) : EReal) * w (ix2 k l) : EReal))

/-- The whole gradient of the rows, from the gradient at a product of their normalized rows. -/
def wholeRows {K : ℕ} (x : Vec Ideal ⟨2, ![4096, K]⟩ .bf16) (w : Vec Ideal ⟨2, ![K, 1024]⟩ .bf16) (x1 dx2 : Vec Ideal ⟨2, ![4096, 1024]⟩ .f32)
    (g : Vec Ideal ⟨2, ![1, 1024]⟩ .f32) : Vec Ideal ⟨2, ![4096, 1024]⟩ .f32 :=
  fun i => back (fun j => x1 (ix2 (i 0) j)) (prod x w (i 0)) (fun j => g (ix2 0 j)) (fun j => dx2 (ix2 (i 0) j)) (i 1)

/-- The whole gradient of the gain. -/
def wholeGain {K : ℕ} (x : Vec Ideal ⟨2, ![4096, K]⟩ .bf16) (w : Vec Ideal ⟨2, ![K, 1024]⟩ .bf16) (x1 : Vec Ideal ⟨2, ![4096, 1024]⟩ .f32) :
    Vec Ideal ⟨2, ![1, 1024]⟩ .f32 :=
  fun i => ((∑ k : Fin 4096, gain (fun j => x1 (ix2 k j)) (prod x w k) (i 1) : EReal))

/-- A matrix with rows and columns exchanged. -/
def flip {K : ℕ} (w : Vec Ideal ⟨2, ![1024, K]⟩ .bf16) : Vec Ideal ⟨2, ![K, 1024]⟩ .bf16 := fun i => w (ix2 (i 1) (i 0))

/-- A row with its product added. -/
def added {n K : ℕ} (x : Vec Ideal ⟨2, ![n, K]⟩ .bf16) (w : Vec Ideal ⟨2, ![K, 1024]⟩ .bf16) (x1 : Vec Ideal ⟨2, ![n, 1024]⟩ .f32) (r : Fin n) (l : Fin 1024) : EReal :=
  (x1 (ix2 r l) : EReal) + prod x w r l

/-- All rows with their products added. -/
def wholeSum {K : ℕ} (x : Vec Ideal ⟨2, ![4096, K]⟩ .bf16) (w : Vec Ideal ⟨2, ![K, 1024]⟩ .bf16) (x1 : Vec Ideal ⟨2, ![4096, 1024]⟩ .f32) :
    Vec Ideal ⟨2, ![4096, 1024]⟩ .f32 := fun i => added x w x1 (i 0) (i 1)

/-- All these rows normalized. -/
def wholeNormed {K : ℕ} (x : Vec Ideal ⟨2, ![4096, K]⟩ .bf16) (w : Vec Ideal ⟨2, ![K, 1024]⟩ .bf16) (x1 : Vec Ideal ⟨2, ![4096, 1024]⟩ .f32)
    (g : Vec Ideal ⟨2, ![1, 1024]⟩ .f32) : Vec Ideal ⟨2, ![4096, 1024]⟩ .bf16 :=
  fun i => normed (added x w x1 (i 0)) (fun j => g (ix2 0 j)) (i 1)

/-- The product of a transposed matrix with another: a weight's gradient, summed over the tokens. -/
def tokens {a b : ℕ} (x : Shape.Idx ⟨2, ![4096, a]⟩ → EReal) (y : Shape.Idx ⟨2, ![4096, b]⟩ → EReal) : Shape.Idx ⟨2, ![a, b]⟩ → EReal :=
  fun i => ∑ k : Fin 4096, x (ix2 k (i 0)) * y (ix2 k (i 1))

/-- The product of a matrix with a transposed one: every row against every row of the weights. -/
def against {n K b : ℕ} (x : Shape.Idx ⟨2, ![n, K]⟩ → EReal) (w : Shape.Idx ⟨2, ![b, K]⟩ → EReal) : Shape.Idx ⟨2, ![n, b]⟩ → EReal :=
  fun i => ∑ k : Fin K, x (ix2 (i 0) k) * w (ix2 (i 1) k)

/-- The product of two matrices. -/
def times {n K b : ℕ} (x : Shape.Idx ⟨2, ![n, K]⟩ → EReal) (w : Shape.Idx ⟨2, ![K, b]⟩ → EReal) : Shape.Idx ⟨2, ![n, b]⟩ → EReal :=
  fun i => ∑ k : Fin K, x (ix2 (i 0) k) * w (ix2 k (i 1))

end Cert.Mm

end
-- ==== Proof.Mm.Dh2.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient at the feed-forward block's input: a product, then the normalization's gradient -/

namespace Cert.Kernel4Ideal.Mm

open Idealize.ShloMosaic Idealize.ShloMosaic.TcCoe Idealize.SL.Sem Cert.Kernel4Ideal Cert.Kernel4Ideal.Gen Cert.Mm

theorem pay_rows (x : Vec Ideal S256x5632 .bf16) (w : Vec Ideal S5632x1024 .bf16) (x1 dx2 : Vec Ideal S256x1024 .f32) (g : Vec Ideal S1x1024 .f32)
    (r : Fin 256) (l : Fin 1024) : k0_pay1 dx2 (k0_pay9 x w x1 g) (k0_pay10 x w x1 g) (ix2 r l)
      = back (fun j => x1 (ix2 r j)) (prod x w r) (fun j => g (ix2 0 j)) (fun j => dx2 (ix2 r j)) l := by
  pointwise [k0_pay1, k0_pay9, k0_pay10, k0_pay8, k0_pay7, k0_pay5, k0_pay4, k0_pay3]
  rfl

theorem pay_gain (x : Vec Ideal S256x5632 .bf16) (w : Vec Ideal S5632x1024 .bf16) (x1 : Vec Ideal S256x1024 .f32) (l : Fin 1024) :
    k0_pay6 x w x1 (ix2 0 l) = ((∑ r : Fin 256, gain (fun j => x1 (ix2 r j)) (prod x w r) l : EReal)) := by
  pointwise [k0_pay6, k0_pay5, k0_pay4, k0_pay3]
  rfl

theorem points (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)

/-- A block's row among the array's rows. -/
def row (t : Fin cfg0.N) (r : Fin 256) : Fin 4096 := ⟨256 * t.val + r.val, by have := points t; omega⟩

theorem emb_5 (t : Fin cfg0.N) (r : Fin 256) (l : Fin 1024) : ((cfg0.win 5).blk t).view.emb (ix2 r l) = (ix2 (n0 := 4096) (n1 := 1024) (row t r) l) := by
  obtain ⟨e0, e1⟩ := index_5 t
  refine at_ix2 _ _ _ ?_ ?_
  · show win0_5.index t (0 : Fin 2) * 256 + 1 * r.val = 256 * t.val + r.val; omega
  · show win0_5.index t (1 : Fin 2) * 1024 + 1 * l.val = l.val; omega
theorem emb_6 (t : Fin cfg0.N) (l : Fin 1024) : ((cfg0.win 6).blk t).view.emb (ix2 (n0 := 1) (n1 := 1024) 0 l) = (ix2 (n0 := 1) (n1 := 1024) 0 l) := by
  obtain ⟨e0, e1⟩ := index_6 t
  refine at_ix2 _ _ _ ?_ ?_
  · show win0_6.index t (0 : Fin 2) * 1 + 1 * 0 = 0; omega
  · show win0_6.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 256) (k : Fin 5632) : iblk m c 0 t (ix2 r k) = m ((c : Thread nD τ).loc main_arg0) (ix2 (n0 := 4096) (n1 := 5632) (row t r) k) := by
  obtain ⟨e0, e1⟩ := index_0 t
  refine congrArg (V m c main_arg0) (at_ix2 _ _ _ ?_ ?_)
  · show win0_0.index t (0 : Fin 2) * 256 + 1 * r.val = 256 * t.val + r.val; omega
  · show win0_0.index t (1 : Fin 2) * 5632 + 1 * k.val = k.val; omega
theorem block_1 (c : Dev nD) (t : Fin cfg0.N) (k : Fin 5632) (l : Fin 1024) : iblk m c 1 t (ix2 k l) = m ((c : Thread nD τ).loc main_arg1) (ix2 (n0 := 5632) (n1 := 1024) k l) := by
  obtain ⟨e0, e1⟩ := index_1 t
  refine congrArg (V m c main_arg1) (at_ix2 _ _ _ ?_ ?_)
  · show win0_1.index t (0 : Fin 2) * 5632 + 1 * k.val = k.val; omega
  · show win0_1.index t (1 : Fin 2) * 1024 + 1 * l.val = l.val; omega
theorem block_2 (c : Dev nD) (t : Fin cfg0.N) (r : Fin 256) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 256 + 1 * r.val = 256 * t.val + r.val; omega
  · show win0_2.index t (1 : Fin 2) * 1024 + 1 * l.val = l.val; omega
theorem block_3 (c : Dev nD) (t : Fin cfg0.N) (r : Fin 256) (l : Fin 1024) : iblk m c 3 t (ix2 r l) = m ((c : Thread nD τ).loc main_arg3) (ix2 (n0 := 4096) (n1 := 1024) (row t r) l) := by
  obtain ⟨e0, e1⟩ := index_3 t
  refine congrArg (V m c main_arg3) (at_ix2 _ _ _ ?_ ?_)
  · show win0_3.index t (0 : Fin 2) * 256 + 1 * r.val = 256 * t.val + r.val; omega
  · show win0_3.index t (1 : Fin 2) * 1024 + 1 * l.val = l.val; omega
theorem block_4 (c : Dev nD) (t : Fin cfg0.N) (l : Fin 1024) : iblk m c 4 t (ix2 (n0 := 1) (n1 := 1024) 0 l) = m ((c : Thread nD τ).loc main_arg4) (ix2 (n0 := 1) (n1 := 1024) 0 l) := by
  obtain ⟨e0, e1⟩ := index_4 t
  refine congrArg (V m c main_arg4) (at_ix2 _ _ _ ?_ ?_)
  · show win0_4.index t (0 : Fin 2) * 1 + 1 * 0 = 0; omega
  · show win0_4.index t (1 : Fin 2) * 1024 + 1 * l.val = l.val; omega

theorem block_prod (c : Dev nD) (t : Fin cfg0.N) (r : Fin 256) :
    prod (n := 256) (iblk m c 0 t) (iblk m c 1 t) r = prod (n := 4096) (m ((c : Thread nD τ).loc main_arg0)) (m ((c : Thread nD τ).loc main_arg1)) (row t r) :=
  funext fun l => Finset.sum_congr rfl fun k _ => congrArg₂ (fun u v : EReal => u * v) (block_0 m c t r k) (block_1 m c t k l)

/-- The first result's block after its point. -/
theorem rows_at (c : Dev nD) (t : Fin cfg0.N) (r : Fin 256) (l : Fin 1024) : (outsAt0 m c t.val t.isLt).1 (ix2 r l)
    = wholeRows (m ((c : Thread nD τ).loc main_arg0)) (m ((c : Thread nD τ).loc main_arg1)) (m ((c : Thread nD τ).loc main_arg2)) (m ((c : Thread nD τ).loc main_arg3))
        (m ((c : Thread nD τ).loc main_arg4)) (ix2 (row t r) l) := by
  have e : (outsAt0 m c t.val t.isLt).1 = k0_pay1 (iblk m c 3 t) (k0_pay9 (iblk m c 0 t) (iblk m c 1 t) (iblk m c 2 t) (iblk m c 4 t))
      (k0_pay10 (iblk m c 0 t) (iblk m c 1 t) (iblk m c 2 t) (iblk m c 4 t)) := by
    by_cases h : 1 ≤ t.val
    · rw [outsAt0_B m c t (by have := points t; omega) h]; frame_out
    · rw [outsAt0_A m c t (by omega) h]; frame_out
  rw [e, pay_rows]
  show back _ _ _ _ l = back _ _ _ _ l
  congr 1
  · exact funext fun j => block_2 m c t r j
  · exact block_prod m c t r
  · exact funext fun j => block_4 m c t j
  · exact funext fun j => block_3 m c t r j

/-- A row's part of the gain's gradient, from the arguments. -/
def part (c : Dev nD) (l : Fin 1024) (k : Fin 4096) : EReal :=
  gain (fun j => m ((c : Thread nD τ).loc main_arg2) (ix2 (n0 := 4096) (n1 := 1024) k j))
    (prod (n := 4096) (m ((c : Thread nD τ).loc main_arg0)) (m ((c : Thread nD τ).loc main_arg1)) k) l

/-- A block's part of the gain's gradient. -/
def parts (c : Dev nD) (n : ℕ) (l : Fin 1024) : EReal := ∑ r : Fin 256, if h : 256 * n + r.val < 4096 then part m c l ⟨256 * n + r.val, h⟩ else 0

theorem block_gain (c : Dev nD) (t : Fin cfg0.N) (l : Fin 1024) : k0_pay6 (iblk m c 0 t) (iblk m c 1 t) (iblk m c 2 t) (ix2 0 l) = parts m c t.val l := by
  rw [pay_gain]
  refine Finset.sum_congr rfl fun r _ => ?_
  rw [dif_pos (show 256 * t.val + r.val < 4096 by have := points t; omega), block_prod]
  exact congrArg (fun x => gain x _ l) (funext fun j => block_2 m c t r j)

theorem gain_first (c : Dev nD) (t : Fin cfg0.N) (h : ¬1 ≤ t.val) :
    (outsAt0 m c t.val t.isLt).2 = k0_pay6 (iblk m c 0 t) (iblk m c 1 t) (iblk m c 2 t) := by
  rw [outsAt0_A m c t (by omega) h]; frame_out

theorem gain_next (c : Dev nD) (t : Fin cfg0.N) (h : 1 ≤ t.val) :
    (outsAt0 m c t.val t.isLt).2 = k0_pay2 (k0_pay6 (iblk m c 0 t) (iblk m c 1 t) (iblk m c 2 t)) (outsAt0 m c (t.val - 1) (Nat.lt_of_le_of_lt (Nat.sub_le _ _) t.isLt)).2 := by
  rw [outsAt0_B m c t (by have := points t; omega) h]; frame_out

theorem pay_add (u v : Vec Ideal S1x1024 .f32) (l : Fin 1024) : k0_pay2 u v (ix2 0 l) = ((v (ix2 0 l) : EReal) + u (ix2 0 l) : EReal) := by
  pointwise [k0_pay2]

/-- The second result's accumulated contents after a point. -/
theorem gain_at (c : Dev nD) : ∀ (n : ℕ) (hn : n < cfg0.N) (l : Fin 1024),
    (outsAt0 m c n hn).2 (ix2 0 l) = ((∑ k ∈ Finset.range (n + 1), parts m c k l : EReal))
  | 0, hn, l => by
    rw [gain_first m c ⟨0, hn⟩ (by simp), block_gain]; simp
  | n + 1, hn, l => by
    rw [gain_next m c ⟨n + 1, hn⟩ (by simp), pay_add, block_gain, Finset.sum_range_succ]
    exact congrArg (fun u : EReal => u + parts m c (n + 1) l) (gain_at c n _ l)

theorem flushed_rows (c : Dev nD) (t : Fin cfg0.N) : (dats m 0 c).flushed 5 t
    = ((cfg0.win 5).blk t).view.read (Elt Ideal) (wholeRows (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  funext j
  obtain ⟨r, l, rfl⟩ : ∃ (r : Fin 256) (l : Fin 1024), j = ix2 r l := ⟨j 0, j 1, at_ix2 _ _ _ rfl rfl⟩
  show (outsAt0 m c t.val t.isLt).1 (ix2 r l) = wholeRows _ _ _ _ _ (((cfg0.win 5).blk t).view.emb (ix2 r l))
  rw [emb_5, rows_at]

theorem covered_rows (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨r.val / 256, by rw [show cfg0.N = 16 from N_0]; omega⟩
  have e : ix2 r l = ((cfg0.win 5).blk t).view.emb (ix2 (n0 := 256) (n1 := 1024) ⟨r.val % 256, by omega⟩ l) := by
    rw [emb_5]; exact congrArg (fun s => ix2 s l) (Fin.ext (show r.val = 256 * (r.val / 256) + r.val % 256 by omega))
  exact ⟨t, flush0_5 t, by rw [e]; exact ((cfg0.win 5).blk t).view.emb_mem_set _⟩

theorem flushed_gain (c : Dev nD) (t : Fin cfg0.N) (h : (cfg0.win 6).flush t = true) : (dats m 0 c).flushed 6 t
    = ((cfg0.win 6).blk t).view.read (Elt Ideal) (wholeGain (m ((c : Thread nD τ).loc main_arg0)) (m ((c : Thread nD τ).loc main_arg1)) (m ((c : Thread nD τ).loc main_arg2))) := by
  have ht : t.val = 15 := by have := (flush0_6 t).mp h; have := points t; omega
  rw [Value.flushed6]
  funext j
  obtain ⟨l, rfl⟩ : ∃ l : Fin 1024, j = ix2 (n0 := 1) (n1 := 1024) 0 l := ⟨j 1, at_row j⟩
  show (outsAt0 m c t.val t.isLt).2 (ix2 0 l) = wholeGain _ _ _ (((cfg0.win 6).blk t).view.emb (ix2 0 l))
  rw [emb_6, gain_at, ht]
  exact sum_blocks (p := 16) (b := 256) rfl (part m c l) (fun n => parts m c n l) fun n hn => Finset.sum_congr rfl fun r _ => dif_pos (by omega)

theorem covered_gain (i : S1x1024.Idx) : ∃ t : Fin cfg0.N, (cfg0.win 6).flush t = true ∧ i ∈ ((cfg0.win 6).blk t).view.set := by
  obtain ⟨l, rfl⟩ : ∃ l : Fin 1024, i = ix2 (n0 := 1) (n1 := 1024) 0 l := ⟨i 1, at_row i⟩
  let t : Fin cfg0.N := ⟨15, by rw [show cfg0.N = 16 from N_0]; omega⟩
  exact ⟨t, (flush0_6 t).mpr rfl, by rw [← emb_6 t l]; exact ((cfg0.win 6).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = wholeGain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_rows m c t) covered_rows),
    (h c).2.1.trans ((dats m 0 c).arrAt_eq_of_cover 6 _ (fun t ht => flushed_gain m c t ht) covered_gain), (h c).2.2⟩)
    (Value.run_blocks m ρ)

end Cert.Kernel4Ideal.Mm

namespace Cert.Reference4Ideal.Mm

open Idealize.ShloMosaic Idealize.ShloMosaic.TcCoe Idealize.SL.Sem Cert.Reference4Ideal Cert.Reference4Ideal.Gen Cert.Reference4Ideal.Read

theorem value_rows (x : Vec Ideal S4096x5632 .bf16) (w : Vec Ideal S5632x1024 .bf16) (x1 dx2 : Vec Ideal S4096x1024 .f32) (g : Vec Ideal S1x1024 .f32) :
    val_main_v39 (F := Ideal) x w x1 dx2 g = Cert.Mm.wholeRows x w x1 dx2 g := by
  funext i
  obtain ⟨r, l, rfl⟩ : ∃ (r : Fin 4096) (l : Fin 1024), i = ix2 r l := ⟨i 0, i 1, Cert.Mm.at_ix2 _ _ _ rfl rfl⟩
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6]
  exact Cert.Mm.back_comm (fun j => x1 (ix2 r j)) (Cert.Mm.prod x w r) (fun j => g (ix2 0 j)) (fun j => dx2 (ix2 r j)) l

theorem value_gain (x : Vec Ideal S4096x5632 .bf16) (w : Vec Ideal S5632x1024 .bf16) (x1 : Vec Ideal S4096x1024 .f32) :
    val_main_v22 (F := Ideal) x w x1 = Cert.Mm.wholeGain x w x1 := by
  funext i
  obtain ⟨l, rfl⟩ : ∃ l : Fin 1024, i = ix2 (n0 := 1) (n1 := 1024) 0 l := ⟨i 1, Cert.Mm.at_row i⟩
  pointwise [val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5, val_main_cst_6]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v39) = Cert.Mm.wholeRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v22) = Cert.Mm.wholeGain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((val_main_v39_eq _ _).trans (value_rows _ _ _ _ _)),
    (h c).2.1.trans ((val_main_v22_eq _ _ _).trans (value_gain _ _ _)), (h c).2.2⟩) (Value.run (F := Ideal) m ρ)

end Cert.Reference4Ideal.Mm

end
-- ==== Proof.Mm.Dh1.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient at the layer's input: a product, then the normalization's gradient -/

namespace Cert.Kernel5Ideal.Mm

open Idealize.ShloMosaic Idealize.ShloMosaic.TcCoe Idealize.SL.Sem Cert.Kernel5Ideal Cert.Kernel5Ideal.Gen Cert.Mm

theorem pay_rows (x : Vec Ideal S256x5760 .bf16) (w : Vec Ideal S5760x1024 .bf16) (x1 dx2 : Vec Ideal S256x1024 .f32) (g : Vec Ideal S1x1024 .f32)
    (r : Fin 256) (l : Fin 1024) : k0_pay1 dx2 (k0_pay9 x w x1 g) (k0_pay10 x w x1 g) (ix2 r l)
      = back (fun j => x1 (ix2 r j)) (prod x w r) (fun j => g (ix2 0 j)) (fun j => dx2 (ix2 r j)) l := by
  pointwise [k0_pay1, k0_pay9, k0_pay10, k0_pay8, k0_pay7, k0_pay5, k0_pay4, k0_pay3]
  rfl

theorem pay_gain (x : Vec Ideal S256x5760 .bf16) (w : Vec Ideal S5760x1024 .bf16) (x1 : Vec Ideal S256x1024 .f32) (l : Fin 1024) :
    k0_pay6 x w x1 (ix2 0 l) = ((∑ r : Fin 256, gain (fun j => x1 (ix2 r j)) (prod x w r) l : EReal)) := by
  pointwise [k0_pay6, k0_pay5, k0_pay4, k0_pay3]
  rfl

theorem points (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)

/-- A block's row among the array's rows. -/
def row (t : Fin cfg0.N) (r : Fin 256) : Fin 4096 := ⟨256 * t.val + r.val, by have := points t; omega⟩

theorem emb_5 (t : Fin cfg0.N) (r : Fin 256) (l : Fin 1024) : ((cfg0.win 5).blk t).view.emb (ix2 r l) = (ix2 (n0 := 4096) (n1 := 1024) (row t r) l) := by
  obtain ⟨e0, e1⟩ := index_5 t
  refine at_ix2 _ _ _ ?_ ?_
  · show win0_5.index t (0 : Fin 2) * 256 + 1 * r.val = 256 * t.val + r.val; omega
  · show win0_5.index t (1 : Fin 2) * 1024 + 1 * l.val = l.val; omega
theorem emb_6 (t : Fin cfg0.N) (l : Fin 1024) : ((cfg0.win 6).blk t).view.emb (ix2 (n0 := 1) (n1 := 1024) 0 l) = (ix2 (n0 := 1) (n1 := 1024) 0 l) := by
  obtain ⟨e0, e1⟩ := index_6 t
  refine at_ix2 _ _ _ ?_ ?_
  · show win0_6.index t (0 : Fin 2) * 1 + 1 * 0 = 0; omega
  · show win0_6.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 256) (k : Fin 5760) : iblk m c 0 t (ix2 r k) = m ((c : Thread nD τ).loc main_arg0) (ix2 (n0 := 4096) (n1 := 5760) (row t r) k) := by
  obtain ⟨e0, e1⟩ := index_0 t
  refine congrArg (V m c main_arg0) (at_ix2 _ _ _ ?_ ?_)
  · show win0_0.index t (0 : Fin 2) * 256 + 1 * r.val = 256 * t.val + r.val; omega
  · show win0_0.index t (1 : Fin 2) * 5760 + 1 * k.val = k.val; omega
theorem block_1 (c : Dev nD) (t : Fin cfg0.N) (k : Fin 5760) (l : Fin 1024) : iblk m c 1 t (ix2 k l) = m ((c : Thread nD τ).loc main_arg1) (ix2 (n0 := 5760) (n1 := 1024) k l) := by
  obtain ⟨e0, e1⟩ := index_1 t
  refine congrArg (V m c main_arg1) (at_ix2 _ _ _ ?_ ?_)
  · show win0_1.index t (0 : Fin 2) * 5760 + 1 * k.val = k.val; omega
  · show win0_1.index t (1 : Fin 2) * 1024 + 1 * l.val = l.val; omega
theorem block_2 (c : Dev nD) (t : Fin cfg0.N) (r : Fin 256) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 256 + 1 * r.val = 256 * t.val + r.val; omega
  · show win0_2.index t (1 : Fin 2) * 1024 + 1 * l.val = l.val; omega
theorem block_3 (c : Dev nD) (t : Fin cfg0.N) (r : Fin 256) (l : Fin 1024) : iblk m c 3 t (ix2 r l) = m ((c : Thread nD τ).loc main_arg3) (ix2 (n0 := 4096) (n1 := 1024) (row t r) l) := by
  obtain ⟨e0, e1⟩ := index_3 t
  refine congrArg (V m c main_arg3) (at_ix2 _ _ _ ?_ ?_)
  · show win0_3.index t (0 : Fin 2) * 256 + 1 * r.val = 256 * t.val + r.val; omega
  · show win0_3.index t (1 : Fin 2) * 1024 + 1 * l.val = l.val; omega
theorem block_4 (c : Dev nD) (t : Fin cfg0.N) (l : Fin 1024) : iblk m c 4 t (ix2 (n0 := 1) (n1 := 1024) 0 l) = m ((c : Thread nD τ).loc main_arg4) (ix2 (n0 := 1) (n1 := 1024) 0 l) := by
  obtain ⟨e0, e1⟩ := index_4 t
  refine congrArg (V m c main_arg4) (at_ix2 _ _ _ ?_ ?_)
  · show win0_4.index t (0 : Fin 2) * 1 + 1 * 0 = 0; omega
  · show win0_4.index t (1 : Fin 2) * 1024 + 1 * l.val = l.val; omega

theorem block_prod (c : Dev nD) (t : Fin cfg0.N) (r : Fin 256) :
    prod (n := 256) (iblk m c 0 t) (iblk m c 1 t) r = prod (n := 4096) (m ((c : Thread nD τ).loc main_arg0)) (m ((c : Thread nD τ).loc main_arg1)) (row t r) :=
  funext fun l => Finset.sum_congr rfl fun k _ => congrArg₂ (fun u v : EReal => u * v) (block_0 m c t r k) (block_1 m c t k l)

/-- The first result's block after its point. -/
theorem rows_at (c : Dev nD) (t : Fin cfg0.N) (r : Fin 256) (l : Fin 1024) : (outsAt0 m c t.val t.isLt).1 (ix2 r l)
    = wholeRows (m ((c : Thread nD τ).loc main_arg0)) (m ((c : Thread nD τ).loc main_arg1)) (m ((c : Thread nD τ).loc main_arg2)) (m ((c : Thread nD τ).loc main_arg3))
        (m ((c : Thread nD τ).loc main_arg4)) (ix2 (row t r) l) := by
  have e : (outsAt0 m c t.val t.isLt).1 = k0_pay1 (iblk m c 3 t) (k0_pay9 (iblk m c 0 t) (iblk m c 1 t) (iblk m c 2 t) (iblk m c 4 t))
      (k0_pay10 (iblk m c 0 t) (iblk m c 1 t) (iblk m c 2 t) (iblk m c 4 t)) := by
    by_cases h : 1 ≤ t.val
    · rw [outsAt0_B m c t (by have := points t; omega) h]; frame_out
    · rw [outsAt0_A m c t (by omega) h]; frame_out
  rw [e, pay_rows]
  show back _ _ _ _ l = back _ _ _ _ l
  congr 1
  · exact funext fun j => block_2 m c t r j
  · exact block_prod m c t r
  · exact funext fun j => block_4 m c t j
  · exact funext fun j => block_3 m c t r j

/-- A row's part of the gain's gradient, from the arguments. -/
def part (c : Dev nD) (l : Fin 1024) (k : Fin 4096) : EReal :=
  gain (fun j => m ((c : Thread nD τ).loc main_arg2) (ix2 (n0 := 4096) (n1 := 1024) k j))
    (prod (n := 4096) (m ((c : Thread nD τ).loc main_arg0)) (m ((c : Thread nD τ).loc main_arg1)) k) l

/-- A block's part of the gain's gradient. -/
def parts (c : Dev nD) (n : ℕ) (l : Fin 1024) : EReal := ∑ r : Fin 256, if h : 256 * n + r.val < 4096 then part m c l ⟨256 * n + r.val, h⟩ else 0

theorem block_gain (c : Dev nD) (t : Fin cfg0.N) (l : Fin 1024) : k0_pay6 (iblk m c 0 t) (iblk m c 1 t) (iblk m c 2 t) (ix2 0 l) = parts m c t.val l := by
  rw [pay_gain]
  refine Finset.sum_congr rfl fun r _ => ?_
  rw [dif_pos (show 256 * t.val + r.val < 4096 by have := points t; omega), block_prod]
  exact congrArg (fun x => gain x _ l) (funext fun j => block_2 m c t r j)

theorem gain_first (c : Dev nD) (t : Fin cfg0.N) (h : ¬1 ≤ t.val) :
    (outsAt0 m c t.val t.isLt).2 = k0_pay6 (iblk m c 0 t) (iblk m c 1 t) (iblk m c 2 t) := by
  rw [outsAt0_A m c t (by omega) h]; frame_out

theorem gain_next (c : Dev nD) (t : Fin cfg0.N) (h : 1 ≤ t.val) :
    (outsAt0 m c t.val t.isLt).2 = k0_pay2 (k0_pay6 (iblk m c 0 t) (iblk m c 1 t) (iblk m c 2 t)) (outsAt0 m c (t.val - 1) (Nat.lt_of_le_of_lt (Nat.sub_le _ _) t.isLt)).2 := by
  rw [outsAt0_B m c t (by have := points t; omega) h]; frame_out

theorem pay_add (u v : Vec Ideal S1x1024 .f32) (l : Fin 1024) : k0_pay2 u v (ix2 0 l) = ((v (ix2 0 l) : EReal) + u (ix2 0 l) : EReal) := by
  pointwise [k0_pay2]

/-- The second result's accumulated contents after a point. -/
theorem gain_at (c : Dev nD) : ∀ (n : ℕ) (hn : n < cfg0.N) (l : Fin 1024),
    (outsAt0 m c n hn).2 (ix2 0 l) = ((∑ k ∈ Finset.range (n + 1), parts m c k l : EReal))
  | 0, hn, l => by
    rw [gain_first m c ⟨0, hn⟩ (by simp), block_gain]; simp
  | n + 1, hn, l => by
    rw [gain_next m c ⟨n + 1, hn⟩ (by simp), pay_add, block_gain, Finset.sum_range_succ]
    exact congrArg (fun u : EReal => u + parts m c (n + 1) l) (gain_at c n _ l)

theorem flushed_rows (c : Dev nD) (t : Fin cfg0.N) : (dats m 0 c).flushed 5 t
    = ((cfg0.win 5).blk t).view.read (Elt Ideal) (wholeRows (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  funext j
  obtain ⟨r, l, rfl⟩ : ∃ (r : Fin 256) (l : Fin 1024), j = ix2 r l := ⟨j 0, j 1, at_ix2 _ _ _ rfl rfl⟩
  show (outsAt0 m c t.val t.isLt).1 (ix2 r l) = wholeRows _ _ _ _ _ (((cfg0.win 5).blk t).view.emb (ix2 r l))
  rw [emb_5, rows_at]

theorem covered_rows (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨r.val / 256, by rw [show cfg0.N = 16 from N_0]; omega⟩
  have e : ix2 r l = ((cfg0.win 5).blk t).view.emb (ix2 (n0 := 256) (n1 := 1024) ⟨r.val % 256, by omega⟩ l) := by
    rw [emb_5]; exact congrArg (fun s => ix2 s l) (Fin.ext (show r.val = 256 * (r.val / 256) + r.val % 256 by omega))
  exact ⟨t, flush0_5 t, by rw [e]; exact ((cfg0.win 5).blk t).view.emb_mem_set _⟩

theorem flushed_gain (c : Dev nD) (t : Fin cfg0.N) (h : (cfg0.win 6).flush t = true) : (dats m 0 c).flushed 6 t
    = ((cfg0.win 6).blk t).view.read (Elt Ideal) (wholeGain (m ((c : Thread nD τ).loc main_arg0)) (m ((c : Thread nD τ).loc main_arg1)) (m ((c : Thread nD τ).loc main_arg2))) := by
  have ht : t.val = 15 := by have := (flush0_6 t).mp h; have := points t; omega
  rw [Value.flushed6]
  funext j
  obtain ⟨l, rfl⟩ : ∃ l : Fin 1024, j = ix2 (n0 := 1) (n1 := 1024) 0 l := ⟨j 1, at_row j⟩
  show (outsAt0 m c t.val t.isLt).2 (ix2 0 l) = wholeGain _ _ _ (((cfg0.win 6).blk t).view.emb (ix2 0 l))
  rw [emb_6, gain_at, ht]
  exact sum_blocks (p := 16) (b := 256) rfl (part m c l) (fun n => parts m c n l) fun n hn => Finset.sum_congr rfl fun r _ => dif_pos (by omega)

theorem covered_gain (i : S1x1024.Idx) : ∃ t : Fin cfg0.N, (cfg0.win 6).flush t = true ∧ i ∈ ((cfg0.win 6).blk t).view.set := by
  obtain ⟨l, rfl⟩ : ∃ l : Fin 1024, i = ix2 (n0 := 1) (n1 := 1024) 0 l := ⟨i 1, at_row i⟩
  let t : Fin cfg0.N := ⟨15, by rw [show cfg0.N = 16 from N_0]; omega⟩
  exact ⟨t, (flush0_6 t).mpr rfl, by rw [← emb_6 t l]; exact ((cfg0.win 6).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = wholeGain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_rows m c t) covered_rows),
    (h c).2.1.trans ((dats m 0 c).arrAt_eq_of_cover 6 _ (fun t ht => flushed_gain m c t ht) covered_gain), (h c).2.2⟩)
    (Value.run_blocks m ρ)

end Cert.Kernel5Ideal.Mm

namespace Cert.Reference5Ideal.Mm

open Idealize.ShloMosaic Idealize.ShloMosaic.TcCoe Idealize.SL.Sem Cert.Reference5Ideal Cert.Reference5Ideal.Gen Cert.Reference5Ideal.Read

theorem value_rows (x : Vec Ideal S4096x5760 .bf16) (w : Vec Ideal S5760x1024 .bf16) (x1 dx2 : Vec Ideal S4096x1024 .f32) (g : Vec Ideal S1x1024 .f32) :
    val_main_v39 (F := Ideal) x w x1 dx2 g = Cert.Mm.wholeRows x w x1 dx2 g := by
  funext i
  obtain ⟨r, l, rfl⟩ : ∃ (r : Fin 4096) (l : Fin 1024), i = ix2 r l := ⟨i 0, i 1, Cert.Mm.at_ix2 _ _ _ rfl rfl⟩
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    val_main_cst_4, val_main_cst_5, val_main_cst_6]
  exact Cert.Mm.back_comm (fun j => x1 (ix2 r j)) (Cert.Mm.prod x w r) (fun j => g (ix2 0 j)) (fun j => dx2 (ix2 r j)) l

theorem value_gain (x : Vec Ideal S4096x5760 .bf16) (w : Vec Ideal S5760x1024 .bf16) (x1 : Vec Ideal S4096x1024 .f32) :
    val_main_v22 (F := Ideal) x w x1 = Cert.Mm.wholeGain x w x1 := by
  funext i
  obtain ⟨l, rfl⟩ : ∃ l : Fin 1024, i = ix2 (n0 := 1) (n1 := 1024) 0 l := ⟨i 1, Cert.Mm.at_row i⟩
  pointwise [val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5, val_main_cst_6]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v39) = Cert.Mm.wholeRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v22) = Cert.Mm.wholeGain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((val_main_v39_eq _ _).trans (value_rows _ _ _ _ _)),
    (h c).2.1.trans ((val_main_v22_eq _ _ _).trans (value_gain _ _ _)), (h c).2.2⟩) (Value.run (F := Ideal) m ρ)

end Cert.Reference5Ideal.Mm

end
-- ==== Proof.Mm.Din.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of the input projection: one product, cut into blocks of its rows -/

namespace Cert.Kernel6Ideal.Mm

open Idealize.ShloMosaic Idealize.ShloMosaic.TcCoe Idealize.SL.Sem Cert.Kernel6Ideal Cert.Kernel6Ideal.Gen Cert.Mm

theorem origin : (![0, 0] : Fin 2 → Nat) = fun _ => 0 := funext fun a => by match a with | ⟨0, _⟩ => rfl | ⟨1, _⟩ => rfl

theorem points (t : Fin cfg0.N) : t.val < 9 := lt_of_lt_of_eq t.isLt (show cfg0.N = 9 from N_0)

theorem index_0 : ∀ t : Fin cfg0.N, win0_0.index t (0 : Fin 2) = 0 ∧ win0_0.index t (1 : Fin 2) = t.val := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the result's rows. -/
def row (t : Fin cfg0.N) (r : Fin 640) : Fin 5760 := ⟨640 * t.val + r.val, by have := points t; omega⟩

theorem emb_2 (t : Fin cfg0.N) (r : Fin 640) (l : Fin 1024) : ((cfg0.win 2).blk t).view.emb (ix2 r l) = (ix2 (n0 := 5760) (n1 := 1024) (row t r) l) := by
  obtain ⟨e0, e1⟩ := index_2 t
  refine at_ix2 _ _ _ ?_ ?_
  · show win0_2.index t (0 : Fin 2) * 640 + 1 * r.val = 640 * t.val + r.val; omega
  · show win0_2.index t (1 : Fin 2) * 1024 + 1 * l.val = l.val; omega

/-- A block's product, entry by entry. -/
theorem pay_at (x : Vec Ideal S4096x640 .bf16) (y : Vec Ideal S4096x1024 .bf16) (r : Fin 640) (l : Fin 1024) :
    k0_pay1 x y (ix2 r l) = tokens x y (ix2 r l) := by
  pointwise [k0_pay1]
  rfl

variable (m : (ℓ : Loc nD τ sig) → Buf (Elt Ideal) ℓ) (ρ : Dev nD → PrngReg)

theorem block_0 (c : Dev nD) (t : Fin cfg0.N) (k : Fin 4096) (r : Fin 640) : iblk m c 0 t (ix2 k r)
    = m ((c : Thread nD τ).loc main_arg0) (ix2 (n0 := 4096) (n1 := 5760) k (row t r)) := by
  obtain ⟨e0, e1⟩ := index_0 t
  refine congrArg (V m c main_arg0) (at_ix2 _ _ _ ?_ ?_)
  · show win0_0.index t (0 : Fin 2) * 4096 + 1 * k.val = k.val; omega
  · show win0_0.index t (1 : Fin 2) * 640 + 1 * r.val = 640 * t.val + r.val; omega
theorem block_1 (c : Dev nD) (t : Fin cfg0.N) (k : Fin 4096) (l : Fin 1024) : iblk m c 1 t (ix2 k l)
    = m ((c : Thread nD τ).loc main_arg1) (ix2 (n0 := 4096) (n1 := 1024) k l) := by
  obtain ⟨e0, e1⟩ := index_1 t
  refine congrArg (V m c main_arg1) (at_ix2 _ _ _ ?_ ?_)
  · show win0_1.index t (0 : Fin 2) * 4096 + 1 * k.val = k.val; omega
  · show win0_1.index t (1 : Fin 2) * 1024 + 1 * l.val = l.val; omega

theorem flushed (c : Dev nD) (t : Fin cfg0.N) : (dats m 0 c).flushed 2 t
    = ((cfg0.win 2).blk t).view.read (Elt Ideal) (tokens (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 640) (l : Fin 1024), j = ix2 r l := ⟨j 0, j 1, at_ix2 _ _ _ rfl rfl⟩
  show k0_pay1 (iblk m c 0 t) (iblk m c 1 t) (ix2 r l) = tokens (a := 5760) (b := 1024) _ _ (((cfg0.win 2).blk t).view.emb (ix2 r l))
  rw [emb_2, pay_at]
  exact Finset.sum_congr rfl fun k _ => congrArg₂ (fun u v : EReal => u * v) (block_0 m c t k r) (block_1 m c t k l)

theorem covered (i : S5760x1024.Idx) : ∃ t : Fin cfg0.N, (cfg0.win 2).flush t = true ∧ i ∈ ((cfg0.win 2).blk t).view.set := by
  obtain ⟨r, l, rfl⟩ : ∃ (r : Fin 5760) (l : Fin 1024), i = ix2 r l := ⟨i 0, i 1, at_ix2 _ _ _ rfl rfl⟩
  let t : Fin cfg0.N := ⟨r.val / 640, by rw [show cfg0.N = 9 from N_0]; omega⟩
  have e : ix2 r l = ((cfg0.win 2).blk t).view.emb (ix2 (n0 := 640) (n1 := 1024) ⟨r.val % 640, by omega⟩ l) := by
    rw [emb_2]; exact congrArg (fun s => ix2 s l) (Fin.ext (show r.val = 640 * (r.val / 640) + r.val % 640 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel6Ideal.Mm

namespace Cert.Reference6Ideal.Mm

open Idealize.ShloMosaic Idealize.ShloMosaic.TcCoe Idealize.SL.Sem Cert.Reference6Ideal Cert.Reference6Ideal.Gen Cert.Reference6Ideal.Read

theorem value (x : Vec Ideal S4096x5760 .bf16) (y : Vec Ideal S4096x1024 .bf16) : val_main_v7 (F := Ideal) x y = Cert.Mm.tokens x y := by
  funext i
  obtain ⟨r, l, rfl⟩ : ∃ (r : Fin 5760) (l : Fin 1024), i = ix2 r l := ⟨i 0, i 1, Cert.Mm.at_ix2 _ _ _ rfl rfl⟩
  pointwise [val_main_v7, val_main_v6, val_main_v5, val_main_v4, val_main_v3, val_main_v1]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v7_eq _ _).trans (value _ _)), (h c).2⟩) (Value.run (F := Ideal) m ρ)

end Cert.Reference6Ideal.Mm

end
-- ==== Proof.Mm.Ddown.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of the down projection: one product, cut into blocks of its rows and columns -/

namespace Cert.Kernel7Ideal.Mm

open Idealize.ShloMosaic Idealize.ShloMosaic.TcCoe Idealize.SL.Sem Cert.Kernel7Ideal Cert.Kernel7Ideal.Gen Cert.Mm

theorem origin : (![0, 0] : Fin 2 → Nat) = fun _ => 0 := funext fun a => by match a with | ⟨0, _⟩ => rfl | ⟨1, _⟩ => rfl

theorem points (t : Fin cfg0.N) : t.val < 8 := lt_of_lt_of_eq t.isLt (show cfg0.N = 8 from N_0)

theorem index_0 : ∀ t : Fin cfg0.N, win0_0.index t (0 : Fin 2) = 0 ∧ win0_0.index t (1 : Fin 2) = t.val / 4 := (by decide +kernel : ∀ t : Fin grid0.N, _)
theorem index_1 : ∀ t : Fin cfg0.N, win0_1.index t (0 : Fin 2) = 0 ∧ win0_1.index t (1 : Fin 2) = t.val % 4 := (by decide +kernel : ∀ t : Fin grid0.N, _)
theorem index_2 : ∀ t : Fin cfg0.N, win0_2.index t (0 : Fin 2) = t.val / 4 ∧ win0_2.index t (1 : Fin 2) = t.val % 4 := (by decide +kernel : ∀ t : Fin grid0.N, _)

/-- A block's row among the result's rows. -/
def row (t : Fin cfg0.N) (r : Fin 1408) : Fin 2816 := ⟨1408 * (t.val / 4) + r.val, by have := points t; omega⟩
/-- A block's column among the result's columns. -/
def col (t : Fin cfg0.N) (l : Fin 256) : Fin 1024 := ⟨256 * (t.val % 4) + l.val, by omega⟩

theorem emb_2 (t : Fin cfg0.N) (r : Fin 1408) (l : Fin 256) : ((cfg0.win 2).blk t).view.emb (ix2 r l) = (ix2 (n0 := 2816) (n1 := 1024) (row t r) (col t l)) := by
  obtain ⟨e0, e1⟩ := index_2 t
  refine at_ix2 _ _ _ ?_ ?_
  · show win0_2.index t (0 : Fin 2) * 1408 + 1 * r.val = 1408 * (t.val / 4) + r.val; omega
  · show win0_2.index t (1 : Fin 2) * 256 + 1 * l.val = 256 * (t.val % 4) + l.val; omega

/-- A block's product, entry by entry. -/
theorem pay_at (x : Vec Ideal S4096x1408 .bf16) (y : Vec Ideal S4096x256 .f32) (r : Fin 1408) (l : Fin 256) :
    k0_pay1 x y (ix2 r l) = tokens x y (ix2 r l) := by
  pointwise [k0_pay1]
  rfl

variable (m : (ℓ : Loc nD τ sig) → Buf (Elt Ideal) ℓ) (ρ : Dev nD → PrngReg)

theorem block_0 (c : Dev nD) (t : Fin cfg0.N) (k : Fin 4096) (r : Fin 1408) : iblk m c 0 t (ix2 k r)
    = m ((c : Thread nD τ).loc main_arg0) (ix2 (n0 := 4096) (n1 := 2816) k (row t r)) := by
  obtain ⟨e0, e1⟩ := index_0 t
  refine congrArg (V m c main_arg0) (at_ix2 _ _ _ ?_ ?_)
  · show win0_0.index t (0 : Fin 2) * 4096 + 1 * k.val = k.val; omega
  · show win0_0.index t (1 : Fin 2) * 1408 + 1 * r.val = 1408 * (t.val / 4) + r.val; omega
theorem block_1 (c : Dev nD) (t : Fin cfg0.N) (k : Fin 4096) (l : Fin 256) : iblk m c 1 t (ix2 k l)
    = m ((c : Thread nD τ).loc main_arg1) (ix2 (n0 := 4096) (n1 := 1024) k (col t l)) := by
  obtain ⟨e0, e1⟩ := index_1 t
  refine congrArg (V m c main_arg1) (at_ix2 _ _ _ ?_ ?_)
  · show win0_1.index t (0 : Fin 2) * 4096 + 1 * k.val = k.val; omega
  · show win0_1.index t (1 : Fin 2) * 256 + 1 * l.val = 256 * (t.val % 4) + l.val; omega

theorem flushed (c : Dev nD) (t : Fin cfg0.N) : (dats m 0 c).flushed 2 t
    = ((cfg0.win 2).blk t).view.read (Elt Ideal) (tokens (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1408) (l : Fin 256), j = ix2 r l := ⟨j 0, j 1, at_ix2 _ _ _ rfl rfl⟩
  show k0_pay1 (iblk m c 0 t) (iblk m c 1 t) (ix2 r l) = tokens (a := 2816) (b := 1024) _ _ (((cfg0.win 2).blk t).view.emb (ix2 r l))
  rw [emb_2, pay_at]
  exact Finset.sum_congr rfl fun k _ => congrArg₂ (fun u v : EReal => u * v) (block_0 m c t k r) (block_1 m c t k l)

theorem covered (i : S2816x1024.Idx) : ∃ t : Fin cfg0.N, (cfg0.win 2).flush t = true ∧ i ∈ ((cfg0.win 2).blk t).view.set := by
  obtain ⟨r, l, rfl⟩ : ∃ (r : Fin 2816) (l : Fin 1024), i = ix2 r l := ⟨i 0, i 1, at_ix2 _ _ _ rfl rfl⟩
  let t : Fin cfg0.N := ⟨4 * (r.val / 1408) + l.val / 256, by rw [show cfg0.N = 8 from N_0]; omega⟩
  have e : ix2 r l = ((cfg0.win 2).blk t).view.emb (ix2 (n0 := 1408) (n1 := 256) ⟨r.val % 1408, by omega⟩ ⟨l.val % 256, by omega⟩) := by
    rw [emb_2]
    refine congrArg₂ (fun s q => ix2 s q) (Fin.ext ?_) (Fin.ext ?_)
    · show r.val = 1408 * ((4 * (r.val / 1408) + l.val / 256) / 4) + r.val % 1408; omega
    · show l.val = 256 * ((4 * (r.val / 1408) + l.val / 256) % 4) + l.val % 256; omega
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel7Ideal.Mm

namespace Cert.Reference7Ideal.Mm

open Idealize.ShloMosaic Idealize.ShloMosaic.TcCoe Idealize.SL.Sem Cert.Reference7Ideal Cert.Reference7Ideal.Gen Cert.Reference7Ideal.Read

theorem value (x : Vec Ideal S4096x2816 .bf16) (y : Vec Ideal S4096x1024 .f32) : val_main_v5 (F := Ideal) x y = Cert.Mm.tokens x y := by
  funext i
  obtain ⟨r, l, rfl⟩ : ∃ (r : Fin 2816) (l : Fin 1024), i = ix2 r l := ⟨i 0, i 1, Cert.Mm.at_ix2 _ _ _ rfl rfl⟩
  pointwise [val_main_v5, val_main_v4, val_main_v3, val_main_v1]
  exact Finset.sum_congr rfl fun k _ => mul_comm (G := EReal) _ _

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (value _ _)), (h c).2⟩) (Value.run (F := Ideal) m ρ)

end Cert.Reference7Ideal.Mm

end
-- ==== Proof.Mm.Gated.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gate and up projections and the gated unit -/

namespace Cert.Kernel8Ideal.Mm

open Idealize.ShloMosaic Idealize.ShloMosaic.TcCoe Idealize.SL.Sem Cert.Kernel8Ideal Cert.Kernel8Ideal.Gen Cert.Mm

/-- The gated unit of rows whose left half is the gate and whose right half is the up value. -/
def gated {n : ℕ} (u : Shape.Idx ⟨2, ![n, 5632]⟩ → EReal) (r : Fin n) (l : Fin 2816) : EReal :=
  u (ix2 r ⟨l.val, by omega⟩) * Ideal.logistic (u (ix2 r ⟨l.val, by omega⟩)) * u (ix2 r ⟨2816 + l.val, by omega⟩)

/-- The whole activation. -/
def whole (x : Vec Ideal S4096x1024 .bf16) (w : Vec Ideal S5632x1024 .bf16) : Vec Ideal S4096x2816 .bf16 := fun i => gated (against x w) (i 0) (i 1)

theorem points (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)

/-- A block's row among the arrays' rows. -/
def row (t : Fin cfg0.N) (r : Fin 256) : Fin 4096 := ⟨256 * t.val + r.val, by have := points t; omega⟩

theorem emb_2 (t : Fin cfg0.N) (r : Fin 256) (l : Fin 5632) : ((cfg0.win 2).blk t).view.emb (ix2 r l) = (ix2 (n0 := 4096) (n1 := 5632) (row t r) l) := by
  obtain ⟨e0, e1⟩ := index_2 t
  refine at_ix2 _ _ _ ?_ ?_
  · show win0_2.index t (0 : Fin 2) * 256 + 1 * r.val = 256 * t.val + r.val; omega
  · show win0_2.index t (1 : Fin 2) * 5632 + 1 * l.val = l.val; omega
theorem emb_3 (t : Fin cfg0.N) (r : Fin 256) (l : Fin 2816) : ((cfg0.win 3).blk t).view.emb (ix2 r l) = (ix2 (n0 := 4096) (n1 := 2816) (row t r) l) := by
  obtain ⟨e0, e1⟩ := index_3 t
  refine at_ix2 _ _ _ ?_ ?_
  · show win0_3.index t (0 : Fin 2) * 256 + 1 * r.val = 256 * t.val + r.val; omega
  · show win0_3.index t (1 : Fin 2) * 2816 + 1 * l.val = l.val; omega

theorem pay_prod (x : Vec Ideal S256x1024 .bf16) (w : Vec Ideal S5632x1024 .bf16) (r : Fin 256) (l : Fin 5632) :
    k0_pay2 x w (ix2 r l) = against x w (ix2 r l) := by
  pointwise [k0_pay2, k0_pay1]
  rfl

theorem pay_gated (x : Vec Ideal S256x1024 .bf16) (w : Vec Ideal S5632x1024 .bf16) (r : Fin 256) (l : Fin 2816) :
    k0_pay3 x w (ix2 r l) = gated (against x w) r l := by
  pointwise [k0_pay3, k0_pay1]
  rfl

variable (m : (ℓ : Loc nD τ sig) → Buf (Elt Ideal) ℓ) (ρ : Dev nD → PrngReg)

theorem block_0 (c : Dev nD) (t : Fin cfg0.N) (r : Fin 256) (k : Fin 1024) : iblk m c 0 t (ix2 r k)
    = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 256 + 1 * r.val = 256 * t.val + r.val; omega
  · show win0_0.index t (1 : Fin 2) * 1024 + 1 * k.val = k.val; omega
theorem block_1 (c : Dev nD) (t : Fin cfg0.N) (l : Fin 5632) (k : Fin 1024) : iblk m c 1 t (ix2 l k)
    = m ((c : Thread nD τ).loc main_arg1) (ix2 (n0 := 5632) (n1 := 1024) l k) := by
  obtain ⟨e0, e1⟩ := index_1 t
  refine congrArg (V m c main_arg1) (at_ix2 _ _ _ ?_ ?_)
  · show win0_1.index t (0 : Fin 2) * 5632 + 1 * l.val = l.val; omega
  · show win0_1.index t (1 : Fin 2) * 1024 + 1 * k.val = k.val; omega

theorem block_prod (c : Dev nD) (t : Fin cfg0.N) (r : Fin 256) (l : Fin 5632) : against (n := 256) (K := 1024) (b := 5632) (iblk m c 0 t) (iblk m c 1 t) (ix2 r l)
    = against (n := 4096) (K := 1024) (b := 5632) (m ((c : Thread nD τ).loc main_arg0)) (m ((c : Thread nD τ).loc main_arg1)) (ix2 (row t r) l) :=
  Finset.sum_congr rfl fun k _ => congrArg₂ (fun u v : EReal => u * v) (block_0 m c t r k) (block_1 m c t l k)

theorem origin : (![0, 0] : Fin 2 → Nat) = fun _ => 0 := funext fun a => by match a with | ⟨0, _⟩ => rfl | ⟨1, _⟩ => rfl

theorem flushed_prod (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 256) (l : Fin 5632), j = ix2 r l := ⟨j 0, j 1, at_ix2 _ _ _ rfl rfl⟩
  show k0_pay2 (iblk m c 0 t) (iblk m c 1 t) (ix2 r l) = against (n := 4096) (K := 1024) (b := 5632) _ _ (((cfg0.win 2).blk t).view.emb (ix2 r l))
  rw [emb_2, pay_prod, block_prod]

theorem flushed_gated (c : Dev nD) (t : Fin cfg0.N) : (dats m 0 c).flushed 3 t
    = ((cfg0.win 3).blk t).view.read (Elt Ideal) (whole (m ((c : Thread nD τ).loc main_arg0)) (m ((c : Thread nD τ).loc main_arg1))) := by
  rw [Value.flushed3]
  unfold out0_3
  rw [View.canon_unit_zero origin, View.ld_unit_zero origin, View.ld_unit_zero origin]
  funext j
  obtain ⟨r, l, rfl⟩ : ∃ (r : Fin 256) (l : Fin 2816), j = ix2 r l := ⟨j 0, j 1, at_ix2 _ _ _ rfl rfl⟩
  show k0_pay3 (iblk m c 0 t) (iblk m c 1 t) (ix2 r l) = whole _ _ (((cfg0.win 3).blk t).view.emb (ix2 r l))
  rw [emb_3, pay_gated]
  show gated _ r l = gated _ (row t r) l
  unfold gated
  rw [block_prod, block_prod]

theorem covered_prod (i : S4096x5632.Idx) : ∃ t : Fin cfg0.N, (cfg0.win 2).flush t = true ∧ i ∈ ((cfg0.win 2).blk t).view.set := by
  obtain ⟨r, l, rfl⟩ : ∃ (r : Fin 4096) (l : Fin 5632), i = ix2 r l := ⟨i 0, i 1, at_ix2 _ _ _ rfl rfl⟩
  let t : Fin cfg0.N := ⟨r.val / 256, by rw [show cfg0.N = 16 from N_0]; omega⟩
  have e : ix2 r l = ((cfg0.win 2).blk t).view.emb (ix2 (n0 := 256) (n1 := 5632) ⟨r.val % 256, by omega⟩ l) := by
    rw [emb_2]; exact congrArg (fun s => ix2 s l) (Fin.ext (show r.val = 256 * (r.val / 256) + r.val % 256 by omega))
  exact ⟨t, flush0_2 t, by rw [e]; exact ((cfg0.win 2).blk t).view.emb_mem_set _⟩

theorem covered_gated (i : S4096x2816.Idx) : ∃ t : Fin cfg0.N, (cfg0.win 3).flush t = true ∧ i ∈ ((cfg0.win 3).blk t).view.set := by
  obtain ⟨r, l, rfl⟩ : ∃ (r : Fin 4096) (l : Fin 2816), i = ix2 r l := ⟨i 0, i 1, at_ix2 _ _ _ rfl rfl⟩
  let t : Fin cfg0.N := ⟨r.val / 256, by rw [show cfg0.N = 16 from N_0]; omega⟩
  have e : ix2 r l = ((cfg0.win 3).blk t).view.emb (ix2 (n0 := 256) (n1 := 2816) ⟨r.val % 256, by omega⟩ l) := by
    rw [emb_3]; exact congrArg (fun s => ix2 s l) (Fin.ext (show r.val = 256 * (r.val / 256) + r.val % 256 by omega))
  exact ⟨t, flush0_3 t, by rw [e]; exact ((cfg0.win 3).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = against (m ((c : Thread nD τ).loc main_arg0)) (m ((c : Thread nD τ).loc main_arg1))
      ∧ r.2.mem ((c : Thread nD τ).loc main_v0_1) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_prod m c t) covered_prod),
    (h c).2.1.trans ((dats m 0 c).arrAt_eq_of_cover 3 _ (fun t _ => flushed_gated m c t) covered_gated), (h c).2.2⟩)
    (Value.run_blocks m ρ)

end Cert.Kernel8Ideal.Mm

namespace Cert.Reference8Ideal.Mm

open Idealize.ShloMosaic Idealize.ShloMosaic.TcCoe Idealize.SL.Sem Cert.Reference8Ideal Cert.Reference8Ideal.Gen Cert.Reference8Ideal.Read

theorem value_prod (x : Vec Ideal S4096x1024 .bf16) (w : Vec Ideal S5632x1024 .bf16) : val_main_v8 (F := Ideal) x w = Cert.Mm.against x w := by
  funext i
  obtain ⟨r, l, rfl⟩ : ∃ (r : Fin 4096) (l : Fin 5632), i = ix2 r l := ⟨i 0, i 1, Cert.Mm.at_ix2 _ _ _ rfl rfl⟩
  pointwise [val_main_v8, val_main_v3, val_main_v2, val_main_v1, val_main_v0]
  rfl

theorem value_gated (x : Vec Ideal S4096x1024 .bf16) (w : Vec Ideal S5632x1024 .bf16) : val_main_v9 (F := Ideal) x w = Cert.Kernel8Ideal.Mm.whole x w := by
  funext i
  obtain ⟨r, l, rfl⟩ : ∃ (r : Fin 4096) (l : Fin 2816), i = ix2 r l := ⟨i 0, i 1, Cert.Mm.at_ix2 _ _ _ rfl rfl⟩
  pointwise [val_main_v9, val_main_v7, val_main_v6, val_main_v5, val_main_v4, val_main_v3, val_main_v2, val_main_v1, val_main_v0, val_main_call0_v0,
    val_main_call0_v1, val_main_call0_v2, val_main_call0_v3, val_main_call0_v4, val_main_call0_v5, val_main_call0_cst, val_main_call0_cst_0]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = Cert.Mm.against (m ((c : Thread nD τ).loc main_arg0)) (m ((c : Thread nD τ).loc main_arg1))
      ∧ r.2.mem ((c : Thread nD τ).loc main_v9) = Cert.Kernel8Ideal.Mm.whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v8_eq _ _).trans (value_prod _ _)),
    (h c).2.1.trans ((val_main_v9_eq _ _).trans (value_gated _ _)), (h c).2.2⟩) (Value.run (F := Ideal) m ρ)

end Cert.Reference8Ideal.Mm

end
-- ==== Proof.Mm.Proj.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Mm.Rms
public import Idealize.ShloMosaic.Lib.Pointwise
public import Idealize.ShloMosaic.Lib.Pipeline.ValueKit

@[expose] public section

set_option maxRecDepth 16384

noncomputable section

/-! # The input projection: one product, cut into blocks of its rows and columns -/

namespace Cert.Kernel9Ideal.Mm

open Idealize.ShloMosaic Idealize.ShloMosaic.TcCoe Idealize.SL.Sem Cert.Kernel9Ideal Cert.Kernel9Ideal.Gen Cert.Mm

theorem origin : (![0, 0] : Fin 2 → Nat) = fun _ => 0 := funext fun a => by match a with | ⟨0, _⟩ => rfl | ⟨1, _⟩ => rfl

theorem points (t : Fin cfg0.N) : t.val < 12 := lt_of_lt_of_eq t.isLt (show cfg0.N = 12 from N_0)

theorem index_0 : ∀ t : Fin cfg0.N, win0_0.index t (0 : Fin 2) = t.val / 3 ∧ win0_0.index t (1 : Fin 2) = 0 := (by decide +kernel : ∀ t : Fin grid0.N, _)
theorem index_1 : ∀ t : Fin cfg0.N, win0_1.index t (0 : Fin 2) = t.val % 3 ∧ win0_1.index t (1 : Fin 2) = 0 := (by decide +kernel : ∀ t : Fin grid0.N, _)
theorem index_2 : ∀ t : Fin cfg0.N, win0_2.index t (0 : Fin 2) = t.val / 3 ∧ win0_2.index t (1 : Fin 2) = t.val % 3 := (by decide +kernel : ∀ t : Fin grid0.N, _)

/-- A block's row among the result's rows. -/
def row (t : Fin cfg0.N) (r : Fin 1024) : Fin 4096 := ⟨1024 * (t.val / 3) + r.val, by have := points t; omega⟩
/-- A block's column among the result's columns. -/
def col (t : Fin cfg0.N) (l : Fin 1920) : Fin 5760 := ⟨1920 * (t.val % 3) + l.val, by omega⟩

theorem emb_2 (t : Fin cfg0.N) (r : Fin 1024) (l : Fin 1920) : ((cfg0.win 2).blk t).view.emb (ix2 r l) = (ix2 (n0 := 4096) (n1 := 5760) (row t r) (col t l)) := by
  obtain ⟨e0, e1⟩ := index_2 t
  refine at_ix2 _ _ _ ?_ ?_
  · show win0_2.index t (0 : Fin 2) * 1024 + 1 * r.val = 1024 * (t.val / 3) + r.val; omega
  · show win0_2.index t (1 : Fin 2) * 1920 + 1 * l.val = 1920 * (t.val % 3) + l.val; omega

/-- A block's product, entry by entry. -/
theorem pay_at (x : Vec Ideal S1024x1024 .bf16) (w : Vec Ideal S1920x1024 .bf16) (r : Fin 1024) (l : Fin 1920) :
    k0_pay1 x w (ix2 r l) = against x w (ix2 r l) := by
  pointwise [k0_pay1]
  rfl

variable (m : (ℓ : Loc nD τ sig) → Buf (Elt Ideal) ℓ) (ρ : Dev nD → PrngReg)

theorem block_0 (c : Dev nD) (t : Fin cfg0.N) (r k : Fin 1024) : iblk m c 0 t (ix2 r k)
    = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 1024 + 1 * r.val = 1024 * (t.val / 3) + r.val; omega
  · show win0_0.index t (1 : Fin 2) * 1024 + 1 * k.val = k.val; omega
theorem block_1 (c : Dev nD) (t : Fin cfg0.N) (l : Fin 1920) (k : Fin 1024) : iblk m c 1 t (ix2 l k)
    = m ((c : Thread nD τ).loc main_arg1) (ix2 (n0 := 5760) (n1 := 1024) (col t l) k) := by
  obtain ⟨e0, e1⟩ := index_1 t
  refine congrArg (V m c main_arg1) (at_ix2 _ _ _ ?_ ?_)
  · show win0_1.index t (0 : Fin 2) * 1920 + 1 * l.val = 1920 * (t.val % 3) + l.val; omega
  · show win0_1.index t (1 : Fin 2) * 1024 + 1 * k.val = k.val; omega

theorem flushed (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 1920), j = ix2 r l := ⟨j 0, j 1, at_ix2 _ _ _ rfl rfl⟩
  show k0_pay1 (iblk m c 0 t) (iblk m c 1 t) (ix2 r l) = against (n := 4096) (K := 1024) (b := 5760) _ _ (((cfg0.win 2).blk t).view.emb (ix2 r l))
  rw [emb_2, pay_at]
  exact Finset.sum_congr rfl fun k _ => congrArg₂ (fun u v : EReal => u * v) (block_0 m c t r k) (block_1 m c t l k)

theorem covered (i : S4096x5760.Idx) : ∃ t : Fin cfg0.N, (cfg0.win 2).flush t = true ∧ i ∈ ((cfg0.win 2).blk t).view.set := by
  obtain ⟨r, l, rfl⟩ : ∃ (r : Fin 4096) (l : Fin 5760), i = ix2 r l := ⟨i 0, i 1, at_ix2 _ _ _ rfl rfl⟩
  let t : Fin cfg0.N := ⟨3 * (r.val / 1024) + l.val / 1920, by rw [show cfg0.N = 12 from N_0]; omega⟩
  have e : ix2 r l = ((cfg0.win 2).blk t).view.emb (ix2 (n0 := 1024) (n1 := 1920) ⟨r.val % 1024, by omega⟩ ⟨l.val % 1920, by omega⟩) := by
    rw [emb_2]
    refine congrArg₂ (fun s q => ix2 s q) (Fin.ext ?_) (Fin.ext ?_)
    · show r.val = 1024 * ((3 * (r.val / 1024) + l.val / 1920) / 3) + r.val % 1024; omega
    · show l.val = 1920 * ((3 * (r.val / 1024) + l.val / 1920) % 3) + l.val % 1920; omega
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel9Ideal.Mm

namespace Cert.Reference9Ideal.Mm

open Idealize.ShloMosaic Idealize.ShloMosaic.TcCoe Idealize.SL.Sem Cert.Reference9Ideal Cert.Reference9Ideal.Gen Cert.Reference9Ideal.Read

theorem value (x : Vec Ideal S4096x1024 .bf16) (w : Vec Ideal S5760x1024 .bf16) : val_main_v4 (F := Ideal) x w = Cert.Mm.against x w := by
  funext i
  obtain ⟨r, l, rfl⟩ : ∃ (r : Fin 4096) (l : Fin 5760), i = ix2 r l := ⟨i 0, i 1, Cert.Mm.at_ix2 _ _ _ rfl rfl⟩
  pointwise [val_main_v4, val_main_v3, val_main_v2, val_main_v1, val_main_v0]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = Cert.Mm.against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v4_eq _ _).trans (value _ _)), (h c).2⟩) (Value.run (F := Ideal) m ρ)

end Cert.Reference9Ideal.Mm

end
-- ==== Proof.Mm.Down.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Mm.Rms
public import Idealize.ShloMosaic.Lib.Pointwise
public import Idealize.ShloMosaic.Lib.Pipeline.ValueKit

@[expose] public section

set_option maxRecDepth 16384

noncomputable section

/-! # The down projection added to the layer's rows, and the sum normalized -/

namespace Cert.Kernel10Ideal.Mm

open Idealize.ShloMosaic Idealize.ShloMosaic.TcCoe Idealize.SL.Sem Cert.Kernel10Ideal Cert.Kernel10Ideal.Gen Cert.Mm

theorem pay_sum (x : Vec Ideal S512x2816 .bf16) (w : Vec Ideal S2816x1024 .bf16) (x1 : Vec Ideal S512x1024 .f32) (r : Fin 512) (l : Fin 1024) :
    k0_pay1 x w x1 (ix2 r l) = added x w x1 r l := by
  pointwise [k0_pay1]
  rfl

theorem pay_normed (x : Vec Ideal S512x2816 .bf16) (w : Vec Ideal S2816x1024 .bf16) (x1 : Vec Ideal S512x1024 .f32) (g : Vec Ideal S1x1024 .f32) (r : Fin 512) (l : Fin 1024) :
    k0_pay2 x w x1 g (ix2 r l) = normed (added x w x1 r) (fun j => g (ix2 0 j)) l := by
  pointwise [k0_pay2, k0_pay1]
  rfl

theorem origin : (![0, 0] : Fin 2 → Nat) = fun _ => 0 := funext fun a => by match a with | ⟨0, _⟩ => rfl | ⟨1, _⟩ => rfl

theorem points (t : Fin cfg0.N) : t.val < 8 := lt_of_lt_of_eq t.isLt (show cfg0.N = 8 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)

/-- A block's row among the arrays' rows. -/
def row (t : Fin cfg0.N) (r : Fin 512) : Fin 4096 := ⟨512 * t.val + r.val, by have := points t; omega⟩

theorem emb_4 (t : Fin cfg0.N) (r : Fin 512) (l : Fin 1024) : ((cfg0.win 4).blk t).view.emb (ix2 r l) = (ix2 (n0 := 4096) (n1 := 1024) (row t r) l) := by
  obtain ⟨e0, e1⟩ := index_4 t
  refine at_ix2 _ _ _ ?_ ?_
  · show win0_4.index t (0 : Fin 2) * 512 + 1 * r.val = 512 * t.val + r.val; omega
  · show win0_4.index t (1 : Fin 2) * 1024 + 1 * l.val = l.val; omega
theorem emb_5 (t : Fin cfg0.N) (r : Fin 512) (l : Fin 1024) : ((cfg0.win 5).blk t).view.emb (ix2 r l) = (ix2 (n0 := 4096) (n1 := 1024) (row t r) l) := by
  obtain ⟨e0, e1⟩ := index_5 t
  refine at_ix2 _ _ _ ?_ ?_
  · show win0_5.index t (0 : Fin 2) * 512 + 1 * r.val = 512 * t.val + r.val; omega
  · show win0_5.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 512) (k : Fin 2816) : iblk m c 0 t (ix2 r k) = m ((c : Thread nD τ).loc main_arg0) (ix2 (n0 := 4096) (n1 := 2816) (row t r) k) := by
  obtain ⟨e0, e1⟩ := index_0 t
  refine congrArg (V m c main_arg0) (at_ix2 _ _ _ ?_ ?_)
  · show win0_0.index t (0 : Fin 2) * 512 + 1 * r.val = 512 * t.val + r.val; omega
  · show win0_0.index t (1 : Fin 2) * 2816 + 1 * k.val = k.val; omega
theorem block_1 (c : Dev nD) (t : Fin cfg0.N) (k : Fin 2816) (l : Fin 1024) : iblk m c 1 t (ix2 k l) = m ((c : Thread nD τ).loc main_arg1) (ix2 (n0 := 2816) (n1 := 1024) k l) := by
  obtain ⟨e0, e1⟩ := index_1 t
  refine congrArg (V m c main_arg1) (at_ix2 _ _ _ ?_ ?_)
  · show win0_1.index t (0 : Fin 2) * 2816 + 1 * k.val = k.val; omega
  · show win0_1.index t (1 : Fin 2) * 1024 + 1 * l.val = l.val; omega
theorem block_2 (c : Dev nD) (t : Fin cfg0.N) (r : Fin 512) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 512 + 1 * r.val = 512 * t.val + r.val; omega
  · show win0_2.index t (1 : Fin 2) * 1024 + 1 * l.val = l.val; omega
theorem block_3 (c : Dev nD) (t : Fin cfg0.N) (l : Fin 1024) : iblk m c 3 t (ix2 (n0 := 1) (n1 := 1024) 0 l) = m ((c : Thread nD τ).loc main_arg3) (ix2 (n0 := 1) (n1 := 1024) 0 l) := by
  obtain ⟨e0, e1⟩ := index_3 t
  refine congrArg (V m c main_arg3) (at_ix2 _ _ _ ?_ ?_)
  · show win0_3.index t (0 : Fin 2) * 1 + 1 * 0 = 0; omega
  · show win0_3.index t (1 : Fin 2) * 1024 + 1 * l.val = l.val; omega

theorem block_sum (c : Dev nD) (t : Fin cfg0.N) (r : Fin 512) : added (n := 512) (iblk m c 0 t) (iblk m c 1 t) (iblk m c 2 t) r
    = added (n := 4096) (m ((c : Thread nD τ).loc main_arg0)) (m ((c : Thread nD τ).loc main_arg1)) (m ((c : Thread nD τ).loc main_arg2)) (row t r) :=
  funext fun l => congrArg₂ (fun u v : EReal => u + v) (block_2 m c t r l)
    (Finset.sum_congr rfl fun k _ => congrArg₂ (fun u v : EReal => u * v) (block_0 m c t r k) (block_1 m c t k l))

theorem flushed_sum (c : Dev nD) (t : Fin cfg0.N) : (dats m 0 c).flushed 4 t
    = ((cfg0.win 4).blk t).view.read (Elt Ideal) (wholeSum (m ((c : Thread nD τ).loc main_arg0)) (m ((c : Thread nD τ).loc main_arg1)) (m ((c : Thread nD τ).loc main_arg2))) := by
  rw [Value.flushed4]
  unfold out0_4
  rw [View.canon_unit_zero origin, View.ld_unit_zero origin, View.ld_unit_zero origin, View.ld_unit_zero origin]
  funext j
  obtain ⟨r, l, rfl⟩ : ∃ (r : Fin 512) (l : Fin 1024), j = ix2 r l := ⟨j 0, j 1, at_ix2 _ _ _ rfl rfl⟩
  show k0_pay1 (iblk m c 0 t) (iblk m c 1 t) (iblk m c 2 t) (ix2 r l) = wholeSum _ _ _ (((cfg0.win 4).blk t).view.emb (ix2 r l))
  rw [emb_4, pay_sum, block_sum]
  rfl

theorem flushed_normed (c : Dev nD) (t : Fin cfg0.N) : (dats m 0 c).flushed 5 t
    = ((cfg0.win 5).blk t).view.read (Elt Ideal) (wholeNormed (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero origin, View.ld_unit_zero origin, View.ld_unit_zero origin, View.ld_unit_zero origin, View.ld_unit_zero origin]
  funext j
  obtain ⟨r, l, rfl⟩ : ∃ (r : Fin 512) (l : Fin 1024), j = ix2 r l := ⟨j 0, j 1, at_ix2 _ _ _ rfl rfl⟩
  show k0_pay2 (iblk m c 0 t) (iblk m c 1 t) (iblk m c 2 t) (iblk m c 3 t) (ix2 r l) = wholeNormed _ _ _ _ (((cfg0.win 5).blk t).view.emb (ix2 r l))
  rw [emb_5, pay_normed, block_sum]
  exact congrArg (fun g => normed _ g l) (funext fun j => block_3 m c t j)

theorem covered_sum (i : S4096x1024.Idx) : ∃ t : Fin cfg0.N, (cfg0.win 4).flush t = true ∧ i ∈ ((cfg0.win 4).blk t).view.set := by
  obtain ⟨r, l, rfl⟩ : ∃ (r : Fin 4096) (l : Fin 1024), i = ix2 r l := ⟨i 0, i 1, at_ix2 _ _ _ rfl rfl⟩
  let t : Fin cfg0.N := ⟨r.val / 512, by rw [show cfg0.N = 8 from N_0]; omega⟩
  have e : ix2 r l = ((cfg0.win 4).blk t).view.emb (ix2 (n0 := 512) (n1 := 1024) ⟨r.val % 512, by omega⟩ l) := by
    rw [emb_4]; exact congrArg (fun s => ix2 s l) (Fin.ext (show r.val = 512 * (r.val / 512) + r.val % 512 by omega))
  exact ⟨t, flush0_4 t, by rw [e]; exact ((cfg0.win 4).blk t).view.emb_mem_set _⟩

theorem covered_normed (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨r.val / 512, by rw [show cfg0.N = 8 from N_0]; omega⟩
  have e : ix2 r l = ((cfg0.win 5).blk t).view.emb (ix2 (n0 := 512) (n1 := 1024) ⟨r.val % 512, by omega⟩ l) := by
    rw [emb_5]; exact congrArg (fun s => ix2 s l) (Fin.ext (show r.val = 512 * (r.val / 512) + r.val % 512 by omega))
  exact ⟨t, flush0_5 t, by rw [e]; exact ((cfg0.win 5).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeSum (m ((c : Thread nD τ).loc main_arg0)) (m ((c : Thread nD τ).loc main_arg1)) (m ((c : Thread nD τ).loc main_arg2))
      ∧ r.2.mem ((c : Thread nD τ).loc main_v0_1) = wholeNormed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed_sum m c t) covered_sum),
    (h c).2.1.trans ((dats m 0 c).arrAt_eq_of_cover 5 _ (fun t _ => flushed_normed m c t) covered_normed), (h c).2.2⟩)
    (Value.run_blocks m ρ)

end Cert.Kernel10Ideal.Mm

namespace Cert.Reference10Ideal.Mm

open Idealize.ShloMosaic Idealize.ShloMosaic.TcCoe Idealize.SL.Sem Cert.Reference10Ideal Cert.Reference10Ideal.Gen Cert.Reference10Ideal.Read

theorem value_sum (x : Vec Ideal S4096x2816 .bf16) (w : Vec Ideal S2816x1024 .bf16) (x1 : Vec Ideal S4096x1024 .f32) :
    val_main_v3 (F := Ideal) x w x1 = Cert.Mm.wholeSum x w x1 := by
  funext i
  obtain ⟨r, l, rfl⟩ : ∃ (r : Fin 4096) (l : Fin 1024), i = ix2 r l := ⟨i 0, i 1, Cert.Mm.at_ix2 _ _ _ rfl rfl⟩
  pointwise [val_main_v3, val_main_v2, val_main_v1, val_main_v0]
  rfl

theorem value_normed (x : Vec Ideal S4096x2816 .bf16) (w : Vec Ideal S2816x1024 .bf16) (x1 : Vec Ideal S4096x1024 .f32) (g : Vec Ideal S1x1024 .f32) :
    val_main_v16 (F := Ideal) x w x1 g = Cert.Mm.wholeNormed x w x1 g := by
  funext i
  obtain ⟨r, l, rfl⟩ : ∃ (r : Fin 4096) (l : Fin 1024), i = ix2 r l := ⟨i 0, i 1, Cert.Mm.at_ix2 _ _ _ rfl rfl⟩
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Mm.wholeSum (m ((c : Thread nD τ).loc main_arg0)) (m ((c : Thread nD τ).loc main_arg1)) (m ((c : Thread nD τ).loc main_arg2))
      ∧ r.2.mem ((c : Thread nD τ).loc main_v16) = Cert.Mm.wholeNormed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v3_eq _ _ _).trans (value_sum _ _ _)),
    (h c).2.1.trans ((val_main_v16_eq _ _ _ _).trans (value_normed _ _ _ _)), (h c).2.2⟩) (Value.run (F := Ideal) m ρ)

end Cert.Reference10Ideal.Mm

end
-- ==== Proof.Mm.Out.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Mm.Rms
public import Idealize.ShloMosaic.Lib.Pointwise
public import Idealize.ShloMosaic.Lib.Pipeline.ValueKit

@[expose] public section

set_option maxRecDepth 16384

noncomputable section

/-! # The output projection added to the layer's rows, and the sum normalized -/

namespace Cert.Kernel11Ideal.Mm

open Idealize.ShloMosaic Idealize.ShloMosaic.TcCoe Idealize.SL.Sem Cert.Kernel11Ideal Cert.Kernel11Ideal.Gen Cert.Mm

theorem pay_sum (x : Vec Ideal S1024x1024 .bf16) (w : Vec Ideal S1024x1024 .bf16) (x1 : Vec Ideal S1024x1024 .f32) (r : Fin 1024) (l : Fin 1024) :
    k0_pay1 x w x1 (ix2 r l) = added x w x1 r l := by
  pointwise [k0_pay1]
  rfl

theorem pay_normed (x : Vec Ideal S1024x1024 .bf16) (w : Vec Ideal S1024x1024 .bf16) (x1 : Vec Ideal S1024x1024 .f32) (g : Vec Ideal S1x1024 .f32) (r : Fin 1024) (l : Fin 1024) :
    k0_pay2 x w x1 g (ix2 r l) = normed (added x w x1 r) (fun j => g (ix2 0 j)) l := by
  pointwise [k0_pay2, k0_pay1]
  rfl

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_4 (t : Fin cfg0.N) (r : Fin 1024) (l : Fin 1024) : ((cfg0.win 4).blk t).view.emb (ix2 r l) = (ix2 (n0 := 4096) (n1 := 1024) (row t r) l) := by
  obtain ⟨e0, e1⟩ := index_4 t
  refine at_ix2 _ _ _ ?_ ?_
  · show win0_4.index t (0 : Fin 2) * 1024 + 1 * r.val = 1024 * t.val + r.val; omega
  · show win0_4.index t (1 : Fin 2) * 1024 + 1 * l.val = l.val; omega
theorem emb_5 (t : Fin cfg0.N) (r : Fin 1024) (l : Fin 1024) : ((cfg0.win 5).blk t).view.emb (ix2 r l) = (ix2 (n0 := 4096) (n1 := 1024) (row t r) l) := by
  obtain ⟨e0, e1⟩ := index_5 t
  refine at_ix2 _ _ _ ?_ ?_
  · show win0_5.index t (0 : Fin 2) * 1024 + 1 * r.val = 1024 * t.val + r.val; omega
  · show win0_5.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 1024) (k : Fin 1024) : iblk m c 0 t (ix2 r k) = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 1024 + 1 * k.val = k.val; omega
theorem block_1 (c : Dev nD) (t : Fin cfg0.N) (k : Fin 1024) (l : Fin 1024) : iblk m c 1 t (ix2 k l) = m ((c : Thread nD τ).loc main_arg1) (ix2 (n0 := 1024) (n1 := 1024) k l) := by
  obtain ⟨e0, e1⟩ := index_1 t
  refine congrArg (V m c main_arg1) (at_ix2 _ _ _ ?_ ?_)
  · show win0_1.index t (0 : Fin 2) * 1024 + 1 * k.val = k.val; omega
  · show win0_1.index t (1 : Fin 2) * 1024 + 1 * l.val = l.val; omega
theorem block_2 (c : Dev nD) (t : Fin cfg0.N) (r : Fin 1024) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 1024 + 1 * r.val = 1024 * t.val + r.val; omega
  · show win0_2.index t (1 : Fin 2) * 1024 + 1 * l.val = l.val; omega
theorem block_3 (c : Dev nD) (t : Fin cfg0.N) (l : Fin 1024) : iblk m c 3 t (ix2 (n0 := 1) (n1 := 1024) 0 l) = m ((c : Thread nD τ).loc main_arg3) (ix2 (n0 := 1) (n1 := 1024) 0 l) := by
  obtain ⟨e0, e1⟩ := index_3 t
  refine congrArg (V m c main_arg3) (at_ix2 _ _ _ ?_ ?_)
  · show win0_3.index t (0 : Fin 2) * 1 + 1 * 0 = 0; omega
  · show win0_3.index t (1 : Fin 2) * 1024 + 1 * l.val = l.val; omega

theorem block_sum (c : Dev nD) (t : Fin cfg0.N) (r : Fin 1024) : added (n := 1024) (iblk m c 0 t) (iblk m c 1 t) (iblk m c 2 t) r
    = added (n := 4096) (m ((c : Thread nD τ).loc main_arg0)) (m ((c : Thread nD τ).loc main_arg1)) (m ((c : Thread nD τ).loc main_arg2)) (row t r) :=
  funext fun l => congrArg₂ (fun u v : EReal => u + v) (block_2 m c t r l)
    (Finset.sum_congr rfl fun k _ => congrArg₂ (fun u v : EReal => u * v) (block_0 m c t r k) (block_1 m c t k l))

theorem flushed_sum (c : Dev nD) (t : Fin cfg0.N) : (dats m 0 c).flushed 4 t
    = ((cfg0.win 4).blk t).view.read (Elt Ideal) (wholeSum (m ((c : Thread nD τ).loc main_arg0)) (m ((c : Thread nD τ).loc main_arg1)) (m ((c : Thread nD τ).loc main_arg2))) := by
  rw [Value.flushed4]
  unfold out0_4
  rw [View.canon_unit_zero origin, View.ld_unit_zero origin, View.ld_unit_zero origin, View.ld_unit_zero origin]
  funext j
  obtain ⟨r, l, rfl⟩ : ∃ (r : Fin 1024) (l : Fin 1024), j = ix2 r l := ⟨j 0, j 1, at_ix2 _ _ _ rfl rfl⟩
  show k0_pay1 (iblk m c 0 t) (iblk m c 1 t) (iblk m c 2 t) (ix2 r l) = wholeSum _ _ _ (((cfg0.win 4).blk t).view.emb (ix2 r l))
  rw [emb_4, pay_sum, block_sum]
  rfl

theorem flushed_normed (c : Dev nD) (t : Fin cfg0.N) : (dats m 0 c).flushed 5 t
    = ((cfg0.win 5).blk t).view.read (Elt Ideal) (wholeNormed (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero origin, View.ld_unit_zero origin, View.ld_unit_zero origin, View.ld_unit_zero origin, View.ld_unit_zero origin]
  funext j
  obtain ⟨r, l, rfl⟩ : ∃ (r : Fin 1024) (l : Fin 1024), j = ix2 r l := ⟨j 0, j 1, at_ix2 _ _ _ rfl rfl⟩
  show k0_pay2 (iblk m c 0 t) (iblk m c 1 t) (iblk m c 2 t) (iblk m c 3 t) (ix2 r l) = wholeNormed _ _ _ _ (((cfg0.win 5).blk t).view.emb (ix2 r l))
  rw [emb_5, pay_normed, block_sum]
  exact congrArg (fun g => normed _ g l) (funext fun j => block_3 m c t j)

theorem covered_sum (i : S4096x1024.Idx) : ∃ t : Fin cfg0.N, (cfg0.win 4).flush t = true ∧ i ∈ ((cfg0.win 4).blk t).view.set := by
  obtain ⟨r, l, rfl⟩ : ∃ (r : Fin 4096) (l : Fin 1024), i = ix2 r l := ⟨i 0, i 1, at_ix2 _ _ _ rfl rfl⟩
  let t : Fin cfg0.N := ⟨r.val / 1024, by rw [show cfg0.N = 4 from N_0]; omega⟩
  have e : ix2 r l = ((cfg0.win 4).blk t).view.emb (ix2 (n0 := 1024) (n1 := 1024) ⟨r.val % 1024, by omega⟩ l) := by
    rw [emb_4]; exact congrArg (fun s => ix2 s l) (Fin.ext (show r.val = 1024 * (r.val / 1024) + r.val % 1024 by omega))
  exact ⟨t, flush0_4 t, by rw [e]; exact ((cfg0.win 4).blk t).view.emb_mem_set _⟩

theorem covered_normed (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨r.val / 1024, by rw [show cfg0.N = 4 from N_0]; omega⟩
  have e : ix2 r l = ((cfg0.win 5).blk t).view.emb (ix2 (n0 := 1024) (n1 := 1024) ⟨r.val % 1024, by omega⟩ l) := by
    rw [emb_5]; exact congrArg (fun s => ix2 s l) (Fin.ext (show r.val = 1024 * (r.val / 1024) + r.val % 1024 by omega))
  exact ⟨t, flush0_5 t, by rw [e]; exact ((cfg0.win 5).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeSum (m ((c : Thread nD τ).loc main_arg0)) (m ((c : Thread nD τ).loc main_arg1)) (m ((c : Thread nD τ).loc main_arg2))
      ∧ r.2.mem ((c : Thread nD τ).loc main_v0_1) = wholeNormed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed_sum m c t) covered_sum),
    (h c).2.1.trans ((dats m 0 c).arrAt_eq_of_cover 5 _ (fun t _ => flushed_normed m c t) covered_normed), (h c).2.2⟩)
    (Value.run_blocks m ρ)

end Cert.Kernel11Ideal.Mm

namespace Cert.Reference11Ideal.Mm

open Idealize.ShloMosaic Idealize.ShloMosaic.TcCoe Idealize.SL.Sem Cert.Reference11Ideal Cert.Reference11Ideal.Gen Cert.Reference11Ideal.Read

theorem value_sum (x : Vec Ideal S4096x1024 .bf16) (w : Vec Ideal S1024x1024 .bf16) (x1 : Vec Ideal S4096x1024 .f32) :
    val_main_v3 (F := Ideal) x w x1 = Cert.Mm.wholeSum x w x1 := by
  funext i
  obtain ⟨r, l, rfl⟩ : ∃ (r : Fin 4096) (l : Fin 1024), i = ix2 r l := ⟨i 0, i 1, Cert.Mm.at_ix2 _ _ _ rfl rfl⟩
  pointwise [val_main_v3, val_main_v2, val_main_v1, val_main_v0]
  rfl

theorem value_normed (x : Vec Ideal S4096x1024 .bf16) (w : Vec Ideal S1024x1024 .bf16) (x1 : Vec Ideal S4096x1024 .f32) (g : Vec Ideal S1x1024 .f32) :
    val_main_v16 (F := Ideal) x w x1 g = Cert.Mm.wholeNormed x w x1 g := by
  funext i
  obtain ⟨r, l, rfl⟩ : ∃ (r : Fin 4096) (l : Fin 1024), i = ix2 r l := ⟨i 0, i 1, Cert.Mm.at_ix2 _ _ _ rfl rfl⟩
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Mm.wholeSum (m ((c : Thread nD τ).loc main_arg0)) (m ((c : Thread nD τ).loc main_arg1)) (m ((c : Thread nD τ).loc main_arg2))
      ∧ r.2.mem ((c : Thread nD τ).loc main_v16) = Cert.Mm.wholeNormed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v3_eq _ _ _).trans (value_sum _ _ _)),
    (h c).2.1.trans ((val_main_v16_eq _ _ _ _).trans (value_normed _ _ _ _)), (h c).2.2⟩) (Value.run (F := Ideal) m ρ)

end Cert.Reference11Ideal.Mm

end
-- ==== Proof.Mm.Dout.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of the output projection: one product over all tokens, in two halves of its columns -/

namespace Cert.Kernel12Ideal.Mm

open Idealize.ShloMosaic Idealize.ShloMosaic.TcCoe Idealize.SL.Sem Cert.Kernel12Ideal Cert.Kernel12Ideal.Gen Cert.Mm

theorem origin : (![0, 0] : Fin 2 → Nat) = fun _ => 0 := funext fun a => by match a with | ⟨0, _⟩ => rfl | ⟨1, _⟩ => rfl

theorem points (t : Fin cfg0.N) : t.val < 2 := lt_of_lt_of_eq t.isLt (show cfg0.N = 2 from N_0)

theorem index_0 : ∀ t : Fin cfg0.N, win0_0.index t (0 : Fin 2) = 0 ∧ win0_0.index t (1 : Fin 2) = 0 := (by decide +kernel : ∀ t : Fin grid0.N, _)
theorem index_1 : ∀ t : Fin cfg0.N, win0_1.index t (0 : Fin 2) = 0 ∧ win0_1.index t (1 : Fin 2) = t.val := (by decide +kernel : ∀ t : Fin grid0.N, _)
theorem index_2 : ∀ t : Fin cfg0.N, win0_2.index t (0 : Fin 2) = 0 ∧ win0_2.index t (1 : Fin 2) = t.val := (by decide +kernel : ∀ t : Fin grid0.N, _)

/-- A half's column among the result's columns. -/
def col (t : Fin cfg0.N) (l : Fin 512) : Fin 1024 := ⟨512 * t.val + l.val, by have := points t; omega⟩

theorem emb_2 (t : Fin cfg0.N) (r : Fin 1024) (l : Fin 512) : ((cfg0.win 2).blk t).view.emb (ix2 r l) = (ix2 (n0 := 1024) (n1 := 1024) r (col t l)) := by
  obtain ⟨e0, e1⟩ := index_2 t
  refine at_ix2 _ _ _ ?_ ?_
  · show win0_2.index t (0 : Fin 2) * 1024 + 1 * r.val = r.val; omega
  · show win0_2.index t (1 : Fin 2) * 512 + 1 * l.val = 512 * t.val + l.val; omega

/-- A half's product, entry by entry. -/
theorem pay_at (x : Vec Ideal S4096x1024 .bf16) (y : Vec Ideal S4096x512 .f32) (r : Fin 1024) (l : Fin 512) :
    k0_pay1 x y (ix2 r l) = tokens x y (ix2 r l) := by
  pointwise [k0_pay1]
  rfl

variable (m : (ℓ : Loc nD τ sig) → Buf (Elt Ideal) ℓ) (ρ : Dev nD → PrngReg)

theorem block_0 (c : Dev nD) (t : Fin cfg0.N) (k : Fin 4096) (r : Fin 1024) : iblk m c 0 t (ix2 k r)
    = m ((c : Thread nD τ).loc main_arg0) (ix2 (n0 := 4096) (n1 := 1024) k r) := by
  obtain ⟨e0, e1⟩ := index_0 t
  refine congrArg (V m c main_arg0) (at_ix2 _ _ _ ?_ ?_)
  · show win0_0.index t (0 : Fin 2) * 4096 + 1 * k.val = k.val; omega
  · show win0_0.index t (1 : Fin 2) * 1024 + 1 * r.val = r.val; omega
theorem block_1 (c : Dev nD) (t : Fin cfg0.N) (k : Fin 4096) (l : Fin 512) : iblk m c 1 t (ix2 k l)
    = m ((c : Thread nD τ).loc main_arg1) (ix2 (n0 := 4096) (n1 := 1024) k (col t l)) := by
  obtain ⟨e0, e1⟩ := index_1 t
  refine congrArg (V m c main_arg1) (at_ix2 _ _ _ ?_ ?_)
  · show win0_1.index t (0 : Fin 2) * 4096 + 1 * k.val = k.val; omega
  · show win0_1.index t (1 : Fin 2) * 512 + 1 * l.val = 512 * t.val + l.val; omega

theorem flushed (c : Dev nD) (t : Fin cfg0.N) : (dats m 0 c).flushed 2 t
    = ((cfg0.win 2).blk t).view.read (Elt Ideal) (tokens (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 512), j = ix2 r l := ⟨j 0, j 1, at_ix2 _ _ _ rfl rfl⟩
  show k0_pay1 (iblk m c 0 t) (iblk m c 1 t) (ix2 r l) = tokens (a := 1024) (b := 1024) _ _ (((cfg0.win 2).blk t).view.emb (ix2 r l))
  rw [emb_2, pay_at]
  exact Finset.sum_congr rfl fun k _ => congrArg₂ (fun u v : EReal => u * v) (block_0 m c t k r) (block_1 m c t k l)

theorem covered (i : S1024x1024.Idx) : ∃ t : Fin cfg0.N, (cfg0.win 2).flush t = true ∧ i ∈ ((cfg0.win 2).blk t).view.set := by
  obtain ⟨r, l, rfl⟩ : ∃ (r : Fin 1024) (l : Fin 1024), i = ix2 r l := ⟨i 0, i 1, at_ix2 _ _ _ rfl rfl⟩
  let t : Fin cfg0.N := ⟨l.val / 512, by rw [show cfg0.N = 2 from N_0]; omega⟩
  have e : ix2 r l = ((cfg0.win 2).blk t).view.emb (ix2 (n0 := 1024) (n1 := 512) r ⟨l.val % 512, by omega⟩) := by
    rw [emb_2]
    exact congrArg (fun q => ix2 r q) (Fin.ext (show l.val = 512 * (l.val / 512) + l.val % 512 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel12Ideal.Mm

namespace Cert.Reference12Ideal.Mm

open Idealize.ShloMosaic Idealize.ShloMosaic.TcCoe Idealize.SL.Sem Cert.Reference12Ideal Cert.Reference12Ideal.Gen Cert.Reference12Ideal.Read

theorem value (x : Vec Ideal S4096x1024 .bf16) (w : Vec Ideal S4096x1024 .f32) : val_main_v5 (F := Ideal) x w = Cert.Mm.tokens x w := by
  funext i
  obtain ⟨r, l, rfl⟩ : ∃ (r : Fin 1024) (l : Fin 1024), i = ix2 r l := ⟨i 0, i 1, Cert.Mm.at_ix2 _ _ _ rfl rfl⟩
  pointwise [val_main_v5, val_main_v4, val_main_v3, val_main_v1]
  exact Finset.sum_congr rfl fun k _ => mul_comm (G := EReal) _ _

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (value _ _)), (h c).2⟩) (Value.run (F := Ideal) m ρ)

end Cert.Reference12Ideal.Mm

end
-- ==== Proof.Mm.Dmerged.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient at the merged branches: the product with the output projection transposed -/

namespace Cert.Kernel13Ideal.Mm

open Idealize.ShloMosaic Idealize.ShloMosaic.TcCoe Idealize.SL.Sem Cert.Kernel13Ideal Cert.Kernel13Ideal.Gen Cert.Mm

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_2 (t : Fin cfg0.N) (r : Fin 1024) (l : Fin 1024) : ((cfg0.win 2).blk t).view.emb (ix2 r l) = (ix2 (n0 := 4096) (n1 := 1024) (row t r) l) := by
  obtain ⟨e0, e1⟩ := index_2 t
  refine at_ix2 _ _ _ ?_ ?_
  · show win0_2.index t (0 : Fin 2) * 1024 + 1 * r.val = 1024 * t.val + r.val; omega
  · show win0_2.index t (1 : Fin 2) * 1024 + 1 * l.val = l.val; omega

/-- A block's product, entry by entry. -/
theorem pay_at (x : Vec Ideal S1024x1024 .f32) (w : Vec Ideal S1024x1024 .bf16) (r : Fin 1024) (l : Fin 1024) :
    k0_pay1 x w (ix2 r l) = against (n := 1024) x w (ix2 r l) := by
  pointwise [k0_pay1]
  rfl

variable (m : (ℓ : Loc nD τ sig) → Buf (Elt Ideal) ℓ) (ρ : Dev nD → PrngReg)

theorem block_0 (c : Dev nD) (t : Fin cfg0.N) (r : Fin 1024) (k : Fin 1024) : iblk m c 0 t (ix2 r k)
    = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 1024 + 1 * k.val = k.val; omega
theorem block_1 (c : Dev nD) (t : Fin cfg0.N) (l : Fin 1024) (k : Fin 1024) : iblk m c 1 t (ix2 l k)
    = m ((c : Thread nD τ).loc main_arg1) (ix2 (n0 := 1024) (n1 := 1024) l k) := by
  obtain ⟨e0, e1⟩ := index_1 t
  refine congrArg (V m c main_arg1) (at_ix2 _ _ _ ?_ ?_)
  · show win0_1.index t (0 : Fin 2) * 1024 + 1 * l.val = l.val; omega
  · show win0_1.index t (1 : Fin 2) * 1024 + 1 * k.val = k.val; omega

theorem flushed (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 1024), j = ix2 r l := ⟨j 0, j 1, at_ix2 _ _ _ rfl rfl⟩
  show k0_pay1 (iblk m c 0 t) (iblk m c 1 t) (ix2 r l) = against (n := 4096) (K := 1024) (b := 1024) _ _ (((cfg0.win 2).blk t).view.emb (ix2 r l))
  rw [emb_2, pay_at]
  exact Finset.sum_congr rfl fun k _ => congrArg₂ (fun u v : EReal => u * v) (block_0 m c t r k) (block_1 m c t l k)

theorem covered (i : S4096x1024.Idx) : ∃ t : Fin cfg0.N, (cfg0.win 2).flush t = true ∧ i ∈ ((cfg0.win 2).blk t).view.set := by
  obtain ⟨r, l, rfl⟩ : ∃ (r : Fin 4096) (l : Fin 1024), i = ix2 r l := ⟨i 0, i 1, at_ix2 _ _ _ rfl rfl⟩
  let t : Fin cfg0.N := ⟨r.val / 1024, by rw [show cfg0.N = 4 from N_0]; omega⟩
  have e : ix2 r l = ((cfg0.win 2).blk t).view.emb (ix2 (n0 := 1024) (n1 := 1024) ⟨r.val % 1024, by omega⟩ l) := by
    rw [emb_2]
    exact congrArg (fun s => ix2 s l) (Fin.ext (show r.val = 1024 * (r.val / 1024) + r.val % 1024 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel13Ideal.Mm

namespace Cert.Reference13Ideal.Mm

open Idealize.ShloMosaic Idealize.ShloMosaic.TcCoe Idealize.SL.Sem Cert.Reference13Ideal Cert.Reference13Ideal.Gen Cert.Reference13Ideal.Read

theorem value (x : Vec Ideal S4096x1024 .f32) (w : Vec Ideal S1024x1024 .bf16) : val_main_v3 (F := Ideal) x w = Cert.Mm.against x w := by
  funext i
  obtain ⟨r, l, rfl⟩ : ∃ (r : Fin 4096) (l : Fin 1024), i = ix2 r l := ⟨i 0, i 1, Cert.Mm.at_ix2 _ _ _ rfl rfl⟩
  pointwise [val_main_v3, val_main_v1]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Mm.against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v3_eq _ _).trans (value _ _)), (h c).2⟩) (Value.run (F := Ideal) m ρ)

end Cert.Reference13Ideal.Mm

end
-- ==== Proof.Mm.Branch.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Mm.Rms
public import Idealize.ShloMosaic.Lib.Pointwise
public import Idealize.ShloMosaic.Lib.Pipeline.ValueKit

@[expose] public section

set_option maxRecDepth 16384

noncomputable section

/-! # A branch's output projection: one product, in blocks of its rows -/

namespace Cert.Kernel14Ideal.Mm

open Idealize.ShloMosaic Idealize.ShloMosaic.TcCoe Idealize.SL.Sem Cert.Kernel14Ideal Cert.Kernel14Ideal.Gen Cert.Mm

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_2 (t : Fin cfg0.N) (r : Fin 1024) (l : Fin 1024) : ((cfg0.win 2).blk t).view.emb (ix2 r l) = (ix2 (n0 := 4096) (n1 := 1024) (row t r) l) := by
  obtain ⟨e0, e1⟩ := index_2 t
  refine at_ix2 _ _ _ ?_ ?_
  · show win0_2.index t (0 : Fin 2) * 1024 + 1 * r.val = 1024 * t.val + r.val; omega
  · show win0_2.index t (1 : Fin 2) * 1024 + 1 * l.val = l.val; omega

/-- A block's product, entry by entry. -/
theorem pay_at (x : Vec Ideal S1024x512 .bf16) (w : Vec Ideal S1024x512 .bf16) (r : Fin 1024) (l : Fin 1024) :
    k0_pay1 x w (ix2 r l) = against (n := 1024) x w (ix2 r l) := by
  pointwise [k0_pay1]
  rfl

variable (m : (ℓ : Loc nD τ sig) → Buf (Elt Ideal) ℓ) (ρ : Dev nD → PrngReg)

theorem block_0 (c : Dev nD) (t : Fin cfg0.N) (r : Fin 1024) (k : Fin 512) : iblk m c 0 t (ix2 r k)
    = m ((c : Thread nD τ).loc main_arg0) (ix2 (n0 := 4096) (n1 := 512) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 512 + 1 * k.val = k.val; omega
theorem block_1 (c : Dev nD) (t : Fin cfg0.N) (l : Fin 1024) (k : Fin 512) : iblk m c 1 t (ix2 l k)
    = m ((c : Thread nD τ).loc main_arg1) (ix2 (n0 := 1024) (n1 := 512) l k) := by
  obtain ⟨e0, e1⟩ := index_1 t
  refine congrArg (V m c main_arg1) (at_ix2 _ _ _ ?_ ?_)
  · show win0_1.index t (0 : Fin 2) * 1024 + 1 * l.val = l.val; omega
  · show win0_1.index t (1 : Fin 2) * 512 + 1 * k.val = k.val; omega

theorem flushed (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 1024), j = ix2 r l := ⟨j 0, j 1, at_ix2 _ _ _ rfl rfl⟩
  show k0_pay1 (iblk m c 0 t) (iblk m c 1 t) (ix2 r l) = against (n := 4096) (K := 512) (b := 1024) _ _ (((cfg0.win 2).blk t).view.emb (ix2 r l))
  rw [emb_2, pay_at]
  exact Finset.sum_congr rfl fun k _ => congrArg₂ (fun u v : EReal => u * v) (block_0 m c t r k) (block_1 m c t l k)

theorem covered (i : S4096x1024.Idx) : ∃ t : Fin cfg0.N, (cfg0.win 2).flush t = true ∧ i ∈ ((cfg0.win 2).blk t).view.set := by
  obtain ⟨r, l, rfl⟩ : ∃ (r : Fin 4096) (l : Fin 1024), i = ix2 r l := ⟨i 0, i 1, at_ix2 _ _ _ rfl rfl⟩
  let t : Fin cfg0.N := ⟨r.val / 1024, by rw [show cfg0.N = 4 from N_0]; omega⟩
  have e : ix2 r l = ((cfg0.win 2).blk t).view.emb (ix2 (n0 := 1024) (n1 := 1024) ⟨r.val % 1024, by omega⟩ l) := by
    rw [emb_2]
    exact congrArg (fun s => ix2 s l) (Fin.ext (show r.val = 1024 * (r.val / 1024) + r.val % 1024 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel14Ideal.Mm

namespace Cert.Reference14Ideal.Mm

open Idealize.ShloMosaic Idealize.ShloMosaic.TcCoe Idealize.SL.Sem Cert.Reference14Ideal Cert.Reference14Ideal.Gen Cert.Reference14Ideal.Read

theorem value (x : Vec Ideal S4096x512 .bf16) (w : Vec Ideal S1024x512 .bf16) : val_main_v4 (F := Ideal) x w = Cert.Mm.against x w := by
  funext i
  obtain ⟨r, l, rfl⟩ : ∃ (r : Fin 4096) (l : Fin 1024), i = ix2 r l := ⟨i 0, i 1, Cert.Mm.at_ix2 _ _ _ rfl rfl⟩
  pointwise [val_main_v4, val_main_v3, val_main_v2, val_main_v1, val_main_v0]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = Cert.Mm.against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v4_eq _ _).trans (value _ _)), (h c).2⟩) (Value.run (F := Ideal) m ρ)

end Cert.Reference14Ideal.Mm

end
-- ==== Proof.Mm.Dbranch.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of a branch's output projection: one product over all tokens -/

namespace Cert.Kernel15Ideal.Mm

open Idealize.ShloMosaic Idealize.ShloMosaic.TcCoe Idealize.SL.Sem Cert.Kernel15Ideal Cert.Kernel15Ideal.Gen Cert.Mm

theorem pay_at (x : Vec Ideal S4096x1024 .bf16) (y : Vec Ideal S4096x512 .bf16) : k0_pay1 x y = tokens x y := by
  funext i
  obtain ⟨r, l, rfl⟩ : ∃ (r : Fin 1024) (l : Fin 512), i = ix2 r l := ⟨i 0, i 1, at_ix2 _ _ _ rfl rfl⟩
  pointwise [k0_pay1]
  rfl

/-- The kernel's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (pay_at _ _), (h c).2⟩) (Value.run m ρ)

end Cert.Kernel15Ideal.Mm

namespace Cert.Reference15Ideal.Mm

open Idealize.ShloMosaic Idealize.ShloMosaic.TcCoe Idealize.SL.Sem Cert.Reference15Ideal Cert.Reference15Ideal.Gen Cert.Reference15Ideal.Read

theorem value (x : Vec Ideal S4096x1024 .bf16) (w : Vec Ideal S4096x512 .bf16) : val_main_v7 (F := Ideal) x w = Cert.Mm.tokens x w := by
  funext i
  obtain ⟨r, l, rfl⟩ : ∃ (r : Fin 1024) (l : Fin 512), i = ix2 r l := ⟨i 0, i 1, Cert.Mm.at_ix2 _ _ _ rfl rfl⟩
  pointwise [val_main_v7, val_main_v6, val_main_v5, val_main_v4, val_main_v3, val_main_v1]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v7_eq _ _).trans (value _ _)), (h c).2⟩) (Value.run (F := Ideal) m ρ)

end Cert.Reference15Ideal.Mm

end
-- ==== Proof.Mm.Dy.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient at a branch's output: one product, in blocks of its rows -/

namespace Cert.Kernel16Ideal.Mm

open Idealize.ShloMosaic Idealize.ShloMosaic.TcCoe Idealize.SL.Sem Cert.Kernel16Ideal Cert.Kernel16Ideal.Gen Cert.Mm

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_2 (t : Fin cfg0.N) (r : Fin 1024) (l : Fin 512) : ((cfg0.win 2).blk t).view.emb (ix2 r l) = (ix2 (n0 := 4096) (n1 := 512) (row t r) l) := by
  obtain ⟨e0, e1⟩ := index_2 t
  refine at_ix2 _ _ _ ?_ ?_
  · show win0_2.index t (0 : Fin 2) * 1024 + 1 * r.val = 1024 * t.val + r.val; omega
  · show win0_2.index t (1 : Fin 2) * 512 + 1 * l.val = l.val; omega

/-- A block's product, entry by entry. -/
theorem pay_at (x : Vec Ideal S1024x1024 .bf16) (w : Vec Ideal S1024x512 .bf16) (r : Fin 1024) (l : Fin 512) :
    k0_pay1 x w (ix2 r l) = times (n := 1024) x w (ix2 r l) := by
  pointwise [k0_pay1]
  rfl

variable (m : (ℓ : Loc nD τ sig) → Buf (Elt Ideal) ℓ) (ρ : Dev nD → PrngReg)

theorem block_0 (c : Dev nD) (t : Fin cfg0.N) (r : Fin 1024) (k : Fin 1024) : iblk m c 0 t (ix2 r k)
    = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 1024 + 1 * k.val = k.val; omega
theorem block_1 (c : Dev nD) (t : Fin cfg0.N) (k : Fin 1024) (l : Fin 512) : iblk m c 1 t (ix2 k l)
    = m ((c : Thread nD τ).loc main_arg1) (ix2 (n0 := 1024) (n1 := 512) k l) := by
  obtain ⟨e0, e1⟩ := index_1 t
  refine congrArg (V m c main_arg1) (at_ix2 _ _ _ ?_ ?_)
  · show win0_1.index t (0 : Fin 2) * 1024 + 1 * k.val = k.val; omega
  · show win0_1.index t (1 : Fin 2) * 512 + 1 * l.val = l.val; omega

theorem flushed (c : Dev nD) (t : Fin cfg0.N) : (dats m 0 c).flushed 2 t
    = ((cfg0.win 2).blk t).view.read (Elt Ideal) (times (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 512), j = ix2 r l := ⟨j 0, j 1, at_ix2 _ _ _ rfl rfl⟩
  show k0_pay1 (iblk m c 0 t) (iblk m c 1 t) (ix2 r l) = times (n := 4096) (K := 1024) (b := 512) _ _ (((cfg0.win 2).blk t).view.emb (ix2 r l))
  rw [emb_2, pay_at]
  exact Finset.sum_congr rfl fun k _ => congrArg₂ (fun u v : EReal => u * v) (block_0 m c t r k) (block_1 m c t k l)

theorem covered (i : S4096x512.Idx) : ∃ t : Fin cfg0.N, (cfg0.win 2).flush t = true ∧ i ∈ ((cfg0.win 2).blk t).view.set := by
  obtain ⟨r, l, rfl⟩ : ∃ (r : Fin 4096) (l : Fin 512), i = ix2 r l := ⟨i 0, i 1, at_ix2 _ _ _ rfl rfl⟩
  let t : Fin cfg0.N := ⟨r.val / 1024, by rw [show cfg0.N = 4 from N_0]; omega⟩
  have e : ix2 r l = ((cfg0.win 2).blk t).view.emb (ix2 (n0 := 1024) (n1 := 512) ⟨r.val % 1024, by omega⟩ l) := by
    rw [emb_2]
    exact congrArg (fun s => ix2 s l) (Fin.ext (show r.val = 1024 * (r.val / 1024) + r.val % 1024 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = times (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel16Ideal.Mm

namespace Cert.Reference16Ideal.Mm

open Idealize.ShloMosaic Idealize.ShloMosaic.TcCoe Idealize.SL.Sem Cert.Reference16Ideal Cert.Reference16Ideal.Gen Cert.Reference16Ideal.Read

theorem value (x : Vec Ideal S4096x1024 .bf16) (w : Vec Ideal S1024x512 .bf16) : val_main_v5 (F := Ideal) x w = Cert.Mm.times x w := by
  funext i
  obtain ⟨r, l, rfl⟩ : ∃ (r : Fin 4096) (l : Fin 512), i = ix2 r l := ⟨i 0, i 1, Cert.Mm.at_ix2 _ _ _ rfl rfl⟩
  pointwise [val_main_v5, val_main_v4, val_main_v2, val_main_v1]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = Cert.Mm.times (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v5_eq _ _).trans (value _ _)), (h c).2⟩) (Value.run (F := Ideal) m ρ)

end Cert.Reference16Ideal.Mm

end
-- ==== Proof.Mm.Dh3.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient at the embedding gate's input: a product, then the normalization's gradient -/

namespace Cert.Kernel17Ideal.Mm

open Idealize.ShloMosaic Idealize.ShloMosaic.TcCoe Idealize.SL.Sem Cert.Kernel17Ideal Cert.Kernel17Ideal.Gen Cert.Mm

theorem pay_rows (x : Vec Ideal S512x1024 .bf16) (w : Vec Ideal S1024x1024 .bf16) (x1 dx2 : Vec Ideal S512x1024 .f32) (g : Vec Ideal S1x1024 .f32)
    (r : Fin 512) (l : Fin 1024) : k0_pay1 dx2 (k0_pay9 x w x1 g) (k0_pay10 x w x1 g) (ix2 r l)
      = back (fun j => x1 (ix2 r j)) (prod x (flip w) r) (fun j => g (ix2 0 j)) (fun j => dx2 (ix2 r j)) l := by
  pointwise [k0_pay1, k0_pay9, k0_pay10, k0_pay8, k0_pay7, k0_pay5, k0_pay4, k0_pay3]
  rfl

theorem pay_gain (x : Vec Ideal S512x1024 .bf16) (w : Vec Ideal S1024x1024 .bf16) (x1 : Vec Ideal S512x1024 .f32) (l : Fin 1024) :
    k0_pay6 x w x1 (ix2 0 l) = ((∑ r : Fin 512, gain (fun j => x1 (ix2 r j)) (prod x (flip w) r) l : EReal)) := by
  pointwise [k0_pay6, k0_pay5, k0_pay4, k0_pay3]
  rfl

theorem points (t : Fin cfg0.N) : t.val < 8 := lt_of_lt_of_eq t.isLt (show cfg0.N = 8 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)

/-- A block's row among the array's rows. -/
def row (t : Fin cfg0.N) (r : Fin 512) : Fin 4096 := ⟨512 * t.val + r.val, by have := points t; omega⟩

theorem emb_5 (t : Fin cfg0.N) (r : Fin 512) (l : Fin 1024) : ((cfg0.win 5).blk t).view.emb (ix2 r l) = (ix2 (n0 := 4096) (n1 := 1024) (row t r) l) := by
  obtain ⟨e0, e1⟩ := index_5 t
  refine at_ix2 _ _ _ ?_ ?_
  · show win0_5.index t (0 : Fin 2) * 512 + 1 * r.val = 512 * t.val + r.val; omega
  · show win0_5.index t (1 : Fin 2) * 1024 + 1 * l.val = l.val; omega
theorem emb_6 (t : Fin cfg0.N) (l : Fin 1024) : ((cfg0.win 6).blk t).view.emb (ix2 (n0 := 1) (n1 := 1024) 0 l) = (ix2 (n0 := 1) (n1 := 1024) 0 l) := by
  obtain ⟨e0, e1⟩ := index_6 t
  refine at_ix2 _ _ _ ?_ ?_
  · show win0_6.index t (0 : Fin 2) * 1 + 1 * 0 = 0; omega
  · show win0_6.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 512) (k : Fin 1024) : iblk m c 0 t (ix2 r k) = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 512 + 1 * r.val = 512 * t.val + r.val; omega
  · show win0_0.index t (1 : Fin 2) * 1024 + 1 * k.val = k.val; omega
theorem block_1 (c : Dev nD) (t : Fin cfg0.N) (k : Fin 1024) (l : Fin 1024) : iblk m c 1 t (ix2 k l) = m ((c : Thread nD τ).loc main_arg1) (ix2 (n0 := 1024) (n1 := 1024) k l) := by
  obtain ⟨e0, e1⟩ := index_1 t
  refine congrArg (V m c main_arg1) (at_ix2 _ _ _ ?_ ?_)
  · show win0_1.index t (0 : Fin 2) * 1024 + 1 * k.val = k.val; omega
  · show win0_1.index t (1 : Fin 2) * 1024 + 1 * l.val = l.val; omega
theorem block_2 (c : Dev nD) (t : Fin cfg0.N) (r : Fin 512) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 512 + 1 * r.val = 512 * t.val + r.val; omega
  · show win0_2.index t (1 : Fin 2) * 1024 + 1 * l.val = l.val; omega
theorem block_3 (c : Dev nD) (t : Fin cfg0.N) (r : Fin 512) (l : Fin 1024) : iblk m c 3 t (ix2 r l) = m ((c : Thread nD τ).loc main_arg3) (ix2 (n0 := 4096) (n1 := 1024) (row t r) l) := by
  obtain ⟨e0, e1⟩ := index_3 t
  refine congrArg (V m c main_arg3) (at_ix2 _ _ _ ?_ ?_)
  · show win0_3.index t (0 : Fin 2) * 512 + 1 * r.val = 512 * t.val + r.val; omega
  · show win0_3.index t (1 : Fin 2) * 1024 + 1 * l.val = l.val; omega
theorem block_4 (c : Dev nD) (t : Fin cfg0.N) (l : Fin 1024) : iblk m c 4 t (ix2 (n0 := 1) (n1 := 1024) 0 l) = m ((c : Thread nD τ).loc main_arg4) (ix2 (n0 := 1) (n1 := 1024) 0 l) := by
  obtain ⟨e0, e1⟩ := index_4 t
  refine congrArg (V m c main_arg4) (at_ix2 _ _ _ ?_ ?_)
  · show win0_4.index t (0 : Fin 2) * 1 + 1 * 0 = 0; omega
  · show win0_4.index t (1 : Fin 2) * 1024 + 1 * l.val = l.val; omega

theorem block_prod (c : Dev nD) (t : Fin cfg0.N) (r : Fin 512) :
    prod (n := 512) (iblk m c 0 t) (flip (iblk m c 1 t)) r = prod (n := 4096) (m ((c : Thread nD τ).loc main_arg0)) (flip (m ((c : Thread nD τ).loc main_arg1))) (row t r) :=
  funext fun l => Finset.sum_congr rfl fun k _ => congrArg₂ (fun u v : EReal => u * v) (block_0 m c t r k) (block_1 m c t l k)

/-- The first result's block after its point. -/
theorem rows_at (c : Dev nD) (t : Fin cfg0.N) (r : Fin 512) (l : Fin 1024) : (outsAt0 m c t.val t.isLt).1 (ix2 r l)
    = wholeRows (m ((c : Thread nD τ).loc main_arg0)) (flip (m ((c : Thread nD τ).loc main_arg1))) (m ((c : Thread nD τ).loc main_arg2)) (m ((c : Thread nD τ).loc main_arg3))
        (m ((c : Thread nD τ).loc main_arg4)) (ix2 (row t r) l) := by
  have e : (outsAt0 m c t.val t.isLt).1 = k0_pay1 (iblk m c 3 t) (k0_pay9 (iblk m c 0 t) (iblk m c 1 t) (iblk m c 2 t) (iblk m c 4 t))
      (k0_pay10 (iblk m c 0 t) (iblk m c 1 t) (iblk m c 2 t) (iblk m c 4 t)) := by
    by_cases h : 1 ≤ t.val
    · rw [outsAt0_B m c t (by have := points t; omega) h]; frame_out
    · rw [outsAt0_A m c t (by omega) h]; frame_out
  rw [e, pay_rows]
  show back _ _ _ _ l = back _ _ _ _ l
  congr 1
  · exact funext fun j => block_2 m c t r j
  · exact block_prod m c t r
  · exact funext fun j => block_4 m c t j
  · exact funext fun j => block_3 m c t r j

/-- A row's part of the gain's gradient, from the arguments. -/
def part (c : Dev nD) (l : Fin 1024) (k : Fin 4096) : EReal :=
  gain (fun j => m ((c : Thread nD τ).loc main_arg2) (ix2 (n0 := 4096) (n1 := 1024) k j))
    (prod (n := 4096) (m ((c : Thread nD τ).loc main_arg0)) (flip (m ((c : Thread nD τ).loc main_arg1))) k) l

/-- A block's part of the gain's gradient. -/
def parts (c : Dev nD) (n : ℕ) (l : Fin 1024) : EReal := ∑ r : Fin 512, if h : 512 * n + r.val < 4096 then part m c l ⟨512 * n + r.val, h⟩ else 0

theorem block_gain (c : Dev nD) (t : Fin cfg0.N) (l : Fin 1024) : k0_pay6 (iblk m c 0 t) (iblk m c 1 t) (iblk m c 2 t) (ix2 0 l) = parts m c t.val l := by
  rw [pay_gain]
  refine Finset.sum_congr rfl fun r _ => ?_
  rw [dif_pos (show 512 * t.val + r.val < 4096 by have := points t; omega), block_prod]
  exact congrArg (fun x => gain x _ l) (funext fun j => block_2 m c t r j)

theorem gain_first (c : Dev nD) (t : Fin cfg0.N) (h : ¬1 ≤ t.val) :
    (outsAt0 m c t.val t.isLt).2 = k0_pay6 (iblk m c 0 t) (iblk m c 1 t) (iblk m c 2 t) := by
  rw [outsAt0_A m c t (by omega) h]; frame_out

theorem gain_next (c : Dev nD) (t : Fin cfg0.N) (h : 1 ≤ t.val) :
    (outsAt0 m c t.val t.isLt).2 = k0_pay2 (k0_pay6 (iblk m c 0 t) (iblk m c 1 t) (iblk m c 2 t)) (outsAt0 m c (t.val - 1) (Nat.lt_of_le_of_lt (Nat.sub_le _ _) t.isLt)).2 := by
  rw [outsAt0_B m c t (by have := points t; omega) h]; frame_out

theorem pay_add (u v : Vec Ideal S1x1024 .f32) (l : Fin 1024) : k0_pay2 u v (ix2 0 l) = ((v (ix2 0 l) : EReal) + u (ix2 0 l) : EReal) := by
  pointwise [k0_pay2]

/-- The second result's accumulated contents after a point. -/
theorem gain_at (c : Dev nD) : ∀ (n : ℕ) (hn : n < cfg0.N) (l : Fin 1024),
    (outsAt0 m c n hn).2 (ix2 0 l) = ((∑ k ∈ Finset.range (n + 1), parts m c k l : EReal))
  | 0, hn, l => by
    rw [gain_first m c ⟨0, hn⟩ (by simp), block_gain]; simp
  | n + 1, hn, l => by
    rw [gain_next m c ⟨n + 1, hn⟩ (by simp), pay_add, block_gain, Finset.sum_range_succ]
    exact congrArg (fun u : EReal => u + parts m c (n + 1) l) (gain_at c n _ l)

theorem flushed_rows (c : Dev nD) (t : Fin cfg0.N) : (dats m 0 c).flushed 5 t
    = ((cfg0.win 5).blk t).view.read (Elt Ideal) (wholeRows (m ((c : Thread nD τ).loc main_arg0)) (flip (m ((c : Thread nD τ).loc main_arg1))) (m ((c : Thread nD τ).loc main_arg2))
        (m ((c : Thread nD τ).loc main_arg3)) (m ((c : Thread nD τ).loc main_arg4))) := by
  rw [Value.flushed5]
  funext j
  obtain ⟨r, l, rfl⟩ : ∃ (r : Fin 512) (l : Fin 1024), j = ix2 r l := ⟨j 0, j 1, at_ix2 _ _ _ rfl rfl⟩
  show (outsAt0 m c t.val t.isLt).1 (ix2 r l) = wholeRows _ _ _ _ _ (((cfg0.win 5).blk t).view.emb (ix2 r l))
  rw [emb_5, rows_at]

theorem covered_rows (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨r.val / 512, by rw [show cfg0.N = 8 from N_0]; omega⟩
  have e : ix2 r l = ((cfg0.win 5).blk t).view.emb (ix2 (n0 := 512) (n1 := 1024) ⟨r.val % 512, by omega⟩ l) := by
    rw [emb_5]; exact congrArg (fun s => ix2 s l) (Fin.ext (show r.val = 512 * (r.val / 512) + r.val % 512 by omega))
  exact ⟨t, flush0_5 t, by rw [e]; exact ((cfg0.win 5).blk t).view.emb_mem_set _⟩

theorem flushed_gain (c : Dev nD) (t : Fin cfg0.N) (h : (cfg0.win 6).flush t = true) : (dats m 0 c).flushed 6 t
    = ((cfg0.win 6).blk t).view.read (Elt Ideal) (wholeGain (m ((c : Thread nD τ).loc main_arg0)) (flip (m ((c : Thread nD τ).loc main_arg1))) (m ((c : Thread nD τ).loc main_arg2))) := by
  have ht : t.val = 7 := by have := (flush0_6 t).mp h; have := points t; omega
  rw [Value.flushed6]
  funext j
  obtain ⟨l, rfl⟩ : ∃ l : Fin 1024, j = ix2 (n0 := 1) (n1 := 1024) 0 l := ⟨j 1, at_row j⟩
  show (outsAt0 m c t.val t.isLt).2 (ix2 0 l) = wholeGain _ _ _ (((cfg0.win 6).blk t).view.emb (ix2 0 l))
  rw [emb_6, gain_at, ht]
  exact sum_blocks (p := 8) (b := 512) rfl (part m c l) (fun n => parts m c n l) fun n hn => Finset.sum_congr rfl fun r _ => dif_pos (by omega)

theorem covered_gain (i : S1x1024.Idx) : ∃ t : Fin cfg0.N, (cfg0.win 6).flush t = true ∧ i ∈ ((cfg0.win 6).blk t).view.set := by
  obtain ⟨l, rfl⟩ : ∃ l : Fin 1024, i = ix2 (n0 := 1) (n1 := 1024) 0 l := ⟨i 1, at_row i⟩
  let t : Fin cfg0.N := ⟨7, by rw [show cfg0.N = 8 from N_0]; omega⟩
  exact ⟨t, (flush0_6 t).mpr rfl, by rw [← emb_6 t l]; exact ((cfg0.win 6).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeRows (m ((c : Thread nD τ).loc main_arg0)) (flip (m ((c : Thread nD τ).loc main_arg1))) (m ((c : Thread nD τ).loc main_arg2)) (m ((c : Thread nD τ).loc main_arg3)) (m ((c : Thread nD τ).loc main_arg4))
      ∧ r.2.mem ((c : Thread nD τ).loc main_v0_1) = wholeGain (m ((c : Thread nD τ).loc main_arg0)) (flip (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_rows m c t) covered_rows),
    (h c).2.1.trans ((dats m 0 c).arrAt_eq_of_cover 6 _ (fun t ht => flushed_gain m c t ht) covered_gain), (h c).2.2⟩)
    (Value.run_blocks m ρ)

end Cert.Kernel17Ideal.Mm

namespace Cert.Reference17Ideal.Mm

open Idealize.ShloMosaic Idealize.ShloMosaic.TcCoe Idealize.SL.Sem Cert.Reference17Ideal Cert.Reference17Ideal.Gen Cert.Reference17Ideal.Read

theorem value_rows (x : Vec Ideal S4096x1024 .bf16) (w : Vec Ideal S1024x1024 .bf16) (x1 dx2 : Vec Ideal S4096x1024 .f32) (g : Vec Ideal S1x1024 .f32) :
    val_main_v38 (F := Ideal) x w x1 dx2 g = Cert.Mm.wholeRows x (Cert.Mm.flip w) x1 dx2 g := by
  funext i
  obtain ⟨r, l, rfl⟩ : ∃ (r : Fin 4096) (l : Fin 1024), i = ix2 r l := ⟨i 0, i 1, Cert.Mm.at_ix2 _ _ _ rfl rfl⟩
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, val_main_cst_3, val_main_cst_4, val_main_cst_5, val_main_cst_6]
  exact Cert.Mm.back_comm (fun j => x1 (ix2 r j)) (Cert.Mm.prod x (Cert.Mm.flip w) r) (fun j => g (ix2 0 j)) (fun j => dx2 (ix2 r j)) l

theorem value_gain (x : Vec Ideal S4096x1024 .bf16) (w : Vec Ideal S1024x1024 .bf16) (x1 : Vec Ideal S4096x1024 .f32) :
    val_main_v21 (F := Ideal) x w x1 = Cert.Mm.wholeGain x (Cert.Mm.flip w) x1 := by
  funext i
  obtain ⟨l, rfl⟩ : ∃ l : Fin 1024, i = ix2 (n0 := 1) (n1 := 1024) 0 l := ⟨i 1, Cert.Mm.at_row i⟩
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5,
    val_main_cst_6]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v38) = Cert.Mm.wholeRows (m ((c : Thread nD τ).loc main_arg0)) (Cert.Mm.flip (m ((c : Thread nD τ).loc main_arg1))) (m ((c : Thread nD τ).loc main_arg2)) (m ((c : Thread nD τ).loc main_arg3)) (m ((c : Thread nD τ).loc main_arg4))
      ∧ r.2.mem ((c : Thread nD τ).loc main_v21) = Cert.Mm.wholeGain (m ((c : Thread nD τ).loc main_arg0)) (Cert.Mm.flip (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((val_main_v38_eq _ _).trans (value_rows _ _ _ _ _)),
    (h c).2.1.trans ((val_main_v21_eq _ _ _).trans (value_gain _ _ _)), (h c).2.2⟩) (Value.run (F := Ideal) m ρ)

end Cert.Reference17Ideal.Mm

end
-- ==== Proof.Mm.Dgate.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of the embedding's gate: one product over all tokens, in two halves of its columns -/

namespace Cert.Kernel18Ideal.Mm

open Idealize.ShloMosaic Idealize.ShloMosaic.TcCoe Idealize.SL.Sem Cert.Kernel18Ideal Cert.Kernel18Ideal.Gen Cert.Mm

theorem origin : (![0, 0] : Fin 2 → Nat) = fun _ => 0 := funext fun a => by match a with | ⟨0, _⟩ => rfl | ⟨1, _⟩ => rfl

theorem points (t : Fin cfg0.N) : t.val < 2 := lt_of_lt_of_eq t.isLt (show cfg0.N = 2 from N_0)

theorem index_0 : ∀ t : Fin cfg0.N, win0_0.index t (0 : Fin 2) = 0 ∧ win0_0.index t (1 : Fin 2) = 0 := (by decide +kernel : ∀ t : Fin grid0.N, _)
theorem index_1 : ∀ t : Fin cfg0.N, win0_1.index t (0 : Fin 2) = 0 ∧ win0_1.index t (1 : Fin 2) = t.val := (by decide +kernel : ∀ t : Fin grid0.N, _)
theorem index_2 : ∀ t : Fin cfg0.N, win0_2.index t (0 : Fin 2) = 0 ∧ win0_2.index t (1 : Fin 2) = t.val := (by decide +kernel : ∀ t : Fin grid0.N, _)

/-- A half's column among the result's columns. -/
def col (t : Fin cfg0.N) (l : Fin 512) : Fin 1024 := ⟨512 * t.val + l.val, by have := points t; omega⟩

theorem emb_2 (t : Fin cfg0.N) (r : Fin 1024) (l : Fin 512) : ((cfg0.win 2).blk t).view.emb (ix2 r l) = (ix2 (n0 := 1024) (n1 := 1024) r (col t l)) := by
  obtain ⟨e0, e1⟩ := index_2 t
  refine at_ix2 _ _ _ ?_ ?_
  · show win0_2.index t (0 : Fin 2) * 1024 + 1 * r.val = r.val; omega
  · show win0_2.index t (1 : Fin 2) * 512 + 1 * l.val = 512 * t.val + l.val; omega

/-- A half's product, entry by entry. -/
theorem pay_at (x : Vec Ideal S4096x1024 .bf16) (y : Vec Ideal S4096x512 .bf16) (r : Fin 1024) (l : Fin 512) :
    k0_pay1 x y (ix2 r l) = tokens x y (ix2 r l) := by
  pointwise [k0_pay1]
  rfl

variable (m : (ℓ : Loc nD τ sig) → Buf (Elt Ideal) ℓ) (ρ : Dev nD → PrngReg)

theorem block_0 (c : Dev nD) (t : Fin cfg0.N) (k : Fin 4096) (r : Fin 1024) : iblk m c 0 t (ix2 k r)
    = m ((c : Thread nD τ).loc main_arg0) (ix2 (n0 := 4096) (n1 := 1024) k r) := by
  obtain ⟨e0, e1⟩ := index_0 t
  refine congrArg (V m c main_arg0) (at_ix2 _ _ _ ?_ ?_)
  · show win0_0.index t (0 : Fin 2) * 4096 + 1 * k.val = k.val; omega
  · show win0_0.index t (1 : Fin 2) * 1024 + 1 * r.val = r.val; omega
theorem block_1 (c : Dev nD) (t : Fin cfg0.N) (k : Fin 4096) (l : Fin 512) : iblk m c 1 t (ix2 k l)
    = m ((c : Thread nD τ).loc main_arg1) (ix2 (n0 := 4096) (n1 := 1024) k (col t l)) := by
  obtain ⟨e0, e1⟩ := index_1 t
  refine congrArg (V m c main_arg1) (at_ix2 _ _ _ ?_ ?_)
  · show win0_1.index t (0 : Fin 2) * 4096 + 1 * k.val = k.val; omega
  · show win0_1.index t (1 : Fin 2) * 512 + 1 * l.val = 512 * t.val + l.val; omega

theorem flushed (c : Dev nD) (t : Fin cfg0.N) : (dats m 0 c).flushed 2 t
    = ((cfg0.win 2).blk t).view.read (Elt Ideal) (tokens (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 512), j = ix2 r l := ⟨j 0, j 1, at_ix2 _ _ _ rfl rfl⟩
  show k0_pay1 (iblk m c 0 t) (iblk m c 1 t) (ix2 r l) = tokens (a := 1024) (b := 1024) _ _ (((cfg0.win 2).blk t).view.emb (ix2 r l))
  rw [emb_2, pay_at]
  exact Finset.sum_congr rfl fun k _ => congrArg₂ (fun u v : EReal => u * v) (block_0 m c t k r) (block_1 m c t k l)

theorem covered (i : S1024x1024.Idx) : ∃ t : Fin cfg0.N, (cfg0.win 2).flush t = true ∧ i ∈ ((cfg0.win 2).blk t).view.set := by
  obtain ⟨r, l, rfl⟩ : ∃ (r : Fin 1024) (l : Fin 1024), i = ix2 r l := ⟨i 0, i 1, at_ix2 _ _ _ rfl rfl⟩
  let t : Fin cfg0.N := ⟨l.val / 512, by rw [show cfg0.N = 2 from N_0]; omega⟩
  have e : ix2 r l = ((cfg0.win 2).blk t).view.emb (ix2 (n0 := 1024) (n1 := 512) r ⟨l.val % 512, by omega⟩) := by
    rw [emb_2]
    exact congrArg (fun q => ix2 r q) (Fin.ext (show l.val = 512 * (l.val / 512) + l.val % 512 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel18Ideal.Mm

namespace Cert.Reference18Ideal.Mm

open Idealize.ShloMosaic Idealize.ShloMosaic.TcCoe Idealize.SL.Sem Cert.Reference18Ideal Cert.Reference18Ideal.Gen Cert.Reference18Ideal.Read

theorem value (x : Vec Ideal S4096x1024 .bf16) (w : Vec Ideal S4096x1024 .bf16) : val_main_v6 (F := Ideal) x w = Cert.Mm.tokens x w := by
  funext i
  obtain ⟨r, l, rfl⟩ : ∃ (r : Fin 1024) (l : Fin 1024), i = ix2 r l := ⟨i 0, i 1, Cert.Mm.at_ix2 _ _ _ rfl rfl⟩
  pointwise [val_main_v6, val_main_v5, val_main_v4, val_main_v3, val_main_v1]
  exact Finset.sum_congr rfl fun k _ => mul_comm (G := EReal) _ _

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v6_eq _ _).trans (value _ _)), (h c).2⟩) (Value.run (F := Ideal) m ρ)

end Cert.Reference18Ideal.Mm

end
-- ==== Proof.Mm.Ple.lean ====
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Mm.Rms
public import Idealize.ShloMosaic.Lib.Pointwise
public import Idealize.ShloMosaic.Lib.Pipeline.ValueKit

@[expose] public section

set_option maxRecDepth 16384

noncomputable section

/-! # The projection of the per-layer embedding: one product, in blocks of its rows -/

namespace Cert.Kernel19Ideal.Mm

open Idealize.ShloMosaic Idealize.ShloMosaic.TcCoe Idealize.SL.Sem Cert.Kernel19Ideal Cert.Kernel19Ideal.Gen Cert.Mm

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_2 (t : Fin cfg0.N) (r : Fin 1024) (l : Fin 1024) : ((cfg0.win 2).blk t).view.emb (ix2 r l) = (ix2 (n0 := 4096) (n1 := 1024) (row t r) l) := by
  obtain ⟨e0, e1⟩ := index_2 t
  refine at_ix2 _ _ _ ?_ ?_
  · show win0_2.index t (0 : Fin 2) * 1024 + 1 * r.val = 1024 * t.val + r.val; omega
  · show win0_2.index t (1 : Fin 2) * 1024 + 1 * l.val = l.val; omega

/-- A block's product, entry by entry. -/
theorem pay_at (x : Vec Ideal S1024x256 .f32) (w : Vec Ideal S1024x256 .bf16) (r : Fin 1024) (l : Fin 1024) :
    k0_pay1 x w (ix2 r l) = against (n := 1024) x w (ix2 r l) := by
  pointwise [k0_pay1]
  rfl

variable (m : (ℓ : Loc nD τ sig) → Buf (Elt Ideal) ℓ) (ρ : Dev nD → PrngReg)

theorem block_0 (c : Dev nD) (t : Fin cfg0.N) (r : Fin 1024) (k : Fin 256) : iblk m c 0 t (ix2 r k)
    = m ((c : Thread nD τ).loc main_arg0) (ix2 (n0 := 4096) (n1 := 256) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 256 + 1 * k.val = k.val; omega
theorem block_1 (c : Dev nD) (t : Fin cfg0.N) (l : Fin 1024) (k : Fin 256) : iblk m c 1 t (ix2 l k)
    = m ((c : Thread nD τ).loc main_arg1) (ix2 (n0 := 1024) (n1 := 256) l k) := by
  obtain ⟨e0, e1⟩ := index_1 t
  refine congrArg (V m c main_arg1) (at_ix2 _ _ _ ?_ ?_)
  · show win0_1.index t (0 : Fin 2) * 1024 + 1 * l.val = l.val; omega
  · show win0_1.index t (1 : Fin 2) * 256 + 1 * k.val = k.val; omega

theorem flushed (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 1024), j = ix2 r l := ⟨j 0, j 1, at_ix2 _ _ _ rfl rfl⟩
  show k0_pay1 (iblk m c 0 t) (iblk m c 1 t) (ix2 r l) = against (n := 4096) (K := 256) (b := 1024) _ _ (((cfg0.win 2).blk t).view.emb (ix2 r l))
  rw [emb_2, pay_at]
  exact Finset.sum_congr rfl fun k _ => congrArg₂ (fun u v : EReal => u * v) (block_0 m c t r k) (block_1 m c t l k)

theorem covered (i : S4096x1024.Idx) : ∃ t : Fin cfg0.N, (cfg0.win 2).flush t = true ∧ i ∈ ((cfg0.win 2).blk t).view.set := by
  obtain ⟨r, l, rfl⟩ : ∃ (r : Fin 4096) (l : Fin 1024), i = ix2 r l := ⟨i 0, i 1, at_ix2 _ _ _ rfl rfl⟩
  let t : Fin cfg0.N := ⟨r.val / 1024, by rw [show cfg0.N = 4 from N_0]; omega⟩
  have e : ix2 r l = ((cfg0.win 2).blk t).view.emb (ix2 (n0 := 1024) (n1 := 1024) ⟨r.val % 1024, by omega⟩ l) := by
    rw [emb_2]
    exact congrArg (fun s => ix2 s l) (Fin.ext (show r.val = 1024 * (r.val / 1024) + r.val % 1024 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel19Ideal.Mm

namespace Cert.Reference19Ideal.Mm

open Idealize.ShloMosaic Idealize.ShloMosaic.TcCoe Idealize.SL.Sem Cert.Reference19Ideal Cert.Reference19Ideal.Gen Cert.Reference19Ideal.Read

theorem value (x : Vec Ideal S4096x256 .f32) (w : Vec Ideal S1024x256 .bf16) : val_main_v2 (F := Ideal) x w = Cert.Mm.against x w := by
  funext i
  obtain ⟨r, l, rfl⟩ : ∃ (r : Fin 4096) (l : Fin 1024), i = ix2 r l := ⟨i 0, i 1, Cert.Mm.at_ix2 _ _ _ rfl rfl⟩
  pointwise [val_main_v2, val_main_v1, val_main_v0]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = Cert.Mm.against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v2_eq _ _).trans (value _ _)), (h c).2⟩) (Value.run (F := Ideal) m ρ)

end Cert.Reference19Ideal.Mm

end
-- ==== Proof.Mm.Dple.lean ====
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Mm.Rms
public import Idealize.ShloMosaic.Lib.Pointwise
public import Idealize.ShloMosaic.Lib.Pipeline.ValueKit

@[expose] public section

set_option maxRecDepth 16384

noncomputable section

/-! # The weight gradient of the per-layer embedding's projection: one product over all tokens -/

namespace Cert.Kernel20Ideal.Mm

open Idealize.ShloMosaic Idealize.ShloMosaic.TcCoe Idealize.SL.Sem Cert.Kernel20Ideal Cert.Kernel20Ideal.Gen Cert.Mm

theorem pay_at (x : Vec Ideal S4096x1024 .bf16) (y : Vec Ideal S4096x256 .f32) : k0_pay1 x y = tokens x y := by
  funext i
  obtain ⟨r, l, rfl⟩ : ∃ (r : Fin 1024) (l : Fin 256), i = ix2 r l := ⟨i 0, i 1, at_ix2 _ _ _ rfl rfl⟩
  pointwise [k0_pay1]
  rfl

/-- The kernel's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (pay_at _ _), (h c).2⟩) (Value.run m ρ)

end Cert.Kernel20Ideal.Mm

namespace Cert.Reference20Ideal.Mm

open Idealize.ShloMosaic Idealize.ShloMosaic.TcCoe Idealize.SL.Sem Cert.Reference20Ideal Cert.Reference20Ideal.Gen Cert.Reference20Ideal.Read

theorem value (x : Vec Ideal S4096x1024 .bf16) (w : Vec Ideal S4096x256 .f32) : val_main_v6 (F := Ideal) x w = Cert.Mm.tokens x w := by
  funext i
  obtain ⟨r, l, rfl⟩ : ∃ (r : Fin 1024) (l : Fin 256), i = ix2 r l := ⟨i 0, i 1, Cert.Mm.at_ix2 _ _ _ rfl rfl⟩
  pointwise [val_main_v6, val_main_v5, val_main_v4, val_main_v3, val_main_v2]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = Cert.Mm.tokens (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v6_eq _ _).trans (value _ _)), (h c).2⟩) (Value.run (F := Ideal) m ρ)

end Cert.Reference20Ideal.Mm

end
-- ==== Proof.Mm.Head.lean ====
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Mm.Rms
public import Idealize.ShloMosaic.Lib.Pointwise
public import Idealize.ShloMosaic.Lib.Pipeline.ValueKit

@[expose] public section

set_option maxRecDepth 16384

noncomputable section

/-! # The head: the per-layer embedding's gate, the last normalization, the squared error, and its gradient back to the gate -/

namespace Cert.Mm.Head

open Idealize.ShloMosaic Cert.Mm

/-- The word of one half. -/
def half : EReal := Ideal.ofBits FTy.f32 0x3F000000#32

theorem half_eq : half = ((1 / 2 : ℝ) : EReal) := by
  simp [half, Ideal.ofBits, Ideal.ieee, -EReal.coe_mul]; norm_num

theorem two_eq : Ideal.ofBits FTy.f32 0x40000000#32 = (1 + 1 : EReal) := by
  rw [show (1 + 1 : EReal) = ((2 : ℝ) : EReal) from by rw [← EReal.coe_one, ← EReal.coe_add]; norm_num]
  simp [Ideal.ofBits, Ideal.ieee, -EReal.coe_mul]; norm_num

/-- The factor of an error's square in the loss. -/
def cot : EReal := Ideal.div half (Ideal.ofBits FTy.f32 1149239296#32)

/-- The gradient of a square, by one factor and the other or by twice the one. -/
theorem twice (e : EReal) : cot * (Ideal.ofBits FTy.f32 0x40000000#32 * e) = e * cot + cot * e := by
  rw [mul_left_comm, two_eq, EReal.right_distrib_of_nonneg zero_le_one zero_le_one, one_mul, mul_comm e cot]

/-- Half of a sum is the sum of the halves. -/
theorem half_sum (n : ℕ) (f : ℕ → EReal) : half * ∑ k ∈ Finset.range n, f k = ∑ k ∈ Finset.range n, half * f k := by
  have h0 : 0 ≤ half := by rw [half_eq]; exact_mod_cast (by norm_num : (0 : ℝ) ≤ 1 / 2)
  have h1 : half ≠ ⊤ := by rw [half_eq]; exact EReal.coe_ne_top _
  induction n with
  | zero => simp
  | succ n ih => rw [Finset.sum_range_succ, Finset.sum_range_succ, EReal.left_distrib_of_nonneg_of_ne_top h0 h1, ih]

/-- A token's part of the squared error. -/
def square (e : Fin 1024 → EReal) : EReal := Ideal.div (∑ j, e j * e j) (Ideal.ofBits FTy.f32 1149239296#32)

section

variable {n N : ℕ} (x : Vec Ideal ⟨2, ![n, 1024]⟩ .bf16) (w : Vec Ideal ⟨2, ![1024, 1024]⟩ .bf16) (x2 pp tgt : Vec Ideal ⟨2, ![n, 1024]⟩ .f32)
  (g : Vec Ideal ⟨2, ![1, 1024]⟩ .f32)

/-- A token's gate. -/
def gate (r : Fin n) (l : Fin 1024) : EReal := Ideal.logistic (prod x w r l)

/-- A token's row with the gated embedding added. -/
def sum3 (r : Fin n) (l : Fin 1024) : EReal := (x2 (ix2 r l) : EReal) + gate x w r l * pp (ix2 r l)

/-- A token's error. -/
def err (r : Fin n) (l : Fin 1024) : EReal := normed (sum3 x w x2 pp r) (fun j => g (ix2 0 j)) l - tgt (ix2 r l)

/-- The gradient at a token's normalized row. -/
def pushed (r : Fin n) (l : Fin 1024) : EReal := err x w x2 pp tgt g r l * cot + cot * err x w x2 pp tgt g r l

/-- The gradient at a token's row. -/
def deriv (r : Fin n) (l : Fin 1024) : EReal :=
  pushed x w x2 pp tgt g r l * g (ix2 0 l) * Ideal.rsqrt (mean (sum3 x w x2 pp r))
    + sum3 x w x2 pp r l * pull (sum3 x w x2 pp r) (pushed x w x2 pp tgt g r) (fun j => g (ix2 0 j))
    + pull (sum3 x w x2 pp r) (pushed x w x2 pp tgt g r) (fun j => g (ix2 0 j)) * sum3 x w x2 pp r l

/-- The gradient at a token's gate, before its sigmoid. -/
def derivGate (r : Fin n) (l : Fin 1024) : EReal :=
  deriv x w x2 pp tgt g r l * pp (ix2 r l) * (gate x w r l * (1 - gate x w r l))

/-- The gradient at a token's embedding. -/
def derivEmb (r : Fin n) (l : Fin 1024) : EReal := gate x w r l * deriv x w x2 pp tgt g r l

end

section

variable (x : Vec Ideal ⟨2, ![4096, 1024]⟩ .bf16) (w : Vec Ideal ⟨2, ![1024, 1024]⟩ .bf16) (x2 pp tgt : Vec Ideal ⟨2, ![4096, 1024]⟩ .f32)
  (g : Vec Ideal ⟨2, ![1, 1024]⟩ .f32)

def wholeX : Vec Ideal ⟨2, ![4096, 1024]⟩ .f32 := fun i => deriv x w x2 pp tgt g (i 0) (i 1)
def wholeGate : Vec Ideal ⟨2, ![4096, 1024]⟩ .bf16 := fun i => derivGate x w x2 pp tgt g (i 0) (i 1)
def wholeEmb : Vec Ideal ⟨2, ![4096, 1024]⟩ .bf16 := fun i => derivEmb x w x2 pp tgt g (i 0) (i 1)
/-- The gain's gradient, summed over the tokens. -/
def wholeG : Vec Ideal ⟨2, ![1, 1024]⟩ .f32 :=
  fun i => ((∑ k : Fin 4096, gain (sum3 x w x2 pp k) (pushed x w x2 pp tgt g k) (i 1) : EReal))
/-- The loss, in every entry of its row. -/
def wholeLoss : Vec Ideal ⟨2, ![1, 1024]⟩ .f32 := fun _ => half * ((∑ k : Fin 4096, square (err x w x2 pp tgt g k) : EReal))

end

section

variable {n N : ℕ} {x : Vec Ideal ⟨2, ![n, 1024]⟩ .bf16} {w : Vec Ideal ⟨2, ![1024, 1024]⟩ .bf16} {x2 pp tgt : Vec Ideal ⟨2, ![n, 1024]⟩ .f32}
  {g : Vec Ideal ⟨2, ![1, 1024]⟩ .f32} {X : Vec Ideal ⟨2, ![N, 1024]⟩ .bf16} {W : Vec Ideal ⟨2, ![1024, 1024]⟩ .bf16}
  {X2 PP T : Vec Ideal ⟨2, ![N, 1024]⟩ .f32} {G : Vec Ideal ⟨2, ![1, 1024]⟩ .f32} {r : Fin n} {k : Fin N}

theorem gate_row (hx : ∀ j, x (ix2 r j) = X (ix2 k j)) (hw : w = W) : gate x w r = gate X W k := by
  subst hw
  exact funext fun l => congrArg Ideal.logistic (Finset.sum_congr rfl fun q _ => congrArg (fun u : EReal => u * w (ix2 q l)) (hx q))

theorem sum3_row (hx : ∀ j, x (ix2 r j) = X (ix2 k j)) (hw : w = W) (h2 : ∀ j, x2 (ix2 r j) = X2 (ix2 k j)) (hp : ∀ j, pp (ix2 r j) = PP (ix2 k j)) :
    sum3 x w x2 pp r = sum3 X W X2 PP k :=
  funext fun l => congrArg₂ (fun u v : EReal => u + v) (h2 l) (congrArg₂ (fun u v : EReal => u * v) (congrFun (gate_row hx hw) l) (hp l))

theorem err_row (hx : ∀ j, x (ix2 r j) = X (ix2 k j)) (hw : w = W) (h2 : ∀ j, x2 (ix2 r j) = X2 (ix2 k j)) (hp : ∀ j, pp (ix2 r j) = PP (ix2 k j))
    (ht : ∀ j, tgt (ix2 r j) = T (ix2 k j)) (hg : g = G) : err x w x2 pp tgt g r = err X W X2 PP T G k := by
  subst hg
  funext l
  unfold err
  rw [sum3_row hx hw h2 hp]
  exact congrArg (fun u : EReal => _ - u) (ht l)

theorem pushed_row (hx : ∀ j, x (ix2 r j) = X (ix2 k j)) (hw : w = W) (h2 : ∀ j, x2 (ix2 r j) = X2 (ix2 k j)) (hp : ∀ j, pp (ix2 r j) = PP (ix2 k j))
    (ht : ∀ j, tgt (ix2 r j) = T (ix2 k j)) (hg : g = G) : pushed x w x2 pp tgt g r = pushed X W X2 PP T G k := by
  funext l
  unfold pushed
  rw [err_row hx hw h2 hp ht hg]

theorem deriv_row (hx : ∀ j, x (ix2 r j) = X (ix2 k j)) (hw : w = W) (h2 : ∀ j, x2 (ix2 r j) = X2 (ix2 k j)) (hp : ∀ j, pp (ix2 r j) = PP (ix2 k j))
    (ht : ∀ j, tgt (ix2 r j) = T (ix2 k j)) (hg : g = G) : deriv x w x2 pp tgt g r = deriv X W X2 PP T G k := by
  funext l
  unfold deriv
  rw [pushed_row hx hw h2 hp ht hg, sum3_row hx hw h2 hp, hg]

end

end Cert.Mm.Head

namespace Cert.Kernel24Ideal.Mm

open Idealize.ShloMosaic Idealize.ShloMosaic.TcCoe Idealize.SL.Sem Cert.Kernel24Ideal Cert.Kernel24Ideal.Gen Cert.Mm Cert.Mm.Head

section

variable (x : Vec Ideal S256x1024 .bf16) (w : Vec Ideal S1024x1024 .bf16) (x2 pp tgt : Vec Ideal S256x1024 .f32) (g : Vec Ideal S1x1024 .f32)

theorem pay_gate (r : Fin 256) (l : Fin 1024) : k0_pay3 x w (ix2 r l) = gate x w r l := by
  pointwise [k0_pay3]
  rfl
theorem pay_sum3 (r : Fin 256) (l : Fin 1024) : k0_pay5 x w x2 pp (ix2 r l) = sum3 x w x2 pp r l := by
  pointwise [k0_pay5, k0_pay3]
  rfl
theorem pay_err (r : Fin 256) (l : Fin 1024) : k0_pay10 x w x2 pp tgt g (ix2 r l) = err x w x2 pp tgt g r l := by
  pointwise [k0_pay10, k0_pay9, k0_pay7, k0_pay6, k0_pay5, k0_pay3]
  rfl
theorem pay_deriv (r : Fin 256) (l : Fin 1024) :
    k0_pay14 g (k0_pay5 x w x2 pp) (k0_pay7 x w x2 pp) (k0_pay8 x w x2 pp) (k0_pay10 x w x2 pp tgt g) (ix2 r l) = deriv x w x2 pp tgt g r l := by
  pointwise [k0_pay14, k0_pay12, k0_pay10, k0_pay9, k0_pay8, k0_pay7, k0_pay6, k0_pay5, k0_pay3]
  rfl
theorem pay_derivGate (r : Fin 256) (l : Fin 1024) :
    k0_pay16 pp g (k0_pay4 x w) (k0_pay5 x w x2 pp) (k0_pay7 x w x2 pp) (k0_pay8 x w x2 pp) (k0_pay10 x w x2 pp tgt g) (ix2 r l)
      = derivGate x w x2 pp tgt g r l := by
  pointwise [k0_pay16, k0_pay4, k0_pay14, k0_pay12, k0_pay10, k0_pay9, k0_pay8, k0_pay7, k0_pay6, k0_pay5, k0_pay3]
  rfl
theorem pay_derivEmb (r : Fin 256) (l : Fin 1024) :
    k0_pay17 g (k0_pay3 x w) (k0_pay5 x w x2 pp) (k0_pay7 x w x2 pp) (k0_pay8 x w x2 pp) (k0_pay10 x w x2 pp tgt g) (ix2 r l)
      = derivEmb x w x2 pp tgt g r l := by
  pointwise [k0_pay17, k0_pay14, k0_pay12, k0_pay10, k0_pay9, k0_pay8, k0_pay7, k0_pay6, k0_pay5, k0_pay3]
  rfl
theorem pay_g (l : Fin 1024) : k0_pay13 (k0_pay9 x w x2 pp) (k0_pay10 x w x2 pp tgt g) (ix2 0 l)
    = ((∑ r : Fin 256, gain (sum3 x w x2 pp r) (pushed x w x2 pp tgt g r) l : EReal)) := by
  pointwise [k0_pay13, k0_pay12, k0_pay10, k0_pay9, k0_pay7, k0_pay6, k0_pay5, k0_pay3]
  rfl
theorem pay_loss (l : Fin 1024) : k0_pay15 (k0_pay11 x w x2 pp tgt g) (ix2 0 l) = half * ((∑ r : Fin 256, square (err x w x2 pp tgt g r) : EReal)) := by
  pointwise [k0_pay15, k0_pay11, k0_pay10, k0_pay9, k0_pay7, k0_pay6, k0_pay5, k0_pay3]
  rfl

end

theorem points (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = 0 ∧ win0_5.index t (1 : Fin 2) = 0 := (by decide +kernel : ∀ t : Fin grid0.N, _)
theorem index_6 : ∀ t : Fin cfg0.N, win0_6.index t (0 : Fin 2) = t.val ∧ win0_6.index t (1 : Fin 2) = 0 := (by decide +kernel : ∀ t : Fin grid0.N, _)
theorem index_7 : ∀ t : Fin cfg0.N, win0_7.index t (0 : Fin 2) = t.val ∧ win0_7.index t (1 : Fin 2) = 0 := (by decide +kernel : ∀ t : Fin grid0.N, _)
theorem index_8 : ∀ t : Fin cfg0.N, win0_8.index t (0 : Fin 2) = t.val ∧ win0_8.index t (1 : Fin 2) = 0 := (by decide +kernel : ∀ t : Fin grid0.N, _)
theorem index_9 : ∀ t : Fin cfg0.N, win0_9.index t (0 : Fin 2) = 0 ∧ win0_9.index t (1 : Fin 2) = 0 := (by decide +kernel : ∀ t : Fin grid0.N, _)
theorem index_10 : ∀ t : Fin cfg0.N, win0_10.index t (0 : Fin 2) = 0 ∧ win0_10.index t (1 : Fin 2) = 0 := (by decide +kernel : ∀ t : Fin grid0.N, _)

/-- A block's row among the array's rows. -/
def row (t : Fin cfg0.N) (r : Fin 256) : Fin 4096 := ⟨256 * t.val + r.val, by have := points t; omega⟩

theorem emb_6 (t : Fin cfg0.N) (r : Fin 256) (l : Fin 1024) : ((cfg0.win 6).blk t).view.emb (ix2 r l) = (ix2 (n0 := 4096) (n1 := 1024) (row t r) l) := by
  obtain ⟨e0, e1⟩ := index_6 t
  refine at_ix2 _ _ _ ?_ ?_
  · show win0_6.index t (0 : Fin 2) * 256 + 1 * r.val = 256 * t.val + r.val; omega
  · show win0_6.index t (1 : Fin 2) * 1024 + 1 * l.val = l.val; omega
theorem emb_7 (t : Fin cfg0.N) (r : Fin 256) (l : Fin 1024) : ((cfg0.win 7).blk t).view.emb (ix2 r l) = (ix2 (n0 := 4096) (n1 := 1024) (row t r) l) := by
  obtain ⟨e0, e1⟩ := index_7 t
  refine at_ix2 _ _ _ ?_ ?_
  · show win0_7.index t (0 : Fin 2) * 256 + 1 * r.val = 256 * t.val + r.val; omega
  · show win0_7.index t (1 : Fin 2) * 1024 + 1 * l.val = l.val; omega
theorem emb_8 (t : Fin cfg0.N) (r : Fin 256) (l : Fin 1024) : ((cfg0.win 8).blk t).view.emb (ix2 r l) = (ix2 (n0 := 4096) (n1 := 1024) (row t r) l) := by
  obtain ⟨e0, e1⟩ := index_8 t
  refine at_ix2 _ _ _ ?_ ?_
  · show win0_8.index t (0 : Fin 2) * 256 + 1 * r.val = 256 * t.val + r.val; omega
  · show win0_8.index t (1 : Fin 2) * 1024 + 1 * l.val = l.val; omega
theorem emb_9 (t : Fin cfg0.N) (l : Fin 1024) : ((cfg0.win 9).blk t).view.emb (ix2 (n0 := 1) (n1 := 1024) 0 l) = (ix2 (n0 := 1) (n1 := 1024) 0 l) := by
  obtain ⟨e0, e1⟩ := index_9 t
  refine at_ix2 _ _ _ ?_ ?_
  · show win0_9.index t (0 : Fin 2) * 1 + 1 * 0 = 0; omega
  · show win0_9.index t (1 : Fin 2) * 1024 + 1 * l.val = l.val; omega
theorem emb_10 (t : Fin cfg0.N) (l : Fin 1024) : ((cfg0.win 10).blk t).view.emb (ix2 (n0 := 1) (n1 := 1024) 0 l) = (ix2 (n0 := 1) (n1 := 1024) 0 l) := by
  obtain ⟨e0, e1⟩ := index_10 t
  refine at_ix2 _ _ _ ?_ ?_
  · show win0_10.index t (0 : Fin 2) * 1 + 1 * 0 = 0; omega
  · show win0_10.index t (1 : Fin 2) * 1024 + 1 * l.val = l.val; omega

variable (m : (ℓ : Loc nD τ sig) → Buf (Elt Ideal) ℓ) (ρ : Dev nD → PrngReg)

theorem block_0 (c : Dev nD) (t : Fin cfg0.N) (r : Fin 256) (l : Fin 1024) : iblk m c 0 t (ix2 r l) = m ((c : Thread nD τ).loc main_arg0) (ix2 (n0 := 4096) (n1 := 1024) (row t r) l) := by
  obtain ⟨e0, e1⟩ := index_0 t
  refine congrArg (V m c main_arg0) (at_ix2 _ _ _ ?_ ?_)
  · show win0_0.index t (0 : Fin 2) * 256 + 1 * r.val = 256 * t.val + r.val; omega
  · show win0_0.index t (1 : Fin 2) * 1024 + 1 * l.val = l.val; omega
theorem block_2 (c : Dev nD) (t : Fin cfg0.N) (r : Fin 256) (l : Fin 1024) : iblk m c 2 t (ix2 r l) = m ((c : Thread nD τ).loc main_arg2) (ix2 (n0 := 4096) (n1 := 1024) (row t r) l) := by
  obtain ⟨e0, e1⟩ := index_2 t
  refine congrArg (V m c main_arg2) (at_ix2 _ _ _ ?_ ?_)
  · show win0_2.index t (0 : Fin 2) * 256 + 1 * r.val = 256 * t.val + r.val; omega
  · show win0_2.index t (1 : Fin 2) * 1024 + 1 * l.val = l.val; omega
theorem block_3 (c : Dev nD) (t : Fin cfg0.N) (r : Fin 256) (l : Fin 1024) : iblk m c 3 t (ix2 r l) = m ((c : Thread nD τ).loc main_arg3) (ix2 (n0 := 4096) (n1 := 1024) (row t r) l) := by
  obtain ⟨e0, e1⟩ := index_3 t
  refine congrArg (V m c main_arg3) (at_ix2 _ _ _ ?_ ?_)
  · show win0_3.index t (0 : Fin 2) * 256 + 1 * r.val = 256 * t.val + r.val; omega
  · show win0_3.index t (1 : Fin 2) * 1024 + 1 * l.val = l.val; omega
theorem block_4 (c : Dev nD) (t : Fin cfg0.N) (r : Fin 256) (l : Fin 1024) : iblk m c 4 t (ix2 r l) = m ((c : Thread nD τ).loc main_arg4) (ix2 (n0 := 4096) (n1 := 1024) (row t r) l) := by
  obtain ⟨e0, e1⟩ := index_4 t
  refine congrArg (V m c main_arg4) (at_ix2 _ _ _ ?_ ?_)
  · show win0_4.index t (0 : Fin 2) * 256 + 1 * r.val = 256 * t.val + r.val; omega
  · show win0_4.index t (1 : Fin 2) * 1024 + 1 * l.val = l.val; omega
theorem block_1 (c : Dev nD) (t : Fin cfg0.N) : iblk m c 1 t = m ((c : Thread nD τ).loc main_arg1) := by
  obtain ⟨e0, e1⟩ := index_1 t
  funext i
  obtain ⟨k, l, rfl⟩ : ∃ (k : Fin 1024) (l : Fin 1024), i = ix2 k l := ⟨i 0, i 1, at_ix2 _ _ _ rfl rfl⟩
  refine congrArg (V m c main_arg1) (at_ix2 _ _ _ ?_ ?_)
  · show win0_1.index t (0 : Fin 2) * 1024 + 1 * k.val = k.val; omega
  · show win0_1.index t (1 : Fin 2) * 1024 + 1 * l.val = l.val; omega
theorem block_5 (c : Dev nD) (t : Fin cfg0.N) : iblk m c 5 t = m ((c : Thread nD τ).loc main_arg5) := by
  obtain ⟨e0, e1⟩ := index_5 t
  funext i
  obtain ⟨k, l, rfl⟩ : ∃ (k : Fin 1) (l : Fin 1024), i = ix2 k l := ⟨i 0, i 1, at_ix2 _ _ _ rfl rfl⟩
  refine congrArg (V m c main_arg5) (at_ix2 _ _ _ ?_ ?_)
  · show win0_5.index t (0 : Fin 2) * 1 + 1 * k.val = k.val; omega
  · show win0_5.index t (1 : Fin 2) * 1024 + 1 * l.val = l.val; omega

theorem block_gate (c : Dev nD) (t : Fin cfg0.N) (r : Fin 256) : gate (n := 256) (iblk m c 0 t) (iblk m c 1 t) r = gate (n := 4096) (m ((c : Thread nD τ).loc main_arg0)) (m ((c : Thread nD τ).loc main_arg1)) (row t r) :=
  gate_row (block_0 m c t r) (block_1 m c t)
theorem block_sum3 (c : Dev nD) (t : Fin cfg0.N) (r : Fin 256) : sum3 (n := 256) (iblk m c 0 t) (iblk m c 1 t) (iblk m c 2 t) (iblk m c 3 t) r = sum3 (n := 4096) (m ((c : Thread nD τ).loc main_arg0)) (m ((c : Thread nD τ).loc main_arg1)) (m ((c : Thread nD τ).loc main_arg2)) (m ((c : Thread nD τ).loc main_arg3)) (row t r) :=
  sum3_row (block_0 m c t r) (block_1 m c t) (block_2 m c t r) (block_3 m c t r)
theorem block_err (c : Dev nD) (t : Fin cfg0.N) (r : Fin 256) : err (n := 256) (iblk m c 0 t) (iblk m c 1 t) (iblk m c 2 t) (iblk m c 3 t) (iblk m c 4 t) (iblk m c 5 t) r = err (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) :=
  err_row (block_0 m c t r) (block_1 m c t) (block_2 m c t r) (block_3 m c t r) (block_4 m c t r) (block_5 m c t)
theorem block_pushed (c : Dev nD) (t : Fin cfg0.N) (r : Fin 256) : pushed (n := 256) (iblk m c 0 t) (iblk m c 1 t) (iblk m c 2 t) (iblk m c 3 t) (iblk m c 4 t) (iblk m c 5 t) r = pushed (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) :=
  pushed_row (block_0 m c t r) (block_1 m c t) (block_2 m c t r) (block_3 m c t r) (block_4 m c t r) (block_5 m c t)
theorem block_deriv (c : Dev nD) (t : Fin cfg0.N) (r : Fin 256) : deriv (n := 256) (iblk m c 0 t) (iblk m c 1 t) (iblk m c 2 t) (iblk m c 3 t) (iblk m c 4 t) (iblk m c 5 t) r = deriv (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) :=
  deriv_row (block_0 m c t r) (block_1 m c t) (block_2 m c t r) (block_3 m c t r) (block_4 m c t r) (block_5 m c t)

theorem x_at (c : Dev nD) (t : Fin cfg0.N) (r : Fin 256) (l : Fin 1024) : (outsAt0 m c t.val t.isLt).1 (ix2 r l)
    = wholeX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  have e : (outsAt0 m c t.val t.isLt).1 = k0_pay14 (iblk m c 5 t) (k0_pay5 (iblk m c 0 t) (iblk m c 1 t) (iblk m c 2 t) (iblk m c 3 t)) (k0_pay7 (iblk m c 0 t) (iblk m c 1 t) (iblk m c 2 t) (iblk m c 3 t))
      (k0_pay8 (iblk m c 0 t) (iblk m c 1 t) (iblk m c 2 t) (iblk m c 3 t)) (k0_pay10 (iblk m c 0 t) (iblk m c 1 t) (iblk m c 2 t) (iblk m c 3 t) (iblk m c 4 t) (iblk m c 5 t)) := by
    by_cases h : 1 ≤ t.val
    · rw [outsAt0_B m c t (by have := points t; omega) h (by have := points t; omega) h]; frame_out
    · rw [outsAt0_A m c t (by omega) h (by omega) h]; frame_out
  rw [e, pay_deriv]
  exact congrFun (block_deriv m c t r) l
theorem gate_at (c : Dev nD) (t : Fin cfg0.N) (r : Fin 256) (l : Fin 1024) : (outsAt0 m c t.val t.isLt).2.1 (ix2 r l)
    = wholeGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  have e : (outsAt0 m c t.val t.isLt).2.1 = k0_pay16 (iblk m c 3 t) (iblk m c 5 t) (k0_pay4 (iblk m c 0 t) (iblk m c 1 t)) (k0_pay5 (iblk m c 0 t) (iblk m c 1 t) (iblk m c 2 t) (iblk m c 3 t)) (k0_pay7 (iblk m c 0 t) (iblk m c 1 t) (iblk m c 2 t) (iblk m c 3 t))
      (k0_pay8 (iblk m c 0 t) (iblk m c 1 t) (iblk m c 2 t) (iblk m c 3 t)) (k0_pay10 (iblk m c 0 t) (iblk m c 1 t) (iblk m c 2 t) (iblk m c 3 t) (iblk m c 4 t) (iblk m c 5 t)) := by
    by_cases h : 1 ≤ t.val
    · rw [outsAt0_B m c t (by have := points t; omega) h (by have := points t; omega) h]; frame_out
    · rw [outsAt0_A m c t (by omega) h (by omega) h]; frame_out
  rw [e, pay_derivGate]
  unfold derivGate
  rw [block_deriv, block_gate]
  exact congrArg (fun u : EReal => _ * u * _) (block_3 m c t r l)
theorem emb_at (c : Dev nD) (t : Fin cfg0.N) (r : Fin 256) (l : Fin 1024) : (outsAt0 m c t.val t.isLt).2.2.1 (ix2 r l)
    = wholeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  have e : (outsAt0 m c t.val t.isLt).2.2.1 = k0_pay17 (iblk m c 5 t) (k0_pay3 (iblk m c 0 t) (iblk m c 1 t)) (k0_pay5 (iblk m c 0 t) (iblk m c 1 t) (iblk m c 2 t) (iblk m c 3 t)) (k0_pay7 (iblk m c 0 t) (iblk m c 1 t) (iblk m c 2 t) (iblk m c 3 t))
      (k0_pay8 (iblk m c 0 t) (iblk m c 1 t) (iblk m c 2 t) (iblk m c 3 t)) (k0_pay10 (iblk m c 0 t) (iblk m c 1 t) (iblk m c 2 t) (iblk m c 3 t) (iblk m c 4 t) (iblk m c 5 t)) := by
    by_cases h : 1 ≤ t.val
    · rw [outsAt0_B m c t (by have := points t; omega) h (by have := points t; omega) h]; frame_out
    · rw [outsAt0_A m c t (by omega) h (by omega) h]; frame_out
  rw [e, pay_derivEmb]
  unfold derivEmb
  rw [block_deriv, block_gate]
  rfl

/-- A block's part of the gain's gradient, and of the loss. -/
def parts (f : Fin 4096 → EReal) (n : ℕ) : EReal := ∑ r : Fin 256, if h : 256 * n + r.val < 4096 then f ⟨256 * n + r.val, h⟩ else 0

/-- A token's part of the gain's gradient, from the arguments. -/
def partG (c : Dev nD) (l : Fin 1024) (k : Fin 4096) : EReal := gain (sum3 (n := 4096) (m ((c : Thread nD τ).loc main_arg0)) (m ((c : Thread nD τ).loc main_arg1)) (m ((c : Thread nD τ).loc main_arg2)) (m ((c : Thread nD τ).loc main_arg3)) k) (pushed (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k) l

/-- A token's part of the loss, from the arguments. -/
def partL (c : Dev nD) (k : Fin 4096) : EReal := square (err (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k)

theorem block_parts (t : Fin cfg0.N) (f : Fin 4096 → EReal) : ∑ r : Fin 256, f (row t r) = parts f t.val :=
  Finset.sum_congr rfl fun r _ => by
    rw [dif_pos (show 256 * t.val + r.val < 4096 by have := points t; omega)]; rfl

theorem sum_parts (f : Fin 4096 → EReal) : ∑ n ∈ Finset.range 16, parts f n = ∑ k : Fin 4096, f k :=
  sum_blocks (p := 16) (b := 256) rfl f (parts f) fun n hn => Finset.sum_congr rfl fun r _ => dif_pos (by omega)

theorem block_g (c : Dev nD) (t : Fin cfg0.N) (l : Fin 1024) : k0_pay13 (k0_pay9 (iblk m c 0 t) (iblk m c 1 t) (iblk m c 2 t) (iblk m c 3 t)) (k0_pay10 (iblk m c 0 t) (iblk m c 1 t) (iblk m c 2 t) (iblk m c 3 t) (iblk m c 4 t) (iblk m c 5 t)) (ix2 0 l) = parts (partG m c l) t.val := by
  rw [pay_g, ← block_parts]
  refine Finset.sum_congr rfl fun r _ => ?_
  rw [block_sum3, block_pushed]
  rfl
theorem block_loss (c : Dev nD) (t : Fin cfg0.N) (l : Fin 1024) : k0_pay15 (k0_pay11 (iblk m c 0 t) (iblk m c 1 t) (iblk m c 2 t) (iblk m c 3 t) (iblk m c 4 t) (iblk m c 5 t)) (ix2 0 l) = half * parts (partL m c) t.val := by
  rw [pay_loss, ← block_parts]
  refine congrArg (fun u : EReal => half * u) (Finset.sum_congr rfl fun r _ => ?_)
  rw [block_err]
  rfl

theorem pay_add1 (u v : Vec Ideal S1x1024 .f32) (l : Fin 1024) : k0_pay1 u v (ix2 0 l) = ((v (ix2 0 l) : EReal) + u (ix2 0 l) : EReal) := by
  pointwise [k0_pay1]
theorem pay_add2 (u v : Vec Ideal S1x1024 .f32) (l : Fin 1024) : k0_pay2 u v (ix2 0 l) = ((v (ix2 0 l) : EReal) + u (ix2 0 l) : EReal) := by
  pointwise [k0_pay2]

theorem g_first (c : Dev nD) (t : Fin cfg0.N) (h : ¬1 ≤ t.val) : (outsAt0 m c t.val t.isLt).2.2.2.1 = k0_pay13 (k0_pay9 (iblk m c 0 t) (iblk m c 1 t) (iblk m c 2 t) (iblk m c 3 t)) (k0_pay10 (iblk m c 0 t) (iblk m c 1 t) (iblk m c 2 t) (iblk m c 3 t) (iblk m c 4 t) (iblk m c 5 t)) := by
  rw [outsAt0_A m c t (by omega) h (by omega) h]; frame_out
theorem g_next (c : Dev nD) (t : Fin cfg0.N) (h : 1 ≤ t.val) : (outsAt0 m c t.val t.isLt).2.2.2.1
    = k0_pay1 (k0_pay13 (k0_pay9 (iblk m c 0 t) (iblk m c 1 t) (iblk m c 2 t) (iblk m c 3 t)) (k0_pay10 (iblk m c 0 t) (iblk m c 1 t) (iblk m c 2 t) (iblk m c 3 t) (iblk m c 4 t) (iblk m c 5 t))) (outsAt0 m c (t.val - 1) (Nat.lt_of_le_of_lt (Nat.sub_le _ _) t.isLt)).2.2.2.1 := by
  rw [outsAt0_B m c t (by have := points t; omega) h (by have := points t; omega) h]; frame_out
/-- This result's accumulated contents after a point. -/
theorem g_at (c : Dev nD) : ∀ (n : ℕ) (hn : n < cfg0.N) (l : Fin 1024),
    (outsAt0 m c n hn).2.2.2.1 (ix2 0 l) = ((∑ k ∈ Finset.range (n + 1), parts (partG m c l) k : EReal))
  | 0, hn, l => by
    rw [g_first m c ⟨0, hn⟩ (by simp), block_g]; simp
  | n + 1, hn, l => by
    rw [g_next m c ⟨n + 1, hn⟩ (by simp), pay_add1, block_g, Finset.sum_range_succ]
    exact congrArg (fun u : EReal => u + parts (partG m c l) (n + 1)) (g_at c n _ l)

theorem loss_first (c : Dev nD) (t : Fin cfg0.N) (h : ¬1 ≤ t.val) : (outsAt0 m c t.val t.isLt).2.2.2.2 = k0_pay15 (k0_pay11 (iblk m c 0 t) (iblk m c 1 t) (iblk m c 2 t) (iblk m c 3 t) (iblk m c 4 t) (iblk m c 5 t)) := by
  rw [outsAt0_A m c t (by omega) h (by omega) h]; frame_out
theorem loss_next (c : Dev nD) (t : Fin cfg0.N) (h : 1 ≤ t.val) : (outsAt0 m c t.val t.isLt).2.2.2.2
    = k0_pay2 (k0_pay15 (k0_pay11 (iblk m c 0 t) (iblk m c 1 t) (iblk m c 2 t) (iblk m c 3 t) (iblk m c 4 t) (iblk m c 5 t))) (outsAt0 m c (t.val - 1) (Nat.lt_of_le_of_lt (Nat.sub_le _ _) t.isLt)).2.2.2.2 := by
  rw [outsAt0_B m c t (by have := points t; omega) h (by have := points t; omega) h]; frame_out
/-- This result's accumulated contents after a point. -/
theorem loss_at (c : Dev nD) : ∀ (n : ℕ) (hn : n < cfg0.N) (l : Fin 1024),
    (outsAt0 m c n hn).2.2.2.2 (ix2 0 l) = ((∑ k ∈ Finset.range (n + 1), half * parts (partL m c) k : EReal))
  | 0, hn, l => by
    rw [loss_first m c ⟨0, hn⟩ (by simp), block_loss]; simp
  | n + 1, hn, l => by
    rw [loss_next m c ⟨n + 1, hn⟩ (by simp), pay_add2, block_loss, Finset.sum_range_succ]
    exact congrArg (fun u : EReal => u + half * parts (partL m c) (n + 1)) (loss_at c n _ l)

theorem flushed_x (c : Dev nD) (t : Fin cfg0.N) : (dats m 0 c).flushed 6 t
    = ((cfg0.win 6).blk t).view.read (Elt Ideal) (wholeX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext j
  obtain ⟨r, l, rfl⟩ : ∃ (r : Fin 256) (l : Fin 1024), j = ix2 r l := ⟨j 0, j 1, at_ix2 _ _ _ rfl rfl⟩
  show (outsAt0 m c t.val t.isLt).1 (ix2 r l) = wholeX _ _ _ _ _ _ (((cfg0.win 6).blk t).view.emb (ix2 r l))
  rw [emb_6, x_at]
theorem covered_x (i : S4096x1024.Idx) : ∃ t : Fin cfg0.N, (cfg0.win 6).flush t = true ∧ i ∈ ((cfg0.win 6).blk t).view.set := by
  obtain ⟨r, l, rfl⟩ : ∃ (r : Fin 4096) (l : Fin 1024), i = ix2 r l := ⟨i 0, i 1, at_ix2 _ _ _ rfl rfl⟩
  let t : Fin cfg0.N := ⟨r.val / 256, by rw [show cfg0.N = 16 from N_0]; omega⟩
  have e : ix2 r l = ((cfg0.win 6).blk t).view.emb (ix2 (n0 := 256) (n1 := 1024) ⟨r.val % 256, by omega⟩ l) := by
    rw [emb_6]; exact congrArg (fun s => ix2 s l) (Fin.ext (show r.val = 256 * (r.val / 256) + r.val % 256 by omega))
  exact ⟨t, flush0_6 t, by rw [e]; exact ((cfg0.win 6).blk t).view.emb_mem_set _⟩

theorem flushed_gate (c : Dev nD) (t : Fin cfg0.N) : (dats m 0 c).flushed 7 t
    = ((cfg0.win 7).blk t).view.read (Elt Ideal) (wholeGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed7]
  funext j
  obtain ⟨r, l, rfl⟩ : ∃ (r : Fin 256) (l : Fin 1024), j = ix2 r l := ⟨j 0, j 1, at_ix2 _ _ _ rfl rfl⟩
  show (outsAt0 m c t.val t.isLt).2.1 (ix2 r l) = wholeGate _ _ _ _ _ _ (((cfg0.win 7).blk t).view.emb (ix2 r l))
  rw [emb_7, gate_at]
theorem covered_gate (i : S4096x1024.Idx) : ∃ t : Fin cfg0.N, (cfg0.win 7).flush t = true ∧ i ∈ ((cfg0.win 7).blk t).view.set := by
  obtain ⟨r, l, rfl⟩ : ∃ (r : Fin 4096) (l : Fin 1024), i = ix2 r l := ⟨i 0, i 1, at_ix2 _ _ _ rfl rfl⟩
  let t : Fin cfg0.N := ⟨r.val / 256, by rw [show cfg0.N = 16 from N_0]; omega⟩
  have e : ix2 r l = ((cfg0.win 7).blk t).view.emb (ix2 (n0 := 256) (n1 := 1024) ⟨r.val % 256, by omega⟩ l) := by
    rw [emb_7]; exact congrArg (fun s => ix2 s l) (Fin.ext (show r.val = 256 * (r.val / 256) + r.val % 256 by omega))
  exact ⟨t, flush0_7 t, by rw [e]; exact ((cfg0.win 7).blk t).view.emb_mem_set _⟩

theorem flushed_emb (c : Dev nD) (t : Fin cfg0.N) : (dats m 0 c).flushed 8 t
    = ((cfg0.win 8).blk t).view.read (Elt Ideal) (wholeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed8]
  funext j
  obtain ⟨r, l, rfl⟩ : ∃ (r : Fin 256) (l : Fin 1024), j = ix2 r l := ⟨j 0, j 1, at_ix2 _ _ _ rfl rfl⟩
  show (outsAt0 m c t.val t.isLt).2.2.1 (ix2 r l) = wholeEmb _ _ _ _ _ _ (((cfg0.win 8).blk t).view.emb (ix2 r l))
  rw [emb_8, emb_at]
theorem covered_emb (i : S4096x1024.Idx) : ∃ t : Fin cfg0.N, (cfg0.win 8).flush t = true ∧ i ∈ ((cfg0.win 8).blk t).view.set := by
  obtain ⟨r, l, rfl⟩ : ∃ (r : Fin 4096) (l : Fin 1024), i = ix2 r l := ⟨i 0, i 1, at_ix2 _ _ _ rfl rfl⟩
  let t : Fin cfg0.N := ⟨r.val / 256, by rw [show cfg0.N = 16 from N_0]; omega⟩
  have e : ix2 r l = ((cfg0.win 8).blk t).view.emb (ix2 (n0 := 256) (n1 := 1024) ⟨r.val % 256, by omega⟩ l) := by
    rw [emb_8]; exact congrArg (fun s => ix2 s l) (Fin.ext (show r.val = 256 * (r.val / 256) + r.val % 256 by omega))
  exact ⟨t, flush0_8 t, by rw [e]; exact ((cfg0.win 8).blk t).view.emb_mem_set _⟩

theorem flushed_g (c : Dev nD) (t : Fin cfg0.N) (h : (cfg0.win 9).flush t = true) : (dats m 0 c).flushed 9 t
    = ((cfg0.win 9).blk t).view.read (Elt Ideal) (wholeG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ht : t.val = 15 := by have := (flush0_9 t).mp h; have := points t; omega
  rw [Value.flushed9]
  funext j
  obtain ⟨l, rfl⟩ : ∃ l : Fin 1024, j = ix2 (n0 := 1) (n1 := 1024) 0 l := ⟨j 1, at_row j⟩
  show (outsAt0 m c t.val t.isLt).2.2.2.1 (ix2 0 l) = wholeG _ _ _ _ _ _ (((cfg0.win 9).blk t).view.emb (ix2 0 l))
  rw [emb_9, g_at, ht]
  exact sum_parts (partG m c l)
theorem covered_g (i : S1x1024.Idx) : ∃ t : Fin cfg0.N, (cfg0.win 9).flush t = true ∧ i ∈ ((cfg0.win 9).blk t).view.set := by
  obtain ⟨l, rfl⟩ : ∃ l : Fin 1024, i = ix2 (n0 := 1) (n1 := 1024) 0 l := ⟨i 1, at_row i⟩
  let t : Fin cfg0.N := ⟨15, by rw [show cfg0.N = 16 from N_0]; omega⟩
  exact ⟨t, (flush0_9 t).mpr rfl, by rw [← emb_9 t l]; exact ((cfg0.win 9).blk t).view.emb_mem_set _⟩

theorem flushed_loss (c : Dev nD) (t : Fin cfg0.N) (h : (cfg0.win 10).flush t = true) : (dats m 0 c).flushed 10 t
    = ((cfg0.win 10).blk t).view.read (Elt Ideal) (wholeLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ht : t.val = 15 := by have := (flush0_10 t).mp h; have := points t; omega
  rw [Value.flushed10]
  funext j
  obtain ⟨l, rfl⟩ : ∃ l : Fin 1024, j = ix2 (n0 := 1) (n1 := 1024) 0 l := ⟨j 1, at_row j⟩
  show (outsAt0 m c t.val t.isLt).2.2.2.2 (ix2 0 l) = wholeLoss _ _ _ _ _ _ (((cfg0.win 10).blk t).view.emb (ix2 0 l))
  rw [emb_10, loss_at, ht]
  exact (half_sum 16 _).symm.trans (congrArg (fun u : EReal => half * u) (sum_parts (partL m c)))
theorem covered_loss (i : S1x1024.Idx) : ∃ t : Fin cfg0.N, (cfg0.win 10).flush t = true ∧ i ∈ ((cfg0.win 10).blk t).view.set := by
  obtain ⟨l, rfl⟩ : ∃ l : Fin 1024, i = ix2 (n0 := 1) (n1 := 1024) 0 l := ⟨i 1, at_row i⟩
  let t : Fin cfg0.N := ⟨15, by rw [show cfg0.N = 16 from N_0]; omega⟩
  exact ⟨t, (flush0_10 t).mpr rfl, by rw [← emb_10 t l]; exact ((cfg0.win 10).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = wholeX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = wholeGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = wholeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = wholeG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = wholeLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 _ (fun t _ => flushed_x m c t) covered_x),
    (h c).2.1.trans ((dats m 0 c).arrAt_eq_of_cover 7 _ (fun t _ => flushed_gate m c t) covered_gate),
    (h c).2.2.1.trans ((dats m 0 c).arrAt_eq_of_cover 8 _ (fun t _ => flushed_emb m c t) covered_emb),
    (h c).2.2.2.1.trans ((dats m 0 c).arrAt_eq_of_cover 9 _ (fun t ht => flushed_g m c t ht) covered_g),
    (h c).2.2.2.2.1.trans ((dats m 0 c).arrAt_eq_of_cover 10 _ (fun t ht => flushed_loss m c t ht) covered_loss), (h c).2.2.2.2.2⟩)
    (Value.run_blocks m ρ)

end Cert.Kernel24Ideal.Mm

namespace Cert.Reference24Ideal.Mm

open Idealize.ShloMosaic Idealize.ShloMosaic.TcCoe Idealize.SL.Sem Cert.Reference24Ideal Cert.Reference24Ideal.Gen Cert.Reference24Ideal.Read Cert.Mm Cert.Mm.Head

variable (x : Vec Ideal S4096x1024 .bf16) (w : Vec Ideal S1024x1024 .bf16) (x2 pp tgt : Vec Ideal S4096x1024 .f32) (g : Vec Ideal S1x1024 .f32)

theorem gate_at (r : Fin 4096) (l : Fin 1024) : val_main_v8 (F := Ideal) x w (ix2 r l) = gate x w r l := by
  pointwise [val_main_v8, val_main_v6, val_main_v4, val_main_v3, val_main_v2, val_main_v0, val_main_v1, val_main_v5, val_main_cst, val_main_v7, val_main_cst_0]
  rfl
theorem err_at (r : Fin 4096) (l : Fin 1024) : val_main_v29 (F := Ideal) x w x2 pp tgt g (ix2 r l) = err x w x2 pp tgt g r l := by
  pointwise [val_main_v29, val_main_v28, val_main_v26, val_main_v13, val_main_v12, val_main_v8, val_main_v6, val_main_v4, val_main_v3, val_main_v2,
    val_main_v0, val_main_v1, val_main_v5, val_main_cst, val_main_v7, val_main_cst_0, val_main_v25, val_main_v21, val_main_v20, val_main_v18,
    val_main_v16, val_main_v15, val_main_cst_2, val_main_v14, val_main_v17, val_main_cst_3, val_main_v19, val_main_cst_4, val_main_v27]
  rfl
theorem pushed_at (r : Fin 4096) (l : Fin 1024) : val_main_v43 (F := Ideal) x w x2 pp tgt g (ix2 r l) = pushed x w x2 pp tgt g r l := by
  rw [show pushed x w x2 pp tgt g r l = _ from (twice _).symm, ← err_at]
  pointwise [val_main_v43, val_main_v32, val_main_v31, val_main_cst_6, val_main_v42, val_main_v41, val_main_v39, val_main_v38, val_main_cst_11,
    val_main_cst_12, val_main_v40, val_main_cst_13]
  rfl
theorem rows_at (r : Fin 4096) (l : Fin 1024) : val_main_v62 (F := Ideal) x w x2 pp tgt g (ix2 r l) = deriv x w x2 pp tgt g r l := by
  unfold Cert.Mm.Head.deriv
  rw [show pushed x w x2 pp tgt g r = fun l => _ from funext fun l => (pushed_at x w x2 pp tgt g r l).symm]
  pointwise [val_main_v62, val_main_v60, val_main_v53, val_main_v48, val_main_v47, val_main_v52, val_main_v21, val_main_v20, val_main_v18, val_main_v16,
    val_main_v15, val_main_cst_2, val_main_v14, val_main_v13, val_main_v12, val_main_v8, val_main_v6, val_main_v4, val_main_v3, val_main_v2,
    val_main_v0, val_main_v1, val_main_v5, val_main_cst, val_main_v7, val_main_cst_0, val_main_v17, val_main_cst_3, val_main_v19, val_main_cst_4,
    val_main_v59, val_main_v58, val_main_v57, val_main_cst_17, val_main_v56, val_main_v54, val_main_v24, val_main_v22, val_main_v23, val_main_cst_5,
    val_main_v51, val_main_v50, val_main_cst_15, val_main_v49, val_main_v55, val_main_cst_16, val_main_v61]
  rfl
theorem value_x : val_main_v62 (F := Ideal) x w x2 pp tgt g = wholeX x w x2 pp tgt g := by
  funext i
  obtain ⟨r, l, rfl⟩ : ∃ (r : Fin 4096) (l : Fin 1024), i = ix2 r l := ⟨i 0, i 1, at_ix2 _ _ _ rfl rfl⟩
  exact rows_at x w x2 pp tgt g r l
theorem value_gate : val_main_v66 (F := Ideal) x w x2 pp tgt g = wholeGate x w x2 pp tgt g := by
  funext i
  obtain ⟨r, l, rfl⟩ : ∃ (r : Fin 4096) (l : Fin 1024), i = ix2 r l := ⟨i 0, i 1, at_ix2 _ _ _ rfl rfl⟩
  show _ = deriv x w x2 pp tgt g r l * pp (ix2 r l) * (gate x w r l * (1 - gate x w r l))
  rw [← rows_at, ← gate_at]
  pointwise [val_main_v66, val_main_v65, val_main_v11, val_main_v10, val_main_v9, val_main_cst_1, val_main_v64]
theorem value_emb : val_main_v67 (F := Ideal) x w x2 pp tgt g = wholeEmb x w x2 pp tgt g := by
  funext i
  obtain ⟨r, l, rfl⟩ : ∃ (r : Fin 4096) (l : Fin 1024), i = ix2 r l := ⟨i 0, i 1, at_ix2 _ _ _ rfl rfl⟩
  show _ = gate x w r l * deriv x w x2 pp tgt g r l
  rw [← rows_at, ← gate_at]
  pointwise [val_main_v67, val_main_v63]
theorem value_g : val_main_v46 (F := Ideal) x w x2 pp tgt g = wholeG x w x2 pp tgt g := by
  funext i
  obtain ⟨l, rfl⟩ : ∃ l : Fin 1024, i = ix2 (n0 := 1) (n1 := 1024) 0 l := ⟨i 1, at_row i⟩
  show _ = ((∑ k : Fin 4096, gain (sum3 x w x2 pp k) (pushed x w x2 pp tgt g k) l : EReal))
  rw [show (fun k => gain (sum3 x w x2 pp k) (pushed x w x2 pp tgt g k) l) = fun k : Fin 4096 => gain (sum3 x w x2 pp k) (fun l => val_main_v43 (F := Ideal) x w x2 pp tgt g (ix2 k l)) l
    from funext fun k => congrArg (fun d => gain _ d l) (funext fun l => (pushed_at x w x2 pp tgt g k l).symm)]
  pointwise [val_main_v46, val_main_v45, val_main_cst_14, val_main_v44, val_main_v26, val_main_v13, val_main_v12, val_main_v8, val_main_v6, val_main_v4,
    val_main_v3, val_main_v2, val_main_v0, val_main_v1, val_main_v5, val_main_cst, val_main_v7, val_main_cst_0, val_main_v25, val_main_v21,
    val_main_v20, val_main_v18, val_main_v16, val_main_v15, val_main_cst_2, val_main_v14, val_main_v17, val_main_cst_3, val_main_v19, val_main_cst_4]
  rfl
theorem value_loss : val_main_v68 (F := Ideal) x w x2 pp tgt g = wholeLoss x w x2 pp tgt g := by
  funext i
  obtain ⟨l, rfl⟩ : ∃ l : Fin 1024, i = ix2 (n0 := 1) (n1 := 1024) 0 l := ⟨i 1, at_row i⟩
  show _ = half * ((∑ k : Fin 4096, square (err x w x2 pp tgt g k) : EReal))
  rw [show (fun k => square (err x w x2 pp tgt g k)) = fun k : Fin 4096 => square (fun l => val_main_v29 (F := Ideal) x w x2 pp tgt g (ix2 k l))
    from funext fun k => congrArg square (funext fun l => (err_at x w x2 pp tgt g k l).symm)]
  pointwise [val_main_v68, val_main_v37, val_main_cst_10, val_main_v36, val_main_cst_9, val_main_v35, val_main_v33, val_main_cst_7, val_main_v30, val_main_v34,
    val_main_cst_8]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v62) = wholeX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v66) = wholeGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v67) = wholeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v46) = wholeG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v68) = wholeLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((val_main_v62_eq m c).trans (value_x _ _ _ _ _ _)),
    (h c).2.1.trans ((val_main_v66_eq m c).trans (value_gate _ _ _ _ _ _)),
    (h c).2.2.1.trans ((val_main_v67_eq m c).trans (value_emb _ _ _ _ _ _)),
    (h c).2.2.2.1.trans ((val_main_v46_eq m c).trans (value_g _ _ _ _ _ _)),
    (h c).2.2.2.2.1.trans ((val_main_v68_eq m c).trans (value_loss _ _ _ _ _ _)), (h c).2.2.2.2.2⟩) (Value.run (F := Ideal) m ρ)

end Cert.Reference24Ideal.Mm

end
-- ==== Proof.Mm.Beta.lean ====
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Mm.Rms
public import Idealize.ShloMosaic.Lib.Pointwise
public import Idealize.ShloMosaic.Lib.Pipeline.ValueKit

@[expose] public section

set_option maxRecDepth 16384

noncomputable section

/-! # The projections to write strengths and decays: one product, in blocks of its rows -/

namespace Cert.Kernel25Ideal.Mm

open Idealize.ShloMosaic Idealize.ShloMosaic.TcCoe Idealize.SL.Sem Cert.Kernel25Ideal Cert.Kernel25Ideal.Gen Cert.Mm

theorem origin : (![0, 0] : Fin 2 → Nat) = fun _ => 0 := funext fun a => by match a with | ⟨0, _⟩ => rfl | ⟨1, _⟩ => rfl

theorem points (t : Fin cfg0.N) : t.val < 4 := lt_of_lt_of_eq t.isLt (show cfg0.N = 4 from N_0)

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)

/-- A block's row among the arrays' rows. -/
def row (t : Fin cfg0.N) (r : Fin 1024) : Fin 4096 := ⟨1024 * t.val + r.val, by have := points t; omega⟩

theorem emb_2 (t : Fin cfg0.N) (r : Fin 1024) (l : Fin 128) : ((cfg0.win 2).blk t).view.emb (ix2 r l) = (ix2 (n0 := 4096) (n1 := 128) (row t r) l) := by
  obtain ⟨e0, e1⟩ := index_2 t
  refine at_ix2 _ _ _ ?_ ?_
  · show win0_2.index t (0 : Fin 2) * 1024 + 1 * r.val = 1024 * t.val + r.val; omega
  · show win0_2.index t (1 : Fin 2) * 128 + 1 * l.val = l.val; omega

/-- A block's product, entry by entry. -/
theorem pay_at (x : Vec Ideal S1024x1024 .bf16) (w : Vec Ideal S128x1024 .bf16) (r : Fin 1024) (l : Fin 128) :
    k0_pay1 x w (ix2 r l) = against (n := 1024) x w (ix2 r l) := by
  pointwise [k0_pay1]
  rfl

variable (m : (ℓ : Loc nD τ sig) → Buf (Elt Ideal) ℓ) (ρ : Dev nD → PrngReg)

theorem block_0 (c : Dev nD) (t : Fin cfg0.N) (r : Fin 1024) (k : Fin 1024) : iblk m c 0 t (ix2 r k)
    = m ((c : Thread nD τ).loc main_arg0) (ix2 (n0 := 4096) (n1 := 1024) (row t r) k) := by
  obtain ⟨e0, e1⟩ := index_0 t
  refine congrArg (V m c main_arg0) (at_ix2 _ _ _ ?_ ?_)
  · show win0_0.index t (0 : Fin 2) * 1024 + 1 * r.val = 1024 * t.val + r.val; omega
  · show win0_0.index t (1 : Fin 2) * 1024 + 1 * k.val = k.val; omega
theorem block_1 (c : Dev nD) (t : Fin cfg0.N) (l : Fin 128) (k : Fin 1024) : iblk m c 1 t (ix2 l k)
    = m ((c : Thread nD τ).loc main_arg1) (ix2 (n0 := 128) (n1 := 1024) l k) := by
  obtain ⟨e0, e1⟩ := index_1 t
  refine congrArg (V m c main_arg1) (at_ix2 _ _ _ ?_ ?_)
  · show win0_1.index t (0 : Fin 2) * 128 + 1 * l.val = l.val; omega
  · show win0_1.index t (1 : Fin 2) * 1024 + 1 * k.val = k.val; omega

theorem flushed (c : Dev nD) (t : Fin cfg0.N) : (dats m 0 c).flushed 2 t
    = ((cfg0.win 2).blk t).view.read (Elt Ideal) (against (m ((c : Thread nD τ).loc main_arg0)) (m ((c : Thread nD τ).loc main_arg1))) := by
  rw [Value.flushed2]
  unfold out0_2
  rw [View.canon_unit_zero origin, View.ld_unit_zero origin, View.ld_unit_zero origin]
  funext j
  obtain ⟨r, l, rfl⟩ : ∃ (r : Fin 1024) (l : Fin 128), j = ix2 r l := ⟨j 0, j 1, at_ix2 _ _ _ rfl rfl⟩
  show k0_pay1 (iblk m c 0 t) (iblk m c 1 t) (ix2 r l) = against (n := 4096) (K := 1024) (b := 128) _ _ (((cfg0.win 2).blk t).view.emb (ix2 r l))
  rw [emb_2, pay_at]
  exact Finset.sum_congr rfl fun k _ => congrArg₂ (fun u v : EReal => u * v) (block_0 m c t r k) (block_1 m c t l k)

theorem covered (i : S4096x128.Idx) : ∃ t : Fin cfg0.N, (cfg0.win 2).flush t = true ∧ i ∈ ((cfg0.win 2).blk t).view.set := by
  obtain ⟨r, l, rfl⟩ : ∃ (r : Fin 4096) (l : Fin 128), i = ix2 r l := ⟨i 0, i 1, at_ix2 _ _ _ rfl rfl⟩
  let t : Fin cfg0.N := ⟨r.val / 1024, by rw [show cfg0.N = 4 from N_0]; omega⟩
  have e : ix2 r l = ((cfg0.win 2).blk t).view.emb (ix2 (n0 := 1024) (n1 := 128) ⟨r.val % 1024, by omega⟩ l) := by
    rw [emb_2]
    exact congrArg (fun s => ix2 s l) (Fin.ext (show r.val = 1024 * (r.val / 1024) + r.val % 1024 by omega))
  exact ⟨t, flush0_2 t, by rw [e]; exact ((cfg0.win 2).blk t).view.emb_mem_set _⟩

/-- The kernel's run with its result. -/
theorem values : θ_run defs (onTc (τ := τ) (main (F := Ideal))) ⟨m, fun _ => 0, ρ⟩ fun r => ∀ c : Dev nD,
      r.2.mem ((c : Thread nD τ).loc main_v0) = against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (Value.run_blocks m ρ)

end Cert.Kernel25Ideal.Mm

namespace Cert.Reference25Ideal.Mm

open Idealize.ShloMosaic Idealize.ShloMosaic.TcCoe Idealize.SL.Sem Cert.Reference25Ideal Cert.Reference25Ideal.Gen Cert.Reference25Ideal.Read

theorem value (x : Vec Ideal S4096x1024 .bf16) (w : Vec Ideal S128x1024 .bf16) : val_main_v3 (F := Ideal) x w = Cert.Mm.against x w := by
  funext i
  obtain ⟨r, l, rfl⟩ : ∃ (r : Fin 4096) (l : Fin 128), i = ix2 r l := ⟨i 0, i 1, Cert.Mm.at_ix2 _ _ _ rfl rfl⟩
  pointwise [val_main_v3, val_main_v2, val_main_v1, val_main_v0]
  rfl

/-- The reference's run with its result. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Mm.against (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((val_main_v3_eq _ _).trans (value _ _)), (h c).2⟩) (Value.run (F := Ideal) m ρ)

end Cert.Reference25Ideal.Mm

end
-- ==== Proof.Mm.Merge.lean ====
module

public import proofs.«01_k».proof.Proof.Gen.Kernel26Ideal.Value
public import proofs.«01_k».proof.Proof.Gen.Reference26Ideal.Run
public import proofs.«01_k».proof.Proof.Gen.Reference26Ideal.Read
public import proofs.«01_k».proof.Proof.Mm.Rms
public import Idealize.ShloMosaic.Lib.Pointwise
public import Idealize.ShloMosaic.Lib.Pipeline.ValueKit

@[expose] public section

set_option maxRecDepth 16384

noncomputable section

/-! # The two branches' outputs, gated and added -/

namespace Cert.Kernel26Ideal.Mm

open Idealize.ShloMosaic Idealize.ShloMosaic.TcCoe Idealize.SL.Sem Cert.Kernel26Ideal Cert.Kernel26Ideal.Gen Cert.Mm

/-- The columns of a token's projection holding the first branch's gate, and the second's. -/
def left (l : Fin 1024) : Fin 5760 := ⟨3584 + l.val, by omega⟩
def right (l : Fin 1024) : Fin 5760 := ⟨4608 + l.val, by omega⟩

theorem right_eq (l : Fin 1024) (h : 3584 + (1024 + l.val) < 5760) : (⟨3584 + (1024 + l.val), h⟩ : Fin 5760) = right l :=
  Fin.ext (show 3584 + (1024 + l.val) = 4608 + l.val by omega)

/-- Two branches' outputs, each times the sigmoid of its gate, added. -/
def entry (a b x y : EReal) : EReal := Ideal.logistic a * x + Ideal.logistic b * y

/-- All entries. -/
def whole (p : Vec Ideal S4096x5760 .bf16) (x y : Vec Ideal S4096x1024 .bf16) : Vec Ideal S4096x1024 .bf16 :=
  fun i => entry (p (ix2 (i 0) (left (i 1)))) (p (ix2 (i 0) (right (i 1)))) (x (ix2 (i 0) (i 1))) (y (ix2 (i 0) (i 1)))

theorem points (t : Fin cfg0.N) : t.val < 16 := lt_of_lt_of_eq t.isLt (show cfg0.N = 16 from N_0)

theorem index_0 : ∀ t : Fin cfg0.N, win0_0.index t (0 : Fin 2) = t.val % 8 ∧ win0_0.index t (1 : Fin 2) = 7 + t.val / 8 := (by decide +kernel : ∀ t : Fin grid0.N, _)
theorem index_1 : ∀ t : Fin cfg0.N, win0_1.index t (0 : Fin 2) = t.val % 8 ∧ win0_1.index t (1 : Fin 2) = 9 + t.val / 8 := (by decide +kernel : ∀ t : Fin grid0.N, _)
theorem index_2 : ∀ t : Fin cfg0.N, win0_2.index t (0 : Fin 2) = t.val % 8 ∧ win0_2.index t (1 : Fin 2) = t.val / 8 := (by decide +kernel : ∀ t : Fin grid0.N, _)
theorem index_3 : ∀ t : Fin cfg0.N, win0_3.index t (0 : Fin 2) = t.val % 8 ∧ win0_3.index t (1 : Fin 2) = t.val / 8 := (by decide +kernel : ∀ t : Fin grid0.N, _)
theorem index_4 : ∀ t : Fin cfg0.N, win0_4.index t (0 : Fin 2) = t.val % 8 ∧ win0_4.index t (1 : Fin 2) = t.val / 8 := (by decide +kernel : ∀ t : Fin grid0.N, _)

/-- A block's row among the arrays' rows, and its column among their columns. -/
def row (t : Fin cfg0.N) (r : Fin 512) : Fin 4096 := ⟨512 * (t.val % 8) + r.val, by omega⟩
def col (t : Fin cfg0.N) (l : Fin 512) : Fin 1024 := ⟨512 * (t.val / 8) + l.val, by have := points t; omega⟩

theorem emb_4 (t : Fin cfg0.N) (r l : Fin 512) : ((cfg0.win 4).blk t).view.emb (ix2 r l) = (ix2 (n0 := 4096) (n1 := 1024) (row t r) (col t l)) := by
  obtain ⟨e0, e1⟩ := index_4 t
  refine at_ix2 _ _ _ ?_ ?_
  · show win0_4.index t (0 : Fin 2) * 512 + 1 * r.val = 512 * (t.val % 8) + r.val; omega
  · show win0_4.index t (1 : Fin 2) * 512 + 1 * l.val = 512 * (t.val / 8) + l.val; omega

variable (m : (ℓ : Loc nD τ sig) → Buf (Elt Ideal) ℓ) (ρ : Dev nD → PrngReg)

theorem block_0 (c : Dev nD) (t : Fin cfg0.N) (r l : Fin 512) : X0_0 m c t (ix2 r l)
    = m ((c : Thread nD τ).loc main_arg0) (ix2 (n0 := 4096) (n1 := 5760) (row t r) (left (col t l))) := by
  obtain ⟨e0, e1⟩ := index_0 t
  unfold X0_0 Pipeline.Window.fill
  rw [dif_pos (moved0_0 t _)]
  refine congrArg (V m c main_arg0) (at_ix2 _ _ _ ?_ ?_)
  · show win0_0.index t (0 : Fin 2) * 512 + 1 * r.val = 512 * (t.val % 8) + r.val; omega
  · show win0_0.index t (1 : Fin 2) * 512 + 1 * l.val = 3584 + (512 * (t.val / 8) + l.val); omega
theorem block_1 (c : Dev nD) (t : Fin cfg0.N) (r l : Fin 512) : X0_1 m c t (ix2 r l)
    = m ((c : Thread nD τ).loc main_arg0) (ix2 (n0 := 4096) (n1 := 5760) (row t r) (right (col t l))) := by
  obtain ⟨e0, e1⟩ := index_1 t
  unfold X0_1 Pipeline.Window.fill
  rw [dif_pos (moved0_1 t _)]
  refine congrArg (V m c main_arg0) (at_ix2 _ _ _ ?_ ?_)
  · show win0_1.index t (0 : Fin 2) * 512 + 1 * r.val = 512 * (t.val % 8) + r.val; omega
  · show win0_1.index t (1 : Fin 2) * 512 + 1 * l.val = 4608 + (512 * (t.val / 8) + l.val); omega
theorem block_2 (c : Dev nD) (t : Fin cfg0.N) (r l : Fin 512) : iblk m c 2 t (ix2 r l)
    = m ((c : Thread nD τ).loc main_arg1) (ix2 (n0 := 4096) (n1 := 1024) (row t r) (col t l)) := by
  obtain ⟨e0, e1⟩ := index_2 t
  refine congrArg (V m c main_arg1) (at_ix2 _ _ _ ?_ ?_)
  · show win0_2.index t (0 : Fin 2) * 512 + 1 * r.val = 512 * (t.val % 8) + r.val; omega
  · show win0_2.index t (1 : Fin 2) * 512 + 1 * l.val = 512 * (t.val / 8) + l.val; omega
theorem block_3 (c : Dev nD) (t : Fin cfg0.N) (r l : Fin 512) : iblk m c 3 t (ix2 r l)
    = m ((c : Thread nD τ).loc main_arg2) (ix2 (n0 := 4096) (n1 := 1024) (row t r) (col t l)) := by
  obtain ⟨e0, e1⟩ := index_3 t
  refine congrArg (V m c main_arg2) (at_ix2 _ _ _ ?_ ?_)
  · show win0_3.index t (0 : Fin 2) * 512 + 1 * r.val = 512 * (t.val % 8) + r.val; omega
  · show win0_3.index t (1 : Fin 2) * 512 + 1 * l.val = 512 * (t.val / 8) + l.val; omega

theorem pay_merged (a : Vec Ideal S512x512 .bf16) (b : Vec Ideal S512x512 .bf16) (d : Vec Ideal S512x512 .bf16) (e : Vec Ideal S512x512 .bf16) (r l : Fin 512) : k0_pay1 a b d e (ix2 r l) = entry (a (ix2 r l)) (b (ix2 r l)) (d (ix2 r l)) (e (ix2 r l)) := by
  pointwise [k0_pay1]
  rfl
theorem merged_at (c : Dev nD) (t : Fin cfg0.N) (r l : Fin 512) : (outsAt0 m c t) (ix2 r l)
    = whole (m ((c : Thread nD τ).loc main_arg0)) (m ((c : Thread nD τ).loc main_arg1)) (m ((c : Thread nD τ).loc main_arg2)) (ix2 (row t r) (col t l)) := by
  have e : (outsAt0 m c t) = k0_pay1 (X0_0 m c t) (X0_1 m c t) (iblk m c 2 t) (iblk m c 3 t) := by
    unfold outsAt0; frame_out
  rw [e, pay_merged, block_0, block_1, block_2, block_3]
  rfl
theorem flushed_merged (c : Dev nD) (t : Fin cfg0.N) : (dats m 0 c).flushed 4 t = ((cfg0.win 4).blk t).view.read (Elt Ideal) (whole (m ((c : Thread nD τ).loc main_arg0)) (m ((c : Thread nD τ).loc main_arg1)) (m ((c : Thread nD τ).loc main_arg2))) := by
  rw [Value.flushed4]
  funext j
  obtain ⟨r, l, rfl⟩ : ∃ (r : Fin 512) (l : Fin 512), j = ix2 r l := ⟨j 0, j 1, at_ix2 _ _ _ rfl rfl⟩
  show (outsAt0 m c t) (ix2 r l) = whole _ _ _ (((cfg0.win 4).blk t).view.emb (ix2 r l))
  rw [emb_4, merged_at]
theorem covered_merged (i : S4096x1024.Idx) : ∃ t : Fin cfg0.N, (cfg0.win 4).flush t = true ∧ i ∈ ((cfg0.win 4).blk t).view.set := by
  obtain ⟨r, l, rfl⟩ : ∃ (r : Fin 4096) (l : Fin 1024), i = ix2 r l := ⟨i 0, i 1, at_ix2 _ _ _ rfl rfl⟩
  let t : Fin cfg0.N := ⟨8 * (l.val / 512) + r.val / 512, by rw [show cfg0.N = 16 from N_0]; omega⟩
  have ht : t.val = 8 * (l.val / 512) + r.val / 512 := rfl
  have e : ix2 r l = ((cfg0.win 4).blk t).view.emb (ix2 (n0 := 512) (n1 := 512) ⟨r.val % 512, by omega⟩ ⟨l.val % 512, by omega⟩) := by
    rw [emb_4]
    exact congrArg₂ (fun s u => ix2 s u) (Fin.ext (show r.val = 512 * (t.val % 8) + r.val % 512 by omega)) (Fin.ext (show l.val = 512 * (t.val / 8) + l.val % 512 by omega))
  exact ⟨t, flush0_4 t, by rw [e]; exact ((cfg0.win 4).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 4 _ (fun t _ => flushed_merged m c t) covered_merged), (h c).2⟩) (Value.run_blocks m ρ)

end Cert.Kernel26Ideal.Mm

namespace Cert.Reference26Ideal.Mm

open Idealize.ShloMosaic Idealize.ShloMosaic.TcCoe Idealize.SL.Sem Cert.Reference26Ideal Cert.Reference26Ideal.Gen Cert.Reference26Ideal.Read Cert.Mm

theorem value_merged (projp : Vec Ideal S4096x5760 .bf16) (ta : Vec Ideal S4096x1024 .bf16) (tb : Vec Ideal S4096x1024 .bf16) : val_main_v21 (F := Ideal) projp ta tb = Cert.Kernel26Ideal.Mm.whole projp ta tb := by
  funext i
  obtain ⟨r, l, rfl⟩ : ∃ (r : Fin 4096) (l : Fin 1024), i = ix2 r l := ⟨i 0, i 1, at_ix2 _ _ _ rfl rfl⟩
  pointwise [val_main_v21, val_main_v20, val_main_v11, val_main_v10, val_main_v8, val_main_v6, val_main_v5, val_main_v4, val_main_v1, val_main_v0, val_main_v7,
    val_main_cst, val_main_v9, val_main_cst_0, val_main_v2, val_main_v19, val_main_v18, val_main_v16, val_main_v14, val_main_v13, val_main_v12,
    val_main_v15, val_main_cst_1, val_main_v17, val_main_cst_2, val_main_v3]
  rw [Cert.Kernel26Ideal.Mm.right_eq]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21) = Cert.Kernel26Ideal.Mm.whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((val_main_v21_eq _ _ _ ).trans (value_merged _ _ _ )), (h c).2⟩) (Value.run (F := Ideal) m ρ)

end Cert.Reference26Ideal.Mm

end
-- ==== Proof.Mm.MergeBwd.lean ====
module

public import proofs.«01_k».proof.Proof.Gen.Kernel27Ideal.Value
public import proofs.«01_k».proof.Proof.Gen.Reference27Ideal.Run
public import proofs.«01_k».proof.Proof.Gen.Reference27Ideal.Read
public import proofs.«01_k».proof.Proof.Mm.Rms
public import Idealize.ShloMosaic.Lib.Pointwise
public import Idealize.ShloMosaic.Lib.Pipeline.ValueKit

@[expose] public section

set_option maxRecDepth 16384

noncomputable section

/-! # The gradient of the gated sum of the two branches' outputs -/

namespace Cert.Kernel27Ideal.Mm

open Idealize.ShloMosaic Idealize.ShloMosaic.TcCoe Idealize.SL.Sem Cert.Kernel27Ideal Cert.Kernel27Ideal.Gen Cert.Mm

/-- The columns of a token's projection holding the first branch's gate, and the second's. -/
def left (l : Fin 1024) : Fin 5760 := ⟨3584 + l.val, by omega⟩
def right (l : Fin 1024) : Fin 5760 := ⟨4608 + l.val, by omega⟩

theorem right_eq (l : Fin 1024) (h : 3584 + (1024 + l.val) < 5760) : (⟨3584 + (1024 + l.val), h⟩ : Fin 5760) = right l :=
  Fin.ext (show 3584 + (1024 + l.val) = 4608 + l.val by omega)

/-- The gradient at a gate, before its sigmoid, and at a branch's output. -/
def gateEntry (a x d : EReal) : EReal := d * x * (Ideal.logistic a * (1 - Ideal.logistic a))
def outEntry (a d : EReal) : EReal := Ideal.logistic a * d

def gateA (p : Vec Ideal S4096x5760 .bf16) (x : Vec Ideal S4096x1024 .bf16) (d : Vec Ideal S4096x1024 .f32) : Vec Ideal S4096x1024 .bf16 :=
  fun i => gateEntry (p (ix2 (i 0) (left (i 1)))) (x (ix2 (i 0) (i 1))) (d (ix2 (i 0) (i 1)))
def gateB (p : Vec Ideal S4096x5760 .bf16) (x : Vec Ideal S4096x1024 .bf16) (d : Vec Ideal S4096x1024 .f32) : Vec Ideal S4096x1024 .bf16 :=
  fun i => gateEntry (p (ix2 (i 0) (right (i 1)))) (x (ix2 (i 0) (i 1))) (d (ix2 (i 0) (i 1)))
def outA (p : Vec Ideal S4096x5760 .bf16) (d : Vec Ideal S4096x1024 .f32) : Vec Ideal S4096x1024 .bf16 :=
  fun i => outEntry (p (ix2 (i 0) (left (i 1)))) (d (ix2 (i 0) (i 1)))
def outB (p : Vec Ideal S4096x5760 .bf16) (d : Vec Ideal S4096x1024 .f32) : Vec Ideal S4096x1024 .bf16 :=
  fun i => outEntry (p (ix2 (i 0) (right (i 1)))) (d (ix2 (i 0) (i 1)))

theorem points (t : Fin cfg0.N) : t.val < 16 := lt_of_lt_of_eq t.isLt (show cfg0.N = 16 from N_0)

theorem index_0 : ∀ t : Fin cfg0.N, win0_0.index t (0 : Fin 2) = t.val % 8 ∧ win0_0.index t (1 : Fin 2) = 7 + t.val / 8 := (by decide +kernel : ∀ t : Fin grid0.N, _)
theorem index_1 : ∀ t : Fin cfg0.N, win0_1.index t (0 : Fin 2) = t.val % 8 ∧ win0_1.index t (1 : Fin 2) = 9 + t.val / 8 := (by decide +kernel : ∀ t : Fin grid0.N, _)
theorem index_2 : ∀ t : Fin cfg0.N, win0_2.index t (0 : Fin 2) = t.val % 8 ∧ win0_2.index t (1 : Fin 2) = t.val / 8 := (by decide +kernel : ∀ t : Fin grid0.N, _)
theorem index_3 : ∀ t : Fin cfg0.N, win0_3.index t (0 : Fin 2) = t.val % 8 ∧ win0_3.index t (1 : Fin 2) = t.val / 8 := (by decide +kernel : ∀ t : Fin grid0.N, _)
theorem index_4 : ∀ t : Fin cfg0.N, win0_4.index t (0 : Fin 2) = t.val % 8 ∧ win0_4.index t (1 : Fin 2) = t.val / 8 := (by decide +kernel : ∀ t : Fin grid0.N, _)
theorem index_5 : ∀ t : Fin cfg0.N, win0_5.index t (0 : Fin 2) = t.val % 8 ∧ win0_5.index t (1 : Fin 2) = t.val / 8 := (by decide +kernel : ∀ t : Fin grid0.N, _)
theorem index_6 : ∀ t : Fin cfg0.N, win0_6.index t (0 : Fin 2) = t.val % 8 ∧ win0_6.index t (1 : Fin 2) = t.val / 8 := (by decide +kernel : ∀ t : Fin grid0.N, _)
theorem index_7 : ∀ t : Fin cfg0.N, win0_7.index t (0 : Fin 2) = t.val % 8 ∧ win0_7.index t (1 : Fin 2) = t.val / 8 := (by decide +kernel : ∀ t : Fin grid0.N, _)
theorem index_8 : ∀ t : Fin cfg0.N, win0_8.index t (0 : Fin 2) = t.val % 8 ∧ win0_8.index t (1 : Fin 2) = t.val / 8 := (by decide +kernel : ∀ t : Fin grid0.N, _)

/-- A block's row among the arrays' rows, and its column among their columns. -/
def row (t : Fin cfg0.N) (r : Fin 512) : Fin 4096 := ⟨512 * (t.val % 8) + r.val, by omega⟩
def col (t : Fin cfg0.N) (l : Fin 512) : Fin 1024 := ⟨512 * (t.val / 8) + l.val, by have := points t; omega⟩

theorem emb_5 (t : Fin cfg0.N) (r l : Fin 512) : ((cfg0.win 5).blk t).view.emb (ix2 r l) = (ix2 (n0 := 4096) (n1 := 1024) (row t r) (col t l)) := by
  obtain ⟨e0, e1⟩ := index_5 t
  refine at_ix2 _ _ _ ?_ ?_
  · show win0_5.index t (0 : Fin 2) * 512 + 1 * r.val = 512 * (t.val % 8) + r.val; omega
  · show win0_5.index t (1 : Fin 2) * 512 + 1 * l.val = 512 * (t.val / 8) + l.val; omega
theorem emb_6 (t : Fin cfg0.N) (r l : Fin 512) : ((cfg0.win 6).blk t).view.emb (ix2 r l) = (ix2 (n0 := 4096) (n1 := 1024) (row t r) (col t l)) := by
  obtain ⟨e0, e1⟩ := index_6 t
  refine at_ix2 _ _ _ ?_ ?_
  · show win0_6.index t (0 : Fin 2) * 512 + 1 * r.val = 512 * (t.val % 8) + r.val; omega
  · show win0_6.index t (1 : Fin 2) * 512 + 1 * l.val = 512 * (t.val / 8) + l.val; omega
theorem emb_7 (t : Fin cfg0.N) (r l : Fin 512) : ((cfg0.win 7).blk t).view.emb (ix2 r l) = (ix2 (n0 := 4096) (n1 := 1024) (row t r) (col t l)) := by
  obtain ⟨e0, e1⟩ := index_7 t
  refine at_ix2 _ _ _ ?_ ?_
  · show win0_7.index t (0 : Fin 2) * 512 + 1 * r.val = 512 * (t.val % 8) + r.val; omega
  · show win0_7.index t (1 : Fin 2) * 512 + 1 * l.val = 512 * (t.val / 8) + l.val; omega
theorem emb_8 (t : Fin cfg0.N) (r l : Fin 512) : ((cfg0.win 8).blk t).view.emb (ix2 r l) = (ix2 (n0 := 4096) (n1 := 1024) (row t r) (col t l)) := by
  obtain ⟨e0, e1⟩ := index_8 t
  refine at_ix2 _ _ _ ?_ ?_
  · show win0_8.index t (0 : Fin 2) * 512 + 1 * r.val = 512 * (t.val % 8) + r.val; omega
  · show win0_8.index t (1 : Fin 2) * 512 + 1 * l.val = 512 * (t.val / 8) + l.val; omega

variable (m : (ℓ : Loc nD τ sig) → Buf (Elt Ideal) ℓ) (ρ : Dev nD → PrngReg)

theorem block_0 (c : Dev nD) (t : Fin cfg0.N) (r l : Fin 512) : X0_0 m c t (ix2 r l)
    = m ((c : Thread nD τ).loc main_arg0) (ix2 (n0 := 4096) (n1 := 5760) (row t r) (left (col t l))) := by
  obtain ⟨e0, e1⟩ := index_0 t
  unfold X0_0 Pipeline.Window.fill
  rw [dif_pos (moved0_0 t _)]
  refine congrArg (V m c main_arg0) (at_ix2 _ _ _ ?_ ?_)
  · show win0_0.index t (0 : Fin 2) * 512 + 1 * r.val = 512 * (t.val % 8) + r.val; omega
  · show win0_0.index t (1 : Fin 2) * 512 + 1 * l.val = 3584 + (512 * (t.val / 8) + l.val); omega
theorem block_1 (c : Dev nD) (t : Fin cfg0.N) (r l : Fin 512) : X0_1 m c t (ix2 r l)
    = m ((c : Thread nD τ).loc main_arg0) (ix2 (n0 := 4096) (n1 := 5760) (row t r) (right (col t l))) := by
  obtain ⟨e0, e1⟩ := index_1 t
  unfold X0_1 Pipeline.Window.fill
  rw [dif_pos (moved0_1 t _)]
  refine congrArg (V m c main_arg0) (at_ix2 _ _ _ ?_ ?_)
  · show win0_1.index t (0 : Fin 2) * 512 + 1 * r.val = 512 * (t.val % 8) + r.val; omega
  · show win0_1.index t (1 : Fin 2) * 512 + 1 * l.val = 4608 + (512 * (t.val / 8) + l.val); omega
theorem block_2 (c : Dev nD) (t : Fin cfg0.N) (r l : Fin 512) : iblk m c 2 t (ix2 r l)
    = m ((c : Thread nD τ).loc main_arg1) (ix2 (n0 := 4096) (n1 := 1024) (row t r) (col t l)) := by
  obtain ⟨e0, e1⟩ := index_2 t
  refine congrArg (V m c main_arg1) (at_ix2 _ _ _ ?_ ?_)
  · show win0_2.index t (0 : Fin 2) * 512 + 1 * r.val = 512 * (t.val % 8) + r.val; omega
  · show win0_2.index t (1 : Fin 2) * 512 + 1 * l.val = 512 * (t.val / 8) + l.val; omega
theorem block_3 (c : Dev nD) (t : Fin cfg0.N) (r l : Fin 512) : iblk m c 3 t (ix2 r l)
    = m ((c : Thread nD τ).loc main_arg2) (ix2 (n0 := 4096) (n1 := 1024) (row t r) (col t l)) := by
  obtain ⟨e0, e1⟩ := index_3 t
  refine congrArg (V m c main_arg2) (at_ix2 _ _ _ ?_ ?_)
  · show win0_3.index t (0 : Fin 2) * 512 + 1 * r.val = 512 * (t.val % 8) + r.val; omega
  · show win0_3.index t (1 : Fin 2) * 512 + 1 * l.val = 512 * (t.val / 8) + l.val; omega
theorem block_4 (c : Dev nD) (t : Fin cfg0.N) (r l : Fin 512) : iblk m c 4 t (ix2 r l)
    = m ((c : Thread nD τ).loc main_arg3) (ix2 (n0 := 4096) (n1 := 1024) (row t r) (col t l)) := by
  obtain ⟨e0, e1⟩ := index_4 t
  refine congrArg (V m c main_arg3) (at_ix2 _ _ _ ?_ ?_)
  · show win0_4.index t (0 : Fin 2) * 512 + 1 * r.val = 512 * (t.val % 8) + r.val; omega
  · show win0_4.index t (1 : Fin 2) * 512 + 1 * l.val = 512 * (t.val / 8) + l.val; omega

theorem pay_gateA (a : Vec Ideal S512x512 .bf16) (b : Vec Ideal S512x512 .bf16) (d : Vec Ideal S512x512 .f32) (r l : Fin 512) : k0_pay5 a b d (ix2 r l) = gateEntry (a (ix2 r l)) (b (ix2 r l)) (d (ix2 r l)) := by
  pointwise [k0_pay5, k0_pay3, k0_pay1]
  rfl
theorem gateA_at (c : Dev nD) (t : Fin cfg0.N) (r l : Fin 512) : (outsAt0 m c t).1 (ix2 r l)
    = gateA (m ((c : Thread nD τ).loc main_arg0)) (m ((c : Thread nD τ).loc main_arg1)) (m ((c : Thread nD τ).loc main_arg3)) (ix2 (row t r) (col t l)) := by
  have e : (outsAt0 m c t).1 = k0_pay5 (X0_0 m c t) (iblk m c 2 t) (iblk m c 4 t) := by
    unfold outsAt0; frame_out
  rw [e, pay_gateA, block_0, block_2, block_4]
  rfl
theorem flushed_gateA (c : Dev nD) (t : Fin cfg0.N) : (dats m 0 c).flushed 5 t = ((cfg0.win 5).blk t).view.read (Elt Ideal) (gateA (m ((c : Thread nD τ).loc main_arg0)) (m ((c : Thread nD τ).loc main_arg1)) (m ((c : Thread nD τ).loc main_arg3))) := by
  rw [Value.flushed5]
  funext j
  obtain ⟨r, l, rfl⟩ : ∃ (r : Fin 512) (l : Fin 512), j = ix2 r l := ⟨j 0, j 1, at_ix2 _ _ _ rfl rfl⟩
  show (outsAt0 m c t).1 (ix2 r l) = gateA _ _ _ (((cfg0.win 5).blk t).view.emb (ix2 r l))
  rw [emb_5, gateA_at]
theorem covered_gateA (i : S4096x1024.Idx) : ∃ t : Fin cfg0.N, (cfg0.win 5).flush t = true ∧ i ∈ ((cfg0.win 5).blk t).view.set := by
  obtain ⟨r, l, rfl⟩ : ∃ (r : Fin 4096) (l : Fin 1024), i = ix2 r l := ⟨i 0, i 1, at_ix2 _ _ _ rfl rfl⟩
  let t : Fin cfg0.N := ⟨8 * (l.val / 512) + r.val / 512, by rw [show cfg0.N = 16 from N_0]; omega⟩
  have ht : t.val = 8 * (l.val / 512) + r.val / 512 := rfl
  have e : ix2 r l = ((cfg0.win 5).blk t).view.emb (ix2 (n0 := 512) (n1 := 512) ⟨r.val % 512, by omega⟩ ⟨l.val % 512, by omega⟩) := by
    rw [emb_5]
    exact congrArg₂ (fun s u => ix2 s u) (Fin.ext (show r.val = 512 * (t.val % 8) + r.val % 512 by omega)) (Fin.ext (show l.val = 512 * (t.val / 8) + l.val % 512 by omega))
  exact ⟨t, flush0_5 t, by rw [e]; exact ((cfg0.win 5).blk t).view.emb_mem_set _⟩

theorem pay_gateB (a : Vec Ideal S512x512 .bf16) (b : Vec Ideal S512x512 .bf16) (d : Vec Ideal S512x512 .f32) (r l : Fin 512) : k0_pay6 a b d (ix2 r l) = gateEntry (a (ix2 r l)) (b (ix2 r l)) (d (ix2 r l)) := by
  pointwise [k0_pay6, k0_pay4, k0_pay2]
  rfl
theorem gateB_at (c : Dev nD) (t : Fin cfg0.N) (r l : Fin 512) : (outsAt0 m c t).2.1 (ix2 r l)
    = gateB (m ((c : Thread nD τ).loc main_arg0)) (m ((c : Thread nD τ).loc main_arg2)) (m ((c : Thread nD τ).loc main_arg3)) (ix2 (row t r) (col t l)) := by
  have e : (outsAt0 m c t).2.1 = k0_pay6 (X0_1 m c t) (iblk m c 3 t) (iblk m c 4 t) := by
    unfold outsAt0; frame_out
  rw [e, pay_gateB, block_1, block_3, block_4]
  rfl
theorem flushed_gateB (c : Dev nD) (t : Fin cfg0.N) : (dats m 0 c).flushed 6 t = ((cfg0.win 6).blk t).view.read (Elt Ideal) (gateB (m ((c : Thread nD τ).loc main_arg0)) (m ((c : Thread nD τ).loc main_arg2)) (m ((c : Thread nD τ).loc main_arg3))) := by
  rw [Value.flushed6]
  funext j
  obtain ⟨r, l, rfl⟩ : ∃ (r : Fin 512) (l : Fin 512), j = ix2 r l := ⟨j 0, j 1, at_ix2 _ _ _ rfl rfl⟩
  show (outsAt0 m c t).2.1 (ix2 r l) = gateB _ _ _ (((cfg0.win 6).blk t).view.emb (ix2 r l))
  rw [emb_6, gateB_at]
theorem covered_gateB (i : S4096x1024.Idx) : ∃ t : Fin cfg0.N, (cfg0.win 6).flush t = true ∧ i ∈ ((cfg0.win 6).blk t).view.set := by
  obtain ⟨r, l, rfl⟩ : ∃ (r : Fin 4096) (l : Fin 1024), i = ix2 r l := ⟨i 0, i 1, at_ix2 _ _ _ rfl rfl⟩
  let t : Fin cfg0.N := ⟨8 * (l.val / 512) + r.val / 512, by rw [show cfg0.N = 16 from N_0]; omega⟩
  have ht : t.val = 8 * (l.val / 512) + r.val / 512 := rfl
  have e : ix2 r l = ((cfg0.win 6).blk t).view.emb (ix2 (n0 := 512) (n1 := 512) ⟨r.val % 512, by omega⟩ ⟨l.val % 512, by omega⟩) := by
    rw [emb_6]
    exact congrArg₂ (fun s u => ix2 s u) (Fin.ext (show r.val = 512 * (t.val % 8) + r.val % 512 by omega)) (Fin.ext (show l.val = 512 * (t.val / 8) + l.val % 512 by omega))
  exact ⟨t, flush0_6 t, by rw [e]; exact ((cfg0.win 6).blk t).view.emb_mem_set _⟩

theorem pay_outA (a : Vec Ideal S512x512 .bf16) (b : Vec Ideal S512x512 .f32) (r l : Fin 512) : k0_pay7 a b (ix2 r l) = outEntry (a (ix2 r l)) (b (ix2 r l)) := by
  pointwise [k0_pay7, k0_pay3, k0_pay1]
  rfl
theorem outA_at (c : Dev nD) (t : Fin cfg0.N) (r l : Fin 512) : (outsAt0 m c t).2.2.1 (ix2 r l)
    = outA (m ((c : Thread nD τ).loc main_arg0)) (m ((c : Thread nD τ).loc main_arg3)) (ix2 (row t r) (col t l)) := by
  have e : (outsAt0 m c t).2.2.1 = k0_pay7 (X0_0 m c t) (iblk m c 4 t) := by
    unfold outsAt0; frame_out
  rw [e, pay_outA, block_0, block_4]
  rfl
theorem flushed_outA (c : Dev nD) (t : Fin cfg0.N) : (dats m 0 c).flushed 7 t = ((cfg0.win 7).blk t).view.read (Elt Ideal) (outA (m ((c : Thread nD τ).loc main_arg0)) (m ((c : Thread nD τ).loc main_arg3))) := by
  rw [Value.flushed7]
  funext j
  obtain ⟨r, l, rfl⟩ : ∃ (r : Fin 512) (l : Fin 512), j = ix2 r l := ⟨j 0, j 1, at_ix2 _ _ _ rfl rfl⟩
  show (outsAt0 m c t).2.2.1 (ix2 r l) = outA _ _ (((cfg0.win 7).blk t).view.emb (ix2 r l))
  rw [emb_7, outA_at]
theorem covered_outA (i : S4096x1024.Idx) : ∃ t : Fin cfg0.N, (cfg0.win 7).flush t = true ∧ i ∈ ((cfg0.win 7).blk t).view.set := by
  obtain ⟨r, l, rfl⟩ : ∃ (r : Fin 4096) (l : Fin 1024), i = ix2 r l := ⟨i 0, i 1, at_ix2 _ _ _ rfl rfl⟩
  let t : Fin cfg0.N := ⟨8 * (l.val / 512) + r.val / 512, by rw [show cfg0.N = 16 from N_0]; omega⟩
  have ht : t.val = 8 * (l.val / 512) + r.val / 512 := rfl
  have e : ix2 r l = ((cfg0.win 7).blk t).view.emb (ix2 (n0 := 512) (n1 := 512) ⟨r.val % 512, by omega⟩ ⟨l.val % 512, by omega⟩) := by
    rw [emb_7]
    exact congrArg₂ (fun s u => ix2 s u) (Fin.ext (show r.val = 512 * (t.val % 8) + r.val % 512 by omega)) (Fin.ext (show l.val = 512 * (t.val / 8) + l.val % 512 by omega))
  exact ⟨t, flush0_7 t, by rw [e]; exact ((cfg0.win 7).blk t).view.emb_mem_set _⟩

theorem pay_outB (a : Vec Ideal S512x512 .bf16) (b : Vec Ideal S512x512 .f32) (r l : Fin 512) : k0_pay8 a b (ix2 r l) = outEntry (a (ix2 r l)) (b (ix2 r l)) := by
  pointwise [k0_pay8, k0_pay4, k0_pay2]
  rfl
theorem outB_at (c : Dev nD) (t : Fin cfg0.N) (r l : Fin 512) : (outsAt0 m c t).2.2.2 (ix2 r l)
    = outB (m ((c : Thread nD τ).loc main_arg0)) (m ((c : Thread nD τ).loc main_arg3)) (ix2 (row t r) (col t l)) := by
  have e : (outsAt0 m c t).2.2.2 = k0_pay8 (X0_1 m c t) (iblk m c 4 t) := by
    unfold outsAt0; frame_out
  rw [e, pay_outB, block_1, block_4]
  rfl
theorem flushed_outB (c : Dev nD) (t : Fin cfg0.N) : (dats m 0 c).flushed 8 t = ((cfg0.win 8).blk t).view.read (Elt Ideal) (outB (m ((c : Thread nD τ).loc main_arg0)) (m ((c : Thread nD τ).loc main_arg3))) := by
  rw [Value.flushed8]
  funext j
  obtain ⟨r, l, rfl⟩ : ∃ (r : Fin 512) (l : Fin 512), j = ix2 r l := ⟨j 0, j 1, at_ix2 _ _ _ rfl rfl⟩
  show (outsAt0 m c t).2.2.2 (ix2 r l) = outB _ _ (((cfg0.win 8).blk t).view.emb (ix2 r l))
  rw [emb_8, outB_at]
theorem covered_outB (i : S4096x1024.Idx) : ∃ t : Fin cfg0.N, (cfg0.win 8).flush t = true ∧ i ∈ ((cfg0.win 8).blk t).view.set := by
  obtain ⟨r, l, rfl⟩ : ∃ (r : Fin 4096) (l : Fin 1024), i = ix2 r l := ⟨i 0, i 1, at_ix2 _ _ _ rfl rfl⟩
  let t : Fin cfg0.N := ⟨8 * (l.val / 512) + r.val / 512, by rw [show cfg0.N = 16 from N_0]; omega⟩
  have ht : t.val = 8 * (l.val / 512) + r.val / 512 := rfl
  have e : ix2 r l = ((cfg0.win 8).blk t).view.emb (ix2 (n0 := 512) (n1 := 512) ⟨r.val % 512, by omega⟩ ⟨l.val % 512, by omega⟩) := by
    rw [emb_8]
    exact congrArg₂ (fun s u => ix2 s u) (Fin.ext (show r.val = 512 * (t.val % 8) + r.val % 512 by omega)) (Fin.ext (show l.val = 512 * (t.val / 8) + l.val % 512 by omega))
  exact ⟨t, flush0_8 t, by rw [e]; exact ((cfg0.win 8).blk t).view.emb_mem_set _⟩

/-- The kernel's run with its results. -/
theorem values : θ_run defs (onTc (τ := τ) (main (F := Ideal))) ⟨m, fun _ => 0, ρ⟩ fun r => ∀ c : Dev nD,
      r.2.mem ((c : Thread nD τ).loc main_v0_0) = gateA (m ((c : Thread nD τ).loc main_arg0)) (m ((c : Thread nD τ).loc main_arg1)) (m ((c : Thread nD τ).loc main_arg3))
      ∧ r.2.mem ((c : Thread nD τ).loc main_v0_1) = gateB (m ((c : Thread nD τ).loc main_arg0)) (m ((c : Thread nD τ).loc main_arg2)) (m ((c : Thread nD τ).loc main_arg3))
      ∧ r.2.mem ((c : Thread nD τ).loc main_v0_2) = outA (m ((c : Thread nD τ).loc main_arg0)) (m ((c : Thread nD τ).loc main_arg3))
      ∧ r.2.mem ((c : Thread nD τ).loc main_v0_3) = outB (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 5 _ (fun t _ => flushed_gateA m c t) covered_gateA),
    (h c).2.1.trans ((dats m 0 c).arrAt_eq_of_cover 6 _ (fun t _ => flushed_gateB m c t) covered_gateB),
    (h c).2.2.1.trans ((dats m 0 c).arrAt_eq_of_cover 7 _ (fun t _ => flushed_outA m c t) covered_outA),
    (h c).2.2.2.1.trans ((dats m 0 c).arrAt_eq_of_cover 8 _ (fun t _ => flushed_outB m c t) covered_outB), (h c).2.2.2.2⟩) (Value.run_blocks m ρ)

end Cert.Kernel27Ideal.Mm

namespace Cert.Reference27Ideal.Mm

open Idealize.ShloMosaic Idealize.ShloMosaic.TcCoe Idealize.SL.Sem Cert.Reference27Ideal Cert.Reference27Ideal.Gen Cert.Reference27Ideal.Read Cert.Mm

theorem value_gateA (projp : Vec Ideal S4096x5760 .bf16) (ta : Vec Ideal S4096x1024 .bf16) (tb : Vec Ideal S4096x1024 .bf16) (d : Vec Ideal S4096x1024 .f32) : val_main_v40 (F := Ideal) projp ta tb d = Cert.Kernel27Ideal.Mm.gateA projp ta d := by
  funext i
  obtain ⟨r, l, rfl⟩ : ∃ (r : Fin 4096) (l : Fin 1024), i = ix2 r l := ⟨i 0, i 1, at_ix2 _ _ _ rfl rfl⟩
  pointwise [val_main_v40, val_main_v38, val_main_v37, val_main_v32, val_main_cst_5, val_main_v31, val_main_v24, val_main_v21, val_main_v19, val_main_v17,
    val_main_v16, val_main_v15, val_main_v1, val_main_v0, val_main_v18, val_main_cst_2, val_main_v20, val_main_cst_3, val_main_v23, val_main_v22,
    val_main_cst_4, val_main_v30, val_main_v28, val_main_v3, val_main_v36, val_main_cst_6, val_main_v35, val_main_v13, val_main_v10, val_main_v8,
    val_main_v6, val_main_v5, val_main_v4, val_main_v7, val_main_cst, val_main_v9, val_main_cst_0, val_main_v12, val_main_v11, val_main_cst_1,
    val_main_v34, val_main_v2, val_main_v27]
  rw [dif_neg (by simp), zero_add]
  rfl
theorem value_gateB (projp : Vec Ideal S4096x5760 .bf16) (ta : Vec Ideal S4096x1024 .bf16) (tb : Vec Ideal S4096x1024 .bf16) (d : Vec Ideal S4096x1024 .f32) : val_main_v41 (F := Ideal) projp ta tb d = Cert.Kernel27Ideal.Mm.gateB projp tb d := by
  funext i
  obtain ⟨r, l, rfl⟩ : ∃ (r : Fin 4096) (l : Fin 1024), i = ix2 r l := ⟨i 0, i 1, at_ix2 _ _ _ rfl rfl⟩
  pointwise [val_main_v41, val_main_v39, val_main_v37, val_main_v32, val_main_cst_5, val_main_v31, val_main_v24, val_main_v21, val_main_v19, val_main_v17,
    val_main_v16, val_main_v15, val_main_v1, val_main_v0, val_main_v18, val_main_cst_2, val_main_v20, val_main_cst_3, val_main_v23, val_main_v22,
    val_main_cst_4, val_main_v30, val_main_v28, val_main_v3, val_main_v36, val_main_cst_6, val_main_v35, val_main_v13, val_main_v10, val_main_v8,
    val_main_v6, val_main_v5, val_main_v4, val_main_v7, val_main_cst, val_main_v9, val_main_cst_0, val_main_v12, val_main_v11, val_main_cst_1,
    val_main_v34, val_main_v2, val_main_v27]
  rw [Cert.Kernel27Ideal.Mm.right_eq]
  rfl
theorem value_outA (projp : Vec Ideal S4096x5760 .bf16) (d : Vec Ideal S4096x1024 .f32) : val_main_v42 (F := Ideal) projp d = Cert.Kernel27Ideal.Mm.outA projp d := by
  funext i
  obtain ⟨r, l, rfl⟩ : ∃ (r : Fin 4096) (l : Fin 1024), i = ix2 r l := ⟨i 0, i 1, at_ix2 _ _ _ rfl rfl⟩
  pointwise [val_main_v42, val_main_v33, val_main_v10, val_main_v8, val_main_v6, val_main_v5, val_main_v4, val_main_v1, val_main_v0, val_main_v7, val_main_cst,
    val_main_v9, val_main_cst_0, val_main_v27]
  rfl
theorem value_outB (projp : Vec Ideal S4096x5760 .bf16) (d : Vec Ideal S4096x1024 .f32) : val_main_v43 (F := Ideal) projp d = Cert.Kernel27Ideal.Mm.outB projp d := by
  funext i
  obtain ⟨r, l, rfl⟩ : ∃ (r : Fin 4096) (l : Fin 1024), i = ix2 r l := ⟨i 0, i 1, at_ix2 _ _ _ rfl rfl⟩
  pointwise [val_main_v43, val_main_v29, val_main_v21, val_main_v19, val_main_v17, val_main_v16, val_main_v15, val_main_v1, val_main_v0, val_main_v18,
    val_main_cst_2, val_main_v20, val_main_cst_3, val_main_v28]
  rw [Cert.Kernel27Ideal.Mm.right_eq]
  rfl

/-- The reference's run with its results. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v40) = Cert.Kernel27Ideal.Mm.gateA (m ((c : Thread nD τ).loc main_arg0)) (m ((c : Thread nD τ).loc main_arg1)) (m ((c : Thread nD τ).loc main_arg3))
      ∧ r.2.mem ((c : Thread nD τ).loc main_v41) = Cert.Kernel27Ideal.Mm.gateB (m ((c : Thread nD τ).loc main_arg0)) (m ((c : Thread nD τ).loc main_arg2)) (m ((c : Thread nD τ).loc main_arg3))
      ∧ r.2.mem ((c : Thread nD τ).loc main_v42) = Cert.Kernel27Ideal.Mm.outA (m ((c : Thread nD τ).loc main_arg0)) (m ((c : Thread nD τ).loc main_arg3))
      ∧ r.2.mem ((c : Thread nD τ).loc main_v43) = Cert.Kernel27Ideal.Mm.outB (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((val_main_v40_eq _ _ _ _ ).trans (value_gateA _ _ _ _ )),
    (h c).2.1.trans ((val_main_v41_eq _ _ _ _ ).trans (value_gateB _ _ _ _ )),
    (h c).2.2.1.trans ((val_main_v42_eq _ _ ).trans (value_outA _ _ )),
    (h c).2.2.2.1.trans ((val_main_v43_eq _ _ ).trans (value_outB _ _ )), (h c).2.2.2.2⟩) (Value.run (F := Ideal) m ρ)

end Cert.Reference27Ideal.Mm

end
-- ==== Proof.Mm.Claims.lean ====
module

public import proofs.«01_k».proof.Defs
public import proofs.«01_k».proof.Proof.Gen.Kernel2
public import proofs.«01_k».proof.Proof.Mm.Dact
public import proofs.«01_k».proof.Proof.Gen.Kernel3
public import proofs.«01_k».proof.Proof.Mm.GateUp
public import proofs.«01_k».proof.Proof.Gen.Kernel4
public import proofs.«01_k».proof.Proof.Mm.Dh2
public import proofs.«01_k».proof.Proof.Gen.Kernel5
public import proofs.«01_k».proof.Proof.Mm.Dh1
public import proofs.«01_k».proof.Proof.Gen.Kernel6
public import proofs.«01_k».proof.Proof.Mm.Din
public import proofs.«01_k».proof.Proof.Gen.Kernel7
public import proofs.«01_k».proof.Proof.Mm.Ddown
public import proofs.«01_k».proof.Proof.Gen.Kernel8
public import proofs.«01_k».proof.Proof.Mm.Gated
public import proofs.«01_k».proof.Proof.Gen.Kernel9
public import proofs.«01_k».proof.Proof.Mm.Proj
public import proofs.«01_k».proof.Proof.Gen.Kernel10
public import proofs.«01_k».proof.Proof.Mm.Down
public import proofs.«01_k».proof.Proof.Gen.Kernel11
public import proofs.«01_k».proof.Proof.Mm.Out
public import proofs.«01_k».proof.Proof.Gen.Kernel12
public import proofs.«01_k».proof.Proof.Mm.Dout
public import proofs.«01_k».proof.Proof.Gen.Kernel13
public import proofs.«01_k».proof.Proof.Mm.Dmerged
public import proofs.«01_k».proof.Proof.Gen.Kernel14
public import proofs.«01_k».proof.Proof.Mm.Branch
public import proofs.«01_k».proof.Proof.Gen.Kernel15
public import proofs.«01_k».proof.Proof.Mm.Dbranch
public import proofs.«01_k».proof.Proof.Gen.Kernel16
public import proofs.«01_k».proof.Proof.Mm.Dy
public import proofs.«01_k».proof.Proof.Gen.Kernel17
public import proofs.«01_k».proof.Proof.Mm.Dh3
public import proofs.«01_k».proof.Proof.Gen.Kernel18
public import proofs.«01_k».proof.Proof.Mm.Dgate
public import proofs.«01_k».proof.Proof.Gen.Kernel19
public import proofs.«01_k».proof.Proof.Mm.Ple
public import proofs.«01_k».proof.Proof.Gen.Kernel20
public import proofs.«01_k».proof.Proof.Mm.Dple
public import proofs.«01_k».proof.Proof.Gen.Kernel21
public import proofs.«01_k».proof.Proof.Gen.Reference21Ideal.Run
public import proofs.«01_k».proof.Proof.Gen.Kernel21Ideal
public import proofs.«01_k».proof.Proof.Gen.Kernel22
public import proofs.«01_k».proof.Proof.Gen.Reference22Ideal.Run
public import proofs.«01_k».proof.Proof.Gen.Kernel22Ideal
public import proofs.«01_k».proof.Proof.Gen.Kernel23
public import proofs.«01_k».proof.Proof.Gen.Reference23Ideal.Run
public import proofs.«01_k».proof.Proof.Gen.Kernel23Ideal
public import proofs.«01_k».proof.Proof.Gen.Kernel24
public import proofs.«01_k».proof.Proof.Mm.Head
public import proofs.«01_k».proof.Proof.Gen.Kernel25
public import proofs.«01_k».proof.Proof.Mm.Beta
public import proofs.«01_k».proof.Proof.Gen.Kernel26
public import proofs.«01_k».proof.Proof.Mm.Merge
public import proofs.«01_k».proof.Proof.Gen.Kernel27
public import proofs.«01_k».proof.Proof.Mm.MergeBwd
public import Idealize.ShloMosaic.Lib.Quiescent
public import Idealize.ShloMosaic.Lib.Tactic

@[expose] public section

set_option maxRecDepth 16384

noncomputable section

/-! # The claims of the products: what ends unchanged, and that kernel and reference end with the same results -/

namespace Cert.Proof

open Idealize.ShloMosaic Idealize.SL.Sem

theorem frame_kernel2 : Cert.quiescent_Kernel2 (hKernel2 := Cert.Kernel2.Gen.facts) := fun m ρ _ => by
  refine Eq.mp ?_ (Cert.Kernel2Ideal.Gen.frame (F := Bits) m ρ)
  sl_kernel_rfl
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run (F := Ideal) m ρ)
theorem algebra2 : Cert.algebraic_Kernel2Ideal_Reference2Ideal (hKernel2Ideal := Cert.Kernel2Ideal.Gen.facts)
    (hReference2Ideal := Cert.Reference2Ideal.Gen.facts) := by
  intro m g m' g' _ h
  refine ⟨_, Cert.Kernel2Ideal.Mm.values m g, ?_⟩
  exact (θ_run Cert.Reference2Ideal.defs _ _).mono (fun r k c => ⟨(k c).1.trans (by rw [(h c).1, (h c).2.1, (h c).2.2]), (k c).2⟩) (Cert.Reference2Ideal.Mm.values m' g')

theorem frame_kernel3 : Cert.quiescent_Kernel3 (hKernel3 := Cert.Kernel3.Gen.facts) := fun m ρ _ => by
  refine Eq.mp ?_ (Cert.Kernel3Ideal.Gen.frame (F := Bits) m ρ)
  sl_kernel_rfl
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩) (Cert.Reference3Ideal.Value.run (F := Ideal) m ρ)
theorem algebra3 : Cert.algebraic_Kernel3Ideal_Reference3Ideal (hKernel3Ideal := Cert.Kernel3Ideal.Gen.facts)
    (hReference3Ideal := Cert.Reference3Ideal.Gen.facts) := by
  intro m g m' g' _ h
  refine ⟨_, Cert.Kernel3Ideal.Mm.values m g, ?_⟩
  exact (θ_run Cert.Reference3Ideal.defs _ _).mono (fun r k c => ⟨(k c).1.trans (by rw [(h c).1, (h c).2]), (k c).2⟩) (Cert.Reference3Ideal.Mm.values m' g')

theorem frame_kernel4 : Cert.quiescent_Kernel4 (hKernel4 := Cert.Kernel4.Gen.facts) := fun m ρ _ => by
  refine Eq.mp ?_ (Cert.Kernel4Ideal.Gen.frame (F := Bits) m ρ)
  sl_kernel_rfl
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems rfl r.2⟩) (Cert.Reference4Ideal.Value.run (F := Ideal) m ρ)
theorem algebra4 : Cert.algebraic_Kernel4Ideal_Reference4Ideal (hKernel4Ideal := Cert.Kernel4Ideal.Gen.facts)
    (hReference4Ideal := Cert.Reference4Ideal.Gen.facts) := by
  intro m g m' g' _ h
  refine ⟨_, _, Cert.Kernel4Ideal.Mm.values m g, ?_⟩
  exact (θ_run Cert.Reference4Ideal.defs _ _).mono (fun r k c => ⟨(k c).1.trans (by rw [(h c).1, (h c).2.1, (h c).2.2.1, (h c).2.2.2.1, (h c).2.2.2.2]), (k c).2.1.trans (by rw [(h c).1, (h c).2.1, (h c).2.2.1]), (k c).2.2⟩) (Cert.Reference4Ideal.Mm.values m' g')

theorem frame_kernel5 : Cert.quiescent_Kernel5 (hKernel5 := Cert.Kernel5.Gen.facts) := fun m ρ _ => by
  refine Eq.mp ?_ (Cert.Kernel5Ideal.Gen.frame (F := Bits) m ρ)
  sl_kernel_rfl
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems rfl r.2⟩) (Cert.Reference5Ideal.Value.run (F := Ideal) m ρ)
theorem algebra5 : Cert.algebraic_Kernel5Ideal_Reference5Ideal (hKernel5Ideal := Cert.Kernel5Ideal.Gen.facts)
    (hReference5Ideal := Cert.Reference5Ideal.Gen.facts) := by
  intro m g m' g' _ h
  refine ⟨_, _, Cert.Kernel5Ideal.Mm.values m g, ?_⟩
  exact (θ_run Cert.Reference5Ideal.defs _ _).mono (fun r k c => ⟨(k c).1.trans (by rw [(h c).1, (h c).2.1, (h c).2.2.1, (h c).2.2.2.1, (h c).2.2.2.2]), (k c).2.1.trans (by rw [(h c).1, (h c).2.1, (h c).2.2.1]), (k c).2.2⟩) (Cert.Reference5Ideal.Mm.values m' g')

theorem frame_kernel6 : Cert.quiescent_Kernel6 (hKernel6 := Cert.Kernel6.Gen.facts) := fun m ρ _ => by
  refine Eq.mp ?_ (Cert.Kernel6Ideal.Gen.frame (F := Bits) m ρ)
  sl_kernel_rfl
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩) (Cert.Reference6Ideal.Value.run (F := Ideal) m ρ)
theorem algebra6 : Cert.algebraic_Kernel6Ideal_Reference6Ideal (hKernel6Ideal := Cert.Kernel6Ideal.Gen.facts)
    (hReference6Ideal := Cert.Reference6Ideal.Gen.facts) := by
  intro m g m' g' _ h
  refine ⟨_, Cert.Kernel6Ideal.Mm.values m g, ?_⟩
  exact (θ_run Cert.Reference6Ideal.defs _ _).mono (fun r k c => ⟨(k c).1.trans (by rw [(h c).1, (h c).2]), (k c).2⟩) (Cert.Reference6Ideal.Mm.values m' g')

theorem frame_kernel7 : Cert.quiescent_Kernel7 (hKernel7 := Cert.Kernel7.Gen.facts) := fun m ρ _ => by
  refine Eq.mp ?_ (Cert.Kernel7Ideal.Gen.frame (F := Bits) m ρ)
  sl_kernel_rfl
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩) (Cert.Reference7Ideal.Value.run (F := Ideal) m ρ)
theorem algebra7 : Cert.algebraic_Kernel7Ideal_Reference7Ideal (hKernel7Ideal := Cert.Kernel7Ideal.Gen.facts)
    (hReference7Ideal := Cert.Reference7Ideal.Gen.facts) := by
  intro m g m' g' _ h
  refine ⟨_, Cert.Kernel7Ideal.Mm.values m g, ?_⟩
  exact (θ_run Cert.Reference7Ideal.defs _ _).mono (fun r k c => ⟨(k c).1.trans (by rw [(h c).1, (h c).2]), (k c).2⟩) (Cert.Reference7Ideal.Mm.values m' g')

theorem frame_kernel8 : Cert.quiescent_Kernel8 (hKernel8 := Cert.Kernel8.Gen.facts) := fun m ρ _ => by
  refine Eq.mp ?_ (Cert.Kernel8Ideal.Gen.frame (F := Bits) m ρ)
  sl_kernel_rfl
theorem frame_reference8 : Cert.quiescent_Reference8Ideal (hReference8Ideal := Cert.Reference8Ideal.Gen.facts) := fun m ρ _ =>
  (θ_run Cert.Reference8Ideal.defs _ _).mono (fun r h => ⟨fun c => (h c).2.2, sem_eq_zero_of_no_sems rfl r.2⟩) (Cert.Reference8Ideal.Value.run (F := Ideal) m ρ)
theorem algebra8 : Cert.algebraic_Kernel8Ideal_Reference8Ideal (hKernel8Ideal := Cert.Kernel8Ideal.Gen.facts)
    (hReference8Ideal := Cert.Reference8Ideal.Gen.facts) := by
  intro m g m' g' _ h
  refine ⟨_, _, Cert.Kernel8Ideal.Mm.values m g, ?_⟩
  exact (θ_run Cert.Reference8Ideal.defs _ _).mono (fun r k c => ⟨(k c).1.trans (by rw [(h c).1, (h c).2]), (k c).2.1.trans (by rw [(h c).1, (h c).2]), (k c).2.2⟩) (Cert.Reference8Ideal.Mm.values m' g')

theorem frame_kernel9 : Cert.quiescent_Kernel9 (hKernel9 := Cert.Kernel9.Gen.facts) := fun m ρ _ => by
  refine Eq.mp ?_ (Cert.Kernel9Ideal.Gen.frame (F := Bits) m ρ)
  sl_kernel_rfl
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems rfl r.2⟩) (Cert.Reference9Ideal.Value.run (F := Ideal) m ρ)
theorem algebra9 : Cert.algebraic_Kernel9Ideal_Reference9Ideal (hKernel9Ideal := Cert.Kernel9Ideal.Gen.facts)
    (hReference9Ideal := Cert.Reference9Ideal.Gen.facts) := by
  intro m g m' g' _ h
  refine ⟨_, Cert.Kernel9Ideal.Mm.values m g, ?_⟩
  exact (θ_run Cert.Reference9Ideal.defs _ _).mono (fun r k c => ⟨(k c).1.trans (by rw [(h c).1, (h c).2]), (k c).2⟩) (Cert.Reference9Ideal.Mm.values m' g')

theorem frame_kernel10 : Cert.quiescent_Kernel10 (hKernel10 := Cert.Kernel10.Gen.facts) := fun m ρ _ => by
  refine Eq.mp ?_ (Cert.Kernel10Ideal.Gen.frame (F := Bits) m ρ)
  sl_kernel_rfl
theorem frame_reference10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems rfl r.2⟩) (Cert.Reference10Ideal.Value.run (F := Ideal) m ρ)
theorem algebra10 : Cert.algebraic_Kernel10Ideal_Reference10Ideal (hKernel10Ideal := Cert.Kernel10Ideal.Gen.facts)
    (hReference10Ideal := Cert.Reference10Ideal.Gen.facts) := by
  intro m g m' g' _ h
  refine ⟨_, _, Cert.Kernel10Ideal.Mm.values m g, ?_⟩
  exact (θ_run Cert.Reference10Ideal.defs _ _).mono (fun r k c => ⟨(k c).1.trans (by rw [(h c).1, (h c).2.1, (h c).2.2.1]), (k c).2.1.trans (by rw [(h c).1, (h c).2.1, (h c).2.2.1, (h c).2.2.2]), (k c).2.2⟩) (Cert.Reference10Ideal.Mm.values m' g')

theorem frame_kernel11 : Cert.quiescent_Kernel11 (hKernel11 := Cert.Kernel11.Gen.facts) := fun m ρ _ => by
  refine Eq.mp ?_ (Cert.Kernel11Ideal.Gen.frame (F := Bits) m ρ)
  sl_kernel_rfl
theorem frame_reference11 : Cert.quiescent_Reference11Ideal (hReference11Ideal := Cert.Reference11Ideal.Gen.facts) := fun m ρ _ =>
  (θ_run Cert.Reference11Ideal.defs _ _).mono (fun r h => ⟨fun c => (h c).2.2, sem_eq_zero_of_no_sems rfl r.2⟩) (Cert.Reference11Ideal.Value.run (F := Ideal) m ρ)
theorem algebra11 : Cert.algebraic_Kernel11Ideal_Reference11Ideal (hKernel11Ideal := Cert.Kernel11Ideal.Gen.facts)
    (hReference11Ideal := Cert.Reference11Ideal.Gen.facts) := by
  intro m g m' g' _ h
  refine ⟨_, _, Cert.Kernel11Ideal.Mm.values m g, ?_⟩
  exact (θ_run Cert.Reference11Ideal.defs _ _).mono (fun r k c => ⟨(k c).1.trans (by rw [(h c).1, (h c).2.1, (h c).2.2.1]), (k c).2.1.trans (by rw [(h c).1, (h c).2.1, (h c).2.2.1, (h c).2.2.2]), (k c).2.2⟩) (Cert.Reference11Ideal.Mm.values m' g')

theorem frame_kernel12 : Cert.quiescent_Kernel12 (hKernel12 := Cert.Kernel12.Gen.facts) := fun m ρ _ => by
  refine Eq.mp ?_ (Cert.Kernel12Ideal.Gen.frame (F := Bits) m ρ)
  sl_kernel_rfl
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems rfl r.2⟩) (Cert.Reference12Ideal.Value.run (F := Ideal) m ρ)
theorem algebra12 : Cert.algebraic_Kernel12Ideal_Reference12Ideal (hKernel12Ideal := Cert.Kernel12Ideal.Gen.facts)
    (hReference12Ideal := Cert.Reference12Ideal.Gen.facts) := by
  intro m g m' g' _ h
  refine ⟨_, Cert.Kernel12Ideal.Mm.values m g, ?_⟩
  exact (θ_run Cert.Reference12Ideal.defs _ _).mono (fun r k c => ⟨(k c).1.trans (by rw [(h c).1, (h c).2]), (k c).2⟩) (Cert.Reference12Ideal.Mm.values m' g')

theorem frame_kernel13 : Cert.quiescent_Kernel13 (hKernel13 := Cert.Kernel13.Gen.facts) := fun m ρ _ => by
  refine Eq.mp ?_ (Cert.Kernel13Ideal.Gen.frame (F := Bits) m ρ)
  sl_kernel_rfl
theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems rfl r.2⟩) (Cert.Reference13Ideal.Value.run (F := Ideal) m ρ)
theorem algebra13 : Cert.algebraic_Kernel13Ideal_Reference13Ideal (hKernel13Ideal := Cert.Kernel13Ideal.Gen.facts)
    (hReference13Ideal := Cert.Reference13Ideal.Gen.facts) := by
  intro m g m' g' _ h
  refine ⟨_, Cert.Kernel13Ideal.Mm.values m g, ?_⟩
  exact (θ_run Cert.Reference13Ideal.defs _ _).mono (fun r k c => ⟨(k c).1.trans (by rw [(h c).1, (h c).2]), (k c).2⟩) (Cert.Reference13Ideal.Mm.values m' g')

theorem frame_kernel14 : Cert.quiescent_Kernel14 (hKernel14 := Cert.Kernel14.Gen.facts) := fun m ρ _ => by
  refine Eq.mp ?_ (Cert.Kernel14Ideal.Gen.frame (F := Bits) m ρ)
  sl_kernel_rfl
theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems rfl r.2⟩) (Cert.Reference14Ideal.Value.run (F := Ideal) m ρ)
theorem algebra14 : Cert.algebraic_Kernel14Ideal_Reference14Ideal (hKernel14Ideal := Cert.Kernel14Ideal.Gen.facts)
    (hReference14Ideal := Cert.Reference14Ideal.Gen.facts) := by
  intro m g m' g' _ h
  refine ⟨_, Cert.Kernel14Ideal.Mm.values m g, ?_⟩
  exact (θ_run Cert.Reference14Ideal.defs _ _).mono (fun r k c => ⟨(k c).1.trans (by rw [(h c).1, (h c).2]), (k c).2⟩) (Cert.Reference14Ideal.Mm.values m' g')

theorem frame_kernel15 : Cert.quiescent_Kernel15 (hKernel15 := Cert.Kernel15.Gen.facts) := fun m ρ _ => by
  refine Eq.mp ?_ (Cert.Kernel15Ideal.Gen.frame (F := Bits) m ρ)
  sl_kernel_rfl
theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems rfl r.2⟩) (Cert.Reference15Ideal.Value.run (F := Ideal) m ρ)
theorem algebra15 : Cert.algebraic_Kernel15Ideal_Reference15Ideal (hKernel15Ideal := Cert.Kernel15Ideal.Gen.facts)
    (hReference15Ideal := Cert.Reference15Ideal.Gen.facts) := by
  intro m g m' g' _ h
  refine ⟨_, Cert.Kernel15Ideal.Mm.values m g, ?_⟩
  exact (θ_run Cert.Reference15Ideal.defs _ _).mono (fun r k c => ⟨(k c).1.trans (by rw [(h c).1, (h c).2]), (k c).2⟩) (Cert.Reference15Ideal.Mm.values m' g')

theorem frame_kernel16 : Cert.quiescent_Kernel16 (hKernel16 := Cert.Kernel16.Gen.facts) := fun m ρ _ => by
  refine Eq.mp ?_ (Cert.Kernel16Ideal.Gen.frame (F := Bits) m ρ)
  sl_kernel_rfl
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems rfl r.2⟩) (Cert.Reference16Ideal.Value.run (F := Ideal) m ρ)
theorem algebra16 : Cert.algebraic_Kernel16Ideal_Reference16Ideal (hKernel16Ideal := Cert.Kernel16Ideal.Gen.facts)
    (hReference16Ideal := Cert.Reference16Ideal.Gen.facts) := by
  intro m g m' g' _ h
  refine ⟨_, Cert.Kernel16Ideal.Mm.values m g, ?_⟩
  exact (θ_run Cert.Reference16Ideal.defs _ _).mono (fun r k c => ⟨(k c).1.trans (by rw [(h c).1, (h c).2]), (k c).2⟩) (Cert.Reference16Ideal.Mm.values m' g')

theorem frame_kernel17 : Cert.quiescent_Kernel17 (hKernel17 := Cert.Kernel17.Gen.facts) := fun m ρ _ => by
  refine Eq.mp ?_ (Cert.Kernel17Ideal.Gen.frame (F := Bits) m ρ)
  sl_kernel_rfl
theorem frame_reference17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems rfl r.2⟩) (Cert.Reference17Ideal.Value.run (F := Ideal) m ρ)
theorem algebra17 : Cert.algebraic_Kernel17Ideal_Reference17Ideal (hKernel17Ideal := Cert.Kernel17Ideal.Gen.facts)
    (hReference17Ideal := Cert.Reference17Ideal.Gen.facts) := by
  intro m g m' g' _ h
  refine ⟨_, _, Cert.Kernel17Ideal.Mm.values m g, ?_⟩
  exact (θ_run Cert.Reference17Ideal.defs _ _).mono (fun r k c => ⟨(k c).1.trans (by rw [(h c).1, (h c).2.1, (h c).2.2.1, (h c).2.2.2.1, (h c).2.2.2.2]), (k c).2.1.trans (by rw [(h c).1, (h c).2.1, (h c).2.2.1]), (k c).2.2⟩) (Cert.Reference17Ideal.Mm.values m' g')

theorem frame_kernel18 : Cert.quiescent_Kernel18 (hKernel18 := Cert.Kernel18.Gen.facts) := fun m ρ _ => by
  refine Eq.mp ?_ (Cert.Kernel18Ideal.Gen.frame (F := Bits) m ρ)
  sl_kernel_rfl
theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems rfl r.2⟩) (Cert.Reference18Ideal.Value.run (F := Ideal) m ρ)
theorem algebra18 : Cert.algebraic_Kernel18Ideal_Reference18Ideal (hKernel18Ideal := Cert.Kernel18Ideal.Gen.facts)
    (hReference18Ideal := Cert.Reference18Ideal.Gen.facts) := by
  intro m g m' g' _ h
  refine ⟨_, Cert.Kernel18Ideal.Mm.values m g, ?_⟩
  exact (θ_run Cert.Reference18Ideal.defs _ _).mono (fun r k c => ⟨(k c).1.trans (by rw [(h c).1, (h c).2]), (k c).2⟩) (Cert.Reference18Ideal.Mm.values m' g')

theorem frame_kernel19 : Cert.quiescent_Kernel19 (hKernel19 := Cert.Kernel19.Gen.facts) := fun m ρ _ => by
  refine Eq.mp ?_ (Cert.Kernel19Ideal.Gen.frame (F := Bits) m ρ)
  sl_kernel_rfl
theorem frame_reference19 : Cert.quiescent_Reference19Ideal (hReference19Ideal := Cert.Reference19Ideal.Gen.facts) := fun m ρ _ =>
  (θ_run Cert.Reference19Ideal.defs _ _).mono (fun r h => ⟨fun c => (h c).2, sem_eq_zero_of_no_sems rfl r.2⟩) (Cert.Reference19Ideal.Value.run (F := Ideal) m ρ)
theorem algebra19 : Cert.algebraic_Kernel19Ideal_Reference19Ideal (hKernel19Ideal := Cert.Kernel19Ideal.Gen.facts)
    (hReference19Ideal := Cert.Reference19Ideal.Gen.facts) := by
  intro m g m' g' _ h
  refine ⟨_, Cert.Kernel19Ideal.Mm.values m g, ?_⟩
  exact (θ_run Cert.Reference19Ideal.defs _ _).mono (fun r k c => ⟨(k c).1.trans (by rw [(h c).1, (h c).2]), (k c).2⟩) (Cert.Reference19Ideal.Mm.values m' g')

theorem frame_kernel20 : Cert.quiescent_Kernel20 (hKernel20 := Cert.Kernel20.Gen.facts) := fun m ρ _ => by
  refine Eq.mp ?_ (Cert.Kernel20Ideal.Gen.frame (F := Bits) m ρ)
  sl_kernel_rfl
theorem frame_reference20 : Cert.quiescent_Reference20Ideal (hReference20Ideal := Cert.Reference20Ideal.Gen.facts) := fun m ρ _ =>
  (θ_run Cert.Reference20Ideal.defs _ _).mono (fun r h => ⟨fun c => (h c).2, sem_eq_zero_of_no_sems rfl r.2⟩) (Cert.Reference20Ideal.Value.run (F := Ideal) m ρ)
theorem algebra20 : Cert.algebraic_Kernel20Ideal_Reference20Ideal (hKernel20Ideal := Cert.Kernel20Ideal.Gen.facts)
    (hReference20Ideal := Cert.Reference20Ideal.Gen.facts) := by
  intro m g m' g' _ h
  refine ⟨_, Cert.Kernel20Ideal.Mm.values m g, ?_⟩
  exact (θ_run Cert.Reference20Ideal.defs _ _).mono (fun r k c => ⟨(k c).1.trans (by rw [(h c).1, (h c).2]), (k c).2⟩) (Cert.Reference20Ideal.Mm.values m' g')

theorem frame_kernel21 : Cert.quiescent_Kernel21 (hKernel21 := Cert.Kernel21.Gen.facts) := fun m ρ _ => by
  refine Eq.mp ?_ (Cert.Kernel14Ideal.Gen.frame (F := Bits) m ρ)
  sl_kernel_rfl
theorem frame_kernel21Ideal : Cert.quiescent_Kernel21Ideal (hKernel21Ideal := Cert.Kernel21Ideal.Gen.facts) := fun m ρ _ => by
  refine Eq.mp ?_ (Cert.Kernel14Ideal.Gen.frame (F := Ideal) m ρ)
  sl_kernel_rfl
theorem frame_reference21 : Cert.quiescent_Reference21Ideal (hReference21Ideal := Cert.Reference21Ideal.Gen.facts) := fun m ρ _ =>
  (θ_run Cert.Reference21Ideal.defs _ _).mono (fun r h => ⟨fun c => (h c).2, sem_eq_zero_of_no_sems rfl r.2⟩) (Cert.Reference21Ideal.Value.run (F := Ideal) m ρ)
theorem algebra21 : Cert.algebraic_Kernel21Ideal_Reference21Ideal (hKernel21Ideal := Cert.Kernel21Ideal.Gen.facts)
    (hReference21Ideal := Cert.Reference21Ideal.Gen.facts) := by
  refine Eq.mp ?_ algebra14
  sl_kernel_rfl

theorem frame_kernel22 : Cert.quiescent_Kernel22 (hKernel22 := Cert.Kernel22.Gen.facts) := fun m ρ _ => by
  refine Eq.mp ?_ (Cert.Kernel15Ideal.Gen.frame (F := Bits) m ρ)
  sl_kernel_rfl
theorem frame_kernel22Ideal : Cert.quiescent_Kernel22Ideal (hKernel22Ideal := Cert.Kernel22Ideal.Gen.facts) := fun m ρ _ => by
  refine Eq.mp ?_ (Cert.Kernel15Ideal.Gen.frame (F := Ideal) m ρ)
  sl_kernel_rfl
theorem frame_reference22 : Cert.quiescent_Reference22Ideal (hReference22Ideal := Cert.Reference22Ideal.Gen.facts) := fun m ρ _ =>
  (θ_run Cert.Reference22Ideal.defs _ _).mono (fun r h => ⟨fun c => (h c).2, sem_eq_zero_of_no_sems rfl r.2⟩) (Cert.Reference22Ideal.Value.run (F := Ideal) m ρ)
theorem algebra22 : Cert.algebraic_Kernel22Ideal_Reference22Ideal (hKernel22Ideal := Cert.Kernel22Ideal.Gen.facts)
    (hReference22Ideal := Cert.Reference22Ideal.Gen.facts) := by
  refine Eq.mp ?_ algebra15
  sl_kernel_rfl

theorem frame_kernel23 : Cert.quiescent_Kernel23 (hKernel23 := Cert.Kernel23.Gen.facts) := fun m ρ _ => by
  refine Eq.mp ?_ (Cert.Kernel16Ideal.Gen.frame (F := Bits) m ρ)
  sl_kernel_rfl
theorem frame_kernel23Ideal : Cert.quiescent_Kernel23Ideal (hKernel23Ideal := Cert.Kernel23Ideal.Gen.facts) := fun m ρ _ => by
  refine Eq.mp ?_ (Cert.Kernel16Ideal.Gen.frame (F := Ideal) m ρ)
  sl_kernel_rfl
theorem frame_reference23 : Cert.quiescent_Reference23Ideal (hReference23Ideal := Cert.Reference23Ideal.Gen.facts) := fun m ρ _ =>
  (θ_run Cert.Reference23Ideal.defs _ _).mono (fun r h => ⟨fun c => (h c).2, sem_eq_zero_of_no_sems rfl r.2⟩) (Cert.Reference23Ideal.Value.run (F := Ideal) m ρ)
theorem algebra23 : Cert.algebraic_Kernel23Ideal_Reference23Ideal (hKernel23Ideal := Cert.Kernel23Ideal.Gen.facts)
    (hReference23Ideal := Cert.Reference23Ideal.Gen.facts) := by
  refine Eq.mp ?_ algebra16
  sl_kernel_rfl

theorem frame_kernel24 : Cert.quiescent_Kernel24 (hKernel24 := Cert.Kernel24.Gen.facts) := fun m ρ _ => by
  refine Eq.mp ?_ (Cert.Kernel24Ideal.Gen.frame (F := Bits) m ρ)
  sl_kernel_rfl
theorem frame_reference24 : Cert.quiescent_Reference24Ideal (hReference24Ideal := Cert.Reference24Ideal.Gen.facts) := fun m ρ _ =>
  (θ_run Cert.Reference24Ideal.defs _ _).mono (fun r h => ⟨fun c => (h c).2.2.2.2.2, sem_eq_zero_of_no_sems rfl r.2⟩) (Cert.Reference24Ideal.Value.run (F := Ideal) m ρ)
theorem algebra24 : Cert.algebraic_Kernel24Ideal_Reference24Ideal (hKernel24Ideal := Cert.Kernel24Ideal.Gen.facts)
    (hReference24Ideal := Cert.Reference24Ideal.Gen.facts) := by
  intro m g m' g' _ h
  refine ⟨_, _, _, _, _, Cert.Kernel24Ideal.Mm.values m g, ?_⟩
  exact (θ_run Cert.Reference24Ideal.defs _ _).mono (fun r k c => ⟨(k c).1.trans (by rw [(h c).1, (h c).2.1, (h c).2.2.1, (h c).2.2.2.1, (h c).2.2.2.2.1, (h c).2.2.2.2.2]), (k c).2.1.trans (by rw [(h c).1, (h c).2.1, (h c).2.2.1, (h c).2.2.2.1, (h c).2.2.2.2.1, (h c).2.2.2.2.2]), (k c).2.2.1.trans (by rw [(h c).1, (h c).2.1, (h c).2.2.1, (h c).2.2.2.1, (h c).2.2.2.2.1, (h c).2.2.2.2.2]), (k c).2.2.2.1.trans (by rw [(h c).1, (h c).2.1, (h c).2.2.1, (h c).2.2.2.1, (h c).2.2.2.2.1, (h c).2.2.2.2.2]), (k c).2.2.2.2.1.trans (by rw [(h c).1, (h c).2.1, (h c).2.2.1, (h c).2.2.2.1, (h c).2.2.2.2.1, (h c).2.2.2.2.2]), (k c).2.2.2.2.2⟩) (Cert.Reference24Ideal.Mm.values m' g')

theorem frame_kernel25 : Cert.quiescent_Kernel25 (hKernel25 := Cert.Kernel25.Gen.facts) := fun m ρ _ => by
  refine Eq.mp ?_ (Cert.Kernel25Ideal.Gen.frame (F := Bits) m ρ)
  sl_kernel_rfl
theorem frame_reference25 : Cert.quiescent_Reference25Ideal (hReference25Ideal := Cert.Reference25Ideal.Gen.facts) := fun m ρ _ =>
  (θ_run Cert.Reference25Ideal.defs _ _).mono (fun r h => ⟨fun c => (h c).2, sem_eq_zero_of_no_sems rfl r.2⟩) (Cert.Reference25Ideal.Value.run (F := Ideal) m ρ)
theorem algebra25 : Cert.algebraic_Kernel25Ideal_Reference25Ideal (hKernel25Ideal := Cert.Kernel25Ideal.Gen.facts)
    (hReference25Ideal := Cert.Reference25Ideal.Gen.facts) := by
  intro m g m' g' _ h
  refine ⟨_, Cert.Kernel25Ideal.Mm.values m g, ?_⟩
  exact (θ_run Cert.Reference25Ideal.defs _ _).mono (fun r k c => ⟨(k c).1.trans (by rw [(h c).1, (h c).2]), (k c).2⟩) (Cert.Reference25Ideal.Mm.values m' g')

theorem frame_kernel26 : Cert.quiescent_Kernel26 (hKernel26 := Cert.Kernel26.Gen.facts) := fun m ρ _ => by
  refine Eq.mp ?_ (Cert.Kernel26Ideal.Gen.frame (F := Bits) m ρ)
  sl_kernel_rfl
theorem frame_reference26 : Cert.quiescent_Reference26Ideal (hReference26Ideal := Cert.Reference26Ideal.Gen.facts) := fun m ρ _ =>
  (θ_run Cert.Reference26Ideal.defs _ _).mono (fun r h => ⟨fun c => (h c).2, sem_eq_zero_of_no_sems rfl r.2⟩) (Cert.Reference26Ideal.Value.run (F := Ideal) m ρ)
theorem algebra26 : Cert.algebraic_Kernel26Ideal_Reference26Ideal (hKernel26Ideal := Cert.Kernel26Ideal.Gen.facts)
    (hReference26Ideal := Cert.Reference26Ideal.Gen.facts) := by
  intro m g m' g' _ h
  refine ⟨_, Cert.Kernel26Ideal.Mm.values m g, ?_⟩
  exact (θ_run Cert.Reference26Ideal.defs _ _).mono (fun r k c => ⟨(k c).1.trans (by rw [(h c).1, (h c).2.1, (h c).2.2]), (k c).2⟩) (Cert.Reference26Ideal.Mm.values m' g')

theorem frame_kernel27 : Cert.quiescent_Kernel27 (hKernel27 := Cert.Kernel27.Gen.facts) := fun m ρ _ => by
  refine Eq.mp ?_ (Cert.Kernel27Ideal.Gen.frame (F := Bits) m ρ)
  sl_kernel_rfl
theorem frame_reference27 : Cert.quiescent_Reference27Ideal (hReference27Ideal := Cert.Reference27Ideal.Gen.facts) := fun m ρ _ =>
  (θ_run Cert.Reference27Ideal.defs _ _).mono (fun r h => ⟨fun c => (h c).2.2.2.2, sem_eq_zero_of_no_sems rfl r.2⟩) (Cert.Reference27Ideal.Value.run (F := Ideal) m ρ)
theorem algebra27 : Cert.algebraic_Kernel27Ideal_Reference27Ideal (hKernel27Ideal := Cert.Kernel27Ideal.Gen.facts)
    (hReference27Ideal := Cert.Reference27Ideal.Gen.facts) := by
  intro m g m' g' _ h
  refine ⟨_, _, _, _, Cert.Kernel27Ideal.Mm.values m g, ?_⟩
  exact (θ_run Cert.Reference27Ideal.defs _ _).mono (fun r k c => ⟨(k c).1.trans (by rw [(h c).1, (h c).2.1, (h c).2.2.2]), (k c).2.1.trans (by rw [(h c).1, (h c).2.2.1, (h c).2.2.2]), (k c).2.2.1.trans (by rw [(h c).1, (h c).2.2.2]), (k c).2.2.2.1.trans (by rw [(h c).1, (h c).2.2.2]), (k c).2.2.2.2⟩) (Cert.Reference27Ideal.Mm.values m' g')

end Cert.Proof

end
-- ==== Proof.Fwd.Run.lean ====
module

public import proofs.«01_k».proof.Proof.Gen.Kernel28Ideal.Value
public import proofs.«01_k».proof.Proof.Attn.Block
public import proofs.«01_k».proof.Proof.Attn.TripRead

@[expose] public section

set_option maxRecDepth 16384

noncomputable section

namespace Cert.Kernel28Ideal.Attn

open Idealize.ShloMosaic Idealize.ShloMosaic.TcCoe Idealize.ShloMosaic.Tactic Idealize.ShloMosaic.ValueIdx Cert.Kernel28Ideal Cert.Kernel28Ideal.Gen
open Cert.KernelIdeal.Attn (onLanes probs nar padded inbQ inbB validOf foldTo foldTo_succ cOf foldTo_eight)

variable {F : FTy → Type} [FloatOps F]

/-! # The forward attention's body: 32 chunks of one head pair, each stored over its own rows -/

/-- A chunk's output: the two heads' weights times the values, each on its own lanes. -/
def chunkOut (q : FVec F S64x128 .bf16) (k v : FVec F S576x128 .f32) (b : FVec F S2x64x576 .f32) (vd : Option (IVec S64x576 1)) : FVec F S64x128 .bf16 :=
  truncf .bf16 (addf
    (onLanes false (matmul dot_S64x576_S576x128_S64x128_1_0_0_1_n_n none (truncf .bf16 (probs false q k b vd) bitsLt_bf16_f32) (nar v) (constant S64x128 .f32 0x00000000#32)))
    (onLanes true (matmul dot_S64x576_S576x128_S64x128_1_0_0_1_n_n none (truncf .bf16 (probs true q k b vd) bitsLt_bf16_f32) (nar v) (constant S64x128 .f32 0x00000000#32)))) bitsLt_bf16_f32

/-- The output of chunk `c` of a block. -/
def blockOut (x0 x1 x2 : FVec F S2048x128 .bf16) (x3 : FVec F S2x64x576 .f32) (c : Fin 32) : FVec F S64x128 .bf16 :=
  chunkOut (VecWindow.window x0 ![64 * c.val, 0] S64x128.size (inbQ c))
    (VecWindow.window (padded x1) ![64 * c.val, 0] S576x128.size (inbB c))
    (VecWindow.window (padded x2) ![64 * c.val, 0] S576x128.size (inbB c))
    x3
    (if c.val < 8 then some (validOf (BitVec.ofNat 32 (64 * c.val))) else none)

/-- A block's output: each row from its chunk. -/
def wholeOut (o : Fin 32 → FVec F S64x128 .bf16) : FVec F S2048x128 .bf16 := fun y =>
  o ⟨(y 0).val / 64, by have : (y 0).val < 2048 := (y 0).isLt; omega⟩ (ix2 ⟨(y 0).val % 64, Nat.mod_lt _ (by decide)⟩ (y 1))

/-- Chunk `c`'s output put over its rows. -/
def putStep (o : Fin 32 → FVec F S64x128 .bf16) (c : Fin 32) (R : FVec F S2048x128 .bf16) : FVec F S2048x128 .bf16 :=
  VecWindow.put R ![64 * c.val, 0] S64x128.size (o c)

/-- Putting `n` chunks leaves the rows of each of them at its output. -/
theorem putAll_apply (o : Fin 32 → FVec F S64x128 .bf16) (R : FVec F S2048x128 .bf16) (y : S2048x128.Idx) (n : ℕ) (hn : n ≤ 32)
    (hy : (y 0).val < 64 * n) : foldTo (putStep o) R n y = wholeOut o y := by
  induction n with
  | zero => exact absurd hy (Nat.not_lt_zero _)
  | succ n ih =>
    rw [foldTo_succ (putStep o) R ⟨n, hn⟩ rfl]
    have h1 : (y 1).val < 128 := (y 1).isLt
    unfold putStep VecWindow.put
    split
    · next hm =>
      have h0 : 64 * n ≤ (y 0).val := (hm 0).1
      unfold wholeOut
      rw [show (⟨(y 0).val / 64, by have : (y 0).val < 2048 := (y 0).isLt; omega⟩ : Fin 32) = ⟨n, hn⟩ from Fin.ext (by show (y 0).val / 64 = n; omega)]
      refine congrArg (o ⟨n, hn⟩) (funext fun a => Fin.ext ?_)
      match a with
      | ⟨0, _⟩ => show (y 0).val - 64 * n = (y 0).val % 64; omega
      | ⟨1, _⟩ => show (y 1).val - 0 = (y 1).val; omega
    · next hm =>
      refine ih (by omega) (Nat.lt_of_not_le fun h0 => hm fun a => ?_)
      match a with
      | ⟨0, _⟩ => exact ⟨h0, by show (y 0).val < 64 * n + 64; omega⟩
      | ⟨1, _⟩ => exact ⟨Nat.zero_le _, by show (y 1).val < 0 + 128; omega⟩

/-- One store, read. -/
theorem read_put (v : View sig .tc .vmem S2048x128 .bf16) (f : BufTy.Contents (Elt F) v.ty) {o : Fin 32 → FVec F S64x128 .bf16} {off : Fin 2 → ℕ}
    (inb : ∀ a, off a + S64x128.size a ≤ S2048x128.size a) (L : List (View.Piece (Elt F) S2048x128 .bf16)) (c : Fin 32) (h : off = ![64 * c.val, 0]) :
    v.read (Elt F) (v.writes (Elt F) f (⟨Rect.unit (s := S2048x128) off S64x128.size inb, o c⟩ :: L)) = putStep o c (v.read (Elt F) (v.writes (Elt F) f L)) :=
  View.read_writes_cons_put v f inb _ _ h

/-- The stores that fill a padded block. -/
def padL (x : FVec F S2048x128 .bf16) : List (View.Piece (Elt F) S2560x128 .f32) :=
  [⟨Rect.unit (s := S2560x128) ![512, 0] S2048x128.size (by decide), shapeCast S2048x128 (extf .f32 x bitsLt_bf16_f32) shapeCasts_S2048x128_S2048x128⟩,
   ⟨Rect.unit (s := S2560x128) ![0, 0] S512x128.size (by decide), shapeCast S512x128 (broadcast S512x128 (Scalar.ofBits .f32 0x00000000#32)) shapeCasts_S512x128_S512x128⟩]

/-- What they leave. -/
theorem read_pad (v : View sig .tc .vmem S2560x128 .f32) (f : BufTy.Contents (Elt F) v.ty) (x : FVec F S2048x128 .bf16) :
    v.read (Elt F) (v.writes (Elt F) f (padL x)) = padded x := by
  unfold padL
  rw [shapeCast_self, shapeCast_self]
  funext y
  have h0 : (y 0).val < 2560 := (y 0).isLt
  have h1 : (y 1).val < 128 := (y 1).isLt
  have z : ∀ off size a, (![off, 0] : Fin 2 → ℕ) a ≤ (y a).val ∧ (y a).val < (![off, 0] : Fin 2 → ℕ) a + (![size, 128] : Fin 2 → ℕ) a ↔
      (a = 0 → off ≤ (y 0).val ∧ (y 0).val < off + size) := by
    intro off size a
    match a with
    | ⟨0, _⟩ => exact ⟨fun h _ => h, fun h => h rfl⟩
    | ⟨1, _⟩ => exact ⟨fun _ h => absurd (congrArg Fin.val h) Nat.one_ne_zero, fun _ => ⟨Nat.zero_le _, by show (y 1).val < 0 + 128; omega⟩⟩
  rw [View.read_writes_cons_put v f _ _ _ rfl, View.read_writes_cons_put v f _ _ _ rfl]
  unfold VecWindow.put padded
  by_cases h : 512 ≤ (y 0).val
  · rw [dif_pos h, dif_pos fun a => (z 512 2048 a).2 fun _ => ⟨h, h0⟩]
    refine congrArg _ (funext fun a => Fin.ext ?_)
    match a with
    | ⟨0, _⟩ => rfl
    | ⟨1, _⟩ => rfl
  · rw [dif_neg h, dif_neg fun hall => h (hall 0).1, dif_pos fun a => (z 0 512 a).2 fun _ => ⟨Nat.zero_le _, by omega⟩]
    rfl

/-- The group a trip works on. -/
def gOf (k : Fin k0_t1_loop.trips) : Fin 4 := ⟨k.val + 1, by have : k.val < 3 := Nat.lt_of_lt_of_le k.isLt k0_t1_abs.2.1; omega⟩

theorem off3 (k : Fin k0_t1_loop.trips) (j : Fin 8) : k0_off3 k (BitVec.ofNat 32 j.val) = ![64 * (cOf (gOf k) j).val, 0] := by
  obtain ⟨k, hk⟩ := k
  have h3 : k < 3 := Nat.lt_of_lt_of_le hk k0_t1_abs.2.1
  interval_cases k <;> fin_cases j <;> sl_kernel_rfl

theorem off4 (k : Fin k0_t1_loop.trips) (j : Fin 8) : k0_off4 k (BitVec.ofNat 32 j.val) = ![64 * (cOf (gOf k) j).val, 0] := by
  obtain ⟨k, hk⟩ := k
  have h3 : k < 3 := Nat.lt_of_lt_of_le hk k0_t1_abs.2.1
  interval_cases k <;> fin_cases j <;> sl_kernel_rfl

section Run
variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .bf16) (harg6 : arg6.IsWhole) (arg7 : Memref sig .tc .vmem S2560x128 .f32) (harg7 : arg7.IsWhole) (arg8 : Memref sig .tc .vmem S2560x128 .f32) (harg8 : arg8.IsWhole) (v18 : FVec F S2x64x576 .f32) (X_arg2 : BufTy.Contents (Elt F) arg2.view.ty) (X_arg7 : BufTy.Contents (Elt F) arg7.view.ty) (X_arg8 : BufTy.Contents (Elt F) arg8.view.ty)

/-- What a trip stores for its chunk `j`. -/
def rdOut (k : Fin k0_t1_loop.trips) (j : Fin 8) : FVec F S64x128 .bf16 :=
  chunkOut (arg2.view.readAt (Elt F) (Rect.unit (s := S2048x128) (k0_off3 k (BitVec.ofNat 32 j.val)) S64x128.size (k0_off3_inb k j)).toLoadRect X_arg2)
    (arg7.view.readAt (Elt F) (Rect.unit (s := S2560x128) (k0_off4 k (BitVec.ofNat 32 j.val)) S576x128.size (k0_off4_inb k j)).toLoadRect X_arg7)
    (arg8.view.readAt (Elt F) (Rect.unit (s := S2560x128) (k0_off4 k (BitVec.ofNat 32 j.val)) S576x128.size (k0_off4_inb k j)).toLoadRect X_arg8) v18 none

/-- What the masked group stores for its chunk `j`. -/
def mOut (j : Fin 8) : FVec F S64x128 .bf16 :=
  chunkOut (arg2.view.readAt (Elt F) (Rect.unit (s := S2048x128) ![64 * (cOf 0 j).val, 0] S64x128.size (inbQ (cOf 0 j))).toLoadRect X_arg2)
    (arg7.view.readAt (Elt F) (Rect.unit (s := S2560x128) ![64 * (cOf 0 j).val, 0] S576x128.size (inbB (cOf 0 j))).toLoadRect X_arg7)
    (arg8.view.readAt (Elt F) (Rect.unit (s := S2560x128) ![64 * (cOf 0 j).val, 0] S576x128.size (inbB (cOf 0 j))).toLoadRect X_arg8) v18
    (some (validOf (BitVec.ofNat 32 (64 * (cOf 0 j).val))))

/-- A trip's stores. -/
def tripL (k : Fin k0_t1_loop.trips) : List (View.Piece (Elt F) S2048x128 .bf16) :=
  [⟨Rect.unit (s := S2048x128) (k0_off3 k 7#32) S64x128.size (k0_off3_inb k 7), rdOut arg2 arg7 arg8 v18 X_arg2 X_arg7 X_arg8 k 7⟩, ⟨Rect.unit (s := S2048x128) (k0_off3 k 6#32) S64x128.size (k0_off3_inb k 6), rdOut arg2 arg7 arg8 v18 X_arg2 X_arg7 X_arg8 k 6⟩, ⟨Rect.unit (s := S2048x128) (k0_off3 k 5#32) S64x128.size (k0_off3_inb k 5), rdOut arg2 arg7 arg8 v18 X_arg2 X_arg7 X_arg8 k 5⟩, ⟨Rect.unit (s := S2048x128) (k0_off3 k 4#32) S64x128.size (k0_off3_inb k 4), rdOut arg2 arg7 arg8 v18 X_arg2 X_arg7 X_arg8 k 4⟩, ⟨Rect.unit (s := S2048x128) (k0_off3 k 3#32) S64x128.size (k0_off3_inb k 3), rdOut arg2 arg7 arg8 v18 X_arg2 X_arg7 X_arg8 k 3⟩, ⟨Rect.unit (s := S2048x128) (k0_off3 k 2#32) S64x128.size (k0_off3_inb k 2), rdOut arg2 arg7 arg8 v18 X_arg2 X_arg7 X_arg8 k 2⟩, ⟨Rect.unit (s := S2048x128) (k0_off3 k 1#32) S64x128.size (k0_off3_inb k 1), rdOut arg2 arg7 arg8 v18 X_arg2 X_arg7 X_arg8 k 1⟩, ⟨Rect.unit (s := S2048x128) (k0_off3 k 0#32) S64x128.size (k0_off3_inb k 0), rdOut arg2 arg7 arg8 v18 X_arg2 X_arg7 X_arg8 k 0⟩]

/-- The masked group's stores. -/
def maskedL : List (View.Piece (Elt F) S2048x128 .bf16) :=
  [⟨Rect.unit (s := S2048x128) ![64 * (cOf 0 7).val, 0] S64x128.size (inbQ (cOf 0 7)), mOut arg2 arg7 arg8 v18 X_arg2 X_arg7 X_arg8 7⟩, ⟨Rect.unit (s := S2048x128) ![64 * (cOf 0 6).val, 0] S64x128.size (inbQ (cOf 0 6)), mOut arg2 arg7 arg8 v18 X_arg2 X_arg7 X_arg8 6⟩, ⟨Rect.unit (s := S2048x128) ![64 * (cOf 0 5).val, 0] S64x128.size (inbQ (cOf 0 5)), mOut arg2 arg7 arg8 v18 X_arg2 X_arg7 X_arg8 5⟩, ⟨Rect.unit (s := S2048x128) ![64 * (cOf 0 4).val, 0] S64x128.size (inbQ (cOf 0 4)), mOut arg2 arg7 arg8 v18 X_arg2 X_arg7 X_arg8 4⟩, ⟨Rect.unit (s := S2048x128) ![64 * (cOf 0 3).val, 0] S64x128.size (inbQ (cOf 0 3)), mOut arg2 arg7 arg8 v18 X_arg2 X_arg7 X_arg8 3⟩, ⟨Rect.unit (s := S2048x128) ![64 * (cOf 0 2).val, 0] S64x128.size (inbQ (cOf 0 2)), mOut arg2 arg7 arg8 v18 X_arg2 X_arg7 X_arg8 2⟩, ⟨Rect.unit (s := S2048x128) ![64 * (cOf 0 1).val, 0] S64x128.size (inbQ (cOf 0 1)), mOut arg2 arg7 arg8 v18 X_arg2 X_arg7 X_arg8 1⟩, ⟨Rect.unit (s := S2048x128) ![64 * (cOf 0 0).val, 0] S64x128.size (inbQ (cOf 0 0)), mOut arg2 arg7 arg8 v18 X_arg2 X_arg7 X_arg8 0⟩]

theorem trip_eq (k : Fin k0_t1_loop.trips) : tripL_k0_t1 (F := F) 𝒱 c bd i arg2 harg2 arg3 harg3 arg4 harg4 arg5 harg5 arg6 harg6 arg7 harg7 arg8 harg8 v18 X_arg2 X_arg7 X_arg8 k = tripL arg2 arg7 arg8 v18 X_arg2 X_arg7 X_arg8 k := by
  sl_kernel_rfl

variable (x0 x1 x2 : FVec F S2048x128 .bf16) (x3 : FVec F S2x64x576 .f32)
variable (h2 : arg2.view.read (Elt F) X_arg2 = x0) (h7 : arg7.view.read (Elt F) X_arg7 = padded x1) (h8 : arg8.view.read (Elt F) X_arg8 = padded x2)
variable (hb : v18 = x3)
include h2 h7 h8 hb

theorem rdOut_eq (k : Fin k0_t1_loop.trips) (j : Fin 8) : rdOut arg2 arg7 arg8 v18 X_arg2 X_arg7 X_arg8 k j = blockOut x0 x1 x2 x3 (cOf (gOf k) j) := by
  unfold rdOut blockOut
  rw [View.readAt_unit arg2.view _ _ (off3 k j) (inbQ _), View.readAt_unit arg7.view _ _ (off4 k j) (inbB _), View.readAt_unit arg8.view _ _ (off4 k j) (inbB _),
    h2, h7, h8, hb, if_neg (by show ¬ 8 * (k.val + 1) + j.val < 8; omega)]

theorem mOut_eq (j : Fin 8) : mOut arg2 arg7 arg8 v18 X_arg2 X_arg7 X_arg8 j = blockOut x0 x1 x2 x3 (cOf 0 j) := by
  unfold mOut blockOut
  rw [View.readAt_unit arg2.view _ _ rfl (inbQ _), View.readAt_unit arg7.view _ _ rfl (inbB _), View.readAt_unit arg8.view _ _ rfl (inbB _),
    h2, h7, h8, hb, if_pos (by show 8 * 0 + j.val < 8; omega)]

theorem trip_read (v : View sig .tc .vmem S2048x128 .bf16) (f : BufTy.Contents (Elt F) v.ty) (L : List (View.Piece (Elt F) S2048x128 .bf16)) (k : Fin k0_t1_loop.trips)
    (R : FVec F S2048x128 .bf16) (h : v.read (Elt F) (v.writes (Elt F) f L) = foldTo (putStep (blockOut x0 x1 x2 x3)) R (8 * (gOf k).val)) :
    v.read (Elt F) (v.writes (Elt F) f (tripL arg2 arg7 arg8 v18 X_arg2 X_arg7 X_arg8 k ++ L)) = foldTo (putStep (blockOut x0 x1 x2 x3)) R (8 * (gOf k).val + 8) := by
  unfold tripL
  simp only [rdOut_eq arg2 arg7 arg8 v18 X_arg2 X_arg7 X_arg8 x0 x1 x2 x3 h2 h7 h8 hb k, List.cons_append, List.nil_append]
  rw [foldTo_eight, ← h]
  generalize hg : gOf k = g
  refine (read_put v f _ _ (cOf g 7) (hg ▸ off3 k 7)).trans (congrArg _ ?_)
  refine (read_put v f _ _ (cOf g 6) (hg ▸ off3 k 6)).trans (congrArg _ ?_)
  refine (read_put v f _ _ (cOf g 5) (hg ▸ off3 k 5)).trans (congrArg _ ?_)
  refine (read_put v f _ _ (cOf g 4) (hg ▸ off3 k 4)).trans (congrArg _ ?_)
  refine (read_put v f _ _ (cOf g 3) (hg ▸ off3 k 3)).trans (congrArg _ ?_)
  refine (read_put v f _ _ (cOf g 2) (hg ▸ off3 k 2)).trans (congrArg _ ?_)
  refine (read_put v f _ _ (cOf g 1) (hg ▸ off3 k 1)).trans (congrArg _ ?_)
  refine (read_put v f _ _ (cOf g 0) (hg ▸ off3 k 0)).trans (congrArg _ ?_)
  rfl

theorem masked_read (v : View sig .tc .vmem S2048x128 .bf16) (f : BufTy.Contents (Elt F) v.ty) :
    v.read (Elt F) (v.writes (Elt F) f (maskedL arg2 arg7 arg8 v18 X_arg2 X_arg7 X_arg8)) = foldTo (putStep (blockOut x0 x1 x2 x3)) (v.read (Elt F) f) 8 := by
  unfold maskedL
  simp only [mOut_eq arg2 arg7 arg8 v18 X_arg2 X_arg7 X_arg8 x0 x1 x2 x3 h2 h7 h8 hb]
  refine Eq.trans ?_ (foldTo_eight (putStep (blockOut x0 x1 x2 x3)) (v.read (Elt F) f) 0).symm
  refine (read_put v f _ _ (cOf 0 7) rfl).trans (congrArg _ ?_)
  refine (read_put v f _ _ (cOf 0 6) rfl).trans (congrArg _ ?_)
  refine (read_put v f _ _ (cOf 0 5) rfl).trans (congrArg _ ?_)
  refine (read_put v f _ _ (cOf 0 4) rfl).trans (congrArg _ ?_)
  refine (read_put v f _ _ (cOf 0 3) rfl).trans (congrArg _ ?_)
  refine (read_put v f _ _ (cOf 0 2) rfl).trans (congrArg _ ?_)
  refine (read_put v f _ _ (cOf 0 1) rfl).trans (congrArg _ ?_)
  refine (read_put v f _ _ (cOf 0 0) rfl).trans (congrArg _ ?_)
  rfl

theorem all_read (v : View sig .tc .vmem S2048x128 .bf16) (f : BufTy.Contents (Elt F) v.ty) (n : ℕ) (hn : n ≤ k0_t1_loop.trips) :
    v.read (Elt F) (v.writes (Elt F) f (pb_k0_t1 (F := F) 𝒱 c bd i arg2 harg2 arg3 harg3 arg4 harg4 arg5 harg5 arg6 harg6 arg7 harg7 arg8 harg8 v18 X_arg2 X_arg7 X_arg8 n ++ maskedL arg2 arg7 arg8 v18 X_arg2 X_arg7 X_arg8))
      = foldTo (putStep (blockOut x0 x1 x2 x3)) (v.read (Elt F) f) (8 * n + 8) := by
  induction n with
  | zero => exact masked_read arg2 arg7 arg8 v18 X_arg2 X_arg7 X_arg8 x0 x1 x2 x3 h2 h7 h8 hb v f
  | succ n ih =>
    rw [pb_k0_t1_succ (F := F) 𝒱 c bd i arg2 harg2 arg3 harg3 arg4 harg4 arg5 harg5 arg6 harg6 arg7 harg7 arg8 harg8 v18 X_arg2 X_arg7 X_arg8 ⟨n, hn⟩, trip_eq, List.append_assoc]
    exact trip_read arg2 arg7 arg8 v18 X_arg2 X_arg7 X_arg8 x0 x1 x2 x3 h2 h7 h8 hb v f _ ⟨n, hn⟩ _ (ih (by omega))

end Run

theorem run_pieces (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .bf16) (harg6 : arg6.IsWhole) (arg7 : Memref sig .tc .vmem S2560x128 .f32) (harg7 : arg7.IsWhole) (arg8 : Memref sig .tc .vmem S2560x128 .f32) (harg8 : arg8.IsWhole) (x0 x1 x2 : Vec F S2048x128 .bf16) (x3 : Vec F S2x64x576 .f32) :
    (kernelRun0_A c i arg2 harg2 arg3 harg3 arg4 harg4 arg5 harg5 arg6 harg6 arg7 harg7 arg8 harg8 x0 x1 x2 x3).1
      = pb_k0_t1 (F := F) Variants.none c none i arg2 harg2 arg3 harg3 arg4 harg4 arg5 harg5 arg6 harg6 arg7 harg7 arg8 harg8 (arg5.view.readAt (Elt F) (Rect.unit (s := S2x64x576) ![0, 0, 0] S2x64x576.size (by decide)).toLoadRect (harg5.unread x3)) (harg2.unread x0)
          (arg7.view.writes (Elt F) arg7.view.junk (padL (arg3.view.readAt (Elt F) (Rect.unit (s := S2048x128) ![0, 0] S2048x128.size (by decide)).toLoadRect (harg3.unread x1))))
          (arg8.view.writes (Elt F) arg8.view.junk (padL (arg4.view.readAt (Elt F) (Rect.unit (s := S2048x128) ![0, 0] S2048x128.size (by decide)).toLoadRect (harg4.unread x2)))) k0_t1_loop.trips
        ++ maskedL arg2 arg7 arg8 (arg5.view.readAt (Elt F) (Rect.unit (s := S2x64x576) ![0, 0, 0] S2x64x576.size (by decide)).toLoadRect (harg5.unread x3)) (harg2.unread x0)
          (arg7.view.writes (Elt F) arg7.view.junk (padL (arg3.view.readAt (Elt F) (Rect.unit (s := S2048x128) ![0, 0] S2048x128.size (by decide)).toLoadRect (harg3.unread x1))))
          (arg8.view.writes (Elt F) arg8.view.junk (padL (arg4.view.readAt (Elt F) (Rect.unit (s := S2048x128) ![0, 0] S2048x128.size (by decide)).toLoadRect (harg4.unread x2)))) := by
  sl_kernel_rfl

/-- What the body leaves in its output block. -/
theorem out_eq (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x64x576 .f32) (harg5 : arg5.IsWhole) (arg6 : Memref sig .tc .vmem S2048x128 .bf16) (harg6 : arg6.IsWhole) (arg7 : Memref sig .tc .vmem S2560x128 .f32) (harg7 : arg7.IsWhole) (arg8 : Memref sig .tc .vmem S2560x128 .f32) (harg8 : arg8.IsWhole) (x0 x1 x2 : Vec F S2048x128 .bf16) (x3 : Vec F S2x64x576 .f32) :
    out0_A_4 c i arg2 harg2 arg3 harg3 arg4 harg4 arg5 harg5 arg6 harg6 arg7 harg7 arg8 harg8 x0 x1 x2 x3 = wholeOut (blockOut x0 x1 x2 x3) := by
  unfold out0_A_4
  rw [run_pieces, all_read Variants.none c none i arg2 harg2 arg3 harg3 arg4 harg4 arg5 harg5 arg6 harg6 arg7 harg7 arg8 harg8 _ _ _ _ x0 x1 x2 x3 (harg2.read_unread x0)
    ((read_pad arg7.view _ _).trans (congrArg padded ((View.readAt_full _ _ _).trans (harg3.read_unread x1))))
    ((read_pad arg8.view _ _).trans (congrArg padded ((View.readAt_full _ _ _).trans (harg4.read_unread x2))))
    ((View.readAt_full _ _ _).trans (harg5.read_unread x3)) _ _ _ le_rfl]
  funext y
  have hy : (y 0).val < 2048 := (y 0).isLt
  rw [show 8 * k0_t1_loop.trips + 8 = 32 by sl_kernel_rfl]
  exact putAll_apply _ _ y 32 le_rfl (by omega)

end Cert.Kernel28Ideal.Attn
-- ==== Proof.Fwd.Spec.lean ====
module

public import proofs.«01_k».proof.Proof.Attn.Spec

@[expose] public section

set_option maxRecDepth 16384

noncomputable section

namespace Cert.Fwd

open Idealize.ShloMosaic Cert.Attn

/-! # The forward attention's output: real weights, values of any kind -/

variable (a : Args) (B : Fin 8 → Fin 64 → Fin 576 → ℝ) (x : FVec Ideal ⟨2, ![4096, 5760]⟩ .bf16)

/-- A chunk's queries, keys and bias. -/
def chunk (β : Fin 2) (h : Fin 8) (n : Fin 32) : Chunk :=
  { a.chunk β h n with V := fun _ _ => 0, B := B h, G := fun _ _ => 0 }

/-- The values of one head, 512 rows of zeros before them. -/
def vals (β : Fin 2) (h : Fin 8) (t : Fin 2560) (d : Fin 64) : EReal :=
  if ht : 512 ≤ t.val then x (ix2 ⟨2048 * β.val + (t.val - 512), by omega⟩ ⟨1024 + 64 * h.val + d.val, by omega⟩) else 0

/-- The output of row `i` of chunk `n`. -/
def item (β : Fin 2) (h : Fin 8) (n : Fin 32) (i d : Fin 64) : EReal :=
  ∑ κ : Fin 576, ((chunk a B β h n).P i κ : EReal) * vals x β h ⟨64 * n.val + κ.val, by omega⟩ d

/-- The output, over the whole array. -/
def rows : FVec Ideal ⟨2, ![4096, 512]⟩ .bf16 := fun y =>
  have h0 : (y 0).val < 4096 := (y 0).isLt
  have h1 : (y 1).val < 512 := (y 1).isLt
  item a B x ⟨(y 0).val / 2048, by omega⟩ ⟨(y 1).val / 64, by omega⟩ ⟨(y 0).val % 2048 / 64, by omega⟩ ⟨(y 0).val % 64, by omega⟩ ⟨(y 1).val % 64, by omega⟩

theorem rows_at (β : Fin 2) (h : Fin 8) (n : Fin 32) (i d : Fin 64) (r : Fin 4096) (l : Fin 512)
    (hr : r.val = 2048 * β.val + (64 * n.val + i.val)) (hl : l.val = 64 * h.val + d.val) : rows a B x (ix2 r l) = item a B x β h n i d := by
  have e1 : (⟨r.val / 2048, by omega⟩ : Fin 2) = β := Fin.ext (by simp only; omega)
  have e2 : (⟨l.val / 64, by omega⟩ : Fin 8) = h := Fin.ext (by simp only; omega)
  have e3 : (⟨r.val % 2048 / 64, by omega⟩ : Fin 32) = n := Fin.ext (by simp only; omega)
  have e4 : (⟨r.val % 64, by omega⟩ : Fin 64) = i := Fin.ext (by simp only; omega)
  have e5 : (⟨l.val % 64, by omega⟩ : Fin 64) = d := Fin.ext (by simp only; omega)
  show item a B x ⟨r.val / 2048, _⟩ ⟨l.val / 64, _⟩ ⟨r.val % 2048 / 64, _⟩ ⟨r.val % 64, _⟩ ⟨l.val % 64, _⟩ = _
  rw [e1, e2, e3, e4, e5]

end Cert.Fwd
-- ==== Proof.Fwd.Block.lean ====
module

public import proofs.«01_k».proof.Proof.Attn.IdealBlock
public import proofs.«01_k».proof.Proof.Fwd.Run
public import proofs.«01_k».proof.Proof.Fwd.Spec

@[expose] public section

set_option maxRecDepth 16384

noncomputable section

namespace Cert.Kernel28Ideal.Attn

open Idealize.ShloMosaic Cert.Kernel28Ideal Cert.Kernel28Ideal.Gen Cert.Attn
open Cert.KernelIdeal.Attn (onLanes lanes lanes_at select_bit probs nar padded padded_at inbQ inbB validOf valid_word window_at ln hd head In Reads)

/-! # A block of the forward attention's output over the extended real numbers -/

/-- One head's lanes of an array. -/
theorem onLanes_ite (e e' : Bool) (x : FVec Ideal S64x128 .f32) (i d : Fin 64) :
    onLanes e x (ix2 i (ln e' d)) = if e == e' then x (ix2 i (ln e' d)) else 0 := by
  rw [show onLanes e x (ix2 i (ln e' d)) = Scalar.select (lanes e (ix2 i (ln e' d))) (x (ix2 i (ln e' d))) (Ideal.ofBits .f32 0x00000000#32) from rfl,
    lanes_at, select_bit, Ideal.ofBits_zero_f32]

/-- Weights times values. -/
theorem product_at (p : FVec Ideal S64x576 .bf16) (v : FVec Ideal S576x128 .bf16) (i : Fin 64) (l : Fin 128) :
    matmul dot_S64x576_S576x128_S64x128_1_0_0_1_n_n none p v (constant S64x128 .f32 0x00000000#32) (ix2 i l) = ∑ κ, p (ix2 i κ) * v (ix2 κ l) := by
  pointwise []

theorem chunkOut_at (q : FVec Ideal S64x128 .bf16) (k v : FVec Ideal S576x128 .f32) (b : FVec Ideal S2x64x576 .f32) (vd : Option (IVec S64x576 1))
    (e : Bool) (i d : Fin 64) : chunkOut q k v b vd (ix2 i (ln e d)) = ∑ κ, probs e q k b vd (ix2 i κ) * v (ix2 κ (ln e d)) := by
  unfold chunkOut
  refine (congrArg₂ (fun y z : EReal => y + z) (onLanes_ite false e _ i d) (onLanes_ite true e _ i d)).trans ?_
  cases e
  · rw [if_pos (by rfl), if_neg (by decide), add_zero]
    exact product_at _ _ i (ln false d)
  · rw [if_neg (by decide), if_pos (by rfl), zero_add]
    exact product_at _ _ i (ln true d)

/-- The block's windows hold the arguments' entries. -/
structure BlockReads (a : Args) (B : Fin 8 → Fin 64 → Fin 576 → ℝ) (x : FVec Ideal S4096x5760 .bf16) (β : Fin 2) (hp : Fin 4)
    (x0 x1 x2 : FVec Ideal S2048x128 .bf16) (x3 : FVec Ideal S2x64x576 .f32) : Prop where
  q : ∀ (s : Fin 2048) e (d : Fin 64), x0 (ix2 s (ln e d)) = (a.A ⟨2048 * β.val + s.val, by omega⟩ ⟨64 * (head hp e).val + d.val, by omega⟩ : EReal)
  k : ∀ (s : Fin 2048) e (d : Fin 64), x1 (ix2 s (ln e d)) = (a.A ⟨2048 * β.val + s.val, by omega⟩ ⟨512 + 64 * (head hp e).val + d.val, by omega⟩ : EReal)
  v : ∀ (s : Fin 2048) e (d : Fin 64), x2 (ix2 s (ln e d)) = x (ix2 ⟨2048 * β.val + s.val, by omega⟩ ⟨1024 + 64 * (head hp e).val + d.val, by omega⟩)
  b : ∀ e (i : Fin 64) (κ : Fin 576), x3 (ix3 (hd e) i κ) = (B (head hp e) i κ : EReal)

namespace BlockReads

variable {a : Args} {B : Fin 8 → Fin 64 → Fin 576 → ℝ} {x : FVec Ideal S4096x5760 .bf16} {β : Fin 2} {hp : Fin 4}
variable {x0 x1 x2 : FVec Ideal S2048x128 .bf16} {x3 : FVec Ideal S2x64x576 .f32} (h : BlockReads a B x β hp x0 x1 x2 x3)
include h

/-- What chunk `c`'s weights are made of. -/
theorem reads (c : Fin 32) : Reads
    { q := VecWindow.window x0 ![64 * c.val, 0] S64x128.size (inbQ c), k := VecWindow.window (padded x1) ![64 * c.val, 0] S576x128.size (inbB c), v := fun _ => ((0 : ℝ) : EReal),
      b := x3, dy := fun _ => ((0 : ℝ) : EReal), vd := if c.val < 8 then some (validOf (BitVec.ofNat 32 (64 * c.val))) else none }
    (fun e => Fwd.chunk a B β (head hp e) c) where
  q e i d := (window_at (n0 := 2048) (m0 := 64) (n1 := 128) x0 (64 * c.val) (inbQ c) i (ln e d) (by omega)).trans (h.q ⟨64 * c.val + i.val, by omega⟩ e d)
  k e κ d := (window_at (n0 := 2560) (m0 := 576) (n1 := 128) (padded x1) (64 * c.val) (inbB c) κ (ln e d) (by omega)).trans
    (padded_at a 512 (by omega) β (head hp e) x1 e (fun s d => h.k s e d) ⟨64 * c.val + κ.val, by omega⟩ d)
  v e κ d := rfl
  b e i κ := h.b e i κ
  dy e i d := rfl
  vd := by
    by_cases hc : c.val < 8
    · refine .inr ⟨validOf (BitVec.ofNat 32 (64 * c.val)), if_pos hc, fun e i κ => ?_⟩
      pointwise [validOf]
      exact valid_word ⟨c.val, hc⟩ κ
    · exact .inl ⟨if_neg hc, fun e κ => decide_eq_true (show 512 ≤ 64 * c.val + κ.val by omega)⟩

theorem vals_at (e : Bool) (t : Fin 2560) (d : Fin 64) : padded x2 (ix2 t (ln e d)) = Fwd.vals x β (head hp e) t d := by
  unfold padded Fwd.vals
  by_cases ht : 512 ≤ t.val
  · rw [dif_pos (show 512 ≤ ((ix2 t (ln e d) : S2560x128.Idx) 0).val from ht), dif_pos ht]
    exact h.v ⟨t.val - 512, by omega⟩ e d
  · rw [dif_neg (show ¬ 512 ≤ ((ix2 t (ln e d) : S2560x128.Idx) 0).val from ht), dif_neg ht]
    exact Ideal.ofBits_zero_f32

theorem blockOut_at (c : Fin 32) (e : Bool) (i d : Fin 64) : blockOut x0 x1 x2 x3 c (ix2 i (ln e d)) = Fwd.item a B x β (head hp e) c i d := by
  unfold blockOut Fwd.item
  rw [chunkOut_at]
  refine Finset.sum_congr rfl fun κ _ => congrArg₂ (fun y z : EReal => y * z) ((h.reads c).p_at e i κ) ?_
  exact (window_at (n0 := 2560) (m0 := 576) (n1 := 128) (padded x2) (64 * c.val) (inbB c) κ (ln e d) (by omega)).trans (h.vals_at e ⟨64 * c.val + κ.val, by omega⟩ d)

/-- The block's output. -/
theorem out_at (s : Fin 2048) (e : Bool) (d : Fin 64) :
    wholeOut (blockOut x0 x1 x2 x3) (ix2 s (ln e d)) = Fwd.item a B x β (head hp e) ⟨s.val / 64, by omega⟩ ⟨s.val % 64, by omega⟩ d :=
  (congrArg (blockOut x0 x1 x2 x3 ⟨s.val / 64, by omega⟩) (ix2_eq_valueIdx _ _).symm).trans (h.blockOut_at ⟨s.val / 64, by omega⟩ e ⟨s.val % 64, by omega⟩ d)

end BlockReads

end Cert.Kernel28Ideal.Attn
-- ==== Proof.Fwd.Arrays.lean ====
module

public import proofs.«01_k».proof.Proof.Attn.Arrays
public import proofs.«01_k».proof.Proof.Fwd.Block
public import proofs.«01_k».proof.Proof.Gen.Kernel28Ideal.Value

@[expose] public section

set_option maxRecDepth 16384

noncomputable section

namespace Cert.Kernel28Ideal.Attn

open Idealize.ShloMosaic Idealize.ShloMosaic.TcCoe Idealize.SL.Sem Cert.Kernel28Ideal Cert.Kernel28Ideal.Gen Cert.Kernel28Ideal.Value Cert.Attn
open Cert.KernelIdeal.Attn (ln hd head ln_val hd_val ln_onto)

/-! # The forward attention's array, from the grid's blocks -/

theorem points (t : Fin cfg0.N) : t.val < 8 := lt_of_lt_of_eq t.isLt (show cfg0.N = 8 from N_0)

/-- Where each window's block starts: a point's remainder by two is its batch member, the quotient its pair of heads. -/
theorem starts : ∀ t : Fin cfg0.N,
    (win0_0.index t (0 : Fin 2) = t.val % 2 ∧ win0_0.index t (1 : Fin 2) = t.val / 2)
    ∧ (win0_1.index t (0 : Fin 2) = t.val % 2 ∧ win0_1.index t (1 : Fin 2) = 4 + t.val / 2)
    ∧ (win0_2.index t (0 : Fin 2) = t.val % 2 ∧ win0_2.index t (1 : Fin 2) = 8 + t.val / 2)
    ∧ (win0_3.index t (0 : Fin 3) = t.val / 2 ∧ win0_3.index t (1 : Fin 3) = 0 ∧ win0_3.index t (2 : Fin 3) = 0)
    ∧ (win0_4.index t (0 : Fin 2) = t.val % 2 ∧ win0_4.index t (1 : Fin 2) = t.val / 2) := (by decide +kernel : ∀ t : Fin grid0.N, _)

theorem emb_4 (t : Fin cfg0.N) (s : Fin 2048) (l : Fin 128) :
    ((cfg0.win 4).blk t).view.emb (ix2 s l) = (ix2 (n0 := 4096) (n1 := 512) ⟨2048 * (t.val % 2) + s.val, by omega⟩ ⟨128 * (t.val / 2) + l.val, by have := points t; omega⟩) := by
  obtain ⟨e0, e1⟩ := (starts t).2.2.2.2
  funext a; apply Fin.ext
  match a with
  | ⟨0, _⟩ => show win0_4.index t (0 : Fin 2) * 2048 + 1 * s.val = 2048 * (t.val % 2) + s.val; omega
  | ⟨1, _⟩ => show win0_4.index t (1 : Fin 2) * 128 + 1 * l.val = 128 * (t.val / 2) + l.val; omega

variable (m : (ℓ : Loc nD τ sig) → Buf (Elt Ideal) ℓ) (c : Dev nD)

/-- The arguments. -/
abbrev arg0 : FVec Ideal S4096x5760 .bf16 := m ((c : Thread nD τ).loc main_arg0)
abbrev arg1 : FVec Ideal S8x64x576 .f32 := m ((c : Thread nD τ).loc main_arg1)

theorem blk_0 (t : Fin cfg0.N) (s : Fin 2048) (l : Fin 128) :
    iblk m c 0 t (ix2 s l) = arg0 m c (ix2 ⟨2048 * (t.val % 2) + s.val, by omega⟩ ⟨128 * (t.val / 2) + l.val, by have := points t; omega⟩) := by
  obtain ⟨e0, e1⟩ := (starts t).1
  show V m c main_arg0 (((cfg0.win 0).blk t).view.emb (ix2 s l)) = _
  rw [V_main_arg0]
  refine congrArg (arg0 m c) (funext fun a => Fin.ext ?_)
  match a with
  | ⟨0, _⟩ => show win0_0.index t (0 : Fin 2) * 2048 + 1 * s.val = 2048 * (t.val % 2) + s.val; omega
  | ⟨1, _⟩ => show win0_0.index t (1 : Fin 2) * 128 + 1 * l.val = 128 * (t.val / 2) + l.val; omega

theorem blk_1 (t : Fin cfg0.N) (s : Fin 2048) (l : Fin 128) :
    iblk m c 1 t (ix2 s l) = arg0 m c (ix2 ⟨2048 * (t.val % 2) + s.val, by omega⟩ ⟨512 + 128 * (t.val / 2) + l.val, by have := points t; omega⟩) := by
  obtain ⟨e0, e1⟩ := (starts t).2.1
  show V m c main_arg0 (((cfg0.win 1).blk t).view.emb (ix2 s l)) = _
  rw [V_main_arg0]
  refine congrArg (arg0 m c) (funext fun a => Fin.ext ?_)
  match a with
  | ⟨0, _⟩ => show win0_1.index t (0 : Fin 2) * 2048 + 1 * s.val = 2048 * (t.val % 2) + s.val; omega
  | ⟨1, _⟩ => show win0_1.index t (1 : Fin 2) * 128 + 1 * l.val = 512 + 128 * (t.val / 2) + l.val; omega

theorem blk_2 (t : Fin cfg0.N) (s : Fin 2048) (l : Fin 128) :
    iblk m c 2 t (ix2 s l) = arg0 m c (ix2 ⟨2048 * (t.val % 2) + s.val, by omega⟩ ⟨1024 + 128 * (t.val / 2) + l.val, by have := points t; omega⟩) := by
  obtain ⟨e0, e1⟩ := (starts t).2.2.1
  show V m c main_arg0 (((cfg0.win 2).blk t).view.emb (ix2 s l)) = _
  rw [V_main_arg0]
  refine congrArg (arg0 m c) (funext fun a => Fin.ext ?_)
  match a with
  | ⟨0, _⟩ => show win0_2.index t (0 : Fin 2) * 2048 + 1 * s.val = 2048 * (t.val % 2) + s.val; omega
  | ⟨1, _⟩ => show win0_2.index t (1 : Fin 2) * 128 + 1 * l.val = 1024 + 128 * (t.val / 2) + l.val; omega

theorem blk_3 (t : Fin cfg0.N) (e : Fin 2) (i : Fin 64) (κ : Fin 576) :
    iblk m c 3 t (ix3 e i κ) = arg1 m c (ix3 ⟨2 * (t.val / 2) + e.val, by have := points t; omega⟩ i κ) := by
  obtain ⟨e0, e1, e2⟩ := (starts t).2.2.2.1
  show V m c main_arg1 (((cfg0.win 3).blk t).view.emb (ix3 e i κ)) = _
  rw [V_main_arg1]
  refine congrArg (arg1 m c) (funext fun a => Fin.ext ?_)
  match a with
  | ⟨0, _⟩ => show win0_3.index t (0 : Fin 3) * 2 + 1 * e.val = 2 * (t.val / 2) + e.val; omega
  | ⟨1, _⟩ => show win0_3.index t (1 : Fin 3) * 64 + 1 * i.val = i.val; omega
  | ⟨2, _⟩ => show win0_3.index t (2 : Fin 3) * 576 + 1 * κ.val = κ.val; omega

/-- A point's batch member and pair of heads. -/
def member (t : Fin cfg0.N) : Fin 2 := ⟨t.val % 2, by omega⟩
def pair (t : Fin cfg0.N) : Fin 4 := ⟨t.val / 2, by have := points t; omega⟩

/-- Every row and lane is written at one point. -/
theorem onto (r : Fin 4096) (l : Fin 512) : ∃ (t : Fin cfg0.N) (s : Fin 2048) (k : Fin 128), r.val = 2048 * (t.val % 2) + s.val ∧ l.val = 128 * (t.val / 2) + k.val :=
  ⟨⟨2 * (l.val / 128) + r.val / 2048, by show _ < cfg0.N; rw [show cfg0.N = 8 from N_0]; omega⟩, ⟨r.val % 2048, by omega⟩, ⟨l.val % 128, by omega⟩,
    by show r.val = 2048 * ((2 * (l.val / 128) + r.val / 2048) % 2) + r.val % 2048; omega,
    by show l.val = 128 * ((2 * (l.val / 128) + r.val / 2048) / 2) + l.val % 128; omega⟩

variable (a : Args) (B : Fin 8 → Fin 64 → Fin 576 → ℝ)
  (hA : ∀ r l, l.val < 1024 → arg0 m c (ix2 r l) = (a.A r l : EReal)) (hB : ∀ h i κ, arg1 m c (ix3 h i κ) = (B h i κ : EReal))
include hA hB

theorem blockReads (t : Fin cfg0.N) : BlockReads a B (arg0 m c) (member t) (pair t) (iblk m c 0 t) (iblk m c 1 t) (iblk m c 2 t) (iblk m c 3 t) where
  q s e d := by
    rw [blk_0, hA _ _ (show 128 * (t.val / 2) + (ln e d).val < 1024 by have := points t; have := (ln e d).isLt; omega)]
    exact congrArg (fun l => (a.A _ l : EReal)) (Fin.ext (ln_val e d (pair t)))
  k s e d := by
    rw [blk_1, hA _ _ (show 512 + 128 * (t.val / 2) + (ln e d).val < 1024 by have := points t; have := (ln e d).isLt; omega)]
    exact congrArg (fun l => (a.A _ l : EReal)) (Fin.ext (show 512 + 128 * (pair t).val + (ln e d).val = 512 + 64 * (head (pair t) e).val + d.val by have := ln_val e d (pair t); omega))
  v s e d := by
    rw [blk_2]
    exact congrArg (fun l => arg0 m c (ix2 _ l)) (Fin.ext (show 1024 + 128 * (pair t).val + (ln e d).val = 1024 + 64 * (head (pair t) e).val + d.val by have := ln_val e d (pair t); omega))
  b e i κ := by
    rw [blk_3, hB]
    exact congrArg (fun h => (B h i κ : EReal)) (Fin.ext (hd_val e (pair t)))

/-- The output's array. -/
theorem final : (dats m 0 c).arrAt 4 cfg0.N = Fwd.rows a B (arg0 m c) := by
  refine (dats m 0 c).arrAt_eq_of_cover 4 (Fwd.rows a B (arg0 m c)) (fun t _ => ?_) (fun i => ?_)
  · funext j
    obtain ⟨s, l, rfl⟩ : ∃ (s : Fin 2048) (l : Fin 128), j = ix2 s l := ⟨j 0, j 1, funext fun a => by match a with | ⟨0, _⟩ => rfl | ⟨1, _⟩ => rfl⟩
    obtain ⟨e, d, rfl⟩ := ln_onto l
    rw [flushed4_A, out_eq]
    refine Eq.trans ((blockReads m c a B hA hB t).out_at s e d) ?_
    show _ = Fwd.rows a B (arg0 m c) (((cfg0.win 4).blk t).view.emb (ix2 s (ln e d)))
    rw [emb_4]
    exact (Fwd.rows_at a B (arg0 m c) (member t) (head (pair t) e) _ _ d _ _ (show 2048 * (t.val % 2) + s.val = 2048 * (t.val % 2) + (64 * (s.val / 64) + s.val % 64) by omega)
      (ln_val e d (pair t))).symm
  · obtain ⟨r, l, rfl⟩ : ∃ (r : Fin 4096) (l : Fin 512), i = ix2 r l := ⟨i 0, i 1, funext fun a => by match a with | ⟨0, _⟩ => rfl | ⟨1, _⟩ => rfl⟩
    obtain ⟨t, s, k, h0, h1⟩ := onto r l
    refine ⟨t, flush0_4 t, ?_⟩
    have h := ((cfg0.win 4).blk t).view.emb_mem_set (ix2 s k)
    rw [emb_4] at h
    rwa [show (ix2 r l : S4096x512.Idx) = ix2 ⟨2048 * (t.val % 2) + s.val, by omega⟩ ⟨128 * (t.val / 2) + k.val, by omega⟩ from congrArg₂ ix2 (Fin.ext h0) (Fin.ext h1)]

end Cert.Kernel28Ideal.Attn
-- ==== Proof.Fwd.Ref.lean ====
module

public import proofs.«01_k».proof.Proof.Gen.Reference28Ideal.Read
public import proofs.«01_k».proof.Proof.Fwd.Spec

@[expose] public section

set_option maxRecDepth 16384
set_option maxHeartbeats 8000000

noncomputable section

namespace Cert.Reference28Ideal.Attn

open Idealize.ShloMosaic Cert.Reference28Ideal Cert.Reference28Ideal.Gen Cert.Reference28Ideal.Value Cert.Reference28Ideal.Read Cert.Attn

variable (a : Args) (x0 : FVec Ideal S4096x5760 .bf16) (h0 : ∀ r l, l.val < 1024 → x0 (ix2 r l) = (a.A r l : EReal))
variable (B : Fin 8 → Fin 64 → Fin 576 → ℝ) (x1 : FVec Ideal S8x64x576 .f32) (h1 : ∀ h i κ, x1 (ix3 h i κ) = (B h i κ : EReal))

/-! # The reference's forward attention, read at an index -/

theorem A_congr {r r' : Fin 4096} {l l' : Fin 5760} (hr : r.val = r'.val) (hl : l.val = l'.val) : (a.A r l : EReal) = (a.A r' l' : EReal) := by
  rw [Fin.ext hr, Fin.ext hl]

include h0 in
theorem v10 (β : Fin 2) (n : Fin 32) (i : Fin 64) (h : Fin 8) (d : Fin 64) :
    val_main_v10 (F := Ideal) x0 (ix5 β n i h d) = (((Fwd.chunk a B β h n).Q i d * (1 / 8) : ℝ) : EReal) := by
  pointwise [val_main_v10, val_main_v9, val_main_cst, val_main_v8, val_main_v3, val_main_v2, val_main_v1, val_main_v0]
  rw [h0 _ _ (by simp only; omega), word_eighth, EReal.coe_mul]
  refine congrArg (· * _) (A_congr a ?_ ?_) <;> simp only <;> omega

include h0 in
theorem v13 (β : Fin 2) (m : Fin 40) (r : Fin 64) (h : Fin 8) (d : Fin 64) :
    val_main_v13 (F := Ideal) x0 (ix5 β m r h d) = (a.pad 512 (by omega) β h ⟨64 * m.val + r.val, by omega⟩ d : EReal) := by
  pointwise [val_main_v13]
  unfold Args.pad
  by_cases hm : m.val < 8
  · rw [dif_pos hm, dif_neg (show ¬ 512 ≤ 64 * m.val + r.val by omega)]
    exact (show val_main_v11 (F := Ideal) _ = Ideal.ofBits .f32 0x00000000#32 from rfl).trans Ideal.ofBits_zero_f32
  · rw [dif_neg hm, dif_pos (show 512 ≤ 64 * m.val + r.val by omega)]
    pointwise [val_main_v12, val_main_v5, val_main_v4, val_main_v1, val_main_v0]
    rw [h0 _ _ (by simp only; omega)]
    refine A_congr a ?_ ?_ <;> simp only <;> omega

theorem v15 (β : Fin 2) (m : Fin 40) (r : Fin 64) (h : Fin 8) (d : Fin 64) :
    val_main_v15 (F := Ideal) x0 (ix5 β m r h d) = Fwd.vals x0 β h ⟨64 * m.val + r.val, by omega⟩ d := by
  pointwise [val_main_v15]
  unfold Fwd.vals
  by_cases hm : m.val < 8
  · rw [dif_pos hm, dif_neg (show ¬ 512 ≤ 64 * m.val + r.val by omega)]
    exact (show val_main_v11 (F := Ideal) _ = Ideal.ofBits .f32 0x00000000#32 from rfl).trans Ideal.ofBits_zero_f32
  · rw [dif_neg hm, dif_pos (show 512 ≤ 64 * m.val + r.val by omega)]
    pointwise [val_main_v14, val_main_v7, val_main_v6, val_main_v1, val_main_v0]
    refine congrArg₂ (fun r l => x0 (ix2 r l)) (Fin.ext ?_) (Fin.ext ?_) <;> simp only <;> omega

include h0 in
/-- The scores before mask and bias. -/
theorem v44 (β : Fin 2) (n : Fin 32) (i : Fin 64) (κ : Fin 576) (h : Fin 8) :
    val_main_v44 (F := Ideal) x0 (ix5 β h n i κ) = ((∑ d, ((Fwd.chunk a B β h n).Q i d * (1 / 8)) * (Fwd.chunk a B β h n).K κ d : ℝ) : EReal) := by
  have key : ∀ k : Fin 2560, k.val = 64 * n.val + κ.val →
      ((∑ d, ((Fwd.chunk a B β h n).Q i d * (1 / 8)) * a.pad 512 (by omega) β h k d : ℝ) : EReal)
        = ((∑ d, ((Fwd.chunk a B β h n).Q i d * (1 / 8)) * (Fwd.chunk a B β h n).K κ d : ℝ) : EReal) := by
    intro k e
    rw [show k = ⟨64 * n.val + κ.val, by omega⟩ from Fin.ext e]
    rfl
  pointwise [val_main_v44, val_main_v43, val_main_v34, val_main_v35, val_main_v36, val_main_v37, val_main_v38, val_main_v39, val_main_v40, val_main_v41, val_main_v42,
    val_main_v17, val_main_v19, val_main_v21, val_main_v23, val_main_v25, val_main_v27, val_main_v29, val_main_v31, val_main_v33,
    val_main_v16, val_main_v18, val_main_v20, val_main_v22, val_main_v24, val_main_v26, val_main_v28, val_main_v30, val_main_v32]
  simp only [v10 a x0 h0 B, v13 a x0 h0, mul_coe, sum_coe]
  repeat' split
  all_goals exact key _ (by simp only; omega)

theorem ok_word : ∀ (n : Fin 32) (j : Fin 9),
    IntOp.cmpi CmpIPredicate.sge (IntOp.addi (BitVec.ofNat 32 n.val) (BitVec.ofNat 32 j.val)) 8#32 = BitVec.ofBool (decide (8 ≤ n.val + j.val)) := by
  decide +kernel

/-- The mask. -/
theorem mask (β : Fin 2) (n : Fin 32) (i : Fin 64) (κ : Fin 576) (h : Fin 8) :
    val_main_call0_v1 (F := Ideal) (ix5 β h n i κ) = BitVec.ofBool ((Fwd.chunk a B β h n).ok κ) := by
  pointwise [val_main_call0_v1, val_main_v56, val_main_v55, val_main_v54, val_main_v53, val_main_v52, val_main_v51, val_main_v50, val_main_v49, val_main_v48, val_main_v47, val_main_v46, val_main_v45, val_main_c]
  rw [ok_word n ⟨κ.val / 64, by omega⟩]
  refine congrArg BitVec.ofBool ?_
  simp only [Fwd.chunk, Args.chunk, decide_eq_decide]
  omega

theorem cst_1 (j : S_.Idx) : val_main_cst_1 (F := Ideal) j = (low : EReal) := word_low

theorem cst_2 (j : S_.Idx) : val_main_cst_2 (F := Ideal) j = (⊥ : EReal) := word_bot

theorem cst_3 (j : S_.Idx) : val_main_cst_3 (F := Ideal) j = (⊥ : EReal) := word_bot

theorem select_ofBool (b : Bool) (x y : EReal) : Scalar.select (BitVec.ofBool b) x y = if b then x else y := by
  cases b <;> rfl

include h0 h1 in
theorem v59 (β : Fin 2) (n : Fin 32) (i : Fin 64) (κ : Fin 576) (h : Fin 8) :
    val_main_v59 (F := Ideal) x0 x1 (ix5 β h n i κ)
      = (((∑ d, ((Fwd.chunk a B β h n).Q i d * (1 / 8)) * (Fwd.chunk a B β h n).K κ d) + (Fwd.chunk a B β h n).B i κ : ℝ) : EReal) := by
  generalize hR : ((_ : ℝ) : EReal) = R
  unfold val_main_v59
  rw [addf_apply]
  pointwise [val_main_v58, val_main_v57]
  rw [v44 a x0 h0 B, h1, add_coe, ← hR]
  rfl

include h0 h1 in
theorem v60 (β : Fin 2) (n : Fin 32) (i : Fin 64) (κ : Fin 576) (h : Fin 8) :
    val_main_v60 (F := Ideal) x0 x1 (ix5 β h n i κ) = ((Fwd.chunk a B β h n).S i κ : EReal) := by
  show Scalar.select (val_main_call0_v1 (F := Ideal) (ix5 β h n i κ)) (val_main_v59 (F := Ideal) x0 x1 (ix5 β h n i κ)) (val_main_cst_1 (F := Ideal) (fun a => a.elim0)) = _
  rw [mask a B, v59 a x0 h0 B x1 h1, cst_1, select_ofBool, ite_coe]
  rfl

include h0 h1 in
theorem v63 (β : Fin 2) (n : Fin 32) (i : Fin 64) (h : Fin 8) :
    val_main_v63 (F := Ideal) x0 x1 (ix4 β h n i) = ((Fwd.chunk a B β h n).M i : EReal) := by
  unfold val_main_v63
  rw [maximumf_apply]
  pointwise [val_main_v62, cst_3, val_main_v61, cst_2, v60 a x0 h0 B x1 h1]
  rw [fold_max_coe _ ⟨(0 : Fin 576), Finset.mem_univ _⟩]
  exact max_eq_right bot_le

include h0 h1 in
theorem v67 (β : Fin 2) (n : Fin 32) (i : Fin 64) (κ : Fin 576) (h : Fin 8) :
    val_main_v67 (F := Ideal) x0 x1 (ix5 β h n i κ) = ((Fwd.chunk a B β h n).E i κ : EReal) := by
  pointwise [val_main_v67, val_main_v66, val_main_v65, val_main_v64, v60 a x0 h0 B x1 h1, v63 a x0 h0 B x1 h1, sub_coe, Ideal.exp_coe]
  rfl

include h0 h1 in
theorem v68 (β : Fin 2) (n : Fin 32) (i : Fin 64) (h : Fin 8) :
    val_main_v68 (F := Ideal) x0 x1 (ix4 β h n i) = ((Fwd.chunk a B β h n).L i : EReal) := by
  pointwise [val_main_v68, val_main_cst_4, v67 a x0 h0 B x1 h1, sum_coe]
  rfl

include h0 h1 in
/-- The weights. -/
theorem v71 (β : Fin 2) (n : Fin 32) (i : Fin 64) (κ : Fin 576) (h : Fin 8) :
    val_main_v71 (F := Ideal) x0 x1 (ix5 β h n i κ) = ((Fwd.chunk a B β h n).P i κ : EReal) := by
  pointwise [val_main_v71, val_main_v70, val_main_v69, v67 a x0 h0 B x1 h1, v68 a x0 h0 B x1 h1]
  rw [div_coe_coe ((Fwd.chunk a B β h n).L_ne i)]
  rfl

theorem nine (f : Fin 9 → EReal) : f 0 + f 1 + f 2 + f 3 + f 4 + f 5 + f 6 + f 7 + f 8 = ∑ j, f j := by
  rw [Fin.sum_univ_castSucc, Fin.sum_univ_eight]
  rfl

include h0 h1 in
/-- The products with the values, window by window. -/
theorem v125 (β : Fin 2) (n : Fin 32) (i : Fin 64) (h : Fin 8) (d : Fin 64) :
    val_main_v125 (F := Ideal) x0 x1 (ix5 β n i h d) = Fwd.item a B x0 β h n i d := by
  have key : ∀ (k : Fin 576) (t : Fin 2560) (y : Fin 576), k.val = y.val → t.val = 64 * n.val + y.val →
      Fwd.vals x0 β h t d * ((Fwd.chunk a B β h n).P i k : EReal)
        = ((Fwd.chunk a B β h n).P i y : EReal) * Fwd.vals x0 β h ⟨64 * n.val + y.val, by omega⟩ d := by
    intro k t y e e'
    rw [Fin.ext e, show t = ⟨64 * n.val + y.val, by omega⟩ from Fin.ext e', mul_comm]
  refine Eq.trans ?_ (Fin.sum_univ_tiles 9 64 rfl (fun κ : Fin 576 => ((Fwd.chunk a B β h n).P i κ : EReal) * Fwd.vals x0 β h ⟨64 * n.val + κ.val, by omega⟩ d)).symm
  refine Eq.trans ?_ (nine _)
  unfold val_main_v125 val_main_v119 val_main_v113 val_main_v107 val_main_v101 val_main_v95 val_main_v89 val_main_v83
  simp only [addf_apply, Ideal.addf_def]
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    pointwise [val_main_v77, val_main_v76, val_main_v75, val_main_v74, val_main_v73,
      val_main_v82, val_main_v81, val_main_v80, val_main_v79, val_main_v78,
      val_main_v88, val_main_v87, val_main_v86, val_main_v85, val_main_v84,
      val_main_v94, val_main_v93, val_main_v92, val_main_v91, val_main_v90,
      val_main_v100, val_main_v99, val_main_v98, val_main_v97, val_main_v96,
      val_main_v106, val_main_v105, val_main_v104, val_main_v103, val_main_v102,
      val_main_v112, val_main_v111, val_main_v110, val_main_v109, val_main_v108,
      val_main_v118, val_main_v117, val_main_v116, val_main_v115, val_main_v114,
      val_main_v124, val_main_v123, val_main_v122, val_main_v121, val_main_v120, val_main_v72, v15, v71 a x0 h0 B x1 h1]
    exact Finset.sum_congr rfl fun r _ => key _ _ _ (by simp only [Fin.val_ofNat]) (by simp only [Fin.val_ofNat] <;> omega)

include h0 h1 in
/-- The output. -/
theorem v128 (r : Fin 4096) (l : Fin 512) : val_main_v128 (F := Ideal) x0 x1 (ix2 r l) = Fwd.rows a B x0 (ix2 r l) := by
  generalize hR : Fwd.rows a B x0 (ix2 r l) = R
  pointwise [val_main_v128, val_main_v127, val_main_v126]
  rw [v125 a x0 h0 B x1 h1, ← hR]
  refine (Fwd.rows_at a B x0 _ _ _ _ _ r l ?_ ?_).symm <;> simp only <;> omega

end Cert.Reference28Ideal.Attn
-- ==== Proof.Fwd.Values.lean ====
module

public import proofs.«01_k».proof.Defs
public import proofs.«01_k».proof.Proof.Gen.Kernel28
public import proofs.«01_k».proof.Proof.Gen.Pre_finite_fwd
public import proofs.«01_k».proof.Proof.Gen.Reference28Ideal.Run
public import proofs.«01_k».proof.Proof.Fwd.Arrays
public import proofs.«01_k».proof.Proof.Fwd.Ref
public import proofs.«01_k».proof.Proof.Finite
public import Idealize.ShloMosaic.Lib.Claim
public import Idealize.ShloMosaic.Lib.Quiescent
public import Idealize.ShloMosaic.Lib.Tactic

@[expose] public section

set_option maxRecDepth 16384

noncomputable section

/-! # Both programs end with the forward attention's output -/

namespace Cert.Pre_finite_fwd

open Idealize.ShloMosaic

variable [hf : Facts]
open Facts

/-- The precondition read at every entry: queries, keys and bias are real numbers. -/
theorem reals (x0 : FVec Ideal S4096x5760 .bf16) (x1 : FVec Ideal S8x64x576 .f32) (h : fn (F := Ideal) x0 x1 = fun _ => 1#1) :
    (∀ r l, l.val < 1024 → x0 (ix2 r l) = ((x0 (ix2 r l) : EReal).toReal : EReal))
    ∧ (∀ h i κ, x1 (ix3 h i κ) = ((x1 (ix3 h i κ) : EReal).toReal : EReal)) := by
  have sub : Subsingleton S_.Idx := ⟨fun a b => funext fun k => k.elim0⟩
  have hj := congrFun h (Shape.Idx.first h_S_)
  dsimp only [fn] at hj
  obtain ⟨h0, h1⟩ := IntOp.andi_eq_one.1 hj
  refine ⟨fun r l hl => ?_, fun h i κ => Cert.Pre_finite.real_of_cmp _ (Host.reduce_andi_all _ _ _ _ _ h1 (ix3 h i κ))⟩
  have k : extractStridedSlice S4096x1024 ![0, 0] x0 slices_S4096x5760_S4096x1024_0_0 (ix2 r ⟨l.val, hl⟩) = x0 (ix2 r l) :=
    congrArg x0 (funext fun a => by
      match a with
      | ⟨0, _⟩ => exact Fin.ext (Nat.zero_add r.val)
      | ⟨1, _⟩ => exact Fin.ext (Nat.zero_add l.val))
  rw [← k]
  exact Cert.Pre_finite.real_of_cmp _ (Host.reduce_andi_all _ _ _ _ _ h0 (ix2 r ⟨l.val, hl⟩))

end Cert.Pre_finite_fwd

namespace Cert.Proof

open Idealize.ShloMosaic Idealize.ShloMosaic.TcCoe Idealize.SL.Sem Cert.Attn

theorem frame_kernel28 : Cert.quiescent_Kernel28 (hKernel28 := Cert.Kernel28.Gen.facts) := fun m ρ _ => by
  refine Eq.mp ?_ (Cert.Kernel28Ideal.Gen.frame (F := Bits) m ρ)
  sl_kernel_rfl

theorem frame_reference28 : Cert.quiescent_Reference28Ideal (hReference28Ideal := Cert.Reference28Ideal.Gen.facts) := fun m ρ _ =>
  (θ_run Cert.Reference28Ideal.defs _ _).mono (fun r h => ⟨fun c => (h c).2, sem_eq_zero_of_no_sems rfl r.2⟩) (Cert.Reference28Ideal.Value.run (F := Ideal) m ρ)

/-- The reference's result is the kernel's, of finite queries, keys and bias. -/
theorem algebra28 : Cert.algebraic_Kernel28Ideal_Reference28Ideal_pre_finite_fwd (hKernel28Ideal := Cert.Kernel28Ideal.Gen.facts)
    (hReference28Ideal := Cert.Reference28Ideal.Gen.facts) (hPre_finite_fwd := Cert.Pre_finite_fwd.Gen.facts) := by
  intro m g m' g' hpre hargs
  have fin := fun c => Cert.Pre_finite_fwd.reals (hf := Cert.Pre_finite_fwd.Gen.facts) _ _ (hpre c)
  let a : Dev Cert.Kernel28Ideal.nD → Args := fun c =>
    { A := fun r l => (Cert.Kernel28Ideal.Attn.arg0 m c (ix2 r l) : EReal).toReal, R := fun _ _ => 0, D := fun _ _ => 0 }
  let B : Dev Cert.Kernel28Ideal.nD → Fin 8 → Fin 64 → Fin 576 → ℝ := fun c h i κ => (Cert.Kernel28Ideal.Attn.arg1 m c (ix3 h i κ) : EReal).toReal
  refine ⟨fun c => Fwd.rows (a c) (B c) (Cert.Kernel28Ideal.Attn.arg0 m c),
    (θ_run Cert.Kernel28Ideal.defs _ _).mono (fun r h c => ⟨(h c).1.trans (Cert.Kernel28Ideal.Attn.final m c (a c) (B c) (fin c).1 (fin c).2), (h c).2⟩)
      (Cert.Kernel28Ideal.Value.run_blocks (F := Ideal) m g),
    (θ_run Cert.Reference28Ideal.defs _ _).mono (fun r h c => ⟨?_, (h c).2⟩) (Cert.Reference28Ideal.Value.run (F := Ideal) m' g')⟩
  refine (h c).1.trans ((Cert.Reference28Ideal.Read.val_main_v128_eq (StableHlo.launchContents m' c)).trans (funext fun i => ?_))
  obtain ⟨r, l, rfl⟩ : ∃ (r : Fin 4096) (l : Fin 512), i = ix2 r l := ⟨i 0, i 1, funext fun a => by match a with | ⟨0, _⟩ => rfl | ⟨1, _⟩ => rfl⟩
  have e0 : m' ((c : Thread Cert.Reference28Ideal.nD Cert.Reference28Ideal.τ).loc Cert.Reference28Ideal.main_arg0) = Cert.Kernel28Ideal.Attn.arg0 m c := (hargs c).1
  have e1 : m' ((c : Thread Cert.Reference28Ideal.nD Cert.Reference28Ideal.τ).loc Cert.Reference28Ideal.main_arg1) = Cert.Kernel28Ideal.Attn.arg1 m c := (hargs c).2
  show Cert.Reference28Ideal.Read.val_main_v128 (F := Ideal) (m' ((c : Thread Cert.Reference28Ideal.nD Cert.Reference28Ideal.τ).loc Cert.Reference28Ideal.main_arg0))
    (m' ((c : Thread Cert.Reference28Ideal.nD Cert.Reference28Ideal.τ).loc Cert.Reference28Ideal.main_arg1)) (ix2 r l) = _
  rw [e0, e1]
  exact Cert.Reference28Ideal.Attn.v128 (a c) _ (fin c).1 (B c) _ (fin c).2 r l

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Values
public import proofs.«01_k».proof.Proof.Mm.Claims
public import proofs.«01_k».proof.Proof.Fwd.Values
public import Idealize.ShloMosaic.Adequacy
public import Idealize.ShloMosaic.Init
public import Idealize.ShloMosaic.Lib.Quiescent
public import Idealize.ShloMosaic.Lib.Tactic

@[expose] public section

noncomputable section

namespace Cert.Proof

open Idealize.ShloMosaic Idealize.SL.Sem Cert.Kernel

/-- The kernel's frame over extended reals. -/
theorem frame_kernelIdeal : Cert.quiescent_KernelIdeal := fun m ρ _ => Cert.KernelIdeal.Attn.quiescent (F := Ideal) m ρ

/-- The kernel's frame over machine words: its text is the idealized program's. -/
theorem frame_kernel : Cert.quiescent_Kernel := by
  intro m ρ _
  have h := Cert.KernelIdeal.Attn.quiescent (F := Bits) m ρ
  refine Eq.mp ?_ h
  sl_kernel_rfl

/-- The reference's frame: a program of host operations has no counters. -/
theorem frame_reference : Cert.quiescent_ReferenceIdeal := fun m ρ _ =>
  (θ_run Cert.ReferenceIdeal.defs _ _).mono (fun r h => ⟨fun c => ⟨(h c).2.2.2.2.1, (h c).2.2.2.2.2.1, (h c).2.2.2.2.2.2⟩, sem_eq_zero_of_no_sems rfl r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Pre_finite.Gen.facts, Cert.Pre_finite_fwd.Gen.facts, frame_kernel, frame_kernelIdeal, fun m ρ _ => frame_kernelIdeal m ρ trivial, frame_reference, fun m ρ _ => frame_reference m ρ trivial,
  frame_kernel2, fun m ρ _ => Cert.Kernel2Ideal.Gen.frame (F := Ideal) m ρ, frame_reference2,
  frame_kernel3, fun m ρ _ => Cert.Kernel3Ideal.Gen.frame (F := Ideal) m ρ, frame_reference3,
  frame_kernel4, fun m ρ _ => Cert.Kernel4Ideal.Gen.frame (F := Ideal) m ρ, frame_reference4,
  frame_kernel5, fun m ρ _ => Cert.Kernel5Ideal.Gen.frame (F := Ideal) m ρ, frame_reference5,
  frame_kernel6, fun m ρ _ => Cert.Kernel6Ideal.Gen.frame (F := Ideal) m ρ, frame_reference6,
  frame_kernel7, fun m ρ _ => Cert.Kernel7Ideal.Gen.frame (F := Ideal) m ρ, frame_reference7,
  frame_kernel8, fun m ρ _ => Cert.Kernel8Ideal.Gen.frame (F := Ideal) m ρ, frame_reference8,
  frame_kernel9, fun m ρ _ => Cert.Kernel9Ideal.Gen.frame (F := Ideal) m ρ, frame_reference9,
  frame_kernel10, fun m ρ _ => Cert.Kernel10Ideal.Gen.frame (F := Ideal) m ρ, frame_reference10,
  frame_kernel11, fun m ρ _ => Cert.Kernel11Ideal.Gen.frame (F := Ideal) m ρ, frame_reference11,
  frame_kernel12, fun m ρ _ => Cert.Kernel12Ideal.Gen.frame (F := Ideal) m ρ, frame_reference12,
  frame_kernel13, fun m ρ _ => Cert.Kernel13Ideal.Gen.frame (F := Ideal) m ρ, frame_reference13,
  frame_kernel14, fun m ρ _ => Cert.Kernel14Ideal.Gen.frame (F := Ideal) m ρ, frame_reference14,
  frame_kernel15, fun m ρ _ => Cert.Kernel15Ideal.Gen.frame (F := Ideal) m ρ, frame_reference15,
  frame_kernel16, fun m ρ _ => Cert.Kernel16Ideal.Gen.frame (F := Ideal) m ρ, frame_reference16,
  frame_kernel17, fun m ρ _ => Cert.Kernel17Ideal.Gen.frame (F := Ideal) m ρ, frame_reference17,
  frame_kernel18, fun m ρ _ => Cert.Kernel18Ideal.Gen.frame (F := Ideal) m ρ, frame_reference18,
  frame_kernel19, fun m ρ _ => Cert.Kernel19Ideal.Gen.frame (F := Ideal) m ρ, frame_reference19,
  frame_kernel20, fun m ρ _ => Cert.Kernel20Ideal.Gen.frame (F := Ideal) m ρ, frame_reference20,
  frame_kernel21, frame_kernel21Ideal, frame_reference21,
  frame_kernel22, frame_kernel22Ideal, frame_reference22,
  frame_kernel23, frame_kernel23Ideal, frame_reference23,
  frame_kernel24, fun m ρ _ => Cert.Kernel24Ideal.Gen.frame (F := Ideal) m ρ, frame_reference24,
  frame_kernel25, fun m ρ _ => Cert.Kernel25Ideal.Gen.frame (F := Ideal) m ρ, frame_reference25,
  frame_kernel26, fun m ρ _ => Cert.Kernel26Ideal.Gen.frame (F := Ideal) m ρ, frame_reference26,
  frame_kernel27, fun m ρ _ => Cert.Kernel27Ideal.Gen.frame (F := Ideal) m ρ, frame_reference27,
  frame_kernel28, fun m ρ _ => Cert.Kernel28Ideal.Gen.frame (F := Ideal) m ρ, fun m ρ _ => Cert.Kernel28Ideal.Gen.frame (F := Ideal) m ρ, frame_reference28, fun m ρ _ => frame_reference28 m ρ trivial,
  trivial, algebra,
  trivial, algebra2, trivial, algebra3, trivial, algebra4, trivial, algebra5, trivial, algebra6, trivial, algebra7, trivial, algebra8, trivial, algebra9,
  trivial, algebra10, trivial, algebra11, trivial, algebra12, trivial, algebra13, trivial, algebra14, trivial, algebra15, trivial, algebra16, trivial, algebra17,
  trivial, algebra18, trivial, algebra19, trivial, algebra20, trivial, algebra21, trivial, algebra22, trivial, algebra23, trivial, algebra24, trivial, algebra25,
  trivial, algebra26, trivial, algebra27, trivial, algebra28⟩

end Cert.Proof

end
